-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_v236) = v2 c
          ∧ r.2.mem ((c.tc : Thread Cert.ReferenceIdeal.nD Cert.ReferenceIdeal.τ).loc Cert.ReferenceIdeal.main_v238) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v2)) (v3 : (c : Dev Cert.Kernel2Ideal.nD) → Buf (Elt Ideal) ((c.tc : Thread Cert.Kernel2Ideal.nD Cert.Kernel2Ideal.τ).loc Cert.Kernel2Ideal.main_v3)) (v4 : (c : Dev Cert.Kernel2Ideal.nD) → Buf (Elt Ideal) ((c.tc : Thread Cert.Kernel2Ideal.nD Cert.Kernel2Ideal.τ).loc Cert.Kernel2Ideal.main_v4)) (v5 : (c : Dev Cert.Kernel2Ideal.nD) → Buf (Elt Ideal) ((c.tc : Thread Cert.Kernel2Ideal.nD Cert.Kernel2Ideal.τ).loc Cert.Kernel2Ideal.main_v5)) (v6 : (c : Dev Cert.Kernel2Ideal.nD) → Buf (Elt Ideal) ((c.tc : Thread Cert.Kernel2Ideal.nD Cert.Kernel2Ideal.τ).loc Cert.Kernel2Ideal.main_v6)) (v7 : (c : Dev Cert.Kernel2Ideal.nD) → Buf (Elt Ideal) ((c.tc : Thread Cert.Kernel2Ideal.nD Cert.Kernel2Ideal.τ).loc Cert.Kernel2Ideal.main_v7)) (v8 : (c : Dev Cert.Kernel2Ideal.nD) → Buf (Elt Ideal) ((c.tc : Thread Cert.Kernel2Ideal.nD Cert.Kernel2Ideal.τ).loc Cert.Kernel2Ideal.main_v8)) (v9 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_v4) = v4 c
          ∧ r.2.mem ((c.tc : Thread Cert.Kernel2Ideal.nD Cert.Kernel2Ideal.τ).loc Cert.Kernel2Ideal.main_v5) = v5 c
          ∧ r.2.mem ((c.tc : Thread Cert.Kernel2Ideal.nD Cert.Kernel2Ideal.τ).loc Cert.Kernel2Ideal.main_v6) = v6 c
          ∧ r.2.mem ((c.tc : Thread Cert.Kernel2Ideal.nD Cert.Kernel2Ideal.τ).loc Cert.Kernel2Ideal.main_v7) = v7 c
          ∧ r.2.mem ((c.tc : Thread Cert.Kernel2Ideal.nD Cert.Kernel2Ideal.τ).loc Cert.Kernel2Ideal.main_v8) = v8 c
          ∧ r.2.mem ((c.tc : Thread Cert.Kernel2Ideal.nD Cert.Kernel2Ideal.τ).loc Cert.Kernel2Ideal.main_v9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v17) = v4 c
          ∧ r.2.mem ((c.tc : Thread Cert.Reference2Ideal.nD Cert.Reference2Ideal.τ).loc Cert.Reference2Ideal.main_v27) = v5 c
          ∧ r.2.mem ((c.tc : Thread Cert.Reference2Ideal.nD Cert.Reference2Ideal.τ).loc Cert.Reference2Ideal.main_v47) = v6 c
          ∧ r.2.mem ((c.tc : Thread Cert.Reference2Ideal.nD Cert.Reference2Ideal.τ).loc Cert.Reference2Ideal.main_v36) = v7 c
          ∧ r.2.mem ((c.tc : Thread Cert.Reference2Ideal.nD Cert.Reference2Ideal.τ).loc Cert.Reference2Ideal.main_v49) = v8 c
          ∧ r.2.mem ((c.tc : Thread Cert.Reference2Ideal.nD Cert.Reference2Ideal.τ).loc Cert.Reference2Ideal.main_v51) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v3)) (v2 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v3) = v1 c
          ∧ r.2.mem ((c.tc : Thread Cert.Kernel3Ideal.nD Cert.Kernel3Ideal.τ).loc Cert.Kernel3Ideal.main_v5) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_on_first_half [hKernel4Ideal : Cert.Kernel4Ideal.Facts] [hReference4Ideal : Cert.Reference4Ideal.Facts] [hOn_first_half : Cert.On_first_half.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![4096, 2048]⟩ : Shape).Idx, (Cert.On_first_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) i = 1#1 → r.2.mem ((c.tc : Thread Cert.Kernel4Ideal.nD Cert.Kernel4Ideal.τ).loc Cert.Kernel4Ideal.main_v0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![4096, 2048]⟩ : Shape).Idx, (Cert.On_first_half.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) i = 1#1 → r.2.mem ((c.tc : Thread Cert.Reference4Ideal.nD Cert.Reference4Ideal.τ).loc Cert.Reference4Ideal.main_v6) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_gate_columns [hKernel6Ideal : Cert.Kernel6Ideal.Facts] [hReference6Ideal : Cert.Reference6Ideal.Facts] [hOn_gate_columns : Cert.On_gate_columns.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![4096, 4096]⟩ : Shape).Idx, (Cert.On_gate_columns.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 i = 1#1 → r.2.mem ((c.tc : Thread Cert.Kernel6Ideal.nD Cert.Kernel6Ideal.τ).loc Cert.Kernel6Ideal.main_v0_0) i = v0 c i)
          ∧ (∀ i : (⟨2, ![4096, 8704]⟩ : Shape).Idx, (Cert.On_gate_columns.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 i = 1#1 → r.2.mem ((c.tc : Thread Cert.Kernel6Ideal.nD Cert.Kernel6Ideal.τ).loc Cert.Kernel6Ideal.main_v0_1) i = v1 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![4096, 4096]⟩ : Shape).Idx, (Cert.On_gate_columns.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 i = 1#1 → r.2.mem ((c.tc : Thread Cert.Reference6Ideal.nD Cert.Reference6Ideal.τ).loc Cert.Reference6Ideal.main_v38) i = v0 c i)
          ∧ (∀ i : (⟨2, ![4096, 8704]⟩ : Shape).Idx, (Cert.On_gate_columns.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 i = 1#1 → r.2.mem ((c.tc : Thread Cert.Reference6Ideal.nD Cert.Reference6Ideal.τ).loc Cert.Reference6Ideal.main_v39) i = v1 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v33) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1)) (v1 : (c : Dev Cert.Kernel11Ideal.nD) → Buf (Elt Ideal) ((c.tc : Thread Cert.Kernel11Ideal.nD Cert.Kernel11Ideal.τ).loc Cert.Kernel11Ideal.main_v2)) (v2 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_v2) = v1 c
          ∧ r.2.mem ((c.tc : Thread Cert.Kernel11Ideal.nD Cert.Kernel11Ideal.τ).loc Cert.Kernel11Ideal.main_v3) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v48) = v0 c
          ∧ r.2.mem ((c.tc : Thread Cert.Reference11Ideal.nD Cert.Reference11Ideal.τ).loc Cert.Reference11Ideal.main_v49) = v1 c
          ∧ r.2.mem ((c.tc : Thread Cert.Reference11Ideal.nD Cert.Reference11Ideal.τ).loc Cert.Reference11Ideal.main_v50) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)) (v3 : (c : Dev Cert.Kernel13Ideal.nD) → Buf (Elt Ideal) ((c.tc : Thread Cert.Kernel13Ideal.nD Cert.Kernel13Ideal.τ).loc Cert.Kernel13Ideal.main_v2_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_v2_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite8 : Cert.Pre_finite8.Facts) (hOn_first_half : Cert.On_first_half.Facts) (hOn_gate_columns : Cert.On_gate_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_first_half (hKernel4Ideal := hKernel4Ideal) (hReference4Ideal := hReference4Ideal) (hOn_first_half := hOn_first_half)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_gate_columns (hKernel6Ideal := hKernel6Ideal) (hReference6Ideal := hReference6Ideal) (hOn_gate_columns := hOn_gate_columns)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== On_first_half.lean ====
abbrev S4096x8704 : Shape := ⟨2, ![4096, 8704]⟩
abbrev S8704x1024 : Shape := ⟨2, ![8704, 1024]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x8704 .bf16) (main_arg1 : FVec F S8704x1024 .bf16) : IVec S4096x2048 1 :=
  let main_v0 : IVec S4096x2048 32 := iotaInDim S4096x2048 32 1
  let main_c : IVec S_ 32 := constantI S_ 32 1024#32
  let main_v1 : IVec S4096x2048 32 := broadcastInDim S4096x2048 ![] bcast_S_S4096x2048 main_c
  let main_v2 : IVec S4096x2048 1 := cmpi .slt main_v0 main_v1
  main_v2
-- ==== On_gate_columns.lean ====
abbrev S4096x2048 : Shape := ⟨2, ![4096, 2048]⟩
abbrev S4096x4096 : Shape := ⟨2, ![4096, 4096]⟩
abbrev S4096x8704 : Shape := ⟨2, ![4096, 8704]⟩
abbrev S_ : Shape := ⟨0, ![]⟩

class Facts : Prop where
  bcast_S_S4096x4096 : S_.BroadcastsInDim S4096x4096 (![] : Fin 0 → Fin S4096x4096.rank)
  bcast_S_S4096x8704 : S_.BroadcastsInDim S4096x8704 (![] : Fin 0 → Fin S4096x8704.rank)

variable [Facts]

def fn {F : FTy → Type} [FloatOps F] (main_arg0 : FVec F S4096x2048 .bf16) (main_arg1 : FVec F S4096x4096 .bf16) (main_arg2 : FVec F S4096x8704 .bf16) : IVec S4096x4096 1 × IVec S4096x8704 1 :=
  let main_c : IVec S_ 1 := constantI S_ 1 1#1
  let main_v0 : IVec S4096x4096 1 := broadcastInDim S4096x4096 ![] bcast_S_S4096x4096 main_c
  let main_v1 : IVec S4096x8704 32 := iotaInDim S4096x8704 32 1
  let main_c_0 : IVec S_ 32 := constantI S_ 32 4608#32
  let main_v2 : IVec S4096x8704 32 := broadcastInDim S4096x8704 ![] bcast_S_S4096x8704 main_c_0
  let main_v3 : IVec S4096x8704 1 := cmpi .sge main_v1 main_v2
  (main_v0, main_v3)
-- ==== Pre_finite.lean ====
abbrev S4096x8704 : Shape := ⟨2, ![4096, 8704]⟩
abbrev S4096x1024 : Shape := ⟨2, ![4096, 1024]⟩
abbrev S64 : Shape := ⟨1, ![64]⟩
abbrev S16 : Shape := ⟨1, ![16]⟩
abbrev S_ : Shape := ⟨0, ![]⟩

class Facts : Prop where
  bitsLt_bf16_f32 : FTy.bits .bf16 < FTy.bits .f32
  bcast_S_S4096x8704 : S_.BroadcastsInDim S4096x8704 (![] : Fin 0 → Fin S4096x8704.rank)
  reducesTo_S4096x8704_S_d0_1 : S4096x8704.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S16 .f32 := Host.absf main_arg5
  let main_cst_6 : FVec F S_ .f32 := constant S_ .f32 0x7F800000#32
  let main_v22 : FVec F S16 .f32 := broadcastInDim S16 ![] bcast_S_S16 main_cst_6
  let main_v23 : IVec S16 1 := cmpf .olt main_v21 main_v22
  let main_c_7 : IVec S_ 1 := constantI S_ 1 1#1
  let main_v24 : IVec S_ 1 := (fun x v => Host.reduce IntOp.andi x v reducesTo_S16_S_d0 h_S_) main_v23 main_c_7
  let main_v25 : IVec S_ 1 := andi main_v20 main_v24
  main_v25

def fn {F : FTy → Type} [FloatOps F] (main_arg0 : FVec F S4096x8704 .bf16) (main_arg1 : FVec F S4096x1024 .bf16) (main_arg2 : FVec F S4096x8704 .bf16) (main_arg3 : FVec F S64 .f32) (main_arg4 : FVec F S64 .f32) (main_arg5 : FVec F S16 .f32) : IVec S_ 1 :=
  let main_v0 : FVec F S4096x8704 .f32 := (extf .f32 · bitsLt_bf16_f32) main_arg0
  let main_v1 : FVec F S4096x8704 .f32 := Host.absf main_v0
  let main_cst : FVec F S_ .f32 := constant S_ .f32 0x7F800000#32
  let main_v2 : FVec F S4096x8704 .f32 := broadcastInDim S4096x8704 ![] bcast_S_S4096x8704 main_cst
  let main_v3 : IVec S4096x8704 1 := cmpf .olt main_v1 main_v2
  let main_c : IVec S_ 1 := constantI S_ 1 1#1
  let main_v4 : IVec S_ 1 := (fun x v => Host.reduce IntOp.andi x v reducesTo_S4096x8704_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S64 .f32 := Host.absf main_arg3
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg4
  let main_cst_4 : FVec F S_ .f32 := constant S_ .f32 0x7F800000#32
  fn_part1 (F := F) main_arg5 main_v15 main_v16 main_cst_4
-- ==== Pre_finite8.lean ====
abbrev S4096x1024 : Shape := ⟨2, ![4096, 1024]⟩
abbrev S4096x2048 : Shape := ⟨2, ![4096, 2048]⟩
abbrev S4096x8704 : Shape := ⟨2, ![4096, 8704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4096x2048_S4096x1024_0_0 : S4096x2048.Slices ![0, 0] S4096x1024

variable [Facts]

def fn {F : FTy → Type} [FloatOps F] (main_arg0 : FVec F S4096x1024 .bf16) (main_arg1 : FVec F S4096x2048 .bf16) (main_arg2 : FVec F S4096x8704 .bf16) (main_arg3 : FVec F S4096x8704 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .bf16 := (extractStridedSlice S4096x1024 ![0, 0] · slices_S4096x2048_S4096x1024_0_0) main_arg1
  let main_v6 : FVec F S4096x1024 .f32 := (extf .f32 · bitsLt_bf16_f32) main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_c_1 : IVec S_ 1 := constantI S_ 1 1#1
  let main_v10 : IVec S_ 1 := (fun x v => Host.reduce IntOp.andi x v reducesTo_S4096x1024_S_d0_1 h_S_) main_v9 main_c_1
  let main_v11 : IVec S_ 1 := andi main_v4 main_v10
  main_v11
-- ==== Kernel.lean ====
abbrev S4096x8704 : Shape := ⟨2, ![4096, 8704]⟩
abbrev S4096x1024 : Shape := ⟨2, ![4096, 1024]⟩
abbrev S64 : Shape := ⟨1, ![64]⟩
abbrev S16 : Shape := ⟨1, ![16]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S8x128 : Shape := ⟨2, ![8, 128]⟩
abbrev S128x1024 : Shape := ⟨2, ![128, 1024]⟩
abbrev S128x256 : Shape := ⟨2, ![128, 256]⟩
abbrev S128x512 : Shape := ⟨2, ![128, 512]⟩
abbrev S128x2560 : Shape := ⟨2, ![128, 2560]⟩
abbrev S256x128 : Shape := ⟨2, ![256, 128]⟩
abbrev S1024x256 : Shape := ⟨2, ![1024, 256]⟩
abbrev S1 : Shape := ⟨1, ![1]⟩
abbrev S128 : Shape := ⟨1, ![128]⟩
abbrev S128x1 : Shape := ⟨2, ![128, 1]⟩
abbrev S1x1 : Shape := ⟨2, ![1, 1]⟩
abbrev S256x512 : Shape := ⟨2, ![256, 512]⟩

abbrev nBuf : Space → Nat
  | .hbm => 48
  | .vmem => 25
  | .smem => 1
  | _ => 0

abbrev bufTy : (tb : Table) → Fin (tcTables nBuf tb) → BufTy
  | .hbm, ⟨0, _⟩ => ⟨S4096x8704, .bf16⟩
  | .hbm, ⟨1, _⟩ => ⟨S4096x1024, .bf16⟩
  | .hbm, ⟨2, _⟩ => ⟨S4096x8704, .bf16⟩
  | .hbm, ⟨3, _⟩ => ⟨S64, .f32⟩
  | .hbm, ⟨4, _⟩ => ⟨S64, .f32⟩
  | .hbm, ⟨5, _⟩ => ⟨S16, .f32⟩
  | .hbm, ⟨6, _⟩ => ⟨S1x64, .f32⟩
  | .hbm, ⟨7, _⟩ => ⟨S16x64, .f32⟩
  | .hbm, ⟨8, _⟩ => ⟨S1024, .f32⟩
  | .hbm, ⟨9, _⟩ => ⟨S1x1024, .f32⟩
  | .hbm, ⟨10, _⟩ => ⟨S1x64, .f32⟩
  | .hbm, ⟨11, _⟩ => ⟨S4x64, .f32⟩
  | .hbm, ⟨12, _⟩ => ⟨S256, .f32⟩
  | .hbm, ⟨13, _⟩ => ⟨S1x256, .f32⟩
  | .hbm, ⟨14, _⟩ => ⟨S256, .i32⟩
  | .hbm, ⟨15, _⟩ => ⟨S_, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i1⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S1x256, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S_, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .bf16⟩
  | .hbm, ⟨44, _⟩ => ⟨S4096x8704, .bf16⟩
  | .hbm, ⟨45, _⟩ => ⟨S1x1024, .f32⟩
  | .hbm, ⟨46, _⟩ => ⟨S1x256, .f32⟩
  | .hbm, ⟨47, _⟩ => ⟨S8x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x1024, .bf16⟩
  | .local _ .vmem, ⟨15, _⟩ => ⟨S128x1024, .bf16⟩
  | .local _ .vmem, ⟨16, _⟩ => ⟨S1x1024, .f32⟩
  | .local _ .vmem, ⟨17, _⟩ => ⟨S1x256, .f32⟩
  | .local _ .vmem, ⟨18, _⟩ => ⟨S256x256, .bf16⟩
  | .local _ .vmem, ⟨19, _⟩ => ⟨S128x2560, .bf16⟩
  | .local _ .vmem, ⟨20, _⟩ => ⟨S128x2560, .bf16⟩
  | .local _ .vmem, ⟨21, _⟩ => ⟨S1x1024, .f32⟩
  | .local _ .vmem, ⟨22, _⟩ => ⟨S1x256, .f32⟩
  | .local _ .vmem, ⟨23, _⟩ => ⟨S8x128, .f32⟩
  | .local _ .vmem, ⟨24, _⟩ => ⟨S128x512, .f32⟩
  | .local _ .smem, ⟨0, _⟩ => ⟨S16, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_v15 : Ref sig .tc := ⟨.hbm, 42, rfl⟩
abbrev main_v16 : Ref sig .tc := ⟨.hbm, 43, rfl⟩
abbrev main_v17_0 : Ref sig .tc := ⟨.hbm, 44, rfl⟩
abbrev main_v17_1 : Ref sig .tc := ⟨.hbm, 45, rfl⟩
abbrev main_v17_2 : Ref sig .tc := ⟨.hbm, 46, rfl⟩
abbrev main_v17_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_512 : BitVec 32 := 0#32
  let v1848 : BitVec 1 := Scalar.cmpi .eq arg0 c0_i32_512
  let v1849 : BitVec 32 := Scalar.extui v1848
  let c0_i32_513 : BitVec 32 := 0#32
  let v1850 : BitVec 1 := Scalar.cmpi .ne v1849 c0_i32_513
  v1850

def k0_cond2 (i : grid0.Coords) : BitVec 1 :=
  let arg0 : BitVec 32 := BitVec.ofNat 32 (i 0).val
  let c0_i32_514 : BitVec 32 := 0#32
  let v1851 : BitVec 1 := Scalar.cmpi .sgt arg0 c0_i32_514
  let v1852 : BitVec 32 := Scalar.extui v1851
  let c0_i32_515 : BitVec 32 := 0#32
  let v1853 : BitVec 1 := Scalar.cmpi .ne v1852 c0_i32_515
  v1853

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x8704 : Shape := ⟨2, ![4096, 8704]⟩
abbrev S4096x1024 : Shape := ⟨2, ![4096, 1024]⟩
abbrev S64 : Shape := ⟨1, ![64]⟩
abbrev S16 : Shape := ⟨1, ![16]⟩
abbrev S4096x2560 : Shape := ⟨2, ![4096, 2560]⟩
abbrev S1x4096x2560 : Shape := ⟨3, ![1, 4096, 2560]⟩
abbrev S1x4096x1024 : Shape := ⟨3, ![1, 4096, 1024]⟩
abbrev S1x4096x256 : Shape := ⟨3, ![1, 4096, 256]⟩
abbrev S16x64 : Shape := ⟨2, ![16, 64]⟩
abbrev S4x64 : Shape := ⟨2, ![4, 64]⟩
abbrev S1x4096x16x64 : Shape := ⟨4, ![1, 4096, 16, 64]⟩
abbrev S_ : Shape := ⟨0, ![]⟩
abbrev S1x4096x16 : Shape := ⟨3, ![1, 4096, 16]⟩
abbrev S1x4096x16x1 : Shape := ⟨4, ![1, 4096, 16, 1]⟩
abbrev S1x1x16x64 : Shape := ⟨4, ![1, 1, 16, 64]⟩
abbrev S1x4096x4x64 : Shape := ⟨4, ![1, 4096, 4, 64]⟩
abbrev S1x4096x4 : Shape := ⟨3, ![1, 4096, 4]⟩
abbrev S1x4096x4x1 : Shape := ⟨4, ![1, 4096, 4, 1]⟩
abbrev S1x1x4x64 : Shape := ⟨4, ![1, 1, 4, 64]⟩
abbrev S1x32x128x4x4x64 : Shape := ⟨6, ![1, 32, 128, 4, 4, 64]⟩
abbrev S1x32x128x4x64 : Shape := ⟨5, ![1, 32, 128, 4, 64]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128x1 : Shape := ⟨6, ![1, 32, 4, 4, 128, 1]⟩
abbrev S1x32x4x4x128x257 : Shape := ⟨6, ![1, 32, 4, 4, 128, 257]⟩
abbrev S1x32x4x4x128 : Shape := ⟨5, ![1, 32, 4, 4, 128]⟩
abbrev S1x32x4x64x4x128 : Shape := ⟨6, ![1, 32, 4, 64, 4, 128]⟩
abbrev S1x32x4x64x256 : Shape := ⟨5, ![1, 32, 4, 64, 256]⟩
abbrev S32x4x4x128 : Shape := ⟨4, ![32, 4, 4, 128]⟩
abbrev S4x4 : Shape := ⟨2, ![4, 4]⟩
abbrev S1x32x4x128x4x64 : Shape := ⟨6, ![1, 32, 4, 128, 4, 64]⟩
abbrev S1x32x4x256x64 : Shape := ⟨5, ![1, 32, 4, 256, 64]⟩
abbrev S1x4x64 : Shape := ⟨3, ![1, 4, 64]⟩
abbrev S4096x4 : Shape := ⟨2, ![4096, 4]⟩
abbrev S1x16x64 : Shape := ⟨3, ![1, 16, 64]⟩
abbrev S4096x16 : Shape := ⟨2, ![4096, 16]⟩
abbrev S4096x6144 : Shape := ⟨2, ![4096, 6144]⟩
abbrev S1x1024 : Shape := ⟨2, ![1, 1024]⟩
abbrev S1x16 : Shape := ⟨2, ![1, 16]⟩
abbrev S8x128 : Shape := ⟨2, ![8, 128]⟩

abbrev nBuf : Space → Nat
  | .hbm => 316
  | .vmem => 0
  | .smem => 0
  | _ => 0

abbrev hbmTy0_0 (i : Nat) : BufTy := match i % 128 with
  | 0 => ⟨S4096x8704, .bf16⟩
  | 1 => ⟨S4096x1024, .bf16⟩
  | 2 => ⟨S4096x8704, .bf16⟩
  | 3 => ⟨S64, .f32⟩
  | 4 => ⟨S64, .f32⟩
  | 5 => ⟨S16, .f32⟩
  | 6 => ⟨S4096x2560, .bf16⟩
  | 7 => ⟨S1x4096x2560, .bf16⟩
  | 8 => ⟨S1x4096x2560, .f32⟩
  | 9 => ⟨S1x4096x1024, .f32⟩
  | 10 => ⟨S1x4096x256, .f32⟩
  | 11 => ⟨S1x4096x256, .f32⟩
  | 12 => ⟨S1x4096x1024, .f32⟩
  | 13 => ⟨S16x64, .f32⟩
  | 14 => ⟨S4x64, .f32⟩
  | 15 => ⟨S1x4096x16x64, .f32⟩
  | 16 => ⟨S1x4096x16x64, .f32⟩
  | 17 => ⟨S_, .f32⟩
  | 18 => ⟨S1x4096x16, .f32⟩
  | 19 => ⟨S1x4096x16x1, .f32⟩
  | 20 => ⟨S_, .f32⟩
  | 21 => ⟨S1x4096x16x1, .f32⟩
  | 22 => ⟨S1x4096x16x1, .f32⟩
  | 23 => ⟨S_, .f32⟩
  | 24 => ⟨S1x4096x16x1, .f32⟩
  | 25 => ⟨S1x4096x16x1, .f32⟩
  | 26 => ⟨S1x4096x16x1, .f32⟩
  | 27 => ⟨S1x4096x16x1, .f32⟩
  | 28 => ⟨S_, .f32⟩
  | 29 => ⟨S1x4096x16x1, .f32⟩
  | 30 => ⟨S1x4096x16x1, .f32⟩
  | 31 => ⟨S1x4096x16x64, .f32⟩
  | 32 => ⟨S1x4096x16x64, .f32⟩
  | 33 => ⟨S1x1x16x64, .f32⟩
  | 34 => ⟨S1x4096x16x64, .f32⟩
  | 35 => ⟨S1x4096x16x64, .f32⟩
  | 36 => ⟨S1x4096x4x64, .f32⟩
  | 37 => ⟨S1x4096x4x64, .f32⟩
  | 38 => ⟨S_, .f32⟩
  | 39 => ⟨S1x4096x4, .f32⟩
  | 40 => ⟨S1x4096x4x1, .f32⟩
  | 41 => ⟨S_, .f32⟩
  | 42 => ⟨S1x4096x4x1, .f32⟩
  | 43 => ⟨S1x4096x4x1, .f32⟩
  | 44 => ⟨S_, .f32⟩
  | 45 => ⟨S1x4096x4x1, .f32⟩
  | 46 => ⟨S1x4096x4x1, .f32⟩
  | 47 => ⟨S1x4096x4x1, .f32⟩
  | 48 => ⟨S1x4096x4x1, .f32⟩
  | 49 => ⟨S_, .f32⟩
  | 50 => ⟨S1x4096x4x1, .f32⟩
  | 51 => ⟨S1x4096x4x1, .f32⟩
  | 52 => ⟨S1x4096x4x64, .f32⟩
  | 53 => ⟨S1x4096x4x64, .f32⟩
  | 54 => ⟨S1x1x4x64, .f32⟩
  | 55 => ⟨S1x4096x4x64, .f32⟩
  | 56 => ⟨S1x4096x4x64, .f32⟩
  | 57 => ⟨S1x4096x4x64, .f32⟩
  | 58 => ⟨S1x32x128x4x4x64, .f32⟩
  | 59 => ⟨S1x32x128x4x64, .f32⟩
  | 60 => ⟨S1x32x128x4x64, .f32⟩
  | 61 => ⟨S1x1x128x4x64, .f32⟩
  | 62 => ⟨S_, .f32⟩
  | 63 => ⟨S1x1x128x4x64, .f32⟩
  | 64 => ⟨S1x31x128x4x64, .f32⟩
  | 65 => ⟨S1x32x128x4x64, .f32⟩
  | 66 => ⟨S_, .f32⟩
  | 67 => ⟨S1x1x128x4x64, .f32⟩
  | 68 => ⟨S1x1x128x4x64, .f32⟩
  | 69 => ⟨S_, .f32⟩
  | 70 => ⟨S1x1x128x4x64, .f32⟩
  | 71 => ⟨S1x31x128x4x64, .f32⟩
  | 72 => ⟨S1x32x128x4x64, .f32⟩
  | 73 => ⟨S_, .f32⟩
  | 74 => ⟨S1x1x128x4x64, .f32⟩
  | 75 => ⟨S1x32x256x4x64, .f32⟩
  | 76 => ⟨S1x32x256x4x64, .f32⟩
  | 77 => ⟨S1x32x4x256x128x4, .f32⟩
  | 78 => ⟨S1x32x4x4x128x256, .f32⟩
  | 79 => ⟨S_, .f32⟩
  | 80 => ⟨S1x32x4x4x128x256, .f32⟩
  | 81 => ⟨S1x32x4x4x128x256, .f32⟩
  | 82 => ⟨S128, .i32⟩
  | 83 => ⟨S128x1, .i32⟩
  | 84 => ⟨S_, .i32⟩
  | 85 => ⟨S128x1, .i32⟩
  | 86 => ⟨S128x1, .i32⟩
  | 87 => ⟨S256, .i32⟩
  | 88 => ⟨S1x256, .i32⟩
  | 89 => ⟨S128x256, .i32⟩
  | 90 => ⟨S128x256, .i32⟩
  | 91 => ⟨S128x256, .i32⟩
  | 92 => ⟨S32, .i32⟩
  | 93 => ⟨S32x1x1, .i32⟩
  | 94 => ⟨S_, .i32⟩
  | 95 => ⟨S32x1x1, .i32⟩
  | 96 => ⟨S32x1x1, .i32⟩
  | 97 => ⟨S_, .i32⟩
  | 98 => ⟨S32x1x1, .i32⟩
  | 99 => ⟨S32x1x1, .i32⟩
  | 100 => ⟨S1x1x256, .i32⟩
  | 101 => ⟨S32x1x256, .i32⟩
  | 102 => ⟨S32x1x256, .i32⟩
  | 103 => ⟨S32x1x256, .i32⟩
  | 104 => ⟨S_, .i32⟩
  | 105 => ⟨S128x256, .i32⟩
  | 106 => ⟨S128x256, .i1⟩
  | 107 => ⟨S1x128x256, .i1⟩
  | 108 => ⟨S_, .i32⟩
  | 109 => ⟨S128x256, .i32⟩
  | 110 => ⟨S128x256, .i1⟩
  | 111 => ⟨S1x128x256, .i1⟩
  | 112 => ⟨S1x128x256, .i1⟩
  | 113 => ⟨S_, .i32⟩
  | 114 => ⟨S32x1x256, .i32⟩
  | 115 => ⟨S32x1x256, .i1⟩
  | 116 => ⟨S32x128x256, .i1⟩
  | 117 => ⟨S32x128x256, .i1⟩
  | 118 => ⟨S32x128x256, .i1⟩
  | 119 => ⟨S1x32x1x1x128x256, .i1⟩
  | 120 => ⟨S_, .f32⟩
  | 121 => ⟨S_, .f32⟩
  | 122 => ⟨S1x32x4x4x128x256, .i1⟩
  | 123 => ⟨S1x32x4x4x128x256, .f32⟩
  | 124 => ⟨S1x32x4x4x128x256, .f32⟩
  | 125 => ⟨S_, .f32⟩
  | 126 => ⟨S1x32x4x4x128x256, .f32⟩
  | 127 => ⟨S1x1x4x4x1x1, .f32⟩
  | _ => ⟨S4096x8704, .bf16⟩

abbrev hbmTy0_1 (i : Nat) : BufTy := match i % 128 with
  | 0 => ⟨S1x32x4x4x128x1, .f32⟩
  | 1 => ⟨S1x32x4x4x128x257, .f32⟩
  | 2 => ⟨S_, .f32⟩
  | 3 => ⟨S1x32x4x4x128, .f32⟩
  | 4 => ⟨S1x32x4x4x128x1, .f32⟩
  | 5 => ⟨S1x32x4x4x128x257, .f32⟩
  | 6 => ⟨S1x32x4x4x128x257, .i1⟩
  | 7 => ⟨S1x32x4x4x128x257, .f32⟩
  | 8 => ⟨S_, .f32⟩
  | 9 => ⟨S1x32x4x4x128, .f32⟩
  | 10 => ⟨S_, .f32⟩
  | 11 => ⟨S1x32x4x4x128, .f32⟩
  | 12 => ⟨S1x32x4x4x128, .f32⟩
  | 13 => ⟨S_, .f32⟩
  | 14 => ⟨S1x32x4x4x128, .f32⟩
  | 15 => ⟨S1x32x4x4x128, .i1⟩
  | 16 => ⟨S_, .f32⟩
  | 17 => ⟨S1x32x4x4x128, .f32⟩
  | 18 => ⟨S1x32x4x4x128, .i1⟩
  | 19 => ⟨S_, .f32⟩
  | 20 => ⟨S1x32x4x4x128, .f32⟩
  | 21 => ⟨S_, .f32⟩
  | 22 => ⟨S1x32x4x4x128, .f32⟩
  | 23 => ⟨S_, .f32⟩
  | 24 => ⟨S1x32x4x4x128, .f32⟩
  | 25 => ⟨S1x32x4x4x128, .f32⟩
  | 26 => ⟨S1x32x4x4x128, .f32⟩
  | 27 => ⟨S1x32x4x4x128x1, .f32⟩
  | 28 => ⟨S1x32x4x4x128x257, .f32⟩
  | 29 => ⟨S1x32x4x4x128x257, .f32⟩
  | 30 => ⟨S1x32x4x4x128x257, .f32⟩
  | 31 => ⟨S_, .f32⟩
  | 32 => ⟨S1x32x4x4x128, .f32⟩
  | 33 => ⟨S1x32x4x4x128x1, .f32⟩
  | 34 => ⟨S1x32x4x4x128x257, .f32⟩
  | 35 => ⟨S1x32x4x4x128x257, .f32⟩
  | 36 => ⟨S1x32x4x4x128x1, .f32⟩
  | 37 => ⟨S_, .f32⟩
  | 38 => ⟨S1x32x4x4x128x1, .f32⟩
  | 39 => ⟨S1x32x4x4x128x1, .f32⟩
  | 40 => ⟨S1x32x4x4x128x256, .f32⟩
  | 41 => ⟨S1x32x4x64x4x128, .f32⟩
  | 42 => ⟨S1x32x128x4x4x64, .f32⟩
  | 43 => ⟨S1x4096x1024, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S1x4096x1024, .f32⟩
  | 56 => ⟨S1x4096x1024, .f32⟩
  | 57 => ⟨S1x4096x1024, .f32⟩
  | 58 => ⟨S1x4096x1024, .bf16⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S1x32x128x4x4x64, .f32⟩
  | 67 => ⟨S1x32x4x64x4x128, .f32⟩
  | 68 => ⟨S1x32x4x4x128x256, .f32⟩
  | 69 => ⟨S1x32x4x64x256, .f32⟩
  | 70 => ⟨S1x32x256x4x64, .f32⟩
  | 71 => ⟨S_, .f32⟩
  | 72 => ⟨S1x32x4x4x128x257, .f32⟩
  | 73 => ⟨S1x32x4x4x128x257, .f32⟩
  | 74 => ⟨S1x32x4x4x128x257, .f32⟩
  | 75 => ⟨S1x32x4x4x128x257, .f32⟩
  | 76 => ⟨S_, .f32⟩
  | 77 => ⟨S1x32x4x4x128, .f32⟩
  | 78 => ⟨S1x32x4x4x128x1, .f32⟩
  | 79 => ⟨S1x32x4x4x128x1, .f32⟩
  | 80 => ⟨S1x32x4x4x128x257, .f32⟩
  | 81 => ⟨S1x32x4x4x128x257, .f32⟩
  | 82 => ⟨S_, .f32⟩
  | 83 => ⟨S32x4x4x128, .f32⟩
  | 84 => ⟨S1x32x4x4x128, .f32⟩
  | 85 => ⟨S1x32x4x4x128x257, .f32⟩
  | 86 => ⟨S1x32x4x4x128x257, .f32⟩
  | 87 => ⟨S1x32x4x4x128x257, .f32⟩
  | 88 => ⟨S1x32x4x4x128x256, .f32⟩
  | 89 => ⟨S1x32x4x4x128x1, .f32⟩
  | 90 => ⟨S_, .f32⟩
  | 91 => ⟨S4x4, .f32⟩
  | 92 => ⟨S1x1x4x4x1x1, .f32⟩
  | 93 => ⟨S16, .f32⟩
  | 94 => ⟨S_, .f32⟩
  | 95 => ⟨S1x32x4x4x128x256, .f32⟩
  | 96 => ⟨S1x32x4x4x128x256, .f32⟩
  | 97 => ⟨S_, .f32⟩
  | 98 => ⟨S1x32x4x4x128x256, .f32⟩
  | 99 => ⟨S1x32x4x4x128x256, .f32⟩
  | 100 => ⟨S1x32x4x256x128x4, .f32⟩
  | 101 => ⟨S1x32x4x128x4x64, .f32⟩
  | 102 => ⟨S1x32x128x4x4x64, .f32⟩
  | 103 => ⟨S1x32x4x256x64, .f32⟩
  | 104 => ⟨S1x32x256x4x64, .f32⟩
  | 105 => ⟨S1x32x128x4x64, .f32⟩
  | 106 => ⟨S1x32x128x4x64, .f32⟩
  | 107 => ⟨S1x32x128x4x64, .f32⟩
  | 108 => ⟨S1x32x128x4x64, .f32⟩
  | 109 => ⟨S1x1x128x4x64, .f32⟩
  | 110 => ⟨S1x31x128x4x64, .f32⟩
  | 111 => ⟨S_, .f32⟩
  | 112 => ⟨S1x32x128x4x64, .f32⟩
  | 113 => ⟨S1x32x128x4x64, .f32⟩
  | 114 => ⟨S1x1x128x4x64, .f32⟩
  | 115 => ⟨S1x31x128x4x64, .f32⟩
  | 116 => ⟨S_, .f32⟩
  | 117 => ⟨S1x32x128x4x64, .f32⟩
  | 118 => ⟨S1x32x128x4x64, .f32⟩
  | 119 => ⟨S1x4096x4x64, .f32⟩
  | 120 => ⟨S1x4096x4x64, .f32⟩
  | 121 => ⟨S1x4096x16x64, .f32⟩
  | 122 => ⟨S1x4096x256, .f32⟩
  | 123 => ⟨S1x4096x4x64, .f32⟩
  | 124 => ⟨S_, .f32⟩
  | 125 => ⟨S1x4x64, .f32⟩
  | 126 => ⟨S1x1x4x64, .f32⟩
  | 127 => ⟨S1x4096x4x64, .f32⟩
  | _ => ⟨S4096x8704, .bf16⟩

abbrev hbmTy0_2 (i : Nat) : BufTy := match i % 128 with
  | 0 => ⟨S1x4096x4x64, .f32⟩
  | 1 => ⟨S_, .f32⟩
  | 2 => ⟨S4x64, .f32⟩
  | 3 => ⟨S1x4096x4x64, .f32⟩
  | 4 => ⟨S_, .f32⟩
  | 5 => ⟨S1x4096x4, .f32⟩
  | 6 => ⟨S1x4096x4x1, .f32⟩
  | 7 => ⟨S1x4096x4x64, .f32⟩
  | 8 => ⟨S1x4096x4x64, .f32⟩
  | 9 => ⟨S1x4096x4x1, .f32⟩
  | 10 => ⟨S_, .f32⟩
  | 11 => ⟨S1x4096x4x1, .f32⟩
  | 12 => ⟨S1x4096x4x1, .f32⟩
  | 13 => ⟨S_, .f32⟩
  | 14 => ⟨S4096x4, .f32⟩
  | 15 => ⟨S1x4096x4, .f32⟩
  | 16 => ⟨S1x4096x4x64, .f32⟩
  | 17 => ⟨S1x4096x4x64, .f32⟩
  | 18 => ⟨S1x4096x4x64, .f32⟩
  | 19 => ⟨S1x4096x4x64, .f32⟩
  | 20 => ⟨S1x4096x4x64, .f32⟩
  | 21 => ⟨S1x4096x256, .f32⟩
  | 22 => ⟨S1x4096x16x64, .f32⟩
  | 23 => ⟨S_, .f32⟩
  | 24 => ⟨S1x16x64, .f32⟩
  | 25 => ⟨S1x1x16x64, .f32⟩
  | 26 => ⟨S1x4096x16x64, .f32⟩
  | 27 => ⟨S1x4096x16x64, .f32⟩
  | 28 => ⟨S_, .f32⟩
  | 29 => ⟨S16x64, .f32⟩
  | 30 => ⟨S1x4096x16x64, .f32⟩
  | 31 => ⟨S_, .f32⟩
  | 32 => ⟨S1x4096x16, .f32⟩
  | 33 => ⟨S1x4096x16x1, .f32⟩
  | 34 => ⟨S1x4096x16x64, .f32⟩
  | 35 => ⟨S1x4096x16x64, .f32⟩
  | 36 => ⟨S1x4096x16x1, .f32⟩
  | 37 => ⟨S_, .f32⟩
  | 38 => ⟨S1x4096x16x1, .f32⟩
  | 39 => ⟨S1x4096x16x1, .f32⟩
  | 40 => ⟨S_, .f32⟩
  | 41 => ⟨S4096x16, .f32⟩
  | 42 => ⟨S1x4096x16, .f32⟩
  | 43 => ⟨S1x4096x16x64, .f32⟩
  | 44 => ⟨S1x4096x16x64, .f32⟩
  | 45 => ⟨S1x4096x16x64, .f32⟩
  | 46 => ⟨S1x4096x16x64, .f32⟩
  | 47 => ⟨S1x4096x16x64, .f32⟩
  | 48 => ⟨S1x4096x1024, .f32⟩
  | 49 => ⟨S1x4096x2560, .f32⟩
  | 50 => ⟨S4096x2560, .f32⟩
  | 51 => ⟨S4096x2560, .bf16⟩
  | 52 => ⟨S4096x6144, .bf16⟩
  | 53 => ⟨S4096x8704, .bf16⟩
  | 54 => ⟨S1x1024, .f32⟩
  | 55 => ⟨S1x256, .f32⟩
  | 56 => ⟨S1x16, .f32⟩
  | 57 => ⟨S_, .i32⟩
  | 58 => ⟨S_, .f32⟩
  | 59 => ⟨S8x128, .f32⟩
  | _ => ⟨S4096x8704, .bf16⟩

abbrev hbmTy (i : Nat) : BufTy := match i / 128 with
  | 0 => hbmTy0_0 i
  | 1 => hbmTy0_1 i
  | 2 => hbmTy0_2 i
  | _ => ⟨S4096x8704, .bf16⟩

abbrev bufTy : (tb : Table) → Fin (tcTables nBuf tb) → BufTy
  | .hbm, ⟨i, _⟩ => hbmTy i
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_12 : Ref sig .tc := ⟨.hbm, 94, rfl⟩
abbrev main_v74 : Ref sig .tc := ⟨.hbm, 95, rfl⟩
abbrev main_v75 : Ref sig .tc := ⟨.hbm, 96, rfl⟩
abbrev main_c_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_14 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c_15 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_16 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_17 : Ref sig .tc := ⟨.hbm, 120, rfl⟩
abbrev main_call0_v0 : Ref sig .tc := ⟨.hbm, 121, rfl⟩
abbrev main_v95_1 : Ref sig .tc := ⟨.hbm, 122, rfl⟩
abbrev main_call0_v2 : Ref sig .tc := ⟨.hbm, 123, rfl⟩
abbrev main_v95_0 : Ref sig .tc := ⟨.hbm, 124, rfl⟩
abbrev main_call0_cst : Ref sig .tc := ⟨.hbm, 125, rfl⟩
abbrev main_v95_2 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_19 : Ref sig .tc := ⟨.hbm, 136, rfl⟩
abbrev main_v104 : Ref sig .tc := ⟨.hbm, 137, rfl⟩
abbrev main_cst_20 : Ref sig .tc := ⟨.hbm, 138, rfl⟩
abbrev main_v105 : Ref sig .tc := ⟨.hbm, 139, rfl⟩
abbrev main_v106 : Ref sig .tc := ⟨.hbm, 140, rfl⟩
abbrev main_cst_21 : Ref sig .tc := ⟨.hbm, 141, rfl⟩
abbrev main_v107 : Ref sig .tc := ⟨.hbm, 142, rfl⟩
abbrev main_v108 : Ref sig .tc := ⟨.hbm, 143, rfl⟩
abbrev main_cst_22 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_cst_25 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_26 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_27 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_call1_v0 : Ref sig .tc := ⟨.hbm, 172, rfl⟩
abbrev main_call1_v1 : Ref sig .tc := ⟨.hbm, 173, rfl⟩
abbrev main_call1_cst : Ref sig .tc := ⟨.hbm, 174, rfl⟩
abbrev main_call1_v2 : Ref sig .tc := ⟨.hbm, 175, rfl⟩
abbrev main_call1_v3 : Ref sig .tc := ⟨.hbm, 176, rfl⟩
abbrev main_call1_cst_0 : Ref sig .tc := ⟨.hbm, 177, rfl⟩
abbrev main_call1_v4 : Ref sig .tc := ⟨.hbm, 178, rfl⟩
abbrev main_v131_2 : Ref sig .tc := ⟨.hbm, 179, rfl⟩
abbrev main_call1_cst_1 : Ref sig .tc := ⟨.hbm, 180, rfl⟩
abbrev main_call1_v6 : Ref sig .tc := ⟨.hbm, 181, rfl⟩
abbrev main_call1_v7 : Ref sig .tc := ⟨.hbm, 182, rfl⟩
abbrev main_v131_1 : Ref sig .tc := ⟨.hbm, 183, rfl⟩
abbrev main_v131_0 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_call2_v0 : Ref sig .tc := ⟨.hbm, 190, rfl⟩
abbrev main_call2_v1 : Ref sig .tc := ⟨.hbm, 191, rfl⟩
abbrev main_call2_v2 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_28 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_29 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_30 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_31 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_call3_cst : Ref sig .tc := ⟨.hbm, 222, rfl⟩
abbrev main_call3_v0 : Ref sig .tc := ⟨.hbm, 223, rfl⟩
abbrev main_v162 : Ref sig .tc := ⟨.hbm, 224, rfl⟩
abbrev main_cst_32 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_33 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_34 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_35 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_36 : Ref sig .tc := ⟨.hbm, 257, rfl⟩
abbrev main_v191 : Ref sig .tc := ⟨.hbm, 258, rfl⟩
abbrev main_v192 : Ref sig .tc := ⟨.hbm, 259, rfl⟩
abbrev main_cst_37 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_38 : Ref sig .tc := ⟨.hbm, 266, rfl⟩
abbrev main_v198 : Ref sig .tc := ⟨.hbm, 267, rfl⟩
abbrev main_v199 : Ref sig .tc := ⟨.hbm, 268, rfl⟩
abbrev main_cst_39 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_cst_40 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_cst_41 : Ref sig .tc := ⟨.hbm, 284, rfl⟩
abbrev main_v213 : Ref sig .tc := ⟨.hbm, 285, rfl⟩
abbrev main_v214 : Ref sig .tc := ⟨.hbm, 286, rfl⟩
abbrev main_cst_42 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_43 : Ref sig .tc := ⟨.hbm, 293, rfl⟩
abbrev main_v220 : Ref sig .tc := ⟨.hbm, 294, rfl⟩
abbrev main_v221 : Ref sig .tc := ⟨.hbm, 295, rfl⟩
abbrev main_cst_44 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_c_45 : Ref sig .tc := ⟨.hbm, 313, rfl⟩
abbrev main_call4_v0 : Ref sig .tc := ⟨.hbm, 314, rfl⟩
abbrev main_v238 : Ref sig .tc := ⟨.hbm, 315, rfl⟩

abbrev nD : Nat := 1
abbrev τ : Topo := Topo.v7x

variable {F : FTy → Type} [FloatOps F]
-- ==== Kernel2.lean ====
abbrev S4096x2048 : Shape := ⟨2, ![4096, 2048]⟩
abbrev S4096x8704 : Shape := ⟨2, ![4096, 8704]⟩
abbrev S2048x2048 : Shape := ⟨2, ![2048, 2048]⟩
abbrev S4096x4096 : Shape := ⟨2, ![4096, 4096]⟩
abbrev S4096x1024 : Shape := ⟨2, ![4096, 1024]⟩
abbrev S2048x1024 : Shape := ⟨2, ![2048, 1024]⟩
abbrev S4096x512 : Shape := ⟨2, ![4096, 512]⟩
abbrev S512x1024 : Shape := ⟨2, ![512, 1024]⟩
abbrev S1024x2048 : Shape := ⟨2, ![1024, 2048]⟩
abbrev S1024x1024 : Shape := ⟨2, ![1024, 1024]⟩
abbrev S8704x1024 : Shape := ⟨2, ![8704, 1024]⟩

abbrev nBuf : Space → Nat
  | .hbm => 23
  | .vmem => 52
  | .smem => 0
  | _ => 0

abbrev bufTy : (tb : Table) → Fin (tcTables nBuf tb) → BufTy
  | .hbm, ⟨0, _⟩ => ⟨S4096x2048, .bf16⟩
  | .hbm, ⟨1, _⟩ => ⟨S4096x8704, .bf16⟩
  | .hbm, ⟨2, _⟩ => ⟨S4096x2048, .bf16⟩
  | .hbm, ⟨3, _⟩ => ⟨S4096x2048, .bf16⟩
  | .hbm, ⟨4, _⟩ => ⟨S2048x2048, .bf16⟩
  | .hbm, ⟨5, _⟩ => ⟨S4096x4096, .bf16⟩
  | .hbm, ⟨6, _⟩ => ⟨S4096x1024, .bf16⟩
  | .hbm, ⟨7, _⟩ => ⟨S2048x1024, .bf16⟩
  | .hbm, ⟨8, _⟩ => ⟨S4096x1024, .bf16⟩
  | .hbm, ⟨9, _⟩ => ⟨S2048x1024, .bf16⟩
  | .hbm, ⟨10, _⟩ => ⟨S4096x1024, .bf16⟩
  | .hbm, ⟨11, _⟩ => ⟨S4096x2048, .bf16⟩
  | .hbm, ⟨12, _⟩ => ⟨S2048x1024, .bf16⟩
  | .hbm, ⟨13, _⟩ => ⟨S2048x2048, .f32⟩
  | .hbm, ⟨14, _⟩ => ⟨S4096x2048, .bf16⟩
  | .hbm, ⟨15, _⟩ => ⟨S2048x1024, .f32⟩
  | .hbm, ⟨16, _⟩ => ⟨S2048x1024, .f32⟩
  | .hbm, ⟨17, _⟩ => ⟨S4096x1024, .bf16⟩
  | .hbm, ⟨18, _⟩ => ⟨S4096x1024, .bf16⟩
  | .hbm, ⟨19, _⟩ => ⟨S2048x1024, .f32⟩
  | .hbm, ⟨20, _⟩ => ⟨S4096x1024, .bf16⟩
  | .hbm, ⟨21, _⟩ => ⟨S8704x1024, .f32⟩
  | .hbm, ⟨22, _⟩ => ⟨S8704x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .bf16⟩
  | .local _ .vmem, ⟨11, _⟩ => ⟨S1024x1024, .bf16⟩
  | .local _ .vmem, ⟨12, _⟩ => ⟨S4096x512, .bf16⟩
  | .local _ .vmem, ⟨13, _⟩ => ⟨S4096x512, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | .local _ .vmem, ⟨17, _⟩ => ⟨S4096x512, .bf16⟩
  | .local _ .vmem, ⟨18, _⟩ => ⟨S4096x512, .bf16⟩
  | .local _ .vmem, ⟨19, _⟩ => ⟨S4096x1024, .bf16⟩
  | .local _ .vmem, ⟨20, _⟩ => ⟨S512x1024, .f32⟩
  | .local _ .vmem, ⟨21, _⟩ => ⟨S512x1024, .f32⟩
  | .local _ .vmem, ⟨22, _⟩ => ⟨S1024x2048, .bf16⟩
  | .local _ .vmem, ⟨23, _⟩ => ⟨S1024x2048, .bf16⟩
  | .local _ .vmem, ⟨24, _⟩ => ⟨S2048x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x2048, .bf16⟩
  | .local _ .vmem, ⟨28, _⟩ => ⟨S1024x2048, .bf16⟩
  | .local _ .vmem, ⟨29, _⟩ => ⟨S2048x1024, .bf16⟩
  | .local _ .vmem, ⟨30, _⟩ => ⟨S1024x1024, .bf16⟩
  | .local _ .vmem, ⟨31, _⟩ => ⟨S1024x1024, .bf16⟩
  | .local _ .vmem, ⟨32, _⟩ => ⟨S4096x512, .bf16⟩
  | .local _ .vmem, ⟨33, _⟩ => ⟨S4096x512, .bf16⟩
  | .local _ .vmem, ⟨34, _⟩ => ⟨S4096x1024, .bf16⟩
  | .local _ .vmem, ⟨35, _⟩ => ⟨S512x1024, .f32⟩
  | .local _ .vmem, ⟨36, _⟩ => ⟨S512x1024, .f32⟩
  | .local _ .vmem, ⟨37, _⟩ => ⟨S1024x2048, .bf16⟩
  | .local _ .vmem, ⟨38, _⟩ => ⟨S1024x2048, .bf16⟩
  | .local _ .vmem, ⟨39, _⟩ => ⟨S2048x1024, .bf16⟩
  | .local _ .vmem, ⟨40, _⟩ => ⟨S1024x1024, .bf16⟩
  | .local _ .vmem, ⟨41, _⟩ => ⟨S1024x1024, .bf16⟩
  | .local _ .vmem, ⟨42, _⟩ => ⟨S4096x512, .bf16⟩
  | .local _ .vmem, ⟨43, _⟩ => ⟨S4096x512, .bf16⟩
  | .local _ .vmem, ⟨44, _⟩ => ⟨S4096x1024, .bf16⟩
  | .local _ .vmem, ⟨45, _⟩ => ⟨S512x1024, .f32⟩
  | .local _ .vmem, ⟨46, _⟩ => ⟨S512x1024, .f32⟩
  | .local _ .vmem, ⟨47, _⟩ => ⟨S4096x512, .bf16⟩
  | .local _ .vmem, ⟨48, _⟩ => ⟨S4096x512, .bf16⟩
  | .local _ .vmem, ⟨49, _⟩ => ⟨S4096x1024, .bf16⟩
  | .local _ .vmem, ⟨50, _⟩ => ⟨S512x1024, .f32⟩
  | .local _ .vmem, ⟨51, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem2_1 : DmaSem sig := 51

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage6_0 : Fin 2 → Memref sig .tc .vmem S4096x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![17, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![17, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage9_0 : Fin 2 → Memref sig .tc .vmem S4096x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S4096x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== Reference2Ideal.lean ====
abbrev S4096x2048 : Shape := ⟨2, ![4096, 2048]⟩
abbrev S4096x8704 : Shape := ⟨2, ![4096, 8704]⟩
abbrev S2048x2048 : Shape := ⟨2, ![2048, 2048]⟩
abbrev S4096x4096 : Shape := ⟨2, ![4096, 4096]⟩
abbrev S4096x1024 : Shape := ⟨2, ![4096, 1024]⟩
abbrev S2048x1024 : Shape := ⟨2, ![2048, 1024]⟩
abbrev S1024x2048 : Shape := ⟨2, ![1024, 2048]⟩
abbrev S_ : Shape := ⟨0, ![]⟩
abbrev S2048x8704 : Shape := ⟨2, ![2048, 8704]⟩
abbrev S8704x2048 : Shape := ⟨2, ![8704, 2048]⟩
abbrev S8704x1024 : Shape := ⟨2, ![8704, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8704, .bf16⟩
  | .hbm, ⟨2, _⟩ => ⟨S4096x2048, .bf16⟩
  | .hbm, ⟨3, _⟩ => ⟨S4096x2048, .bf16⟩
  | .hbm, ⟨4, _⟩ => ⟨S2048x2048, .bf16⟩
  | .hbm, ⟨5, _⟩ => ⟨S4096x4096, .bf16⟩
  | .hbm, ⟨6, _⟩ => ⟨S4096x1024, .bf16⟩
  | .hbm, ⟨7, _⟩ => ⟨S2048x1024, .bf16⟩
  | .hbm, ⟨8, _⟩ => ⟨S4096x1024, .bf16⟩
  | .hbm, ⟨9, _⟩ => ⟨S2048x1024, .bf16⟩
  | .hbm, ⟨10, _⟩ => ⟨S4096x1024, .bf16⟩
  | .hbm, ⟨11, _⟩ => ⟨S4096x2048, .bf16⟩
  | .hbm, ⟨12, _⟩ => ⟨S2048x1024, .bf16⟩
  | .hbm, ⟨13, _⟩ => ⟨S4096x2048, .f32⟩
  | .hbm, ⟨14, _⟩ => ⟨S2048x2048, .f32⟩
  | .hbm, ⟨15, _⟩ => ⟨S4096x2048, .f32⟩
  | .hbm, ⟨16, _⟩ => ⟨S4096x2048, .f32⟩
  | .hbm, ⟨17, _⟩ => ⟨S2048x2048, .f32⟩
  | .hbm, ⟨18, _⟩ => ⟨S2048x2048, .f32⟩
  | .hbm, ⟨19, _⟩ => ⟨S4096x2048, .f32⟩
  | .hbm, ⟨20, _⟩ => ⟨S4096x2048, .bf16⟩
  | .hbm, ⟨21, _⟩ => ⟨S1024x2048, .bf16⟩
  | .hbm, ⟨22, _⟩ => ⟨S4096x2048, .bf16⟩
  | .hbm, ⟨23, _⟩ => ⟨S4096x1024, .f32⟩
  | .hbm, ⟨24, _⟩ => ⟨S1024x2048, .f32⟩
  | .hbm, ⟨25, _⟩ => ⟨S4096x2048, .f32⟩
  | .hbm, ⟨26, _⟩ => ⟨S4096x2048, .f32⟩
  | .hbm, ⟨27, _⟩ => ⟨S2048x1024, .f32⟩
  | .hbm, ⟨28, _⟩ => ⟨S1024x2048, .f32⟩
  | .hbm, ⟨29, _⟩ => ⟨S4096x1024, .f32⟩
  | .hbm, ⟨30, _⟩ => ⟨S4096x1024, .bf16⟩
  | .hbm, ⟨31, _⟩ => ⟨S1024x2048, .bf16⟩
  | .hbm, ⟨32, _⟩ => ⟨S4096x2048, .bf16⟩
  | .hbm, ⟨33, _⟩ => ⟨S4096x1024, .f32⟩
  | .hbm, ⟨34, _⟩ => ⟨S1024x2048, .f32⟩
  | .hbm, ⟨35, _⟩ => ⟨S4096x2048, .f32⟩
  | .hbm, ⟨36, _⟩ => ⟨S4096x2048, .f32⟩
  | .hbm, ⟨37, _⟩ => ⟨S2048x1024, .f32⟩
  | .hbm, ⟨38, _⟩ => ⟨S1024x2048, .f32⟩
  | .hbm, ⟨39, _⟩ => ⟨S4096x1024, .f32⟩
  | .hbm, ⟨40, _⟩ => ⟨S4096x1024, .bf16⟩
  | .hbm, ⟨41, _⟩ => ⟨S1024x2048, .bf16⟩
  | .hbm, ⟨42, _⟩ => ⟨S4096x1024, .f32⟩
  | .hbm, ⟨43, _⟩ => ⟨S1024x2048, .f32⟩
  | .hbm, ⟨44, _⟩ => ⟨S4096x2048, .f32⟩
  | .hbm, ⟨45, _⟩ => ⟨S4096x2048, .f32⟩
  | .hbm, ⟨46, _⟩ => ⟨S2048x1024, .f32⟩
  | .hbm, ⟨47, _⟩ => ⟨S1024x2048, .f32⟩
  | .hbm, ⟨48, _⟩ => ⟨S4096x1024, .f32⟩
  | .hbm, ⟨49, _⟩ => ⟨S4096x1024, .bf16⟩
  | .hbm, ⟨50, _⟩ => ⟨S_, .f32⟩
  | .hbm, ⟨51, _⟩ => ⟨S2048x8704, .f32⟩
  | .hbm, ⟨52, _⟩ => ⟨S4096x2048, .f32⟩
  | .hbm, ⟨53, _⟩ => ⟨S4096x8704, .f32⟩
  | .hbm, ⟨54, _⟩ => ⟨S4096x8704, .f32⟩
  | .hbm, ⟨55, _⟩ => ⟨S8704x2048, .f32⟩
  | .hbm, ⟨56, _⟩ => ⟨S2048x8704, .f32⟩
  | .hbm, ⟨57, _⟩ => ⟨S4096x2048, .f32⟩
  | .hbm, ⟨58, _⟩ => ⟨S4096x2048, .bf16⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S8704x2048, .f32⟩
  | .hbm, ⟨63, _⟩ => ⟨S8704x1024, .f32⟩
  | .hbm, ⟨64, _⟩ => ⟨S8704x2048, .f32⟩
  | .hbm, ⟨65, _⟩ => ⟨S8704x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel3.lean ====
abbrev S4096x2048 : Shape := ⟨2, ![4096, 2048]⟩
abbrev S8704x1024 : Shape := ⟨2, ![8704, 1024]⟩
abbrev S4096x1024 : Shape := ⟨2, ![4096, 1024]⟩
abbrev S2048x1024 : Shape := ⟨2, ![2048, 1024]⟩
abbrev S2048 : Shape := ⟨1, ![2048]⟩
abbrev S4096x8704 : Shape := ⟨2, ![4096, 8704]⟩
abbrev S1024x1024 : Shape := ⟨2, ![1024, 1024]⟩
abbrev S2176x1024 : Shape := ⟨2, ![2176, 1024]⟩
abbrev S1024x2176 : Shape := ⟨2, ![1024, 2176]⟩
abbrev S1x2048 : Shape := ⟨2, ![1, 2048]⟩
abbrev S1x1024 : Shape := ⟨2, ![1, 1024]⟩
abbrev S4096x4096 : Shape := ⟨2, ![4096, 4096]⟩

abbrev nBuf : Space → Nat
  | .hbm => 16
  | .vmem => 34
  | .smem => 0
  | _ => 0

abbrev bufTy : (tb : Table) → Fin (tcTables nBuf tb) → BufTy
  | .hbm, ⟨0, _⟩ => ⟨S4096x2048, .bf16⟩
  | .hbm, ⟨1, _⟩ => ⟨S8704x1024, .bf16⟩
  | .hbm, ⟨2, _⟩ => ⟨S8704x1024, .bf16⟩
  | .hbm, ⟨3, _⟩ => ⟨S4096x1024, .bf16⟩
  | .hbm, ⟨4, _⟩ => ⟨S2048x1024, .bf16⟩
  | .hbm, ⟨5, _⟩ => ⟨S2048, .f32⟩
  | .hbm, ⟨6, _⟩ => ⟨S4096x1024, .bf16⟩
  | .hbm, ⟨7, _⟩ => ⟨S2048x1024, .bf16⟩
  | .hbm, ⟨8, _⟩ => ⟨S4096x1024, .bf16⟩
  | .hbm, ⟨9, _⟩ => ⟨S2048x1024, .bf16⟩
  | .hbm, ⟨10, _⟩ => ⟨S4096x8704, .bf16⟩
  | .hbm, ⟨11, _⟩ => ⟨S4096x8704, .bf16⟩
  | .hbm, ⟨12, _⟩ => ⟨S1x2048, .f32⟩
  | .hbm, ⟨13, _⟩ => ⟨S4096x2048, .bf16⟩
  | .hbm, ⟨14, _⟩ => ⟨S4096x4096, .bf16⟩
  | .hbm, ⟨15, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x2176, .bf16⟩
  | .local _ .vmem, ⟨5, _⟩ => ⟨S1024x2176, .bf16⟩
  | .local _ .vmem, ⟨6, _⟩ => ⟨S1024x1024, .bf16⟩
  | .local _ .vmem, ⟨7, _⟩ => ⟨S1024x1024, .bf16⟩
  | .local _ .vmem, ⟨8, _⟩ => ⟨S2176x1024, .bf16⟩
  | .local _ .vmem, ⟨9, _⟩ => ⟨S2176x1024, .bf16⟩
  | .local _ .vmem, ⟨10, _⟩ => ⟨S1024x2176, .bf16⟩
  | .local _ .vmem, ⟨11, _⟩ => ⟨S1024x2176, .bf16⟩
  | .local _ .vmem, ⟨12, _⟩ => ⟨S1024x2176, .bf16⟩
  | .local _ .vmem, ⟨13, _⟩ => ⟨S1024x2176, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2176x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2176 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x2176 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference3Ideal.lean ====
abbrev S4096x2048 : Shape := ⟨2, ![4096, 2048]⟩
abbrev S8704x1024 : Shape := ⟨2, ![8704, 1024]⟩
abbrev S4096x1024 : Shape := ⟨2, ![4096, 1024]⟩
abbrev S2048x1024 : Shape := ⟨2, ![2048, 1024]⟩
abbrev S2048 : Shape := ⟨1, ![2048]⟩
abbrev S8704x2048 : Shape := ⟨2, ![8704, 2048]⟩
abbrev S2048x8704 : Shape := ⟨2, ![2048, 8704]⟩
abbrev S4096x8704 : Shape := ⟨2, ![4096, 8704]⟩
abbrev S1024x2048 : Shape := ⟨2, ![1024, 2048]⟩
abbrev S1x2048 : Shape := ⟨2, ![1, 2048]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8704x1024, .bf16⟩
  | .hbm, ⟨2, _⟩ => ⟨S8704x1024, .bf16⟩
  | .hbm, ⟨3, _⟩ => ⟨S4096x1024, .bf16⟩
  | .hbm, ⟨4, _⟩ => ⟨S2048x1024, .bf16⟩
  | .hbm, ⟨5, _⟩ => ⟨S2048, .f32⟩
  | .hbm, ⟨6, _⟩ => ⟨S4096x1024, .bf16⟩
  | .hbm, ⟨7, _⟩ => ⟨S2048x1024, .bf16⟩
  | .hbm, ⟨8, _⟩ => ⟨S4096x1024, .bf16⟩
  | .hbm, ⟨9, _⟩ => ⟨S2048x1024, .bf16⟩
  | .hbm, ⟨10, _⟩ => ⟨S4096x2048, .f32⟩
  | .hbm, ⟨11, _⟩ => ⟨S8704x1024, .f32⟩
  | .hbm, ⟨12, _⟩ => ⟨S8704x1024, .f32⟩
  | .hbm, ⟨13, _⟩ => ⟨S4096x1024, .f32⟩
  | .hbm, ⟨14, _⟩ => ⟨S2048x1024, .f32⟩
  | .hbm, ⟨15, _⟩ => ⟨S4096x1024, .f32⟩
  | .hbm, ⟨16, _⟩ => ⟨S2048x1024, .f32⟩
  | .hbm, ⟨17, _⟩ => ⟨S4096x1024, .f32⟩
  | .hbm, ⟨18, _⟩ => ⟨S2048x1024, .f32⟩
  | .hbm, ⟨19, _⟩ => ⟨S8704x2048, .f32⟩
  | .hbm, ⟨20, _⟩ => ⟨S2048x8704, .f32⟩
  | .hbm, ⟨21, _⟩ => ⟨S4096x8704, .f32⟩
  | .hbm, ⟨22, _⟩ => ⟨S1024x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S1024x2048, .f32⟩
  | .hbm, ⟨28, _⟩ => ⟨S4096x2048, .f32⟩
  | .hbm, ⟨29, _⟩ => ⟨S1024x2048, .f32⟩
  | .hbm, ⟨30, _⟩ => ⟨S4096x2048, .f32⟩
  | .hbm, ⟨31, _⟩ => ⟨S4096x8704, .bf16⟩
  | .hbm, ⟨32, _⟩ => ⟨S4096x2048, .bf16⟩
  | .hbm, ⟨33, _⟩ => ⟨S4096x4096, .f32⟩
  | .hbm, ⟨34, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S4096x8704 : Shape := ⟨2, ![4096, 8704]⟩
abbrev S8704x1024 : Shape := ⟨2, ![8704, 1024]⟩
abbrev S4096x2048 : Shape := ⟨2, ![4096, 2048]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x2048, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8704 : Shape := ⟨2, ![4096, 8704]⟩
abbrev S8704x1024 : Shape := ⟨2, ![8704, 1024]⟩
abbrev S1024x8704 : Shape := ⟨2, ![1024, 8704]⟩
abbrev S_ : Shape := ⟨0, ![]⟩
abbrev S4096x1024 : Shape := ⟨2, ![4096, 1024]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S1024x8704, .bf16⟩
  | .hbm, ⟨3, _⟩ => ⟨S1024x8704, .f32⟩
  | .hbm, ⟨4, _⟩ => ⟨S4096x8704, .f32⟩
  | .hbm, ⟨5, _⟩ => ⟨S_, .f32⟩
  | .hbm, ⟨6, _⟩ => ⟨S4096x1024, .f32⟩
  | .hbm, ⟨7, _⟩ => ⟨S4096x8704, .f32⟩
  | .hbm, ⟨8, _⟩ => ⟨S4096x1024, .f32⟩
  | .hbm, ⟨9, _⟩ => ⟨S_, .i32⟩
  | .hbm, ⟨10, _⟩ => ⟨S_, .f32⟩
  | .hbm, ⟨11, _⟩ => ⟨S4096x2048, .f32⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S4096x8704 : Shape := ⟨2, ![4096, 8704]⟩
abbrev S8704x1024 : Shape := ⟨2, ![8704, 1024]⟩
abbrev S4096x2048 : Shape := ⟨2, ![4096, 2048]⟩
abbrev S1024x2176 : Shape := ⟨2, ![1024, 2176]⟩
abbrev S2176x1024 : Shape := ⟨2, ![2176, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x2048, .f32⟩
  | .hbm, ⟨3, _⟩ => ⟨S4096x2048, .f32⟩
  | .local _ .vmem, ⟨0, _⟩ => ⟨S1024x2176, .bf16⟩
  | .local _ .vmem, ⟨1, _⟩ => ⟨S1024x2176, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8704 : Shape := ⟨2, ![4096, 8704]⟩
abbrev S8704x1024 : Shape := ⟨2, ![8704, 1024]⟩
abbrev S4096x2048 : Shape := ⟨2, ![4096, 2048]⟩
abbrev S4096x1024 : Shape := ⟨2, ![4096, 1024]⟩
abbrev S1024x8704 : Shape := ⟨2, ![1024, 8704]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S8704x1024, .bf16⟩
  | .hbm, ⟨2, _⟩ => ⟨S4096x2048, .f32⟩
  | .hbm, ⟨3, _⟩ => ⟨S4096x1024, .f32⟩
  | .hbm, ⟨4, _⟩ => ⟨S1024x8704, .bf16⟩
  | .hbm, ⟨5, _⟩ => ⟨S1024x8704, .f32⟩
  | .hbm, ⟨6, _⟩ => ⟨S4096x8704, .f32⟩
  | .hbm, ⟨7, _⟩ => ⟨S_, .f32⟩
  | .hbm, ⟨8, _⟩ => ⟨S4096x1024, .f32⟩
  | .hbm, ⟨9, _⟩ => ⟨S4096x8704, .f32⟩
  | .hbm, ⟨10, _⟩ => ⟨S4096x1024, .f32⟩
  | .hbm, ⟨11, _⟩ => ⟨S4096x2048, .f32⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S4096x4096 : Shape := ⟨2, ![4096, 4096]⟩
abbrev S4096x8704 : Shape := ⟨2, ![4096, 8704]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x8704, .bf16⟩
  | .hbm, ⟨3, _⟩ => ⟨S4096x4096, .bf16⟩
  | .hbm, ⟨4, _⟩ => ⟨S4096x8704, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c9_i32 : BitVec 32 := 9#32
  let v10 : BitVec 32 := Scalar.addi c9_i32 v9
  let c0_i32_3 : BitVec 32 := 0#32
  ![arg1.toNat, v10.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg0 c9_i32
  let c0_i32 : BitVec 32 := 0#32
  ![arg1.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x2048 : Shape := ⟨2, ![4096, 2048]⟩
abbrev S4096x4096 : Shape := ⟨2, ![4096, 4096]⟩
abbrev S4096x8704 : Shape := ⟨2, ![4096, 8704]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x8704, .bf16⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x4096, .bf16⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x4096, .f32⟩
  | .hbm, ⟨45, _⟩ => ⟨S_, .i32⟩
  | .hbm, ⟨46, _⟩ => ⟨S_, .f32⟩
  | .hbm, ⟨47, _⟩ => ⟨S4096x8704, .f32⟩
  | .hbm, ⟨48, _⟩ => ⟨S4096x4096, .f32⟩
  | .hbm, ⟨49, _⟩ => ⟨S4096x4096, .bf16⟩
  | .hbm, ⟨50, _⟩ => ⟨S4096x8704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S4096x8704 : Shape := ⟨2, ![4096, 8704]⟩
abbrev S1x2048 : Shape := ⟨2, ![1, 2048]⟩
abbrev S1024x512 : Shape := ⟨2, ![1024, 512]⟩
abbrev S1x512 : Shape := ⟨2, ![1, 512]⟩
abbrev S512 : Shape := ⟨1, ![512]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x8704, .bf16⟩
  | .hbm, ⟨3, _⟩ => ⟨S4096x2048, .bf16⟩
  | .hbm, ⟨4, _⟩ => ⟨S1x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let v40 : BitVec 32 := Scalar.extui v37
  let c0_i32_16 : BitVec 32 := 0#32
  let v41 : BitVec 1 := Scalar.cmpi .ne v40 c0_i32_16
  v41

def k0_cond2 (i : grid0.Coords) : BitVec 1 :=
  let arg1 : BitVec 32 := BitVec.ofNat 32 (i 1).val
  let c0_i32 : BitVec 32 := 0#32
  let v37 : BitVec 1 := Scalar.cmpi .eq arg1 c0_i32
  let v_true : BitVec 1 := 1#1
  let v42 : BitVec 1 := Scalar.xori v37 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c0_i32_4 : BitVec 32 := 0#32
  ![arg1.toNat, v10.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c7_i32 : BitVec 32 := 7#32
  let v10 : BitVec 32 := Scalar.addi c7_i32 v9
  let c0_i32_3 : BitVec 32 := 0#32
  ![arg1.toNat, v10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S4096x1024 : Shape := ⟨2, ![4096, 1024]⟩
abbrev S4096x2048 : Shape := ⟨2, ![4096, 2048]⟩
abbrev S4096x8704 : Shape := ⟨2, ![4096, 8704]⟩
abbrev S_ : Shape := ⟨0, ![]⟩
abbrev S2048 : Shape := ⟨1, ![2048]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x8704, .bf16⟩
  | .hbm, ⟨3, _⟩ => ⟨S4096x1024, .bf16⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S4096x2048, .bf16⟩
  | .hbm, ⟨57, _⟩ => ⟨S1x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v20_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v20_1 : Ref sig .tc := ⟨.hbm, 38, rfl⟩
abbrev main_v20_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S4096x8704 : Shape := ⟨2, ![4096, 8704]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x8704, .bf16⟩
  | .hbm, ⟨3, _⟩ => ⟨S4096x8704, .bf16⟩
  | .hbm, ⟨4, _⟩ => ⟨S4096x8704, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c0_i32_4 : BitVec 32 := 0#32
  ![arg1.toNat, v10.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c7_i32 : BitVec 32 := 7#32
  let v10 : BitVec 32 := Scalar.addi c7_i32 v9
  let c0_i32_3 : BitVec 32 := 0#32
  ![arg1.toNat, v10.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg0 c7_i32
  let c0_i32 : BitVec 32 := 0#32
  ![arg1.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4096x1024 : Shape := ⟨2, ![4096, 1024]⟩
abbrev S4096x2048 : Shape := ⟨2, ![4096, 2048]⟩
abbrev S4096x8704 : Shape := ⟨2, ![4096, 8704]⟩
abbrev S_ : Shape := ⟨0, ![]⟩
abbrev S2048 : Shape := ⟨1, ![2048]⟩
abbrev S1x2048 : Shape := ⟨2, ![1, 2048]⟩
abbrev S4096x3584 : Shape := ⟨2, ![4096, 3584]⟩
abbrev S4096x4096 : Shape := ⟨2, ![4096, 4096]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x8704, .bf16⟩
  | .hbm, ⟨3, _⟩ => ⟨S4096x8704, .bf16⟩
  | .hbm, ⟨4, _⟩ => ⟨S4096x1024, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S4096x3584, .bf16⟩
  | .hbm, ⟨58, _⟩ => ⟨S4096x1024, .bf16⟩
  | .hbm, ⟨59, _⟩ => ⟨S4096x4096, .bf16⟩
  | .hbm, ⟨60, _⟩ => ⟨S4096x8704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== Kernel9.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32_15 : BitVec 32 := 0#32
  let v37 : BitVec 1 := Scalar.cmpi .sgt arg0 c0_i32_15
  let v38 : BitVec 32 := Scalar.extui v37
  let c0_i32_16 : BitVec 32 := 0#32
  let v39 : BitVec 1 := Scalar.cmpi .ne v38 c0_i32_16
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_14 : BitVec 32 := 0#32
  let v23 : BitVec 1 := Scalar.cmpi .ne v22 c0_i32_14
  v23

def k0_cond2 (i : grid0.Coords) : BitVec 1 :=
  let arg1 : BitVec 32 := BitVec.ofNat 32 (i 1).val
  let c0_i32 : BitVec 32 := 0#32
  let v21 : BitVec 1 := Scalar.cmpi .eq arg1 c0_i32
  let v_true : BitVec 1 := 1#1
  let v24 : BitVec 1 := Scalar.xori v21 v_true
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S2048 : Shape := ⟨1, ![2048]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel11.lean ====
abbrev S4096x2048 : Shape := ⟨2, ![4096, 2048]⟩
abbrev S2048 : Shape := ⟨1, ![2048]⟩
abbrev S4096x8704 : Shape := ⟨2, ![4096, 8704]⟩
abbrev S4096x4096 : Shape := ⟨2, ![4096, 4096]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S4096x1024 : Shape := ⟨2, ![4096, 1024]⟩
abbrev S1024x512 : Shape := ⟨2, ![1024, 512]⟩

abbrev nBuf : Space → Nat
  | .hbm => 9
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x8704, .bf16⟩
  | .hbm, ⟨4, _⟩ => ⟨S4096x4096, .bf16⟩
  | .hbm, ⟨5, _⟩ => ⟨S1x2048, .f32⟩
  | .hbm, ⟨6, _⟩ => ⟨S4096x2048, .bf16⟩
  | .hbm, ⟨7, _⟩ => ⟨S4096x1024, .bf16⟩
  | .hbm, ⟨8, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.addi c2_i32_3 v9
  let c0_i32_4 : BitVec 32 := 0#32
  ![arg1.toNat, v10.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c7_i32 : BitVec 32 := 7#32
  let v10 : BitVec 32 := Scalar.addi c7_i32 v9
  let c0_i32_3 : BitVec 32 := 0#32
  ![arg1.toNat, v10.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.addi c4_i32_3 v9
  let c0_i32_4 : BitVec 32 := 0#32
  ![arg1.toNat, v10.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c9_i32 : BitVec 32 := 9#32
  let v10 : BitVec 32 := Scalar.addi c9_i32 v9
  let c0_i32_3 : BitVec 32 := 0#32
  ![arg1.toNat, v10.toNat]

def cc2_transform_3 (i : grid2.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c13_i32 : BitVec 32 := 13#32
  let v10 : BitVec 32 := Scalar.addi c13_i32 v9
  let c0_i32_3 : BitVec 32 := 0#32
  ![arg1.toNat, v10.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== Reference11Ideal.lean ====
abbrev S4096x2048 : Shape := ⟨2, ![4096, 2048]⟩
abbrev S2048 : Shape := ⟨1, ![2048]⟩
abbrev S4096x8704 : Shape := ⟨2, ![4096, 8704]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x8704, .bf16⟩
  | .hbm, ⟨4, _⟩ => ⟨S4096x4096, .bf16⟩
  | .hbm, ⟨5, _⟩ => ⟨S4096x2048, .f32⟩
  | .hbm, ⟨6, _⟩ => ⟨S4096x8704, .f32⟩
  | .hbm, ⟨7, _⟩ => ⟨S4096x4096, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x2048, .f32⟩
  | .hbm, ⟨48, _⟩ => ⟨S4096x4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .bf16⟩
  | .hbm, ⟨71, _⟩ => ⟨S4096x1024, .bf16⟩
  | .hbm, ⟨72, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Kernel12.lean ====
abbrev S256x2048 : Shape := ⟨2, ![256, 2048]⟩
abbrev S1024x2048 : Shape := ⟨2, ![1024, 2048]⟩
abbrev S4x256x2048 : Shape := ⟨3, ![4, 256, 2048]⟩
abbrev S64x2048 : Shape := ⟨2, ![64, 2048]⟩
abbrev S4x64x2048 : Shape := ⟨3, ![4, 64, 2048]⟩
abbrev S1x64x2048 : Shape := ⟨3, ![1, 64, 2048]⟩

abbrev nBuf : Space → Nat
  | .hbm => 9
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x2048, .f32⟩
  | .hbm, ⟨3, _⟩ => ⟨S256x2048, .f32⟩
  | .hbm, ⟨4, _⟩ => ⟨S4x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S4x64x2048, .bf16⟩
  | .local _ .vmem, ⟨3, _⟩ => ⟨S4x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S256x2048 : Shape := ⟨2, ![256, 2048]⟩
abbrev S1024x2048 : Shape := ⟨2, ![1024, 2048]⟩
abbrev S4x256x2048 : Shape := ⟨3, ![4, 256, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x2048, .f32⟩
  | .hbm, ⟨3, _⟩ => ⟨S256x2048, .f32⟩
  | .hbm, ⟨4, _⟩ => ⟨S1024x2048, .f32⟩
  | .hbm, ⟨5, _⟩ => ⟨S4x256x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S1088x2048 : Shape := ⟨2, ![1088, 2048]⟩
abbrev S4352x1024 : Shape := ⟨2, ![4352, 1024]⟩
abbrev S4x1088x1024 : Shape := ⟨3, ![4, 1088, 1024]⟩
abbrev S64x2048 : Shape := ⟨2, ![64, 2048]⟩
abbrev S4x64x1024 : Shape := ⟨3, ![4, 64, 1024]⟩
abbrev S1x64x1024 : Shape := ⟨3, ![1, 64, 1024]⟩
abbrev S64x1024 : Shape := ⟨2, ![64, 1024]⟩

abbrev nBuf : Space → Nat
  | .hbm => 11
  | .vmem => 18
  | .smem => 0
  | _ => 0

abbrev bufTy : (tb : Table) → Fin (tcTables nBuf tb) → BufTy
  | .hbm, ⟨0, _⟩ => ⟨S1088x2048, .f32⟩
  | .hbm, ⟨1, _⟩ => ⟨S4352x1024, .bf16⟩
  | .hbm, ⟨2, _⟩ => ⟨S4352x1024, .bf16⟩
  | .hbm, ⟨3, _⟩ => ⟨S1088x2048, .f32⟩
  | .hbm, ⟨4, _⟩ => ⟨S1088x2048, .f32⟩
  | .hbm, ⟨5, _⟩ => ⟨S4x1088x1024, .bf16⟩
  | .hbm, ⟨6, _⟩ => ⟨S4x1088x1024, .bf16⟩
  | .hbm, ⟨7, _⟩ => ⟨S1088x2048, .f32⟩
  | .hbm, ⟨8, _⟩ => ⟨S1088x2048, .f32⟩
  | .hbm, ⟨9, _⟩ => ⟨S1088x2048, .f32⟩
  | .hbm, ⟨10, _⟩ => ⟨S1088x2048, .f32⟩
  | .local _ .vmem, ⟨0, _⟩ => ⟨S64x2048, .f32⟩
  | .local _ .vmem, ⟨1, _⟩ => ⟨S64x2048, .f32⟩
  | .local _ .vmem, ⟨2, _⟩ => ⟨S4x64x1024, .bf16⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S1088x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1088x2048 : Shape := ⟨2, ![1088, 2048]⟩
abbrev S4352x1024 : Shape := ⟨2, ![4352, 1024]⟩
abbrev S4x1088x1024 : Shape := ⟨3, ![4, 1088, 1024]⟩
abbrev S_ : Shape := ⟨0, ![]⟩
abbrev S1088x1024 : Shape := ⟨2, ![1088, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1088x2048, .f32⟩
  | .hbm, ⟨1, _⟩ => ⟨S4352x1024, .bf16⟩
  | .hbm, ⟨2, _⟩ => ⟨S4352x1024, .bf16⟩
  | .hbm, ⟨3, _⟩ => ⟨S1088x2048, .f32⟩
  | .hbm, ⟨4, _⟩ => ⟨S1088x2048, .f32⟩
  | .hbm, ⟨5, _⟩ => ⟨S4352x1024, .f32⟩
  | .hbm, ⟨6, _⟩ => ⟨S4x1088x1024, .f32⟩
  | .hbm, ⟨7, _⟩ => ⟨S_, .f32⟩
  | .hbm, ⟨8, _⟩ => ⟨S1088x1024, .f32⟩
  | .hbm, ⟨9, _⟩ => ⟨S4352x1024, .f32⟩
  | .hbm, ⟨10, _⟩ => ⟨S4x1088x1024, .f32⟩
  | .hbm, ⟨11, _⟩ => ⟨S_, .f32⟩
  | .hbm, ⟨12, _⟩ => ⟨S1088x1024, .f32⟩
  | .hbm, ⟨13, _⟩ => ⟨S1088x2048, .f32⟩
  | .hbm, ⟨14, _⟩ => ⟨S_, .f32⟩
  | .hbm, ⟨15, _⟩ => ⟨S1088x2048, .f32⟩
  | .hbm, ⟨16, _⟩ => ⟨S1088x2048, .f32⟩
  | .hbm, ⟨17, _⟩ => ⟨S_, .f32⟩
  | .hbm, ⟨18, _⟩ => ⟨S1088x2048, .f32⟩
  | .hbm, ⟨19, _⟩ => ⟨S1088x2048, .f32⟩
  | .hbm, ⟨20, _⟩ => ⟨S1088x2048, .f32⟩
  | .hbm, ⟨21, _⟩ => ⟨S_, .f32⟩
  | .hbm, ⟨22, _⟩ => ⟨S1088x2048, .f32⟩
  | .hbm, ⟨23, _⟩ => ⟨S1088x2048, .f32⟩
  | .hbm, ⟨24, _⟩ => ⟨S1088x2048, .f32⟩
  | .hbm, ⟨25, _⟩ => ⟨S_, .f32⟩
  | .hbm, ⟨26, _⟩ => ⟨S1088x2048, .f32⟩
  | .hbm, ⟨27, _⟩ => ⟨S1088x2048, .f32⟩
  | .hbm, ⟨28, _⟩ => ⟨S1088x2048, .f32⟩
  | .hbm, ⟨29, _⟩ => ⟨S_, .f32⟩
  | .hbm, ⟨30, _⟩ => ⟨S1088x2048, .f32⟩
  | .hbm, ⟨31, _⟩ => ⟨S1088x2048, .f32⟩
  | .hbm, ⟨32, _⟩ => ⟨S_, .f32⟩
  | .hbm, ⟨33, _⟩ => ⟨S1088x2048, .f32⟩
  | .hbm, ⟨34, _⟩ => ⟨S1088x2048, .f32⟩
  | .hbm, ⟨35, _⟩ => ⟨S1088x2048, .f32⟩
  | .hbm, ⟨36, _⟩ => ⟨S_, .f32⟩
  | .hbm, ⟨37, _⟩ => ⟨S1088x2048, .f32⟩
  | .hbm, ⟨38, _⟩ => ⟨S1088x2048, .f32⟩
  | .hbm, ⟨39, _⟩ => ⟨S1088x2048, .f32⟩
  | .hbm, ⟨40, _⟩ => ⟨S_, .f32⟩
  | .hbm, ⟨41, _⟩ => ⟨S1088x2048, .f32⟩
  | .hbm, ⟨42, _⟩ => ⟨S1088x2048, .f32⟩
  | .hbm, ⟨43, _⟩ => ⟨S1088x2048, .f32⟩
  | .hbm, ⟨44, _⟩ => ⟨S_, .f32⟩
  | .hbm, ⟨45, _⟩ => ⟨S1088x2048, .f32⟩
  | .hbm, ⟨46, _⟩ => ⟨S1088x2048, .f32⟩
  | _, _ => ⟨S1088x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel14.lean ====
abbrev S1024x256 : Shape := ⟨2, ![1024, 256]⟩
abbrev S1024x1024 : Shape := ⟨2, ![1024, 1024]⟩
abbrev S4x256x1024 : Shape := ⟨3, ![4, 256, 1024]⟩
abbrev S256x256 : Shape := ⟨2, ![256, 256]⟩
abbrev S4x256x256 : Shape := ⟨3, ![4, 256, 256]⟩
abbrev S1x256x256 : Shape := ⟨3, ![1, 256, 256]⟩

abbrev nBuf : Space → Nat
  | .hbm => 9
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x1024, .bf16⟩
  | .hbm, ⟨2, _⟩ => ⟨S1024x256, .f32⟩
  | .hbm, ⟨3, _⟩ => ⟨S1024x256, .f32⟩
  | .hbm, ⟨4, _⟩ => ⟨S4x256x1024, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S4x256x256, .bf16⟩
  | .local _ .vmem, ⟨3, _⟩ => ⟨S4x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1024x256 : Shape := ⟨2, ![1024, 256]⟩
abbrev S1024x1024 : Shape := ⟨2, ![1024, 1024]⟩
abbrev S4x256x1024 : Shape := ⟨3, ![4, 256, 1024]⟩
abbrev S_ : Shape := ⟨0, ![]⟩
abbrev S256x1024 : Shape := ⟨2, ![256, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x1024, .bf16⟩
  | .hbm, ⟨2, _⟩ => ⟨S1024x256, .f32⟩
  | .hbm, ⟨3, _⟩ => ⟨S1024x256, .f32⟩
  | .hbm, ⟨4, _⟩ => ⟨S1024x1024, .f32⟩
  | .hbm, ⟨5, _⟩ => ⟨S4x256x1024, .f32⟩
  | .hbm, ⟨6, _⟩ => ⟨S_, .f32⟩
  | .hbm, ⟨7, _⟩ => ⟨S256x1024, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel15.lean ====
abbrev S64x16x64 : Shape := ⟨3, ![64, 16, 64]⟩
abbrev S8x16x64 : Shape := ⟨3, ![8, 16, 64]⟩

abbrev nBuf : Space → Nat
  | .hbm => 7
  | .vmem => 14
  | .smem => 0
  | _ => 0

abbrev bufTy : (tb : Table) → Fin (tcTables nBuf tb) → BufTy
  | .hbm, ⟨0, _⟩ => ⟨S64x16x64, .f32⟩
  | .hbm, ⟨1, _⟩ => ⟨S64x16x64, .f32⟩
  | .hbm, ⟨2, _⟩ => ⟨S64x16x64, .f32⟩
  | .hbm, ⟨3, _⟩ => ⟨S64x16x64, .f32⟩
  | .hbm, ⟨4, _⟩ => ⟨S64x16x64, .f32⟩
  | .hbm, ⟨5, _⟩ => ⟨S64x16x64, .f32⟩
  | .hbm, ⟨6, _⟩ => ⟨S64x16x64, .f32⟩
  | .local _ .vmem, ⟨0, _⟩ => ⟨S8x16x64, .f32⟩
  | .local _ .vmem, ⟨1, _⟩ => ⟨S8x16x64, .f32⟩
  | .local _ .vmem, ⟨2, _⟩ => ⟨S8x16x64, .f32⟩
  | .local _ .vmem, ⟨3, _⟩ => ⟨S8x16x64, .f32⟩
  | .local _ .vmem, ⟨4, _⟩ => ⟨S8x16x64, .f32⟩
  | .local _ .vmem, ⟨5, _⟩ => ⟨S8x16x64, .f32⟩
  | .local _ .vmem, ⟨6, _⟩ => ⟨S8x16x64, .f32⟩
  | .local _ .vmem, ⟨7, _⟩ => ⟨S8x16x64, .f32⟩
  | .local _ .vmem, ⟨8, _⟩ => ⟨S8x16x64, .f32⟩
  | .local _ .vmem, ⟨9, _⟩ => ⟨S8x16x64, .f32⟩
  | .local _ .vmem, ⟨10, _⟩ => ⟨S8x16x64, .f32⟩
  | .local _ .vmem, ⟨11, _⟩ => ⟨S8x16x64, .f32⟩
  | .local _ .vmem, ⟨12, _⟩ => ⟨S8x16x64, .f32⟩
  | .local _ .vmem, ⟨13, _⟩ => ⟨S8x16x64, .f32⟩
  | _, _ => ⟨S64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S64x16x64 : Shape := ⟨3, ![64, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x16x64, .f32⟩
  | .hbm, ⟨1, _⟩ => ⟨S64x16x64, .f32⟩
  | .hbm, ⟨2, _⟩ => ⟨S64x16x64, .f32⟩
  | .hbm, ⟨3, _⟩ => ⟨S64x16x64, .f32⟩
  | .hbm, ⟨4, _⟩ => ⟨S_, .f32⟩
  | .hbm, ⟨5, _⟩ => ⟨S64x16x64, .f32⟩
  | .hbm, ⟨6, _⟩ => ⟨S64x16x64, .f32⟩
  | .hbm, ⟨7, _⟩ => ⟨S_, .f32⟩
  | .hbm, ⟨8, _⟩ => ⟨S64x16x64, .f32⟩
  | .hbm, ⟨9, _⟩ => ⟨S64x16x64, .f32⟩
  | .hbm, ⟨10, _⟩ => ⟨S64x16x64, .f32⟩
  | .hbm, ⟨11, _⟩ => ⟨S_, .f32⟩
  | .hbm, ⟨12, _⟩ => ⟨S64x16x64, .f32⟩
  | .hbm, ⟨13, _⟩ => ⟨S64x16x64, .f32⟩
  | .hbm, ⟨14, _⟩ => ⟨S64x16x64, .f32⟩
  | .hbm, ⟨15, _⟩ => ⟨S_, .f32⟩
  | .hbm, ⟨16, _⟩ => ⟨S64x16x64, .f32⟩
  | .hbm, ⟨17, _⟩ => ⟨S64x16x64, .f32⟩
  | .hbm, ⟨18, _⟩ => ⟨S64x16x64, .f32⟩
  | .hbm, ⟨19, _⟩ => ⟨S_, .f32⟩
  | .hbm, ⟨20, _⟩ => ⟨S64x16x64, .f32⟩
  | .hbm, ⟨21, _⟩ => ⟨S64x16x64, .f32⟩
  | .hbm, ⟨22, _⟩ => ⟨S_, .f32⟩
  | .hbm, ⟨23, _⟩ => ⟨S64x16x64, .f32⟩
  | .hbm, ⟨24, _⟩ => ⟨S64x16x64, .f32⟩
  | .hbm, ⟨25, _⟩ => ⟨S64x16x64, .f32⟩
  | .hbm, ⟨26, _⟩ => ⟨S_, .f32⟩
  | .hbm, ⟨27, _⟩ => ⟨S64x16x64, .f32⟩
  | .hbm, ⟨28, _⟩ => ⟨S64x16x64, .f32⟩
  | .hbm, ⟨29, _⟩ => ⟨S64x16x64, .f32⟩
  | .hbm, ⟨30, _⟩ => ⟨S_, .f32⟩
  | .hbm, ⟨31, _⟩ => ⟨S64x16x64, .f32⟩
  | .hbm, ⟨32, _⟩ => ⟨S64x16x64, .f32⟩
  | .hbm, ⟨33, _⟩ => ⟨S64x16x64, .f32⟩
  | .hbm, ⟨34, _⟩ => ⟨S_, .f32⟩
  | .hbm, ⟨35, _⟩ => ⟨S64x16x64, .f32⟩
  | .hbm, ⟨36, _⟩ => ⟨S64x16x64, .f32⟩
  | _, _ => ⟨S64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S17152x128 : Shape := ⟨2, ![17152, 128]⟩
abbrev S8x2144x128 : Shape := ⟨3, ![8, 2144, 128]⟩
abbrev S2144x128 : Shape := ⟨2, ![2144, 128]⟩
abbrev S1x2144x128 : Shape := ⟨3, ![1, 2144, 128]⟩

abbrev nBuf : Space → Nat
  | .hbm => 3
  | .vmem => 2
  | .smem => 0
  | _ => 0

abbrev bufTy : (tb : Table) → Fin (tcTables nBuf tb) → BufTy
  | .hbm, ⟨0, _⟩ => ⟨S17152x128, .f32⟩
  | .hbm, ⟨1, _⟩ => ⟨S8x2144x128, .f32⟩
  | .hbm, ⟨2, _⟩ => ⟨S2144x128, .f32⟩
  | .local _ .vmem, ⟨0, _⟩ => ⟨S8x2144x128, .f32⟩
  | .local _ .vmem, ⟨1, _⟩ => ⟨S2144x128, .f32⟩
  | _, _ => ⟨S17152x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference16Ideal.lean ====
abbrev S17152x128 : Shape := ⟨2, ![17152, 128]⟩
abbrev S8x2144x128 : Shape := ⟨3, ![8, 2144, 128]⟩
abbrev S_ : Shape := ⟨0, ![]⟩
abbrev S2144x128 : Shape := ⟨2, ![2144, 128]⟩

abbrev nBuf : Space → Nat
  | .hbm => 4
  | .vmem => 0
  | .smem => 0
  | _ => 0

abbrev bufTy : (tb : Table) → Fin (tcTables nBuf tb) → BufTy
  | .hbm, ⟨0, _⟩ => ⟨S17152x128, .f32⟩
  | .hbm, ⟨1, _⟩ => ⟨S8x2144x128, .f32⟩
  | .hbm, ⟨2, _⟩ => ⟨S_, .f32⟩
  | .hbm, ⟨3, _⟩ => ⟨S2144x128, .f32⟩
  | _, _ => ⟨S17152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S128x128 : Shape := ⟨2, ![128, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 3
  | .vmem => 2
  | .smem => 0
  | _ => 0

abbrev bufTy : (tb : Table) → Fin (tcTables nBuf tb) → BufTy
  | .hbm, ⟨0, _⟩ => ⟨S128x128, .f32⟩
  | .hbm, ⟨1, _⟩ => ⟨S8x16x128, .f32⟩
  | .hbm, ⟨2, _⟩ => ⟨S16x128, .f32⟩
  | .local _ .vmem, ⟨0, _⟩ => ⟨S8x16x128, .f32⟩
  | .local _ .vmem, ⟨1, _⟩ => ⟨S16x128, .f32⟩
  | _, _ => ⟨S128x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference17Ideal.lean ====
abbrev S128x128 : Shape := ⟨2, ![128, 128]⟩
abbrev S8x16x128 : Shape := ⟨3, ![8, 16, 128]⟩
abbrev S_ : Shape := ⟨0, ![]⟩
abbrev S16x128 : Shape := ⟨2, ![16, 128]⟩

abbrev nBuf : Space → Nat
  | .hbm => 4
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S8x16x128, .f32⟩
  | .hbm, ⟨2, _⟩ => ⟨S_, .f32⟩
  | .hbm, ⟨3, _⟩ => ⟨S16x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Frame.lean ====
module

public import proofs.«01_k».proof.Proof.Gen.KernelIdeal.Frame.RunB
public import Idealize.ShloMosaic.Lib.Claim

/-! The run of the attention gradient's pipeline: what every output block and the carried scratch hold after
each grid point (`outsAt0`, by recursion on the point), the body's obligation, the launch and the frame. -/

@[expose] public section

-- membership in a rectangle of production extents (`View.cover_of_tiled`): the elaborator's structural look
-- recurses once per coordinate of the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section CaseA

variable (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x256 .f32) (harg10 : arg10.IsWhole) (arg11 : Memref sig .tc .vmem S256x256 .bf16) (harg11 : arg11.IsWhole) (arg12 : Memref sig .tc .smem S16 .f32) (harg12 : arg12.IsWhole) (arg14 : Memref sig .tc .vmem S128x2560 .bf16) (harg14 : arg14.IsWhole) (arg15 : Memref sig .tc .vmem S1x1024 .f32) (harg15 : arg15.IsWhole) (arg16 : Memref sig .tc .vmem S1x256 .f32) (harg16 : arg16.IsWhole) (arg17 : Memref sig .tc .vmem S8x128 .f32) (harg17 : arg17.IsWhole) (arg18 : Memref sig .tc .vmem S128x512 .f32) (harg18 : arg18.IsWhole) (hc0 : cond0_0 i) (hc1 : ¬cond0_1 i)
  (x0 : Vec F S128x1024 .bf16) (x1 : Vec F S128x256 .bf16) (x2 : Vec F S128x256 .bf16) (x3 : Vec F S128x256 .bf16) (x4 : Vec F S128x256 .bf16) (x5 : Vec F S128x512 .bf16) (x6 : Vec F S128x512 .bf16) (x7 : Vec F S128x1024 .bf16) (x8 : Vec F S1x1024 .f32) (x9 : Vec F S1x256 .f32) (x10 : Vec F S256x256 .bf16) (x11 : Vec F S16 .f32)

/-- These stores cover the whole block. -/
theorem cover0_A_12 (y : S128x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).1 ![128, 512] (by sl_kernel_rfl) y

/-- The block that this case leaves, read back from its stores. -/
def out0_A_12 : Vec F S128x2560 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).1)

/-- These stores cover the whole block. -/
theorem cover0_A_13 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.1 S1x1024.size (by sl_kernel_rfl) y

/-- The block that this case leaves, read back from its stores. -/
def out0_A_13 : Vec F S1x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.1)

/-- These stores cover the whole block. -/
theorem cover0_A_14 (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.1 S1x256.size (by sl_kernel_rfl) y

/-- The block that this case leaves, read back from its stores. -/
def out0_A_14 : Vec F S1x256 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.1)

/-- These stores cover the whole block. -/
theorem cover0_A_15 (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.2.1 S8x128.size (by sl_kernel_rfl) y

/-- The block that this case leaves, read back from its stores. -/
def out0_A_15 : Vec F S8x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.2.1)

/-- These stores cover the carried scratch. -/
theorem scover0_A_0 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.2.2.1 S128x512.size (by sl_kernel_rfl) y

/-- The carried scratch that this case leaves. -/
def sout0_A_0 : Vec F S128x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11).2.2.2.2.1)

end CaseA

section CaseB

variable (c : Dev nD) (i : grid0.Coords) (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S128x1024 .bf16) (harg8 : arg8.IsWhole) (arg9 : Memref sig .tc .vmem S1x1024 .f32) (harg9 : arg9.IsWhole) (arg10 : Memref sig .tc .vmem S1x256 .f32) (harg10 : arg10.IsWhole) (arg11 : Memref sig .tc .vmem S256x256 .bf16) (harg11 : arg11.IsWhole) (arg12 : Memref sig .tc .smem S16 .f32) (harg12 : arg12.IsWhole) (arg14 : Memref sig .tc .vmem S128x2560 .bf16) (harg14 : arg14.IsWhole) (arg15 : Memref sig .tc .vmem S1x1024 .f32) (harg15 : arg15.IsWhole) (arg16 : Memref sig .tc .vmem S1x256 .f32) (harg16 : arg16.IsWhole) (arg17 : Memref sig .tc .vmem S8x128 .f32) (harg17 : arg17.IsWhole) (arg18 : Memref sig .tc .vmem S128x512 .f32) (harg18 : arg18.IsWhole) (hc0 : ¬cond0_0 i) (hc1 : cond0_1 i)
  (x0 : Vec F S128x1024 .bf16) (x1 : Vec F S128x256 .bf16) (x2 : Vec F S128x256 .bf16) (x3 : Vec F S128x256 .bf16) (x4 : Vec F S128x256 .bf16) (x5 : Vec F S128x512 .bf16) (x6 : Vec F S128x512 .bf16) (x7 : Vec F S128x1024 .bf16) (x8 : Vec F S1x1024 .f32) (x9 : Vec F S1x256 .f32) (x10 : Vec F S256x256 .bf16) (x11 : Vec F S16 .f32) (xo13 : Vec F S1x1024 .f32) (xo14 : Vec F S1x256 .f32) (xo15 : Vec F S8x128 .f32) (xs0 : Vec F S128x512 .f32)

/-- These stores cover the whole block. -/
theorem cover0_B_12 (y : S128x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).1 ![128, 512] (by sl_kernel_rfl) y

/-- The block that this case leaves, read back from its stores. -/
def out0_B_12 : Vec F S128x2560 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).1)

/-- These stores cover the whole block. -/
theorem cover0_B_13 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.1 S1x1024.size (by sl_kernel_rfl) y

/-- The block that this case leaves, read back from its stores. -/
def out0_B_13 : Vec F S1x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.1)

/-- These stores cover the whole block. -/
theorem cover0_B_14 (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.1 S1x256.size (by sl_kernel_rfl) y

/-- The block that this case leaves, read back from its stores. -/
def out0_B_14 : Vec F S1x256 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.1)

/-- These stores cover the whole block. -/
theorem cover0_B_15 (y : S8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.2.1 S8x128.size (by sl_kernel_rfl) y

/-- The block that this case leaves, read back from its stores. -/
def out0_B_15 : Vec F S8x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.2.1)

/-- These stores cover the carried scratch. -/
theorem scover0_B_0 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.2.2.1 S128x512.size (by sl_kernel_rfl) y

/-- The carried scratch that this case leaves. -/
def sout0_B_0 : Vec F S128x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 x0 x1 x2 x3 x4 x5 x6 x7 x8 x9 x10 x11 xo13 xo14 xo15 xs0).2.2.2.2.1)

end CaseB

/-- What the first point leaves. -/
def firstOuts (c : Dev nD) (t : Fin cfg0.N) (h0 : t.val % 32 = 0) (h1 : ¬1 ≤ t.val) : Vec F S128x2560 .bf16 × Vec F S1x1024 .f32 × Vec F S1x256 .f32 × Vec F S8x128 .f32 × Vec F S128x512 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What a later point leaves, over what the point before left. -/
def laterOuts (c : Dev nD) (t : Fin cfg0.N) (h0 : ¬t.val % 32 = 0) (h1 : 1 ≤ t.val) (pv : Vec F S128x2560 .bf16 × Vec F S1x1024 .f32 × Vec F S1x256 .f32 × Vec F S8x128 .f32 × Vec F S128x512 .f32) : Vec F S128x2560 .bf16 × Vec F S1x1024 .f32 × Vec F S1x256 .f32 × Vec F S8x128 .f32 × Vec F S128x512 .f32 :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) pv.2.1 pv.2.2.1 pv.2.2.2.1 pv.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) pv.2.1 pv.2.2.1 pv.2.2.2.1 pv.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) pv.2.1 pv.2.2.1 pv.2.2.2.1 pv.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) pv.2.1 pv.2.2.1 pv.2.2.2.1 pv.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) pv.2.1 pv.2.2.1 pv.2.2.2.1 pv.2.2.2.2)

/-- A later point of the grid is not a multiple of its size. -/
theorem later_mod (n : ℕ) (hn : n + 1 < cfg0.N) : ¬(n + 1) % 32 = 0 := by
  have hN : n + 1 < 32 := lt_of_lt_of_eq hn (show cfg0.N = 32 from N_0)
  omega

/-- What the outputs' buffers and the carried scratch hold after point `n`. -/
def outsAt0 (c : Dev nD) : (n : ℕ) → n < cfg0.N → Vec F S128x2560 .bf16 × Vec F S1x1024 .f32 × Vec F S1x256 .f32 × Vec F S8x128 .f32 × Vec F S128x512 .f32
  | 0, hn => firstOuts m c ⟨0, hn⟩ (Nat.zero_mod _) (by (try dsimp only); omega)
  | n + 1, hn => laterOuts m c ⟨n + 1, hn⟩ (later_mod n hn) (by (try dsimp only); omega) (outsAt0 c n (Nat.lt_of_succ_lt hn))

theorem outsAt0_A (c : Dev nD) (t : Fin cfg0.N) (h0 : t.val % 32 = 0) (h1 : ¬1 ≤ t.val) :
    outsAt0 m c t.val t.isLt = firstOuts m c t h0 h1 := by
  obtain ⟨n, hn⟩ := t
  cases n with
  | zero => rfl
  | succ n => exact absurd (Nat.le_add_left 1 n) h1

theorem outsAt0_B (c : Dev nD) (t : Fin cfg0.N) (h0 : ¬t.val % 32 = 0) (h1 : 1 ≤ t.val) :
    outsAt0 m c t.val t.isLt
      = laterOuts m c t h0 h1 (outsAt0 m c (t.val - 1) (Nat.lt_of_le_of_lt (Nat.sub_le _ _) t.isLt)) := by
  obtain ⟨n, hn⟩ := t
  cases n with
  | zero => exact absurd h1 (Nat.not_succ_le_zero 0)
  | succ n => rfl

/-- The region invariant before position `n` with a scratch the kernel CARRIES between points: before the first point the
    class's ; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 32 := lt_of_lt_of_eq t.isLt (show cfg0.N = 32 from N_0)
  rw [after0_13, after0_13]
  by_cases h0 : t.val % 32 = 0
  · by_cases h1 : 1 ≤ t.val
    · exfalso; omega
    · rw [liveAt0_13_A t ((hcond0_0 t).mpr h0) (fun h => h1 ((hcond0_1 t).mp h))] at hi
      exact absurd hi Bool.false_ne_true
  · by_cases h1 : 1 ≤ t.val
    · rw [liveAt0_13_B t (fun h => h0 ((hcond0_0 t).mp h)) ((hcond0_1 t).mpr h1)] at hi
      exact absurd hi Bool.false_ne_true
    · exfalso; omega

/-- Output 14's contents CARRY through the points that leave it idle: at such a point, its buffer not fresh, the proof data's
    `after` is the point before's (the case there stores nothing into the window and its term says so; a case that stores
    into it is not idle there by `liveAt0_14_κ`) — the hypothesis of Lib/Pipeline/TableIdle.lean `Dat.before_out_traj`. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 32 := lt_of_lt_of_eq t.isLt (show cfg0.N = 32 from N_0)
  rw [after0_14, after0_14]
  by_cases h0 : t.val % 32 = 0
  · by_cases h1 : 1 ≤ t.val
    · exfalso; omega
    · rw [liveAt0_14_A t ((hcond0_0 t).mpr h0) (fun h => h1 ((hcond0_1 t).mp h))] at hi
      exact absurd hi Bool.false_ne_true
  · by_cases h1 : 1 ≤ t.val
    · rw [liveAt0_14_B t (fun h => h0 ((hcond0_0 t).mp h)) ((hcond0_1 t).mpr h1)] at hi
      exact absurd hi Bool.false_ne_true
    · exfalso; omega

/-- Output 15's contents CARRY through the points that leave it idle: at such a point, its buffer not fresh, the proof data's
    `after` is the point before's (the case there stores nothing into the window and its term says so; a case that stores
    into it is not idle there by `liveAt0_15_κ`) — the hypothesis of Lib/Pipeline/TableIdle.lean `Dat.before_out_traj`. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 32 := lt_of_lt_of_eq t.isLt (show cfg0.N = 32 from N_0)
  rw [after0_15, after0_15]
  by_cases h0 : t.val % 32 = 0
  · by_cases h1 : 1 ≤ t.val
    · exfalso; omega
    · rw [liveAt0_15_A t ((hcond0_0 t).mpr h0) (fun h => h1 ((hcond0_1 t).mp h))] at hi
      exact absurd hi Bool.false_ne_true
  · by_cases h1 : 1 ≤ t.val
    · rw [liveAt0_15_B t (fun h => h0 ((hcond0_0 t).mp h)) ((hcond0_1 t).mpr h1)] at hi
      exact absurd hi Bool.false_ne_true
    · exfalso; omega
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 32 = 0) (h1 : 1 ≤ t.val) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_B t (fun h => h0 ((hcond0_0 t).mp h)) ((hcond0_1 t).mpr h1)]; exact Bool.false_ne_true)]
  dsimp only [dats]
/-- At a point of case B output 14's current staging buffer holds what the point before left: the buffer is not fresh
    there (`notFresh0_14_B`: stored into since the region's entry or the last write-back, carried through the points that
    leave it idle by `hcarry0_14`; Lib/Pipeline/TableIdle.lean `Dat.before_out_traj`). -/
theorem before0_14_B (c : Dev nD) (t : Fin cfg0.N) (h0 : ¬t.val % 32 = 0) (h1 : 1 ≤ t.val) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h)) ((hcond0_1 t).mpr h1)]; exact Bool.false_ne_true)]
  dsimp only [dats]
/-- At a point of case B output 15's current staging buffer holds what the point before left: the buffer is not fresh
    there (`notFresh0_15_B`: stored into since the region's entry or the last write-back, carried through the points that
    leave it idle by `hcarry0_15`; Lib/Pipeline/TableIdle.lean `Dat.before_out_traj`). -/
theorem before0_15_B (c : Dev nD) (t : Fin cfg0.N) (h0 : ¬t.val % 32 = 0) (h1 : 1 ≤ t.val) (d) :
    (dats m 0 c).before 15 t d = (outsAt0 m c (t.val - 1) (Nat.lt_of_le_of_lt (Nat.sub_le _ _) t.isLt)).2.2.2.1 := by
  rw [Dat.before_out_traj _ 15 rfl (fun _ _ => rfl) (hcarry0_15 m c) t.val t rfl d,
    if_neg (by rw [notFresh0_15_B t (fun h => h0 ((hcond0_0 t).mp h)) ((hcond0_1 t).mpr h1)]; exact Bool.false_ne_true)]
  dsimp only [dats]

/-! ## The body obligation, at a generic point -/

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_A t ((hcond0_0 t).mpr h0) (fun h => h1 ((hcond0_1 t).mp h))], after0_13]
      rw [show (dats m 0 c).leavesExact 14 t = owns (c : Thread nD τ) (ms0_14 t) fullShare ((dats m 0 c).after 14 t) from by
      unfold Dat.leavesExact; rw [liveAt0_14_A t ((hcond0_0 t).mpr h0) (fun h => h1 ((hcond0_1 t).mp h))], after0_14]
      rw [show (dats m 0 c).leavesExact 15 t = owns (c : Thread nD τ) (ms0_15 t) fullShare ((dats m 0 c).after 15 t) from by
      unfold Dat.leavesExact; rw [liveAt0_15_A t ((hcond0_0 t).mpr h0) (fun h => h1 ((hcond0_1 t).mp h))], after0_15]
      by_cases hz : t.val = 0
      · rw [PhiS_castSucc m c t, PhiS_zero m c _ _ hz, PhiA0_eq]
        rw [outsAt0_A m c t h0 h1]
        unfold firstOuts out0_A_12 out0_A_13 out0_A_14 out0_A_15 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [HS0]; · iexact HS0
        iintro ⟨H0, H1, H2, H3, H4, H5, H6, H7, H8, H9, H10, H11, ⟨%e12, H12⟩, ⟨%e13, H13⟩, ⟨%e14, H14⟩, ⟨%e15, H15⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1)], after0_13]
      rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1)], after0_14]
      rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1)], after0_15]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_13_B m c t h0 h1, before0_14_B m c t h0 h1, before0_15_B m c t h0 h1]
        unfold laterOuts out0_B_12 out0_B_13 out0_B_14 out0_B_15 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexact H13
        isplitl [H14]; · iexact H14
        isplitl [H15]; · iexact H15
        isplitl [HS0]; · iexact HS0
        iintro ⟨H0, H1, H2, H3, H4, H5, H6, H7, H8, H9, H10, H11, ⟨%e12, H12⟩, ⟨%e13, H13⟩, ⟨%e14, H14⟩, ⟨%e15, H15⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it . -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, with every counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.Model.lean ====
module

public import proofs.«01_k».proof.Proof.Frame
public import Idealize.ShloMosaic.Lib.Pipeline.ValueKit

/-! The block of one grid step, as functions of the vectors it reads: head means, the two
normalisations, the score tables of a group of four query heads, the softmax with a sink, its
derivative, and the sums over the block's rows. -/

@[expose] public section

set_option maxRecDepth 16384

namespace Cert.KernelIdeal.Body
open Cert.KernelIdeal Cert.KernelIdeal.Gen
open Idealize.ShloMosaic Idealize.ShloMosaic.TcCoe Idealize.SL.Sem

noncomputable section

variable {F : FTy → Type} [FloatOps F] [Named F]

/-- The part of a product lost by rounding to half precision, itself rounded. -/
def low1024 (x : FVec F S128x1024 .f32) : FVec F S128x1024 .bf16 :=
  truncf .bf16 (subf x (extf .f32 (truncf .bf16 x bitsLt_bf16_f32) bitsLt_bf16_f32)) bitsLt_bf16_f32

def low256 (x : FVec F S256x256 .f32) : FVec F S256x256 .bf16 :=
  truncf .bf16 (subf x (extf .f32 (truncf .bf16 x bitsLt_bf16_f32) bitsLt_bf16_f32)) bitsLt_bf16_f32

/-- One group of columns against the averaging matrix. -/
def meanPart (hi lo : FVec F S128x256 .bf16) (gm : FVec F S256x256 .bf16) : FVec F S128x256 .f32 :=
  addf (matmul dot_S128x256_S256x256_S128x256_1_0_0_1_n_n none hi gm (constant S128x256 .f32 0x00000000#32))
    (matmul dot_S128x256_S256x256_S128x256_1_0_0_1_n_n none lo gm (constant S128x256 .f32 0x00000000#32))

def col0 {t : FTy} (x : FVec F S128x1024 t) : FVec F S128x256 t :=
  extractStridedSlice S128x256 ![0, 0] x slices_S128x1024_o0_0_S128x256

def col1 {t : FTy} (x : FVec F S128x1024 t) : FVec F S128x256 t :=
  extractStridedSlice S128x256 ![0, 256] x slices_S128x1024_o0_256_S128x256

def col2 {t : FTy} (x : FVec F S128x1024 t) : FVec F S128x256 t :=
  extractStridedSlice S128x256 ![0, 512] x slices_S128x1024_o0_512_S128x256

def col3 {t : FTy} (x : FVec F S128x1024 t) : FVec F S128x256 t :=
  extractStridedSlice S128x256 ![0, 768] x slices_S128x1024_o0_768_S128x256

/-- Four tiles side by side. -/
def wide (a b c d : FVec F S128x256 .f32) : FVec F S128x1024 .f32 :=
  concatenate S128x1024 1 [⟨S128x256, a⟩, ⟨S128x256, b⟩, ⟨S128x256, c⟩, ⟨S128x256, d⟩] concatenates_S128x256_S128x256_S128x256_S128x256_S128x1024_d1

/-- The mean over each head of 64 columns, 1024 columns wide. -/
def headMean1024 (x : FVec F S128x1024 .f32) (gm : FVec F S256x256 .bf16) : FVec F S128x1024 .f32 :=
  wide (meanPart (col0 (truncf .bf16 x bitsLt_bf16_f32)) (col0 (low1024 x)) gm)
    (meanPart (col1 (truncf .bf16 x bitsLt_bf16_f32)) (col1 (low1024 x)) gm)
    (meanPart (col2 (truncf .bf16 x bitsLt_bf16_f32)) (col2 (low1024 x)) gm)
    (meanPart (col3 (truncf .bf16 x bitsLt_bf16_f32)) (col3 (low1024 x)) gm)

/-- The same mean, 256 columns wide. -/
def headMean256 (x : FVec F S256x256 .f32) (gm : FVec F S256x256 .bf16) : FVec F S256x256 .f32 :=
  addf (matmul dot_S256x256_S256x256_S256x256_1_0_0_1_n_n none (truncf .bf16 x bitsLt_bf16_f32) gm (constant S256x256 .f32 0x00000000#32))
    (matmul dot_S256x256_S256x256_S256x256_1_0_0_1_n_n none (low256 x) gm (constant S256x256 .f32 0x00000000#32))

def rstd1024 (x : FVec F S128x1024 .f32) (gm : FVec F S256x256 .bf16) : FVec F S128x1024 .f32 :=
  rsqrt (addf (headMean1024 (mulf x x) gm) (broadcast S128x1024 (Scalar.ofBits .f32 0x358637BD#32)))

def rstd256 (x : FVec F S256x256 .f32) (gm : FVec F S256x256 .bf16) : FVec F S256x256 .f32 :=
  rsqrt (addf (headMean256 (mulf x x) gm) (broadcast S256x256 (Scalar.ofBits .f32 0x358637BD#32)))

def scaled1024 (x : FVec F S128x1024 .f32) (w : FVec F S1x1024 .f32) : FVec F S128x1024 .f32 :=
  mulf x (broadcastTo S128x1024 w broadcasts_S1x1024_S128x1024)

def scaled256 (x : FVec F S256x256 .f32) (w : FVec F S1x256 .f32) : FVec F S256x256 .f32 :=
  mulf x (broadcastTo S256x256 w broadcasts_S1x256_S256x256)

def lowLanes : IVec S256x128 1 :=
  cmpi .slt (iota .tc S256x128 32 [1] iota_S256x128_d1_w32) (broadcast S256x128 64#32)

def turn (x : FVec F S256x128 .f32) : FVec F S256x128 .f32 :=
  dynamicRotate 1 64#32 none x rotates_S256x128_d1

def half0 (x : FVec F S256x256 .f32) : FVec F S256x128 .f32 :=
  extractStridedSlice S256x128 ![0, 0] x slices_S256x256_o0_0_S256x128
def half1 (x : FVec F S256x256 .f32) : FVec F S256x128 .f32 :=
  extractStridedSlice S256x128 ![0, 128] x slices_S256x256_o0_128_S256x128

def pair (x y : FVec F S256x128 .f32) : FVec F S256x256 .f32 :=
  concatenate S256x256 1 [⟨S256x128, x⟩, ⟨S256x128, y⟩] concatenates_S256x128_S256x128_S256x256_d1

/-- The first head of a pair of heads, copied to four places. -/
def spreadFst (x : FVec F S256x128 .f32) : FVec F S256x256 .bf16 :=
  truncf .bf16 (pair (select lowLanes x (turn x)) (select lowLanes x (turn x))) bitsLt_bf16_f32
/-- The second head of a pair of heads, copied to four places. -/
def spreadSnd (x : FVec F S256x128 .f32) : FVec F S256x256 .bf16 :=
  truncf .bf16 (pair (select lowLanes (turn x) x) (select lowLanes (turn x) x)) bitsLt_bf16_f32

/-- Which of the four heads a column belongs to. -/
def headIdx : IVec S256x256 32 :=
  have v93 : IVec S256x256 32 := iota .tc S256x256 32 [1] iota_S256x256_d1_w32
  have v94 : IVec S256x256 32 := broadcast S256x256 64#32
  have v95 : IVec S256x256 32 := divsi v93 v94
  have v96 : IVec S256x256 32 := broadcast S256x256 0#32
  have v97 : IVec S256x256 1 := cmpi .sgt v93 v96
  have v98 : IVec S256x256 32 := extui 32 v97 natLt_1_32
  have v99 : IVec S256x256 32 := broadcast S256x256 0#32
  have v100 : IVec S256x256 1 := cmpi .slt v93 v99
  have v101 : IVec S256x256 32 := extui 32 v100 natLt_1_32
  have v102 : IVec S256x256 32 := subi v98 v101
  have v108 : IVec S256x256 32 := broadcast S256x256 1#32
  have v109 : IVec S256x256 1 := cmpi .ne v102 v108
  have v110 : IVec S256x256 32 := broadcast S256x256 64#32
  have v111 : IVec S256x256 32 := remsi v93 v110
  have v112 : IVec S256x256 32 := broadcast S256x256 0#32
  have v113 : IVec S256x256 1 := cmpi .ne v111 v112
  have v114 : IVec S256x256 1 := andi v109 v113
  have v115 : IVec S256x256 32 := broadcast S256x256 1#32
  have v116 : IVec S256x256 32 := subi v95 v115
  have v117 : IVec S256x256 32 := select v114 v116 v95
  v117

/-- The tile, kept in one place out of four. -/
def place (n : BitVec 32) (x : FVec F S256x256 .bf16) : FVec F S256x256 .bf16 :=
  select (cmpi .eq headIdx (broadcast S256x256 n)) x (broadcast S256x256 (Scalar.ofBits .bf16 0x0000#16))

/-- The four places below one another: a matrix with the tile in its diagonal blocks. -/
def diag (x : FVec F S256x256 .bf16) : FVec F S1024x256 .bf16 :=
  concatenate S1024x256 0 [⟨S256x256, place 0#32 x⟩, ⟨S256x256, place 1#32 x⟩, ⟨S256x256, place 2#32 x⟩, ⟨S256x256, place 3#32 x⟩] concatenates_S256x256_S256x256_S256x256_S256x256_S1024x256_d0

def nt (a : FVec F S128x256 .bf16) (b : FVec F S1024x256 .bf16) : FVec F S128x1024 .f32 :=
  matmul dot_S128x256_S1024x256_S128x1024_1_1_0_0_n_n none a b (constant S128x1024 .f32 0x00000000#32)
def nn (a : FVec F S128x1024 .bf16) (b : FVec F S1024x256 .bf16) : FVec F S128x256 .f32 :=
  matmul dot_S128x1024_S1024x256_S128x256_1_0_0_1_n_n none a b (constant S128x256 .f32 0x00000000#32)
def tn (a : FVec F S128x1024 .bf16) (b : FVec F S128x256 .bf16) : FVec F S1024x256 .f32 :=
  matmul dot_S128x1024_S128x256_S1024x256_0_0_1_1_n_n none a b (constant S1024x256 .f32 0x00000000#32)

/-- The scores of a group: four tables side by side. -/
def scores (a : FVec F S128x256 .bf16) (b : FVec F S1024x256 .bf16) : FVec F S128x1024 .f32 :=
  mulf (nt a b) (broadcast S128x1024 (Scalar.ofBits .f32 0x3E000000#32))

def masked (mk : IVec S128x256 1) (s : FVec F S128x256 .f32) : FVec F S128x256 .f32 :=
  select mk s (broadcast S128x256 (Named.named κ "mask" 0xF149F2CA#32 : F .f32))

def sinkMax (x : FVec F S128x256 .f32) (k : F .f32) : FVec F S128x1 .f32 :=
  maximumf (shapeCast S128x1 (multiReduction .maximumf [1] S128 x 0xFF800000#32 reduces_S128x256_S128 (.inl rfl) rfl) shapeCasts_S128_S128x1)
    (broadcast S128x1 k)

def expRow (x : FVec F S128x256 .f32) (k : F .f32) : FVec F S128x256 .f32 :=
  exp (subf x (broadcastTo S128x256 (sinkMax x k) broadcasts_S128x1_S128x256))

def expSink (x : FVec F S128x256 .f32) (k : F .f32) : FVec F S128x1 .f32 :=
  exp (subf (broadcast S128x1 k) (sinkMax x k))

def rowSum (x : FVec F S128x256 .f32) : FVec F S128x1 .f32 :=
  shapeCast S128x1 (multiReduction .add [1] S128 x 0x00000000#32 reduces_S128x256_S128 (.inl rfl) rfl) shapeCasts_S128_S128x1

def invSum (x : FVec F S128x256 .f32) (k : F .f32) : FVec F S128x1 .f32 :=
  divf (broadcast S128x1 (Scalar.ofBits .f32 0x3F800000#32)) (addf (rowSum (expRow x k)) (expSink x k))

/-- The softmax weights of one query head. -/
def weights (x : FVec F S128x256 .f32) (k : F .f32) : FVec F S128x256 .f32 :=
  mulf (expRow x k) (broadcastTo S128x256 (invSum x k) broadcasts_S128x1_S128x256)

/-- The weight of the sink of one query head. -/
def sinkWeight (x : FVec F S128x256 .f32) (k : F .f32) : FVec F S128x1 .f32 :=
  mulf (expSink x k) (invSum x k)

def sigm (g : FVec F S128x256 .f32) : FVec F S128x256 .f32 :=
  divf (broadcast S128x256 (Scalar.ofBits .f32 0x3F800000#32))
    (addf (broadcast S128x256 (Scalar.ofBits .f32 0x3F800000#32)) (exp (subf (broadcast S128x256 (Scalar.ofBits .f32 0x00000000#32)) g)))

/-- The gradient of the gates of a group. -/
def gateGrad (g d o : FVec F S128x256 .f32) : FVec F S128x256 .f32 :=
  mulf (mulf d o) (mulf (sigm g) (addf (broadcast S128x256 (Scalar.ofBits .f32 0x3F800000#32))
    (mulf g (subf (broadcast S128x256 (Scalar.ofBits .f32 0x3F800000#32)) (sigm g)))))

/-- The gradient of the attention output of a group. -/
def outGrad (g d : FVec F S128x256 .f32) : FVec F S128x256 .bf16 :=
  truncf .bf16 (mulf d (mulf g (sigm g))) bitsLt_bf16_f32

def scoreGrad (p dp : FVec F S128x256 .f32) : FVec F S128x256 .f32 :=
  mulf (mulf p (subf dp (broadcastTo S128x256 (rowSum (mulf p dp)) broadcasts_S128x1_S128x256))) (broadcast S128x256 (Scalar.ofBits .f32 0x3E000000#32))

def sinkSum (ps : FVec F S128x1 .f32) (p dp : FVec F S128x256 .f32) : FVec F S1x1 .f32 :=
  shapeCast S1x1 (multiReduction .add [0] S1 (mulf (subf (broadcast S128x1 (Scalar.ofBits .f32 0x00000000#32)) ps) (rowSum (mulf p dp)))
    0x00000000#32 reduces_S128x1_S1 (.inl rfl) rfl) shapeCasts_S1_S1x1

/-- A number put in one lane of the first row. -/
def lane (n : BitVec 32) (x : FVec F S1x1 .f32) : FVec F S8x128 .f32 :=
  select (andi (cmpi .eq (iota .tc S8x128 32 [1] iota_S8x128_d1_w32) (broadcast S8x128 n))
      (cmpi .eq (iota .tc S8x128 32 [0] iota_S8x128_d0_w32) (broadcast S8x128 0#32)))
    (broadcastTo S8x128 (shapeCast S1x1 x shapeCasts_S1x1_S1x1) broadcasts_S1x1_S8x128)
    (broadcast S8x128 (Scalar.ofBits .f32 0x00000000#32))

def row0 (x : FVec F S1024x256 .f32) : FVec F S256x256 .f32 :=
  extractStridedSlice S256x256 ![0, 0] x slices_S1024x256_o0_0_S256x256

def row1 (x : FVec F S1024x256 .f32) : FVec F S256x256 .f32 :=
  extractStridedSlice S256x256 ![256, 0] x slices_S1024x256_o256_0_S256x256

def row2 (x : FVec F S1024x256 .f32) : FVec F S256x256 .f32 :=
  extractStridedSlice S256x256 ![512, 0] x slices_S1024x256_o512_0_S256x256

def row3 (x : FVec F S1024x256 .f32) : FVec F S256x256 .f32 :=
  extractStridedSlice S256x256 ![768, 0] x slices_S1024x256_o768_0_S256x256

def keep (n : BitVec 32) (x : FVec F S256x256 .f32) : FVec F S256x256 .f32 :=
  select (cmpi .eq headIdx (broadcast S256x256 n)) x (broadcast S256x256 (Scalar.ofBits .f32 0x00000000#32))

def kept (x : FVec F S1024x256 .f32) : FVec F S256x256 .f32 :=
  addf (addf (addf (keep 0#32 (row0 x)) (keep 1#32 (row1 x))) (keep 2#32 (row2 x))) (keep 3#32 (row3 x))

/-- The four diagonal blocks added up, in both halves of the lanes. -/
def fold (x : FVec F S1024x256 .f32) : FVec F S256x128 .f32 :=
  addf (addf (half0 (kept x)) (half1 (kept x))) (turn (addf (half0 (kept x)) (half1 (kept x))))

/-- Four heads side by side. -/
def join (a b c d : FVec F S256x128 .f32) : FVec F S256x256 .f32 :=
  pair (select lowLanes a b) (select lowLanes c d)

/-- What one group of four query heads reads. -/
structure Grp (F : FTy → Type) where
  vis : IVec S128x256 1
  q : FVec F S128x256 .bf16
  k : FVec F S1024x256 .bf16
  v : FVec F S1024x256 .bf16
  gate : FVec F S128x256 .f32
  dag : FVec F S128x256 .f32
  s0 : F .f32
  s1 : F .f32
  s2 : F .f32
  s3 : F .f32

namespace Grp
variable (x : Grp F)

def m0 : FVec F S128x256 .f32 := masked x.vis (col0 (scores x.q x.k))
def p0 : FVec F S128x256 .f32 := weights x.m0 x.s0
def ps0 : FVec F S128x1 .f32 := sinkWeight x.m0 x.s0

def m1 : FVec F S128x256 .f32 := masked x.vis (col1 (scores x.q x.k))
def p1 : FVec F S128x256 .f32 := weights x.m1 x.s1
def ps1 : FVec F S128x1 .f32 := sinkWeight x.m1 x.s1

def m2 : FVec F S128x256 .f32 := masked x.vis (col2 (scores x.q x.k))
def p2 : FVec F S128x256 .f32 := weights x.m2 x.s2
def ps2 : FVec F S128x1 .f32 := sinkWeight x.m2 x.s2

def m3 : FVec F S128x256 .f32 := masked x.vis (col3 (scores x.q x.k))
def p3 : FVec F S128x256 .f32 := weights x.m3 x.s3
def ps3 : FVec F S128x1 .f32 := sinkWeight x.m3 x.s3

def pb : FVec F S128x1024 .bf16 := truncf .bf16 (wide x.p0 x.p1 x.p2 x.p3) bitsLt_bf16_f32
def o : FVec F S128x256 .f32 := nn x.pb x.v
def dgate : FVec F S128x256 .f32 := gateGrad x.gate x.dag x.o
def dO : FVec F S128x256 .bf16 := outGrad x.gate x.dag
def dp : FVec F S128x1024 .f32 := nt x.dO x.v

def ds0 : FVec F S128x256 .f32 := scoreGrad x.p0 (col0 x.dp)
def gs0 : FVec F S1x1 .f32 := sinkSum x.ps0 x.p0 (col0 x.dp)

def ds1 : FVec F S128x256 .f32 := scoreGrad x.p1 (col1 x.dp)
def gs1 : FVec F S1x1 .f32 := sinkSum x.ps1 x.p1 (col1 x.dp)

def ds2 : FVec F S128x256 .f32 := scoreGrad x.p2 (col2 x.dp)
def gs2 : FVec F S1x1 .f32 := sinkSum x.ps2 x.p2 (col2 x.dp)

def ds3 : FVec F S128x256 .f32 := scoreGrad x.p3 (col3 x.dp)
def gs3 : FVec F S1x1 .f32 := sinkSum x.ps3 x.p3 (col3 x.dp)

def dsb : FVec F S128x1024 .bf16 := truncf .bf16 (wide x.ds0 x.ds1 x.ds2 x.ds3) bitsLt_bf16_f32
def dq : FVec F S128x256 .f32 := nn x.dsb x.k
def dk : FVec F S256x128 .f32 := fold (tn x.dsb x.q)
def dv : FVec F S256x128 .f32 := fold (tn x.pb x.dO)
def sinks (a b c d : BitVec 32) (acc : FVec F S8x128 .f32) : FVec F S8x128 .f32 :=
  addf (addf (addf (addf acc (lane a x.gs0)) (lane b x.gs1)) (lane c x.gs2)) (lane d x.gs3)
end Grp

/-- What one grid step reads. -/
structure In (F : FTy → Type) where
  q : FVec F S128x1024 .bf16
  kp : FVec F S128x256 .bf16
  kc : FVec F S128x256 .bf16
  vp : FVec F S128x256 .bf16
  vc : FVec F S128x256 .bf16
  glo : FVec F S128x512 .bf16
  ghi : FVec F S128x512 .bf16
  dag : FVec F S128x1024 .bf16
  qw : FVec F S1x1024 .f32
  kw : FVec F S1x256 .f32
  gm : FVec F S256x256 .bf16
  sk : Fin 16 → F .f32
  first : BitVec 32

namespace In
variable (x : In F)
def qw' : FVec F S1x1024 .f32 := k0_pay8 x.qw
def kw' : FVec F S1x256 .f32 := k0_pay9 x.kw
def gm' : FVec F S256x256 .bf16 := k0_pay10 x.gm
def q' : FVec F S128x1024 .f32 := k0_pay11 x.q
def k' : FVec F S256x256 .f32 := k0_pay4 x.kp x.kc
def v' : FVec F S256x256 .f32 := k0_pay5 x.vp x.vc
def gate' : FVec F S128x1024 .f32 := k0_pay6 x.glo x.ghi
def dag' : FVec F S128x1024 .f32 := k0_pay7 x.dag
def vis : IVec S128x256 1 := k0_pay14 (iota .tc S128x256 32 [1] iota_S128x256_d1_w32) k0_pay12 x.first k0_pay13
def rq : FVec F S128x1024 .f32 := rstd1024 x.q' x.gm'
def qn : FVec F S128x1024 .f32 := mulf x.q' x.rq
def qh : FVec F S128x1024 .bf16 := truncf .bf16 (scaled1024 x.qn x.qw') bitsLt_bf16_f32
def rk : FVec F S256x256 .f32 := rstd256 x.k' x.gm'
def kn : FVec F S256x256 .f32 := mulf x.k' x.rk
def kh : FVec F S256x256 .f32 := scaled256 x.kn x.kw'

def g0 : Grp F := ⟨x.vis, col0 x.qh, diag (spreadFst (half0 x.kh)), diag (spreadFst (half0 x.v')), col0 x.gate', col0 x.dag',
  (x.sk ⟨0, by decide⟩), (x.sk ⟨1, by decide⟩), (x.sk ⟨2, by decide⟩), (x.sk ⟨3, by decide⟩)⟩
def g1 : Grp F := ⟨x.vis, col1 x.qh, diag (spreadSnd (half0 x.kh)), diag (spreadSnd (half0 x.v')), col1 x.gate', col1 x.dag',
  (x.sk ⟨4, by decide⟩), (x.sk ⟨5, by decide⟩), (x.sk ⟨6, by decide⟩), (x.sk ⟨7, by decide⟩)⟩
def g2 : Grp F := ⟨x.vis, col2 x.qh, diag (spreadFst (half1 x.kh)), diag (spreadFst (half1 x.v')), col2 x.gate', col2 x.dag',
  (x.sk ⟨8, by decide⟩), (x.sk ⟨9, by decide⟩), (x.sk ⟨10, by decide⟩), (x.sk ⟨11, by decide⟩)⟩
def g3 : Grp F := ⟨x.vis, col3 x.qh, diag (spreadSnd (half1 x.kh)), diag (spreadSnd (half1 x.v')), col3 x.gate', col3 x.dag',
  (x.sk ⟨12, by decide⟩), (x.sk ⟨13, by decide⟩), (x.sk ⟨14, by decide⟩), (x.sk ⟨15, by decide⟩)⟩

def dqh : FVec F S128x1024 .f32 := wide x.g0.dq x.g1.dq x.g2.dq x.g3.dq
def gqw : FVec F S1x1024 .f32 :=
  shapeCast S1x1024 (multiReduction .add [0] S1024 (mulf x.dqh x.qn) 0x00000000#32 reduces_S128x1024_S1024 (.inl rfl) rfl) shapeCasts_S1024_S1x1024
def dqn : FVec F S128x1024 .f32 := scaled1024 x.dqh x.qw'
def dq : FVec F S128x1024 .f32 := mulf x.rq (subf x.dqn (mulf x.qn (headMean1024 (mulf x.dqn x.qn) x.gm')))
def dkh : FVec F S256x256 .f32 := join x.g0.dk x.g1.dk x.g2.dk x.g3.dk
def gkw : FVec F S1x256 .f32 :=
  shapeCast S1x256 (multiReduction .add [0] S256 (mulf x.dkh x.kn) 0x00000000#32 reduces_S256x256_S256 (.inl rfl) rfl) shapeCasts_S256_S1x256
def dkn : FVec F S256x256 .f32 := scaled256 x.dkh x.kw'
def dk : FVec F S256x256 .f32 := mulf x.rk (subf x.dkn (mulf x.kn (headMean256 (mulf x.dkn x.kn) x.gm')))
def dv : FVec F S256x256 .f32 := join x.g0.dv x.g1.dv x.g2.dv x.g3.dv
def dkv : FVec F S256x512 .f32 := concatenate S256x512 1 [⟨S256x256, x.dk⟩, ⟨S256x256, x.dv⟩] concatenates_S256x256_S256x256_S256x512_d1
def gs : FVec F S8x128 .f32 :=
  x.g3.sinks 12#32 13#32 14#32 15#32 (x.g2.sinks 8#32 9#32 10#32 11#32 (x.g1.sinks 4#32 5#32 6#32 7#32
    (x.g0.sinks 0#32 1#32 2#32 3#32 (broadcast S8x128 (Scalar.ofBits .f32 0x00000000#32)))))

/-- The first 1024 columns of the step's tile. -/
def outQ : FVec F S128x1024 .bf16 := k0_pay353 x.dq
/-- The next 512 columns, with what the step before left. -/
def outKV (carry : FVec F S128x512 .f32) : FVec F S128x512 .bf16 := k0_pay1 (k0_pay354 x.dkv) carry
/-- The last 1024 columns. -/
def outGate : FVec F S128x1024 .bf16 := k0_pay2 x.g0.dgate x.g1.dgate x.g2.dgate x.g3.dgate
/-- What the step leaves for the next. -/
def carry : FVec F S128x512 .f32 := k0_pay3 x.dkv
end In

end

end Cert.KernelIdeal.Body
-- ==== Proof.Load.lean ====
module
public import proofs.«01_k».proof.Proof.Model
public import Idealize.ShloMosaic.Lib.Pipeline.ValueKit

@[expose] public section
set_option maxRecDepth 16384
noncomputable section
namespace Cert.KernelIdeal.Body
open Cert.KernelIdeal Cert.KernelIdeal.Gen
open Idealize.ShloMosaic Idealize.ShloMosaic.TcCoe Idealize.SL.Sem
variable {F : FTy → Type} [FloatOps F] [Named F]
variable (m : (ℓ : Loc nD τ sig) → Buf (Elt F) ℓ)

set_option pp.maxSteps 6000

theorem inb1x1024 : ∀ a, (![0, 0] : Fin 2 → ℕ) a + (![1, 1024] : Fin 2 → ℕ) a ≤ S1x1024.size a := by decide
theorem inb1x256 : ∀ a, (![0, 0] : Fin 2 → ℕ) a + (![1, 256] : Fin 2 → ℕ) a ≤ S1x256.size a := by decide
theorem inb128x1024 : ∀ a, (![0, 0] : Fin 2 → ℕ) a + (![128, 1024] : Fin 2 → ℕ) a ≤ S128x1024.size a := by decide
theorem inb128x256 : ∀ a, (![0, 0] : Fin 2 → ℕ) a + (![128, 256] : Fin 2 → ℕ) a ≤ S128x256.size a := by decide
theorem inb128x512 : ∀ a, (![0, 0] : Fin 2 → ℕ) a + (![128, 512] : Fin 2 → ℕ) a ≤ S128x512.size a := by decide
theorem inb256x256 : ∀ a, (![0, 0] : Fin 2 → ℕ) a + (![256, 256] : Fin 2 → ℕ) a ≤ S256x256.size a := by decide
theorem one_inb (h : Fin 16) : ∀ a, (![h.val] : Fin 1 → ℕ) a + (![1] : Fin 1 → ℕ) a ≤ S16.size a := by
  revert h; decide
theorem one_pos (h : Fin 16) : 0 < (Rect.unit (s := S16) ![h.val] ![1] (one_inb h)).toLoadRect.shape.numel := by
  revert h; decide

/-- What the body reads at a grid point, as its loads spell it. -/
def rawIn (c : Dev nD) (t : Fin cfg0.N) : In F where
  q := (ms0_0 t).view.readAt (Elt F) (Rect.unit (s := S128x1024) ![0, 0] ![128, 1024] (inb128x1024)).toLoadRect ((hs0_0 t).unread (X0_0 m c t))
  kp := (ms0_1 t).view.readAt (Elt F) (Rect.unit (s := S128x256) ![0, 0] ![128, 256] (inb128x256)).toLoadRect ((hs0_1 t).unread (iblk m c 1 t))
  kc := (ms0_2 t).view.readAt (Elt F) (Rect.unit (s := S128x256) ![0, 0] ![128, 256] (inb128x256)).toLoadRect ((hs0_2 t).unread (iblk m c 2 t))
  vp := (ms0_3 t).view.readAt (Elt F) (Rect.unit (s := S128x256) ![0, 0] ![128, 256] (inb128x256)).toLoadRect ((hs0_3 t).unread (iblk m c 3 t))
  vc := (ms0_4 t).view.readAt (Elt F) (Rect.unit (s := S128x256) ![0, 0] ![128, 256] (inb128x256)).toLoadRect ((hs0_4 t).unread (iblk m c 4 t))
  glo := (ms0_5 t).view.readAt (Elt F) (Rect.unit (s := S128x512) ![0, 0] ![128, 512] (inb128x512)).toLoadRect ((hs0_5 t).unread (iblk m c 5 t))
  ghi := (ms0_6 t).view.readAt (Elt F) (Rect.unit (s := S128x512) ![0, 0] ![128, 512] (inb128x512)).toLoadRect ((hs0_6 t).unread (iblk m c 6 t))
  dag := (ms0_7 t).view.readAt (Elt F) (Rect.unit (s := S128x1024) ![0, 0] ![128, 1024] (inb128x1024)).toLoadRect ((hs0_7 t).unread (iblk m c 7 t))
  qw := (ms0_8 t).view.readAt (Elt F) (Rect.unit (s := S1x1024) ![0, 0] ![1, 1024] (inb1x1024)).toLoadRect ((hs0_8 t).unread (iblk m c 8 t))
  kw := (ms0_9 t).view.readAt (Elt F) (Rect.unit (s := S1x256) ![0, 0] ![1, 256] (inb1x256)).toLoadRect ((hs0_9 t).unread (iblk m c 9 t))
  gm := (ms0_10 t).view.readAt (Elt F) (Rect.unit (s := S256x256) ![0, 0] ![256, 256] (inb256x256)).toLoadRect ((hs0_10 t).unread (iblk m c 10 t))
  sk := fun h => (ms0_11 t).view.readAt (Elt F) (Rect.unit ![h.val] ![1] (one_inb h)).toLoadRect ((hs0_11 t).unread (iblk m c 11 t)) (Shape.Idx.first (one_pos h))
  first := Scalar.select (Scalar.cmpi .eq (Scalar.subi 31#32 (BitVec.ofNat 32 (grid0.coords t 0).val)) 0#32) 128#32 0#32

/-- The tile of a grid point over the carried rows: three stores. -/
def In.tile (x : In F) (ca : FVec F S128x512 .f32) : FVec F S128x2560 .bf16 :=
  View.canon (Val := Elt F) (s := S128x2560) (e := .bf16) [⟨Rect.unit (s := S128x2560) ![0, 1536] ![128, 1024] (by decide), x.outGate⟩,
      ⟨Rect.unit (s := S128x2560) ![0, 1024] ![128, 512] (by decide), x.outKV ca⟩,
      ⟨Rect.unit (s := S128x2560) ![0, 0] ![128, 1024] (by decide), x.outQ⟩]

end Cert.KernelIdeal.Body
-- ==== Proof.Outs.lean ====
module
public import proofs.«01_k».proof.Proof.Load
public import Idealize.ShloMosaic.Lib.Pipeline.ValueKit

/-! What the outputs hold after a grid point: the functions of the model, over what the point reads. -/

@[expose] public section
set_option maxRecDepth 16384
noncomputable section
namespace Cert.KernelIdeal.Body
open Cert.KernelIdeal Cert.KernelIdeal.Gen
open Idealize.ShloMosaic Idealize.ShloMosaic.TcCoe Idealize.SL.Sem
variable {F : FTy → Type} [FloatOps F] [Named F]
variable (m : (ℓ : Loc nD τ sig) → Buf (Elt F) ℓ)

set_option pp.maxSteps 6000

theorem inb8x128 : ∀ a, (![0, 0] : Fin 2 → ℕ) a + (![8, 128] : Fin 2 → ℕ) a ≤ S8x128.size a := by decide
/-- What the first point leaves in the query-weight row. -/
theorem first_gqw (c : Dev nD) (t : Fin cfg0.N) (h0 : t.val % 32 = 0) (h1 : ¬1 ≤ t.val) :
    (firstOuts m c t h0 h1).2.1 = k0_pay347 (rawIn m c t).gqw := by
  unfold firstOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What the first point leaves in the key-weight row. -/
theorem first_gkw (c : Dev nD) (t : Fin cfg0.N) (h0 : t.val % 32 = 0) (h1 : ¬1 ≤ t.val) :
    (firstOuts m c t h0 h1).2.2.1 = k0_pay348 (rawIn m c t).gkw := by
  unfold firstOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What the first point leaves in the sink tile. -/
theorem first_gs (c : Dev nD) (t : Fin cfg0.N) (h0 : t.val % 32 = 0) (h1 : ¬1 ≤ t.val) :
    (firstOuts m c t h0 h1).2.2.2.1 = k0_pay349 (rawIn m c t).gs := by
  unfold firstOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What the first point leaves in the carried rows. -/
theorem first_carry (c : Dev nD) (t : Fin cfg0.N) (h0 : t.val % 32 = 0) (h1 : ¬1 ≤ t.val) :
    (firstOuts m c t h0 h1).2.2.2.2 = (rawIn m c t).carry := by
  unfold firstOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What the first point leaves in the output tile. -/
theorem first_tile (c : Dev nD) (t : Fin cfg0.N) (h0 : t.val % 32 = 0) (h1 : ¬1 ≤ t.val) :
    (firstOuts m c t h0 h1).1 = (rawIn m c t).tile (scM0_0.view.readCov [(⟨(Rect.unit (s := S128x512) ![0, 0] ![128, 512] inb128x512), k0_pay346 (F := F)⟩ : View.Piece (Elt F) S128x512 .f32)] (Rect.unit (s := S128x512) ![0, 0] ![128, 512] inb128x512).toLoadRect) := by
  unfold firstOuts
  frame_open
  refine (View.read_writes_junk_eq_canon ..).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What a later point leaves in the query-weight row. -/
theorem later_gqw (c : Dev nD) (t : Fin cfg0.N) (h0 : ¬t.val % 32 = 0) (h1 : 1 ≤ t.val) (pv) :
    (laterOuts m c t h0 h1 pv).2.1 = k0_pay350 (rawIn m c t).gqw
      ((ms0_13 t).view.readAt (Elt F) (Rect.unit (s := S1x1024) ![0, 0] ![1, 1024] inb1x1024).toLoadRect ((hs0_13 t).unread pv.2.1)) := by
  unfold laterOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What a later point leaves in the key-weight row. -/
theorem later_gkw (c : Dev nD) (t : Fin cfg0.N) (h0 : ¬t.val % 32 = 0) (h1 : 1 ≤ t.val) (pv) :
    (laterOuts m c t h0 h1 pv).2.2.1 = k0_pay351 (rawIn m c t).gkw
      ((ms0_14 t).view.readAt (Elt F) (Rect.unit (s := S1x256) ![0, 0] ![1, 256] inb1x256).toLoadRect ((hs0_14 t).unread pv.2.2.1)) := by
  unfold laterOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What a later point leaves in the sink tile. -/
theorem later_gs (c : Dev nD) (t : Fin cfg0.N) (h0 : ¬t.val % 32 = 0) (h1 : 1 ≤ t.val) (pv) :
    (laterOuts m c t h0 h1 pv).2.2.2.1 = k0_pay352 (rawIn m c t).gs
      ((ms0_15 t).view.readAt (Elt F) (Rect.unit (s := S8x128) ![0, 0] ![8, 128] inb8x128).toLoadRect ((hs0_15 t).unread pv.2.2.2.1)) := by
  unfold laterOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What a later point leaves in the carried rows. -/
theorem later_carry (c : Dev nD) (t : Fin cfg0.N) (h0 : ¬t.val % 32 = 0) (h1 : 1 ≤ t.val) (pv) :
    (laterOuts m c t h0 h1 pv).2.2.2.2 = (rawIn m c t).carry := by
  unfold laterOuts
  frame_open
  refine (View.read_writes_junk_eq_canon ..).trans ?_
  refine (View.canon_cons_unit_lit (S := _) _ _ _ (by decide)).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
/-- What a later point leaves in the output tile. -/
theorem later_tile (c : Dev nD) (t : Fin cfg0.N) (h0 : ¬t.val % 32 = 0) (h1 : 1 ≤ t.val) (pv) :
    (laterOuts m c t h0 h1 pv).1 = (rawIn m c t).tile (scM0_0.view.readAt (Elt F) (Rect.unit (s := S128x512) ![0, 0] ![128, 512] inb128x512).toLoadRect ((Memref.isWhole_whole cc0_scratch0).unread pv.2.2.2.2)) := by
  unfold laterOuts
  frame_open
  refine (View.read_writes_junk_eq_canon ..).trans ?_
  dsimp only [rawIn, In.tile, headIdx, low1024, low256, meanPart, col0, col1, col2, col3, wide, headMean1024, headMean256, rstd1024, rstd256, scaled1024, scaled256, lowLanes, turn, half0, half1, pair, spreadFst, spreadSnd, place, diag, nt, nn, tn, scores, masked, sinkMax, expRow, expSink, rowSum, invSum, weights, sinkWeight, sigm, gateGrad, outGrad, scoreGrad, sinkSum, lane, row0, row1, row2, row3, keep, kept, fold, join, Grp.m0, Grp.p0, Grp.ps0, Grp.m1, Grp.p1, Grp.ps1, Grp.m2, Grp.p2, Grp.ps2, Grp.m3, Grp.p3, Grp.ps3, Grp.pb, Grp.o, Grp.dgate, Grp.dO, Grp.dp, Grp.ds0, Grp.gs0, Grp.ds1, Grp.gs1, Grp.ds2, Grp.gs2, Grp.ds3, Grp.gs3, Grp.dsb, Grp.dq, Grp.dk, Grp.dv, Grp.sinks, In.qw', In.kw', In.gm', In.q', In.k', In.v', In.gate', In.dag', In.vis, In.rq, In.qn, In.qh, In.rk, In.kn, In.kh, In.g0, In.g1, In.g2, In.g3, In.dqh, In.gqw, In.dqn, In.dq, In.dkh, In.gkw, In.dkn, In.dk, In.dv, In.dkv, In.gs, In.outQ, In.outKV, In.outGate, In.carry]
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]

/-- What the body reads at a grid point. -/
def inAt (c : Dev nD) (t : Fin cfg0.N) : In F where
  q := X0_0 m c t
  kp := iblk m c 1 t
  kc := iblk m c 2 t
  vp := iblk m c 3 t
  vc := iblk m c 4 t
  glo := iblk m c 5 t
  ghi := iblk m c 6 t
  dag := iblk m c 7 t
  qw := iblk m c 8 t
  kw := iblk m c 9 t
  gm := iblk m c 10 t
  sk := fun h => iblk m c 11 t (ix1 h)
  first := Scalar.select (Scalar.cmpi .eq (Scalar.subi 31#32 (BitVec.ofNat 32 (grid0.coords t 0).val)) 0#32) 128#32 0#32

theorem In.eq_of {x y : In F} (h0 : x.q = y.q) (h1 : x.kp = y.kp) (h2 : x.kc = y.kc) (h3 : x.vp = y.vp) (h4 : x.vc = y.vc) (h5 : x.glo = y.glo) (h6 : x.ghi = y.ghi) (h7 : x.dag = y.dag) (h8 : x.qw = y.qw) (h9 : x.kw = y.kw) (h10 : x.gm = y.gm) (h11 : x.sk = y.sk) (h12 : x.first = y.first) : x = y := by
  cases x; cases y
  subst h0 h1 h2 h3 h4 h5 h6 h7 h8 h9 h10 h11 h12
  rfl

/-- A load of a whole block reads the block. -/
theorem load_whole {sp : Space} {s : Shape} {e : EltTy} (M : Memref sig .tc sp s e) (h : M.IsWhole) (X : s.Idx → Elt F e)
    (off : Fin s.rank → ℕ) (inb : ∀ a, off a + s.size a ≤ s.size a) (hz : ∀ a, off a = 0) :
    M.view.readAt (Elt F) (Rect.unit off s.size inb).toLoadRect (h.unread X) = X :=
  (View.ld_unit_lit inb _ hz).trans (h.read_unread X)

/-- A load of one number reads it. -/
theorem load_one {sp : Space} (M : Memref sig .tc sp S16 .f32) (h : M.IsWhole) (X : S16.Idx → Elt F .f32) (k : Fin 16) :
    M.view.readAt (Elt F) (Rect.unit (s := S16) ![k.val] ![1] (one_inb k)).toLoadRect (h.unread X) (Shape.Idx.first (one_pos k)) = X (ix1 k) := by
  refine (congrFun (h.read_unread X) _).trans (congrArg X ?_)
  funext a
  fin_cases a
  apply Fin.ext
  show k.val + 1 * _ = k.val
  simp [Shape.Idx.first]

theorem raw_q (c : Dev nD) (t : Fin cfg0.N) : (rawIn m c t).q = (inAt m c t).q :=
  load_whole (ms0_0 t) (hs0_0 t) (X0_0 m c t) _ _ (by decide)
theorem raw_kp (c : Dev nD) (t : Fin cfg0.N) : (rawIn m c t).kp = (inAt m c t).kp :=
  load_whole (ms0_1 t) (hs0_1 t) (iblk m c 1 t) _ _ (by decide)
theorem raw_kc (c : Dev nD) (t : Fin cfg0.N) : (rawIn m c t).kc = (inAt m c t).kc :=
  load_whole (ms0_2 t) (hs0_2 t) (iblk m c 2 t) _ _ (by decide)
theorem raw_vp (c : Dev nD) (t : Fin cfg0.N) : (rawIn m c t).vp = (inAt m c t).vp :=
  load_whole (ms0_3 t) (hs0_3 t) (iblk m c 3 t) _ _ (by decide)
theorem raw_vc (c : Dev nD) (t : Fin cfg0.N) : (rawIn m c t).vc = (inAt m c t).vc :=
  load_whole (ms0_4 t) (hs0_4 t) (iblk m c 4 t) _ _ (by decide)
theorem raw_glo (c : Dev nD) (t : Fin cfg0.N) : (rawIn m c t).glo = (inAt m c t).glo :=
  load_whole (ms0_5 t) (hs0_5 t) (iblk m c 5 t) _ _ (by decide)
theorem raw_ghi (c : Dev nD) (t : Fin cfg0.N) : (rawIn m c t).ghi = (inAt m c t).ghi :=
  load_whole (ms0_6 t) (hs0_6 t) (iblk m c 6 t) _ _ (by decide)
theorem raw_dag (c : Dev nD) (t : Fin cfg0.N) : (rawIn m c t).dag = (inAt m c t).dag :=
  load_whole (ms0_7 t) (hs0_7 t) (iblk m c 7 t) _ _ (by decide)
theorem raw_qw (c : Dev nD) (t : Fin cfg0.N) : (rawIn m c t).qw = (inAt m c t).qw :=
  load_whole (ms0_8 t) (hs0_8 t) (iblk m c 8 t) _ _ (by decide)
theorem raw_kw (c : Dev nD) (t : Fin cfg0.N) : (rawIn m c t).kw = (inAt m c t).kw :=
  load_whole (ms0_9 t) (hs0_9 t) (iblk m c 9 t) _ _ (by decide)
theorem raw_gm (c : Dev nD) (t : Fin cfg0.N) : (rawIn m c t).gm = (inAt m c t).gm :=
  load_whole (ms0_10 t) (hs0_10 t) (iblk m c 10 t) _ _ (by decide)
theorem raw_sk (c : Dev nD) (t : Fin cfg0.N) : (rawIn m c t).sk = (inAt m c t).sk :=
  funext fun h => load_one (ms0_11 t) (hs0_11 t) (iblk m c 11 t) h
theorem raw_first (c : Dev nD) (t : Fin cfg0.N) : (rawIn m c t).first = (inAt m c t).first :=
  rfl
theorem rawIn_eq (c : Dev nD) (t : Fin cfg0.N) : rawIn m c t = inAt m c t :=
  In.eq_of (raw_q m c t) (raw_kp m c t) (raw_kc m c t) (raw_vp m c t) (raw_vc m c t) (raw_glo m c t) (raw_ghi m c t) (raw_dag m c t) (raw_qw m c t) (raw_kw m c t) (raw_gm m c t) (raw_sk m c t) (raw_first m c t)

section
variable (c : Dev nD) (t : Fin cfg0.N)
theorem tile_first (h0 : t.val % 32 = 0) (h1 : ¬1 ≤ t.val) : (outsAt0 m c t.val t.isLt).1 = (inAt m c t).tile k0_pay346 := by
  rw [outsAt0_A m c t h0 h1, first_tile, rawIn_eq, View.readCov_unit_lit' _ _ _ (by decide)]
theorem tile_later (h0 : ¬t.val % 32 = 0) (h1 : 1 ≤ t.val) : (outsAt0 m c t.val t.isLt).1 = (inAt m c t).tile (outsAt0 m c (t.val - 1) (lt_of_le_of_lt (Nat.sub_le _ _) t.isLt)).2.2.2.2 := by
  rw [outsAt0_B m c t h0 h1, later_tile, rawIn_eq, load_whole scM0_0 (Memref.isWhole_whole cc0_scratch0) _ _ _ (by decide)]
theorem carry_first (h0 : t.val % 32 = 0) (h1 : ¬1 ≤ t.val) : (outsAt0 m c t.val t.isLt).2.2.2.2 = (inAt m c t).carry := by
  rw [outsAt0_A m c t h0 h1, first_carry, rawIn_eq]
theorem carry_later (h0 : ¬t.val % 32 = 0) (h1 : 1 ≤ t.val) : (outsAt0 m c t.val t.isLt).2.2.2.2 = (inAt m c t).carry := by
  rw [outsAt0_B m c t h0 h1, later_carry, rawIn_eq]
theorem gqw_first (h0 : t.val % 32 = 0) (h1 : ¬1 ≤ t.val) : (outsAt0 m c t.val t.isLt).2.1 = k0_pay347 (inAt m c t).gqw := by
  rw [outsAt0_A m c t h0 h1, first_gqw, rawIn_eq]
theorem gqw_later (h0 : ¬t.val % 32 = 0) (h1 : 1 ≤ t.val) : (outsAt0 m c t.val t.isLt).2.1 = k0_pay350 (inAt m c t).gqw (outsAt0 m c (t.val - 1) (lt_of_le_of_lt (Nat.sub_le _ _) t.isLt)).2.1 := by
  rw [outsAt0_B m c t h0 h1, later_gqw, rawIn_eq, load_whole (ms0_13 t) (hs0_13 t) _ _ _ (by decide)]
theorem gkw_first (h0 : t.val % 32 = 0) (h1 : ¬1 ≤ t.val) : (outsAt0 m c t.val t.isLt).2.2.1 = k0_pay348 (inAt m c t).gkw := by
  rw [outsAt0_A m c t h0 h1, first_gkw, rawIn_eq]
theorem gkw_later (h0 : ¬t.val % 32 = 0) (h1 : 1 ≤ t.val) : (outsAt0 m c t.val t.isLt).2.2.1 = k0_pay351 (inAt m c t).gkw (outsAt0 m c (t.val - 1) (lt_of_le_of_lt (Nat.sub_le _ _) t.isLt)).2.2.1 := by
  rw [outsAt0_B m c t h0 h1, later_gkw, rawIn_eq, load_whole (ms0_14 t) (hs0_14 t) _ _ _ (by decide)]
theorem gs_first (h0 : t.val % 32 = 0) (h1 : ¬1 ≤ t.val) : (outsAt0 m c t.val t.isLt).2.2.2.1 = k0_pay349 (inAt m c t).gs := by
  rw [outsAt0_A m c t h0 h1, first_gs, rawIn_eq]
theorem gs_later (h0 : ¬t.val % 32 = 0) (h1 : 1 ≤ t.val) : (outsAt0 m c t.val t.isLt).2.2.2.1 = k0_pay352 (inAt m c t).gs (outsAt0 m c (t.val - 1) (lt_of_le_of_lt (Nat.sub_le _ _) t.isLt)).2.2.2.1 := by
  rw [outsAt0_B m c t h0 h1, later_gs, rawIn_eq, load_whole (ms0_15 t) (hs0_15 t) _ _ _ (by decide)]
end

end Cert.KernelIdeal.Body
-- ==== Proof.Spec.lean ====
module

public import Idealize.ShloMosaic.Lib.Pointwise

/-! The real numbers behind one block of the backward pass: head means, the softmax with a sink of one group of four
query heads against one key head, and its derivatives. Rows, columns and heads are natural numbers. -/

@[expose] public section

noncomputable section

namespace Spec

/-- The mean over the head of 64 columns that a column belongs to. -/
def headMean (f : ℕ → ℕ → ℝ) (n c : ℕ) : ℝ := (∑ d : Fin 64, f n (64 * (c / 64) + d.val)) * (1 / 64)

/-- The reciprocal root of the mean square of a head. -/
def rstd (eps : ℝ) (f : ℕ → ℕ → ℝ) (n c : ℕ) : ℝ := (√(headMean (fun n c => f n c * f n c) n c + eps))⁻¹

/-- A key of the 256 rows in view of a query. -/
def sees (first i s : ℕ) : Prop := s ≤ i + 128 ∧ i < s ∧ first ≤ s

instance (first i s : ℕ) : Decidable (sees first i s) := by unfold sees; infer_instance

/-- The gate's logistic function. -/
def sig (x : ℝ) : ℝ := 1 / (1 + Real.exp (0 - x))

/-- What a group of four query heads and its key head hold for one block of 128 rows. -/
structure G where
  first : ℕ
  q : ℕ → ℕ → ℕ → ℝ
  k : ℕ → ℕ → ℝ
  v : ℕ → ℕ → ℝ
  gate : ℕ → ℕ → ℕ → ℝ
  dag : ℕ → ℕ → ℕ → ℝ
  sk : ℕ → ℝ

namespace G
variable (x : G)

def sc (r i s : ℕ) : ℝ := (∑ d : Fin 64, x.q r i d.val * x.k s d.val) * (1 / 8)
def pe (r i s : ℕ) : ℝ := if sees x.first i s then Real.exp (x.sc r i s) else 0
def den (r i : ℕ) : ℝ := (∑ s : Fin 256, x.pe r i s.val) + Real.exp (x.sk r)
def p (r i s : ℕ) : ℝ := x.pe r i s / x.den r i
def ps (r i : ℕ) : ℝ := Real.exp (x.sk r) / x.den r i
def o (r i d : ℕ) : ℝ := ∑ s : Fin 256, x.p r i s.val * x.v s.val d
def dgate (r i d : ℕ) : ℝ :=
  x.dag r i d * x.o r i d * (sig (x.gate r i d) * (1 + x.gate r i d * (1 - sig (x.gate r i d))))
def dO (r i d : ℕ) : ℝ := x.dag r i d * (x.gate r i d * sig (x.gate r i d))
def dp (r i s : ℕ) : ℝ := ∑ d : Fin 64, x.dO r i d.val * x.v s d.val
def dl (r i : ℕ) : ℝ := ∑ s : Fin 256, x.p r i s.val * x.dp r i s.val
def ds (r i s : ℕ) : ℝ := x.p r i s * (x.dp r i s - x.dl r i) * (1 / 8)
def dq (r i d : ℕ) : ℝ := ∑ s : Fin 256, x.ds r i s.val * x.k s.val d
def dk (s d : ℕ) : ℝ := ∑ r : Fin 4, ∑ i : Fin 128, x.ds r.val i.val s * x.q r.val i.val d
def dv (s d : ℕ) : ℝ := ∑ r : Fin 4, ∑ i : Fin 128, x.p r.val i.val s * x.dO r.val i.val d
def gs (r : ℕ) : ℝ := ∑ i : Fin 128, (0 - x.ps r i.val) * x.dl r i.val

theorem den_pos (r i : ℕ) : 0 < x.den r i := by
  unfold den
  have h : 0 ≤ ∑ s : Fin 256, x.pe r i s.val := Finset.sum_nonneg fun s _ => by
    unfold pe; split
    · exact (Real.exp_pos _).le
    · exact le_rfl
  have := Real.exp_pos (x.sk r)
  linarith

end G

/-- What one grid step reads, as real numbers: 128 rows of queries, gates and incoming gradients, 256 rows of keys and
values, the weights of the two norms along the columns and the sinks. -/
structure B where
  eps : ℝ
  first : ℕ
  q : ℕ → ℕ → ℝ
  k : ℕ → ℕ → ℝ
  v : ℕ → ℕ → ℝ
  gate : ℕ → ℕ → ℝ
  dag : ℕ → ℕ → ℝ
  qw : ℕ → ℝ
  kw : ℕ → ℝ
  sk : ℕ → ℝ

namespace B
variable (x : B)

def qn (i c : ℕ) : ℝ := x.q i c * rstd x.eps x.q i c
def qh (i c : ℕ) : ℝ := x.qn i c * x.qw c
def kn (i c : ℕ) : ℝ := x.k i c * rstd x.eps x.k i c
def kh (i c : ℕ) : ℝ := x.kn i c * x.kw c
def grp (g : ℕ) : G where
  first := x.first
  q r i d := x.qh i (256 * g + (64 * r + d))
  k s d := x.kh s (64 * g + d)
  v s d := x.v s (64 * g + d)
  gate r i d := x.gate i (256 * g + (64 * r + d))
  dag r i d := x.dag i (256 * g + (64 * r + d))
  sk r := x.sk (4 * g + r)
def dqh (i c : ℕ) : ℝ := (x.grp (c / 256)).dq (c % 256 / 64) i (c % 64)
def gqw (c : ℕ) : ℝ := ∑ i : Fin 128, x.dqh i.val c * x.qn i.val c
def dqn (i c : ℕ) : ℝ := x.dqh i c * x.qw c
def dq (i c : ℕ) : ℝ := rstd x.eps x.q i c * (x.dqn i c - x.qn i c * headMean (fun i c => x.dqn i c * x.qn i c) i c)
def dkh (s c : ℕ) : ℝ := (x.grp (c / 64)).dk s (c % 64)
def gkw (c : ℕ) : ℝ := ∑ s : Fin 256, x.dkh s.val c * x.kn s.val c
def dkn (s c : ℕ) : ℝ := x.dkh s c * x.kw c
def dk (s c : ℕ) : ℝ := rstd x.eps x.k s c * (x.dkn s c - x.kn s c * headMean (fun s c => x.dkn s c * x.kn s c) s c)
def dv (s c : ℕ) : ℝ := (x.grp (c / 64)).dv s (c % 64)
def dgate (i c : ℕ) : ℝ := (x.grp (c / 256)).dgate (c % 256 / 64) i (c % 64)
def gs (h : ℕ) : ℝ := (x.grp (h / 4)).gs (h % 4)
/-- Gradients of keys, then of values. -/
def dkv (s c : ℕ) : ℝ := if c < 256 then x.dk s c else x.dv s (c - 256)
end B

/-- The arrays the program reads, as real numbers. -/
structure T where
  eps : ℝ
  proj : ℕ → ℕ → ℝ
  dag : ℕ → ℕ → ℝ
  qw : ℕ → ℝ
  kw : ℕ → ℝ
  sk : ℕ → ℝ

namespace T
variable (x : T)

/-- The row of key `s` of the 256 rows block `b` reads; block 0 has no block before it and reads its own first. -/
def keyRow (b s : ℕ) : ℕ := if s < 128 then 128 * (b - 1) + s else 128 * b + (s - 128)

/-- Block `b` of 128 rows. -/
def blk (b : ℕ) : B where
  eps := x.eps
  first := if b = 0 then 128 else 0
  q i c := x.proj (128 * b + i) c
  k s c := x.proj (keyRow b s) (1024 + c)
  v s c := x.proj (keyRow b s) (1280 + c)
  gate i c := x.proj (128 * b + i) (1536 + c)
  dag i c := x.dag (128 * b + i) c
  qw c := x.qw (c % 64)
  kw c := x.kw (c % 64)
  sk := x.sk

/-- Gradients of keys and values: what a block gives its own rows and what the next block gives them. -/
def dkv (n c : ℕ) : ℝ :=
  (x.blk (n / 128)).dkv (128 + n % 128) c + if n / 128 < 31 then (x.blk (n / 128 + 1)).dkv (n % 128) c else 0

/-- The gradient of the projections. -/
def dproj (n c : ℕ) : ℝ :=
  if c < 1024 then (x.blk (n / 128)).dq (n % 128) c
  else if c < 1536 then x.dkv n (c - 1024)
  else (x.blk (n / 128)).dgate (n % 128) (c - 1536)

def gqw (c : ℕ) : ℝ := ∑ b : Fin 32, (x.blk b.val).gqw c
def gkw (c : ℕ) : ℝ := ∑ b : Fin 32, (x.blk b.val).gkw c
def gs (h : ℕ) : ℝ := ∑ b : Fin 32, (x.blk b.val).gs h
end T
end Spec
end
-- ==== Proof.Real0.lean ====
module

public import proofs.«01_k».proof.Proof.Model
public import proofs.«01_k».proof.Proof.Spec
public import Idealize.ShloMosaic.Lib.Pointwise
public import Idealize.ShloMosaic.Lib.Pipeline.ValueKit

/-! The functions of the model at vectors of real numbers: the head means and the normalisations. -/

@[expose] public section

set_option maxRecDepth 16384

noncomputable section

namespace Cert.KernelIdeal.Body
open Cert.KernelIdeal Cert.KernelIdeal.Gen
open Idealize.ShloMosaic Idealize.ShloMosaic.TcCoe Idealize.SL.Sem

/-- A matrix whose entries are the real numbers of a function. -/
def Is {a b : ℕ} {t : FTy} (X : FVec Ideal ⟨2, ![a, b]⟩ t) (f : ℕ → ℕ → ℝ) : Prop :=
  ∀ (i : Fin a) (j : Fin b), X (ix2 i j) = ((f i.val j.val : ℝ) : EReal)

/-- A sum of real numbers, as a sum of the extended reals. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem Is.congr {a b : ℕ} {t : FTy} {X : FVec Ideal ⟨2, ![a, b]⟩ t} {f g : ℕ → ℕ → ℝ} (h : Is X f)
    (e : ∀ i j, i < a → j < b → f i j = g i j) : Is X g := fun i j => by rw [h i j, e _ _ i.isLt j.isLt]

theorem low1024_is {x : FVec Ideal S128x1024 .f32} {f : ℕ → ℕ → ℝ} (h : Is x f) : Is (low1024 x) (fun _ _ => 0) := by
  intro i j
  pointwise [low1024]
  rw [h i j]
  simp only [← EReal.coe_sub, sub_self]

theorem low256_is {x : FVec Ideal S256x256 .f32} {f : ℕ → ℕ → ℝ} (h : Is x f) : Is (low256 x) (fun _ _ => 0) := by
  intro i j
  pointwise [low256]
  rw [h i j]
  simp only [← EReal.coe_sub, sub_self]

theorem meanPart_is {hi lo : FVec Ideal S128x256 .bf16} {gm : FVec Ideal S256x256 .bf16} {f g : ℕ → ℕ → ℝ}
    (h : Is hi f) (h0 : Is lo (fun _ _ => 0)) (hg : Is gm g) :
    Is (meanPart hi lo gm) (fun i j => ∑ l : Fin 256, f i l.val * g l.val j) := by
  intro i j
  pointwise [meanPart]
  simp only [h _ _, h0 _ _, hg _ _, ← EReal.coe_mul, coe_sum, ← EReal.coe_add, zero_mul, Finset.sum_const_zero, add_zero]

theorem round_is {a b : ℕ} {x : FVec Ideal ⟨2, ![a, b]⟩ .f32} {f : ℕ → ℕ → ℝ} (h : Is x f) :
    Is (truncf .bf16 x bitsLt_bf16_f32) f := by
  intro i j
  pointwise
  exact h i j

theorem widen_is {a b : ℕ} {x : FVec Ideal ⟨2, ![a, b]⟩ .bf16} {f : ℕ → ℕ → ℝ} (h : Is x f) :
    Is (extf .f32 x bitsLt_bf16_f32) f := by
  intro i j
  pointwise
  exact h i j

theorem mul_is {a b : ℕ} {x y : FVec Ideal ⟨2, ![a, b]⟩ .f32} {f g : ℕ → ℕ → ℝ} (h : Is x f) (h' : Is y g) :
    Is (mulf x y) (fun i j => f i j * g i j) := by
  intro i j
  pointwise
  rw [h i j, h' i j, EReal.coe_mul]

theorem add_is {a b : ℕ} {x y : FVec Ideal ⟨2, ![a, b]⟩ .f32} {f g : ℕ → ℕ → ℝ} (h : Is x f) (h' : Is y g) :
    Is (addf x y) (fun i j => f i j + g i j) := by
  intro i j
  pointwise
  rw [h i j, h' i j, EReal.coe_add]

theorem sub_is {a b : ℕ} {x y : FVec Ideal ⟨2, ![a, b]⟩ .f32} {f g : ℕ → ℕ → ℝ} (h : Is x f) (h' : Is y g) :
    Is (subf x y) (fun i j => f i j - g i j) := by
  intro i j
  pointwise
  rw [h i j, h' i j, EReal.coe_sub]

theorem col0_is {t : FTy} {x : FVec Ideal S128x1024 t} {f : ℕ → ℕ → ℝ} (h : Is x f) :
    Is (col0 x) (fun i j => f i (0 + j)) := by
  intro i j
  pointwise [col0]
  exact (h _ _).trans (by simp)

theorem col1_is {t : FTy} {x : FVec Ideal S128x1024 t} {f : ℕ → ℕ → ℝ} (h : Is x f) :
    Is (col1 x) (fun i j => f i (256 + j)) := by
  intro i j
  pointwise [col1]
  exact (h _ _).trans (by simp)

theorem col2_is {t : FTy} {x : FVec Ideal S128x1024 t} {f : ℕ → ℕ → ℝ} (h : Is x f) :
    Is (col2 x) (fun i j => f i (512 + j)) := by
  intro i j
  pointwise [col2]
  exact (h _ _).trans (by simp)

theorem col3_is {t : FTy} {x : FVec Ideal S128x1024 t} {f : ℕ → ℕ → ℝ} (h : Is x f) :
    Is (col3 x) (fun i j => f i (768 + j)) := by
  intro i j
  pointwise [col3]
  exact (h _ _).trans (by simp)

theorem wide_is {a b c d : FVec Ideal S128x256 .f32} {f : ℕ → ℕ → ℝ} (ha : Is a f)
    (hb : Is b (fun i j => f i (256 + j))) (hc : Is c (fun i j => f i (512 + j))) (hd : Is d (fun i j => f i (768 + j))) :
    Is (wide a b c d) f := by
  intro i j
  pointwise [wide]
  have := j.isLt
  split_ifs
  all_goals first
    | exact ha _ _
    | exact (hb _ _).trans (congrArg (fun n => ((f i.val n : ℝ) : EReal)) (by (try dsimp only); omega))
    | exact (hc _ _).trans (congrArg (fun n => ((f i.val n : ℝ) : EReal)) (by (try dsimp only); omega))
    | exact (hd _ _).trans (congrArg (fun n => ((f i.val n : ℝ) : EReal)) (by (try dsimp only); omega))

/-- The averaging matrix. -/
def avg (a b : ℕ) : ℝ := if a / 64 = b / 64 then 1 / 64 else 0

theorem sum_tiles (n m : ℕ) (F : ℕ → ℝ) : ∑ l : Fin (n * m), F l.val = ∑ r : Fin n, ∑ d : Fin m, F (m * r.val + d.val) := by
  rw [Fin.sum_univ_tiles n m rfl]
  simp only [mul_comm]

/-- A sum over the 64 columns of one head out of four. -/
theorem sum_avg (F : ℕ → ℝ) (c : ℕ) (hc : c < 256) :
    ∑ l : Fin 256, F l.val * avg l.val c = (∑ d : Fin 64, F (64 * (c / 64) + d.val)) * (1 / 64) := by
  rw [show (∑ l : Fin 256, F l.val * avg l.val c) = ∑ r : Fin 4, ∑ d : Fin 64, F (64 * r.val + d.val) * avg (64 * r.val + d.val) c from
    sum_tiles 4 64 fun l => F l * avg l c]
  have e : ∀ r : Fin 4, ∑ d : Fin 64, F (64 * r.val + d.val) * avg (64 * r.val + d.val) c
      = if r.val = c / 64 then (∑ d : Fin 64, F (64 * (c / 64) + d.val)) * (1 / 64) else 0 := by
    intro r
    have : ∀ d : Fin 64, avg (64 * r.val + d.val) c = if r.val = c / 64 then 1 / 64 else 0 := by
      intro d; unfold avg; rw [show (64 * r.val + d.val) / 64 = r.val by omega]
    simp only [this]
    split_ifs with h
    · rw [h, Finset.sum_mul]
    · simp
  simp only [e]
  have hr : c / 64 < 4 := by omega
  rw [Finset.sum_eq_single (⟨c / 64, hr⟩ : Fin 4)]
  · simp
  · intro b _ hb
    rw [if_neg]
    intro h; exact hb (Fin.ext h)
  · simp

theorem headMean1024_is {x : FVec Ideal S128x1024 .f32} {gm : FVec Ideal S256x256 .bf16} {f : ℕ → ℕ → ℝ}
    (h : Is x f) (hg : Is gm avg) : Is (headMean1024 x gm) (Spec.headMean f) := by
  have hr := round_is h
  have hl := low1024_is h
  refine wide_is ?_ ?_ ?_ ?_
  · refine (meanPart_is (col0_is hr) (col0_is hl) hg).congr fun i j _ hj => ?_
    rw [sum_avg (fun l => f i (0 + l)) j hj, Spec.headMean]; simp only [zero_add]
  · refine (meanPart_is (col1_is hr) (col1_is hl) hg).congr fun i j _ hj => ?_
    rw [sum_avg (fun l => f i (256 + l)) j hj, Spec.headMean]
    congr 1; refine Finset.sum_congr rfl fun d _ => congrArg (f i) (by omega)
  · refine (meanPart_is (col2_is hr) (col2_is hl) hg).congr fun i j _ hj => ?_
    rw [sum_avg (fun l => f i (512 + l)) j hj, Spec.headMean]
    congr 1; refine Finset.sum_congr rfl fun d _ => congrArg (f i) (by omega)
  · refine (meanPart_is (col3_is hr) (col3_is hl) hg).congr fun i j _ hj => ?_
    rw [sum_avg (fun l => f i (768 + l)) j hj, Spec.headMean]
    congr 1; refine Finset.sum_congr rfl fun d _ => congrArg (f i) (by omega)

theorem headMean256_is {x : FVec Ideal S256x256 .f32} {gm : FVec Ideal S256x256 .bf16} {f : ℕ → ℕ → ℝ}
    (h : Is x f) (hg : Is gm avg) : Is (headMean256 x gm) (Spec.headMean f) := by
  have h1 : Is (headMean256 x gm) (fun i j => ∑ l : Fin 256, f i l.val * avg l.val j) := by
    intro i j
    pointwise [headMean256]
    simp only [h _ _, low256_is h _ _, hg _ _, ← EReal.coe_mul, coe_sum, ← EReal.coe_add, zero_mul, Finset.sum_const_zero, add_zero]
  exact h1.congr fun i j _ hj => sum_avg (f i) j hj

/-- The small number added to a mean square. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]
  norm_num
theorem ofBits_eighth : Ideal.ofBits .f32 0x3E000000#32 = ((1 / 8 : ℝ) : EReal) := by
  simp [Ideal.ofBits, Ideal.ieee, -EReal.coe_mul]
  norm_num

theorem headMean_sq_nonneg (f : ℕ → ℕ → ℝ) (n c : ℕ) : 0 ≤ Spec.headMean (fun n c => f n c * f n c) n c := by
  unfold Spec.headMean
  exact mul_nonneg (Finset.sum_nonneg fun d _ => mul_self_nonneg _) (by norm_num)

theorem rsqrt_eps {v : ℝ} (h : 0 ≤ v) : Ideal.rsqrt (((v : ℝ) : EReal) + ((eps : ℝ) : EReal)) = (((√(v + eps))⁻¹ : ℝ) : EReal) := by
  have := eps_pos
  rw [← EReal.coe_add, Ideal.rsqrt_coe, if_neg (by linarith), if_neg (by linarith)]

theorem rstd1024_is {x : FVec Ideal S128x1024 .f32} {gm : FVec Ideal S256x256 .bf16} {f : ℕ → ℕ → ℝ}
    (h : Is x f) (hg : Is gm avg) : Is (rstd1024 x gm) (Spec.rstd eps f) := by
  intro i j
  pointwise [rstd1024]
  rw [headMean1024_is (mul_is h h) hg i j, ofBits_eps, rsqrt_eps (headMean_sq_nonneg _ _ _)]
  rfl

theorem rstd256_is {x : FVec Ideal S256x256 .f32} {gm : FVec Ideal S256x256 .bf16} {f : ℕ → ℕ → ℝ}
    (h : Is x f) (hg : Is gm avg) : Is (rstd256 x gm) (Spec.rstd eps f) := by
  intro i j
  pointwise [rstd256]
  rw [headMean256_is (mul_is h h) hg i j, ofBits_eps, rsqrt_eps (headMean_sq_nonneg _ _ _)]
  rfl

theorem scaled1024_is {x : FVec Ideal S128x1024 .f32} {w : FVec Ideal S1x1024 .f32} {f g : ℕ → ℕ → ℝ}
    (h : Is x f) (hw : Is w g) : Is (scaled1024 x w) (fun i j => f i j * g 0 j) := by
  intro i j
  pointwise [scaled1024]
  rw [h i j, hw _ _, EReal.coe_mul]; rfl

theorem scaled256_is {x : FVec Ideal S256x256 .f32} {w : FVec Ideal S1x256 .f32} {f g : ℕ → ℕ → ℝ}
    (h : Is x f) (hw : Is w g) : Is (scaled256 x w) (fun i j => f i j * g 0 j) := by
  intro i j
  pointwise [scaled256]
  rw [h i j, hw _ _, EReal.coe_mul]; rfl

end Cert.KernelIdeal.Body
end
-- ==== Proof.Real1.lean ====
module

public import proofs.«01_k».proof.Proof.Real0

@[expose] public section

set_option maxRecDepth 16384

namespace Cert.KernelIdeal.Body
open Cert.KernelIdeal Cert.KernelIdeal.Gen
open Idealize.ShloMosaic Idealize.ShloMosaic.TcCoe Idealize.SL.Sem

noncomputable section

theorem select_bit {α : Type} {c : BitVec 1} {P : Prop} [Decidable P] (h : c = BitVec.ofBool (decide P)) (x y : α) :
    Scalar.select c x y = if P then x else y := by
  subst h
  by_cases hp : P <;> simp [Scalar.select, hp]

theorem turn_is {x : FVec Ideal S256x128 .f32} {f : ℕ → ℕ → ℝ} (h : Is x f) : Is (turn x) (fun s l => f s ((l + 64) % 128)) := by
  intro s l
  pointwise [turn]
  exact (h _ _).trans (congrArg (fun n => ((f s.val n : ℝ) : EReal)) (by (try dsimp only); omega))

theorem half0_is {x : FVec Ideal S256x256 .f32} {f : ℕ → ℕ → ℝ} (h : Is x f) : Is (half0 x) f := by
  intro s l
  pointwise [half0]
  exact (h _ _).trans (by simp)

theorem half1_is {x : FVec Ideal S256x256 .f32} {f : ℕ → ℕ → ℝ} (h : Is x f) : Is (half1 x) (fun s l => f s (128 + l)) := by
  intro s l
  pointwise [half1]
  exact (h _ _).trans (by simp)

theorem pair_is {x y : FVec Ideal S256x128 .f32} {f : ℕ → ℕ → ℝ} (h : Is x f) (h' : Is y (fun s l => f s (128 + l))) :
    Is (pair x y) f := by
  intro s l
  pointwise [pair]
  have := l.isLt
  split_ifs
  all_goals first
    | exact h _ _
    | exact (h' _ _).trans (congrArg (fun n => ((f s.val n : ℝ) : EReal)) (by (try dsimp only); omega))

theorem low_bit (l : Fin 128) : IntOp.cmpi CmpIPredicate.slt (BitVec.ofNat 32 l.val) 64#32 = BitVec.ofBool (decide (l.val < 64)) := by
  revert l; decide +kernel

theorem low_is {x y : FVec Ideal S256x128 .f32} {f g : ℕ → ℕ → ℝ} (h : Is x f) (h' : Is y g) :
    Is (select lowLanes x y) (fun s l => if l < 64 then f s l else g s l) := by
  intro s l
  pointwise [lowLanes]
  rw [select_bit (low_bit l), h s l, h' s l]
  split_ifs <;> rfl

theorem spreadFst_is {x : FVec Ideal S256x128 .f32} {f : ℕ → ℕ → ℝ} (h : Is x f) : Is (spreadFst x) (fun s l => f s (l % 64)) := by
  have e : Is (select lowLanes x (turn x)) (fun s l => f s (l % 64)) := (low_is h (turn_is h)).congr fun s l _ _ => by
    split_ifs <;> (congr 1; omega)
  exact round_is (pair_is e (e.congr fun s l _ _ => congrArg (f s) (by omega)))

theorem spreadSnd_is {x : FVec Ideal S256x128 .f32} {f : ℕ → ℕ → ℝ} (h : Is x f) : Is (spreadSnd x) (fun s l => f s (64 + l % 64)) := by
  have e : Is (select lowLanes (turn x) x) (fun s l => f s (64 + l % 64)) := (low_is (turn_is h) h).congr fun s l _ _ => by
    split_ifs <;> (congr 1; omega)
  exact round_is (pair_is e (e.congr fun s l _ _ => congrArg (f s) (by omega)))

theorem headIdx_bit (n : Fin 4) (s : Fin 256) (l : Fin 256) :
    IntOp.cmpi CmpIPredicate.eq (headIdx (ix2 s l)) (BitVec.ofNat 32 n.val) = BitVec.ofBool (decide (l.val / 64 = n.val)) := by
  pointwise [headIdx]
  revert n l; decide +kernel

theorem keep_is (n : Fin 4) {x : FVec Ideal S256x256 .f32} {f : ℕ → ℕ → ℝ} (h : Is x f) :
    Is (keep (BitVec.ofNat 32 n.val) x) (fun s l => if l / 64 = n.val then f s l else 0) := by
  intro s l
  pointwise [keep]
  rw [select_bit (headIdx_bit n s l), h s l]
  split_ifs <;> rfl

theorem place_is (n : Fin 4) {x : FVec Ideal S256x256 .bf16} {f : ℕ → ℕ → ℝ} (h : Is x f) :
    Is (place (BitVec.ofNat 32 n.val) x) (fun s l => if l / 64 = n.val then f s l else 0) := by
  intro s l
  pointwise [place]
  rw [select_bit (headIdx_bit n s l), h s l]
  split_ifs <;> rfl

/-- A tile in the diagonal blocks. -/
def dia (k : ℕ → ℕ → ℝ) (n c : ℕ) : ℝ := if c / 64 = n / 256 then k (n % 256) (c % 64) else 0

theorem diag_is {x : FVec Ideal S256x256 .bf16} {k : ℕ → ℕ → ℝ} (h : Is x (fun s l => k s (l % 64))) : Is (diag x) (dia k) := by
  intro n l
  have h0 := place_is 0 h
  have h1 := place_is 1 h
  have h2 := place_is 2 h
  have h3 := place_is 3 h
  pointwise [diag]
  have := n.isLt
  unfold dia
  split_ifs
  all_goals first
    | refine (h0 _ _).trans (congrArg (fun n : ℝ => (n : EReal)) ?_)
    | refine (h1 _ _).trans (congrArg (fun n : ℝ => (n : EReal)) ?_)
    | refine (h2 _ _).trans (congrArg (fun n : ℝ => (n : EReal)) ?_)
    | refine (h3 _ _).trans (congrArg (fun n : ℝ => (n : EReal)) ?_)
  all_goals (dsimp only [Fin.val_zero, Fin.val_one, Fin.val_two]; split_ifs)
  all_goals first
    | rfl
    | (exfalso; omega)
    | (congr 1; omega)

theorem row0_is {x : FVec Ideal S1024x256 .f32} {f : ℕ → ℕ → ℝ} (h : Is x f) : Is (row0 x) (fun s l => f (0 + s) l) := by
  intro s l
  pointwise [row0]
  exact (h _ _).trans (by simp)

theorem row1_is {x : FVec Ideal S1024x256 .f32} {f : ℕ → ℕ → ℝ} (h : Is x f) : Is (row1 x) (fun s l => f (256 + s) l) := by
  intro s l
  pointwise [row1]
  exact (h _ _).trans (by simp)

theorem row2_is {x : FVec Ideal S1024x256 .f32} {f : ℕ → ℕ → ℝ} (h : Is x f) : Is (row2 x) (fun s l => f (512 + s) l) := by
  intro s l
  pointwise [row2]
  exact (h _ _).trans (by simp)

theorem row3_is {x : FVec Ideal S1024x256 .f32} {f : ℕ → ℕ → ℝ} (h : Is x f) : Is (row3 x) (fun s l => f (768 + s) l) := by
  intro s l
  pointwise [row3]
  exact (h _ _).trans (by simp)

theorem fold_is {x : FVec Ideal S1024x256 .f32} {f : ℕ → ℕ → ℝ} (h : Is x f) :
    Is (fold x) (fun s l => f s (l % 64) + f (256 + s) (64 + l % 64) + f (512 + s) (128 + l % 64) + f (768 + s) (192 + l % 64)) := by
  have hk : Is (kept x) _ := add_is (add_is (add_is (keep_is 0 (row0_is h)) (keep_is 1 (row1_is h))) (keep_is 2 (row2_is h))) (keep_is 3 (row3_is h))
  have hf := add_is (half0_is hk) (half1_is hk)
  refine (add_is hf (turn_is hf)).congr fun s l _ hl => ?_
  dsimp only [Fin.val_zero, Fin.val_one, Fin.val_two]
  change _ = f s (l % 64) + f (256 + s) (64 + l % 64) + f (512 + s) (128 + l % 64) + f (768 + s) (192 + l % 64)
  simp only [Nat.zero_add]
  by_cases hc : l < 64
  · have e0 : l / 64 = 0 := by omega
    have e1 : (128 + l) / 64 = 2 := by omega
    have e2 : (l + 64) % 128 / 64 = 1 := by omega
    have e3 : (128 + (l + 64) % 128) / 64 = 3 := by omega
    have d0 : l % 64 = l := by omega
    have d2 : (l + 64) % 128 = 64 + l := by omega
    have d3 : 128 + (64 + l) = 192 + l := by omega
    simp only [e0, e1, e2, e3, d0, show ((3 : Fin 4).val) = 3 from rfl]
    rw [d2, d3]
    norm_num
    ring
  · have e0 : l / 64 = 1 := by omega
    have e1 : (128 + l) / 64 = 3 := by omega
    have e2 : (l + 64) % 128 / 64 = 0 := by omega
    have e3 : (128 + (l + 64) % 128) / 64 = 2 := by omega
    have d0 : 64 + l % 64 = l := by omega
    have d2 : (l + 64) % 128 = l % 64 := by omega
    have d3 : 128 + l = 192 + l % 64 := by omega
    simp only [e0, e1, e2, e3, show ((3 : Fin 4).val) = 3 from rfl]
    rw [d2, d3, d0]
    norm_num
    ring

/-- A sum over four heads of 64 columns against one diagonal block. -/
theorem sum_dia (F : ℕ → ℝ) (k : ℕ → ℕ → ℝ) (n : ℕ) (hn : n < 1024) :
    ∑ c : Fin 256, F c.val * dia k n c.val = ∑ d : Fin 64, F (64 * (n / 256) + d.val) * k (n % 256) d.val := by
  rw [show (∑ c : Fin 256, F c.val * dia k n c.val) = ∑ r : Fin 4, ∑ d : Fin 64, F (64 * r.val + d.val) * dia k n (64 * r.val + d.val) from
    sum_tiles 4 64 fun l => F l * dia k n l]
  have hr : n / 256 < 4 := by omega
  rw [Finset.sum_eq_single (⟨n / 256, hr⟩ : Fin 4)]
  · refine Finset.sum_congr rfl fun d _ => ?_
    unfold dia
    rw [if_pos (by dsimp only; omega), show (64 * (n / 256) + d.val) % 64 = d.val by omega]
  · intro r _ hb
    refine Finset.sum_eq_zero fun d _ => ?_
    unfold dia
    rw [if_neg, mul_zero]
    intro h; exact hb (Fin.ext (by dsimp only; omega))
  · simp

/-- A sum over four tables of 256 keys against the diagonal blocks. -/
theorem sum_dia' (F : ℕ → ℝ) (k : ℕ → ℕ → ℝ) (c : ℕ) (hc : c < 256) :
    ∑ n : Fin 1024, F n.val * dia k n.val c = ∑ s : Fin 256, F (256 * (c / 64) + s.val) * k s.val (c % 64) := by
  rw [show (∑ n : Fin 1024, F n.val * dia k n.val c) = ∑ r : Fin 4, ∑ s : Fin 256, F (256 * r.val + s.val) * dia k (256 * r.val + s.val) c from
    sum_tiles 4 256 fun l => F l * dia k l c]
  have hr : c / 64 < 4 := by omega
  rw [Finset.sum_eq_single (⟨c / 64, hr⟩ : Fin 4)]
  · refine Finset.sum_congr rfl fun d _ => ?_
    unfold dia
    rw [if_pos (by dsimp only; omega), show (256 * (c / 64) + d.val) % 256 = d.val by omega]
  · intro r _ hb
    refine Finset.sum_eq_zero fun d _ => ?_
    unfold dia
    rw [if_neg, mul_zero]
    intro h; exact hb (Fin.ext (by dsimp only; omega))
  · simp

/-- Heads side by side. -/
def hd (f : ℕ → ℕ → ℕ → ℝ) (i c : ℕ) : ℝ := f (c / 64) i (c % 64)
/-- Tables side by side. -/
def tb (f : ℕ → ℕ → ℕ → ℝ) (i n : ℕ) : ℝ := f (n / 256) i (n % 256)

theorem nt_is {a : FVec Ideal S128x256 .bf16} {b : FVec Ideal S1024x256 .bf16} {f : ℕ → ℕ → ℕ → ℝ} {k : ℕ → ℕ → ℝ}
    (ha : Is a (hd f)) (hb : Is b (dia k)) : Is (nt a b) (tb fun r i s => ∑ d : Fin 64, f r i d.val * k s d.val) := by
  intro i n
  pointwise [nt]
  simp only [ha _ _, hb _ _, ← EReal.coe_mul, coe_sum]
  rw [sum_dia (hd f i) k n.val n.isLt]
  congr 1
  refine Finset.sum_congr rfl fun d _ => ?_
  unfold hd
  rw [show (64 * (n.val / 256) + d.val) / 64 = n.val / 256 by omega, show (64 * (n.val / 256) + d.val) % 64 = d.val by omega]

theorem nn_is {a : FVec Ideal S128x1024 .bf16} {b : FVec Ideal S1024x256 .bf16} {f : ℕ → ℕ → ℕ → ℝ} {k : ℕ → ℕ → ℝ}
    (ha : Is a (tb f)) (hb : Is b (dia k)) : Is (nn a b) (hd fun r i d => ∑ s : Fin 256, f r i s.val * k s.val d) := by
  intro i c
  pointwise [nn]
  simp only [ha _ _, hb _ _, ← EReal.coe_mul, coe_sum]
  rw [sum_dia' (tb f i) k c.val c.isLt]
  congr 1
  refine Finset.sum_congr rfl fun d _ => ?_
  unfold tb
  rw [show (256 * (c.val / 64) + d.val) / 256 = c.val / 64 by omega, show (256 * (c.val / 64) + d.val) % 256 = d.val by omega]

theorem foldtn_is {a : FVec Ideal S128x1024 .bf16} {b : FVec Ideal S128x256 .bf16} {f g : ℕ → ℕ → ℕ → ℝ}
    (ha : Is a (tb f)) (hb : Is b (hd g)) :
    Is (fold (tn a b)) (fun s l => ∑ r : Fin 4, ∑ i : Fin 128, f r.val i.val s * g r.val i.val (l % 64)) := by
  have ht : Is (tn a b) (fun n c => ∑ i : Fin 128, tb f i.val n * hd g i.val c) := by
    intro n c
    pointwise [tn]
    simp only [ha _ _, hb _ _, ← EReal.coe_mul, coe_sum]
  refine (fold_is ht).congr fun s l hs _ => ?_
  rw [Fin.sum_univ_four]
  have e : ∀ r, r < 4 → ∀ i, tb f i (256 * r + s) * hd g i (64 * r + l % 64) = f r i s * g r i (l % 64) := by
    intro r _ i
    unfold tb hd
    rw [show (256 * r + s) / 256 = r by omega, show (256 * r + s) % 256 = s by omega,
      show (64 * r + l % 64) / 64 = r by omega, show (64 * r + l % 64) % 64 = l % 64 by omega]
  have e0 := e 0 (by decide)
  have e1 := e 1 (by decide)
  have e2 := e 2 (by decide)
  have e3 := e 3 (by decide)
  norm_num at e0 e1 e2 e3
  simp only [e0, e1, e2, e3]
  rfl

end
end Cert.KernelIdeal.Body
end
-- ==== Proof.Real2.lean ====
module

public import proofs.«01_k».proof.Proof.Real1

@[expose] public section

set_option maxRecDepth 16384

namespace Cert.KernelIdeal.Body
open Cert.KernelIdeal Cert.KernelIdeal.Gen
open Idealize.ShloMosaic Idealize.ShloMosaic.TcCoe Idealize.SL.Sem

noncomputable section

/-- Masked scores: a real where the key is in view, else minus infinity. -/
def IsM (x : FVec Ideal S128x256 .f32) (V : ℕ → ℕ → Prop) [∀ i s, Decidable (V i s)] (f : ℕ → ℕ → ℝ) : Prop :=
  ∀ (i : Fin 128) (s : Fin 256), x (ix2 i s) = if V i.val s.val then ((f i.val s.val : ℝ) : EReal) else ⊥

/-- A column of reals. -/
def IsC (x : FVec Ideal S128x1 .f32) (f : ℕ → ℝ) : Prop := ∀ i : Fin 128, x (ix2 i 0) = ((f i.val : ℝ) : EReal)

theorem ofBits_minf : Ideal.ofBits .f32 0xFF800000#32 = ⊥ := by
  simp [Ideal.ofBits, Ideal.ieee]

theorem named_mask : (Named.named κ "mask" 0xF149F2CA#32 : Ideal .f32) = (⊥ : EReal) := rfl

section
variable {V : ℕ → ℕ → Prop} [∀ i s, Decidable (V i s)]

theorem masked_is {vis : IVec S128x256 1} (hv : ∀ (i : Fin 128) (s : Fin 256), vis (ix2 i s) = BitVec.ofBool (decide (V i.val s.val)))
    {x : FVec Ideal S128x256 .f32} {f : ℕ → ℕ → ℝ} (h : Is x f) : IsM (masked vis x) V f := by
  intro i s
  pointwise [masked]
  rw [select_bit (hv i s), h i s, named_mask]

theorem sinkMax_real {x : FVec Ideal S128x256 .f32} {f : ℕ → ℕ → ℝ} (h : IsM x V f) {k : Ideal .f32} {a : ℝ} (hk : k = ((a : ℝ) : EReal)) :
    ∃ m : ℕ → ℝ, IsC (sinkMax x k) m := by
  have H : ∀ i : Fin 128, ∃ m : ℝ, sinkMax x k (ix2 i 0) = ((m : ℝ) : EReal) := by
    intro i
    refine ⟨(sinkMax x k (ix2 i 0) : EReal).toReal, (EReal.coe_toReal ?_ ?_).symm⟩
    · pointwise [sinkMax]
      refine ne_of_lt (max_lt (Finset.fold_max_lt _ |>.2 ⟨?_, fun s _ => ?_⟩) ?_)
      · rw [ofBits_minf]; exact bot_lt_top
      · rw [h i s]; split_ifs
        · exact EReal.coe_lt_top _
        · exact bot_lt_top
      · rw [hk]; exact EReal.coe_lt_top _
    · pointwise [sinkMax]
      refine ne_of_gt (lt_of_lt_of_le ?_ (le_max_right _ _))
      rw [hk]; exact EReal.bot_lt_coe _
  choose m hm using H
  refine ⟨fun i => if h : i < 128 then m ⟨i, h⟩ else 0, fun i => ?_⟩
  dsimp only
  rw [hm i, dif_pos i.isLt]

theorem exp_shift {P : Prop} [Decidable P] (f m : ℝ) :
    Ideal.exp ((if P then ((f : ℝ) : EReal) else ⊥) - ((m : ℝ) : EReal)) = (((if P then Real.exp f else 0) * Real.exp (-m) : ℝ) : EReal) := by
  split_ifs
  · rw [← EReal.coe_sub, Ideal.exp_coe, ← Real.exp_add, sub_eq_add_neg]
  · rw [EReal.bot_sub, Ideal.exp_bot, zero_mul]; rfl

/-- The sum of the exponentials of the keys in view and of the sink. -/
def tot (V : ℕ → ℕ → Prop) [∀ i s, Decidable (V i s)] (f : ℕ → ℕ → ℝ) (a : ℝ) (i : ℕ) : ℝ :=
  (∑ s : Fin 256, if V i s.val then Real.exp (f i s.val) else 0) + Real.exp a

theorem tot_pos (f : ℕ → ℕ → ℝ) (a : ℝ) (i : ℕ) : 0 < tot V f a i := by
  unfold tot
  refine add_pos_of_nonneg_of_pos (Finset.sum_nonneg fun s _ => ?_) (Real.exp_pos _)
  split_ifs
  · exact (Real.exp_pos _).le
  · exact le_rfl

theorem expRow_is {x : FVec Ideal S128x256 .f32} {f : ℕ → ℕ → ℝ} (h : IsM x V f) {k : Ideal .f32} {m : ℕ → ℝ}
    (hm : IsC (sinkMax x k) m) : Is (expRow x k) (fun i s => (if V i s then Real.exp (f i s) else 0) * Real.exp (-(m i))) := by
  intro i s
  pointwise [expRow]
  rw [h i s, hm i, exp_shift]

theorem expSink_is {x : FVec Ideal S128x256 .f32} {k : Ideal .f32} {a : ℝ} (hk : k = ((a : ℝ) : EReal)) {m : ℕ → ℝ}
    (hm : IsC (sinkMax x k) m) : IsC (expSink x k) (fun i => Real.exp a * Real.exp (-(m i))) := by
  intro i
  pointwise [expSink]
  rw [hm i, hk, ← EReal.coe_sub, Ideal.exp_coe, ← Real.exp_add, sub_eq_add_neg]

theorem rowSum_is {x : FVec Ideal S128x256 .f32} {f : ℕ → ℕ → ℝ} (h : Is x f) : IsC (rowSum x) (fun i => ∑ s : Fin 256, f i s.val) := by
  intro i
  pointwise [rowSum]
  simp only [h _ _, coe_sum]

theorem invSum_is {x : FVec Ideal S128x256 .f32} {f : ℕ → ℕ → ℝ} (h : IsM x V f) {k : Ideal .f32} {a : ℝ} (hk : k = ((a : ℝ) : EReal))
    {m : ℕ → ℝ} (hm : IsC (sinkMax x k) m) : IsC (invSum x k) (fun i => 1 / (tot V f a i * Real.exp (-(m i)))) := by
  intro i
  have e := rowSum_is (expRow_is h hm) i
  pointwise [invSum]
  rw [e, expSink_is hk hm i, ← EReal.coe_add, Ideal.div_coe, one_mul]
  · congr 2
    unfold tot
    rw [add_mul, Finset.sum_mul]
  · dsimp only
    rw [← Finset.sum_mul, ← add_mul]
    exact (mul_pos (tot_pos (V := V) f a i) (Real.exp_pos _)).ne'

theorem weights_is {x : FVec Ideal S128x256 .f32} {f : ℕ → ℕ → ℝ} (h : IsM x V f) {k : Ideal .f32} {a : ℝ} (hk : k = ((a : ℝ) : EReal)) :
    Is (weights x k) (fun i s => (if V i s then Real.exp (f i s) else 0) / tot V f a i) := by
  obtain ⟨m, hm⟩ := sinkMax_real h hk
  intro i s
  have e := expRow_is h hm i s
  have e' := invSum_is h hk hm i
  pointwise [weights]
  rw [e, e', ← EReal.coe_mul]
  congr 1
  have := (tot_pos (V := V) f a i).ne'
  have := (Real.exp_pos (-(m i))).ne'
  field_simp

theorem sinkWeight_is {x : FVec Ideal S128x256 .f32} {f : ℕ → ℕ → ℝ} (h : IsM x V f) {k : Ideal .f32} {a : ℝ} (hk : k = ((a : ℝ) : EReal)) :
    IsC (sinkWeight x k) (fun i => Real.exp a / tot V f a i) := by
  obtain ⟨m, hm⟩ := sinkMax_real h hk
  intro i
  have e := expSink_is hk hm i
  have e' := invSum_is h hk hm i
  pointwise [sinkWeight]
  rw [e, e', ← EReal.coe_mul]
  congr 1
  have := (tot_pos (V := V) f a i).ne'
  have := (Real.exp_pos (-(m i))).ne'
  field_simp
end

theorem sigm_is {g : FVec Ideal S128x256 .f32} {f : ℕ → ℕ → ℝ} (h : Is g f) : Is (sigm g) (fun i c => Spec.sig (f i c)) := by
  intro i c
  pointwise [sigm]
  rw [h i c, ← EReal.coe_zero, ← EReal.coe_sub, Ideal.exp_coe, ← EReal.coe_one, ← EReal.coe_add, Ideal.div_coe, ← EReal.coe_mul]
  · congr 1; unfold Spec.sig; ring
  · have := Real.exp_pos (0 - f i.val c.val); positivity

theorem gateGrad_is {g d o : FVec Ideal S128x256 .f32} {f e u : ℕ → ℕ → ℝ} (h : Is g f) (hd : Is d e) (ho : Is o u) :
    Is (gateGrad g d o) (fun i c => e i c * u i c * (Spec.sig (f i c) * (1 + f i c * (1 - Spec.sig (f i c))))) := by
  intro i c
  have hs := sigm_is h i c
  pointwise [gateGrad]
  rw [h i c, hd i c, ho i c, hs, ← EReal.coe_one]
  simp only [← EReal.coe_sub, ← EReal.coe_mul, ← EReal.coe_add]

theorem outGrad_is {g d : FVec Ideal S128x256 .f32} {f e : ℕ → ℕ → ℝ} (h : Is g f) (hd : Is d e) :
    Is (outGrad g d) (fun i c => e i c * (f i c * Spec.sig (f i c))) :=
  round_is (mul_is hd (mul_is h (sigm_is h)))

theorem scoreGrad_is {p dp : FVec Ideal S128x256 .f32} {f g : ℕ → ℕ → ℝ} (hp : Is p f) (hd : Is dp g) :
    Is (scoreGrad p dp) (fun i s => f i s * (g i s - ∑ s : Fin 256, f i s.val * g i s.val) * (1 / 8)) := by
  intro i s
  have e := rowSum_is (mul_is hp hd) i
  pointwise [scoreGrad]
  rw [hp i s, hd i s, e, ofBits_eighth]
  simp only [← EReal.coe_sub, ← EReal.coe_mul, ← EReal.coe_add]

theorem scores_is {a : FVec Ideal S128x256 .bf16} {b : FVec Ideal S1024x256 .bf16} {f : ℕ → ℕ → ℕ → ℝ} {k : ℕ → ℕ → ℝ}
    (ha : Is a (hd f)) (hb : Is b (dia k)) : Is (scores a b) (tb fun r i s => (∑ d : Fin 64, f r i d.val * k s d.val) * (1 / 8)) := by
  intro i n
  have e := nt_is ha hb i n
  pointwise [scores]
  rw [e, ofBits_eighth, ← EReal.coe_mul]; rfl

theorem sinkSum_is {ps : FVec Ideal S128x1 .f32} {p dp : FVec Ideal S128x256 .f32} {u : ℕ → ℝ} {f g : ℕ → ℕ → ℝ} (hs : IsC ps u)
    (hp : Is p f) (hd : Is dp g) :
    sinkSum ps p dp (ix2 0 0) = ((∑ i : Fin 128, (0 - u i.val) * ∑ s : Fin 256, f i.val s.val * g i.val s.val : ℝ) : EReal) := by
  have e := rowSum_is (mul_is hp hd)
  pointwise [sinkSum]
  simp only [hs _, e _, ← EReal.coe_zero, ← EReal.coe_sub, ← EReal.coe_mul, coe_sum]

theorem lane_bit (n : Fin 16) (a : Fin 8) (b : Fin 128) :
    IntOp.andi (IntOp.cmpi CmpIPredicate.eq (BitVec.ofNat 32 b.val) (BitVec.ofNat 32 n.val)) (IntOp.cmpi CmpIPredicate.eq (BitVec.ofNat 32 a.val) 0#32)
      = BitVec.ofBool (decide (b.val = n.val ∧ a.val = 0)) := by
  revert n a b; decide +kernel

theorem lane_is (n : Fin 16) {x : FVec Ideal S1x1 .f32} {a : ℝ} (h : x (ix2 0 0) = ((a : ℝ) : EReal)) :
    Is (lane (BitVec.ofNat 32 n.val) x) (fun r l => if l = n.val ∧ r = 0 then a else 0) := by
  intro r l
  pointwise [lane]
  rw [select_bit (lane_bit n r l), h]
  split_ifs <;> rfl

/-- A group of the program stands for a group of real numbers. -/
structure Grp.Is (x : Grp Ideal) (y : Spec.G) : Prop where
  vis : ∀ (i : Fin 128) (s : Fin 256), x.vis (ix2 i s) = BitVec.ofBool (decide (Spec.sees y.first i.val s.val))
  q : Body.Is x.q (hd y.q)
  k : Body.Is x.k (dia y.k)
  v : Body.Is x.v (dia y.v)
  gate : Body.Is x.gate (hd y.gate)
  dag : Body.Is x.dag (hd y.dag)
  s0 : x.s0 = ((y.sk 0 : ℝ) : EReal)
  s1 : x.s1 = ((y.sk 1 : ℝ) : EReal)
  s2 : x.s2 = ((y.sk 2 : ℝ) : EReal)
  s3 : x.s3 = ((y.sk 3 : ℝ) : EReal)

namespace Grp.Is
variable {x : Grp Ideal} {y : Spec.G} (h : x.Is y)
include h

theorem m0 : IsM x.m0 (Spec.sees y.first) (y.sc 0) :=
  masked_is h.vis ((col0_is (scores_is h.q h.k)).congr fun i s _ hs => by
    unfold tb; rw [show (0 + s) / 256 = 0 by omega, show (0 + s) % 256 = s by omega]; rfl)
theorem p0 : Body.Is x.p0 (y.p 0) := weights_is h.m0 h.s0
theorem ps0 : IsC x.ps0 (y.ps 0) := sinkWeight_is h.m0 h.s0
theorem m1 : IsM x.m1 (Spec.sees y.first) (y.sc 1) :=
  masked_is h.vis ((col1_is (scores_is h.q h.k)).congr fun i s _ hs => by
    unfold tb; rw [show (256 + s) / 256 = 1 by omega, show (256 + s) % 256 = s by omega]; rfl)
theorem p1 : Body.Is x.p1 (y.p 1) := weights_is h.m1 h.s1
theorem ps1 : IsC x.ps1 (y.ps 1) := sinkWeight_is h.m1 h.s1
theorem m2 : IsM x.m2 (Spec.sees y.first) (y.sc 2) :=
  masked_is h.vis ((col2_is (scores_is h.q h.k)).congr fun i s _ hs => by
    unfold tb; rw [show (512 + s) / 256 = 2 by omega, show (512 + s) % 256 = s by omega]; rfl)
theorem p2 : Body.Is x.p2 (y.p 2) := weights_is h.m2 h.s2
theorem ps2 : IsC x.ps2 (y.ps 2) := sinkWeight_is h.m2 h.s2
theorem m3 : IsM x.m3 (Spec.sees y.first) (y.sc 3) :=
  masked_is h.vis ((col3_is (scores_is h.q h.k)).congr fun i s _ hs => by
    unfold tb; rw [show (768 + s) / 256 = 3 by omega, show (768 + s) % 256 = s by omega]; rfl)
theorem p3 : Body.Is x.p3 (y.p 3) := weights_is h.m3 h.s3
theorem ps3 : IsC x.ps3 (y.ps 3) := sinkWeight_is h.m3 h.s3

theorem pb : Body.Is x.pb (tb y.p) :=
  round_is (wide_is
    (h.p0.congr fun i s _ hs => by unfold tb; rw [show s / 256 = 0 by omega, show s % 256 = s by omega])
    (h.p1.congr fun i s _ hs => by unfold tb; rw [show (256 + s) / 256 = 1 by omega, show (256 + s) % 256 = s by omega])
    (h.p2.congr fun i s _ hs => by unfold tb; rw [show (512 + s) / 256 = 2 by omega, show (512 + s) % 256 = s by omega])
    (h.p3.congr fun i s _ hs => by unfold tb; rw [show (768 + s) / 256 = 3 by omega, show (768 + s) % 256 = s by omega]))
theorem o : Body.Is x.o (hd y.o) := nn_is h.pb h.v
theorem dgate : Body.Is x.dgate (hd y.dgate) := gateGrad_is h.gate h.dag h.o
theorem dO : Body.Is x.dO (hd y.dO) := outGrad_is h.gate h.dag
theorem dp : Body.Is x.dp (tb y.dp) := nt_is h.dO h.v
theorem dp0 : Body.Is (col0 x.dp) (y.dp 0) := (col0_is h.dp).congr fun i s _ hs => by
  unfold tb; rw [show (0 + s) / 256 = 0 by omega, show (0 + s) % 256 = s by omega]
theorem ds0 : Body.Is x.ds0 (y.ds 0) := scoreGrad_is h.p0 h.dp0
theorem gs0 : x.gs0 (ix2 0 0) = ((y.gs 0 : ℝ) : EReal) := sinkSum_is h.ps0 h.p0 h.dp0
theorem dp1 : Body.Is (col1 x.dp) (y.dp 1) := (col1_is h.dp).congr fun i s _ hs => by
  unfold tb; rw [show (256 + s) / 256 = 1 by omega, show (256 + s) % 256 = s by omega]
theorem ds1 : Body.Is x.ds1 (y.ds 1) := scoreGrad_is h.p1 h.dp1
theorem gs1 : x.gs1 (ix2 0 0) = ((y.gs 1 : ℝ) : EReal) := sinkSum_is h.ps1 h.p1 h.dp1
theorem dp2 : Body.Is (col2 x.dp) (y.dp 2) := (col2_is h.dp).congr fun i s _ hs => by
  unfold tb; rw [show (512 + s) / 256 = 2 by omega, show (512 + s) % 256 = s by omega]
theorem ds2 : Body.Is x.ds2 (y.ds 2) := scoreGrad_is h.p2 h.dp2
theorem gs2 : x.gs2 (ix2 0 0) = ((y.gs 2 : ℝ) : EReal) := sinkSum_is h.ps2 h.p2 h.dp2
theorem dp3 : Body.Is (col3 x.dp) (y.dp 3) := (col3_is h.dp).congr fun i s _ hs => by
  unfold tb; rw [show (768 + s) / 256 = 3 by omega, show (768 + s) % 256 = s by omega]
theorem ds3 : Body.Is x.ds3 (y.ds 3) := scoreGrad_is h.p3 h.dp3
theorem gs3 : x.gs3 (ix2 0 0) = ((y.gs 3 : ℝ) : EReal) := sinkSum_is h.ps3 h.p3 h.dp3
theorem dsb : Body.Is x.dsb (tb y.ds) :=
  round_is (wide_is
    (h.ds0.congr fun i s _ hs => by unfold tb; rw [show s / 256 = 0 by omega, show s % 256 = s by omega])
    (h.ds1.congr fun i s _ hs => by unfold tb; rw [show (256 + s) / 256 = 1 by omega, show (256 + s) % 256 = s by omega])
    (h.ds2.congr fun i s _ hs => by unfold tb; rw [show (512 + s) / 256 = 2 by omega, show (512 + s) % 256 = s by omega])
    (h.ds3.congr fun i s _ hs => by unfold tb; rw [show (768 + s) / 256 = 3 by omega, show (768 + s) % 256 = s by omega]))
theorem dq : Body.Is x.dq (hd y.dq) := nn_is h.dsb h.k
theorem dk : Body.Is x.dk (fun s l => y.dk s (l % 64)) := foldtn_is h.dsb h.q
theorem dv : Body.Is x.dv (fun s l => y.dv s (l % 64)) := foldtn_is h.pb h.dO
theorem sinks (a b c d : Fin 16) {acc : FVec Ideal S8x128 .f32} {f : ℕ → ℕ → ℝ} (ha : Body.Is acc f) :
    Body.Is (x.sinks (BitVec.ofNat 32 a.val) (BitVec.ofNat 32 b.val) (BitVec.ofNat 32 c.val) (BitVec.ofNat 32 d.val) acc)
      (fun r l => f r l + (if l = a.val ∧ r = 0 then y.gs 0 else 0) + (if l = b.val ∧ r = 0 then y.gs 1 else 0)
        + (if l = c.val ∧ r = 0 then y.gs 2 else 0) + (if l = d.val ∧ r = 0 then y.gs 3 else 0)) :=
  add_is (add_is (add_is (add_is ha (lane_is a h.gs0)) (lane_is b h.gs1)) (lane_is c h.gs2)) (lane_is d h.gs3)
end Grp.Is

theorem join_is {a b c d : FVec Ideal S256x128 .f32} {f : ℕ → ℕ → ℕ → ℝ} (ha : Is a (fun s l => f 0 s (l % 64)))
    (hb : Is b (fun s l => f 1 s (l % 64))) (hc : Is c (fun s l => f 2 s (l % 64))) (hd' : Is d (fun s l => f 3 s (l % 64))) :
    Is (join a b c d) (hd f) :=
  pair_is
    ((low_is ha hb).congr fun s l _ hl => by
      unfold hd
      split_ifs
      · rw [show l / 64 = 0 by omega]
      · rw [show l / 64 = 1 by omega])
    ((low_is hc hd').congr fun s l _ hl => by
      unfold hd
      split_ifs
      · rw [show (128 + l) / 64 = 2 by omega, show (128 + l) % 64 = l % 64 by omega]
      · rw [show (128 + l) / 64 = 3 by omega, show (128 + l) % 64 = l % 64 by omega])

end
end Cert.KernelIdeal.Body
end
-- ==== Proof.Real3.lean ====
module

public import proofs.«01_k».proof.Proof.Real2

@[expose] public section

set_option maxRecDepth 16384

namespace Cert.KernelIdeal.Body
open Cert.KernelIdeal Cert.KernelIdeal.Gen
open Idealize.ShloMosaic Idealize.ShloMosaic.TcCoe Idealize.SL.Sem

noncomputable section

/-- A step of the program stands for a block of real numbers. -/
structure In.Is (x : In Ideal) (y : Spec.B) : Prop where
  eps : y.eps = Body.eps
  first : (x.first = 0#32 ∧ y.first = 0) ∨ (x.first = 128#32 ∧ y.first = 128)
  q : Body.Is x.q y.q
  k : Body.Is x.k' y.k
  v : Body.Is x.v' y.v
  gate : Body.Is x.gate' y.gate
  dag : Body.Is x.dag y.dag
  qw : Body.Is x.qw (fun _ c => y.qw c)
  kw : Body.Is x.kw (fun _ c => y.kw c)
  gm : Body.Is x.gm avg
  sk : ∀ h : Fin 16, x.sk h = ((y.sk h.val : ℝ) : EReal)

theorem band_bit (i : Fin 128) (s : Fin 256) :
    IntOp.andi
      (IntOp.cmpi CmpIPredicate.sge (IntOp.subi (IntOp.addi (BitVec.ofNat 32 i.val) 128#32) (BitVec.ofNat 32 s.val)) 0#32)
      (IntOp.cmpi CmpIPredicate.slt (IntOp.subi (IntOp.addi (BitVec.ofNat 32 i.val) 128#32) (BitVec.ofNat 32 s.val)) 128#32)
      = BitVec.ofBool (decide (s.val ≤ i.val + 128 ∧ i.val < s.val)) := by
  revert i s; decide +kernel

theorem first_bit0 (s : Fin 256) : IntOp.cmpi CmpIPredicate.sge (BitVec.ofNat 32 s.val) 0#32 = BitVec.ofBool (decide (0 ≤ s.val)) := by
  revert s; decide +kernel
theorem first_bit1 (s : Fin 256) : IntOp.cmpi CmpIPredicate.sge (BitVec.ofNat 32 s.val) 128#32 = BitVec.ofBool (decide (128 ≤ s.val)) := by
  revert s; decide +kernel

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem sees_bit (i s f : ℕ) : BitVec.ofBool (decide ((s ≤ i + 128 ∧ i < s) ∧ f ≤ s)) = BitVec.ofBool (decide (Spec.sees f i s)) := by
  exact congrArg _ (decide_eq_decide.2 and_assoc)

namespace In.Is
variable {x : In Ideal} {y : Spec.B} (h : x.Is y)
include h

theorem vis (i : Fin 128) (s : Fin 256) : x.vis (ix2 i s) = BitVec.ofBool (decide (Spec.sees y.first i.val s.val)) := by
  unfold In.vis
  pointwise [k0_pay14, k0_pay12, k0_pay13]
  rw [band_bit]
  rcases h.first with ⟨h1, h2⟩ | ⟨h1, h2⟩
  · rw [h1, h2, first_bit0, and_bit, sees_bit]
  · rw [h1, h2, first_bit1, and_bit, sees_bit]

theorem q' : Body.Is x.q' y.q := by
  intro i c; unfold In.q'; pointwise [k0_pay11]; exact h.q i c
theorem dag' : Body.Is x.dag' y.dag := by
  intro i c; unfold In.dag'; pointwise [k0_pay7]; exact h.dag i c
theorem qw' : Body.Is x.qw' (fun _ c => y.qw c) := by
  intro i c; unfold In.qw'; pointwise [k0_pay8]; exact h.qw _ c
theorem kw' : Body.Is x.kw' (fun _ c => y.kw c) := by
  intro i c; unfold In.kw'; pointwise [k0_pay9]; exact h.kw _ c
theorem gm' : Body.Is x.gm' avg := by
  intro i c; unfold In.gm'; pointwise [k0_pay10]; exact h.gm _ c

theorem rq : Body.Is x.rq (Spec.rstd y.eps y.q) := by
  rw [h.eps]; exact rstd1024_is h.q' h.gm'
theorem qn : Body.Is x.qn y.qn := mul_is h.q' h.rq
theorem qh : Body.Is x.qh y.qh := round_is (scaled1024_is h.qn h.qw')
theorem rk : Body.Is x.rk (Spec.rstd y.eps y.k) := by
  rw [h.eps]; exact rstd256_is h.k h.gm'
theorem kn : Body.Is x.kn y.kn := mul_is h.k h.rk
theorem kh : Body.Is x.kh y.kh := scaled256_is h.kn h.kw'

theorem g0 : x.g0.Is (y.grp 0) where
  vis := h.vis
  q := (col0_is h.qh).congr fun i c _ _ => congrArg (y.qh i) (by omega)
  k := diag_is ((spreadFst_is (half0_is h.kh)).congr fun s c _ _ => congrArg (y.kh s) (by omega))
  v := diag_is ((spreadFst_is (half0_is h.v)).congr fun s c _ _ => congrArg (y.v s) (by omega))
  gate := (col0_is h.gate).congr fun i c _ _ => congrArg (y.gate i) (by omega)
  dag := (col0_is h.dag').congr fun i c _ _ => congrArg (y.dag i) (by omega)
  s0 := h.sk _
  s1 := h.sk _
  s2 := h.sk _
  s3 := h.sk _

theorem g1 : x.g1.Is (y.grp 1) where
  vis := h.vis
  q := (col1_is h.qh).congr fun i c _ _ => congrArg (y.qh i) (by omega)
  k := diag_is ((spreadSnd_is (half0_is h.kh)).congr fun s c _ _ => congrArg (y.kh s) (by omega))
  v := diag_is ((spreadSnd_is (half0_is h.v)).congr fun s c _ _ => congrArg (y.v s) (by omega))
  gate := (col1_is h.gate).congr fun i c _ _ => congrArg (y.gate i) (by omega)
  dag := (col1_is h.dag').congr fun i c _ _ => congrArg (y.dag i) (by omega)
  s0 := h.sk _
  s1 := h.sk _
  s2 := h.sk _
  s3 := h.sk _

theorem g2 : x.g2.Is (y.grp 2) where
  vis := h.vis
  q := (col2_is h.qh).congr fun i c _ _ => congrArg (y.qh i) (by omega)
  k := diag_is ((spreadFst_is (half1_is h.kh)).congr fun s c _ _ => congrArg (y.kh s) (by omega))
  v := diag_is ((spreadFst_is (half1_is h.v)).congr fun s c _ _ => congrArg (y.v s) (by omega))
  gate := (col2_is h.gate).congr fun i c _ _ => congrArg (y.gate i) (by omega)
  dag := (col2_is h.dag').congr fun i c _ _ => congrArg (y.dag i) (by omega)
  s0 := h.sk _
  s1 := h.sk _
  s2 := h.sk _
  s3 := h.sk _

theorem g3 : x.g3.Is (y.grp 3) where
  vis := h.vis
  q := (col3_is h.qh).congr fun i c _ _ => congrArg (y.qh i) (by omega)
  k := diag_is ((spreadSnd_is (half1_is h.kh)).congr fun s c _ _ => congrArg (y.kh s) (by omega))
  v := diag_is ((spreadSnd_is (half1_is h.v)).congr fun s c _ _ => congrArg (y.v s) (by omega))
  gate := (col3_is h.gate).congr fun i c _ _ => congrArg (y.gate i) (by omega)
  dag := (col3_is h.dag').congr fun i c _ _ => congrArg (y.dag i) (by omega)
  s0 := h.sk _
  s1 := h.sk _
  s2 := h.sk _
  s3 := h.sk _

theorem dqh : Body.Is x.dqh y.dqh :=
  wide_is
    ((h.g0.dq).congr fun i c _ hc => by
      unfold hd Spec.B.dqh
      rw [show c / 256 = 0 by omega, show c % 256 / 64 = c / 64 by omega])
    ((h.g1.dq).congr fun i c _ hc => by
      unfold hd Spec.B.dqh
      rw [show (256 + c) / 256 = 1 by omega, show (256 + c) % 256 / 64 = c / 64 by omega, show (256 + c) % 64 = c % 64 by omega])
    ((h.g2.dq).congr fun i c _ hc => by
      unfold hd Spec.B.dqh
      rw [show (512 + c) / 256 = 2 by omega, show (512 + c) % 256 / 64 = c / 64 by omega, show (512 + c) % 64 = c % 64 by omega])
    ((h.g3.dq).congr fun i c _ hc => by
      unfold hd Spec.B.dqh
      rw [show (768 + c) / 256 = 3 by omega, show (768 + c) % 256 / 64 = c / 64 by omega, show (768 + c) % 64 = c % 64 by omega])

theorem dgate : Body.Is x.outGate y.dgate := by
  have e : Body.Is (wide x.g0.dgate x.g1.dgate x.g2.dgate x.g3.dgate) y.dgate := wide_is
    ((h.g0.dgate).congr fun i c _ hc => by
      unfold hd Spec.B.dgate
      rw [show c / 256 = 0 by omega, show c % 256 / 64 = c / 64 by omega])
    ((h.g1.dgate).congr fun i c _ hc => by
      unfold hd Spec.B.dgate
      rw [show (256 + c) / 256 = 1 by omega, show (256 + c) % 256 / 64 = c / 64 by omega, show (256 + c) % 64 = c % 64 by omega])
    ((h.g2.dgate).congr fun i c _ hc => by
      unfold hd Spec.B.dgate
      rw [show (512 + c) / 256 = 2 by omega, show (512 + c) % 256 / 64 = c / 64 by omega, show (512 + c) % 64 = c % 64 by omega])
    ((h.g3.dgate).congr fun i c _ hc => by
      unfold hd Spec.B.dgate
      rw [show (768 + c) / 256 = 3 by omega, show (768 + c) % 256 / 64 = c / 64 by omega, show (768 + c) % 64 = c % 64 by omega])
  have e' := round_is e
  intro i c
  have := e' i c
  unfold In.outGate wide at *
  pointwise [k0_pay2]
  pointwise at this
  exact this

theorem gqw (c : Fin 1024) : x.gqw (ix2 0 c) = ((y.gqw c.val : ℝ) : EReal) := by
  have e := mul_is h.dqh h.qn
  pointwise [In.gqw]
  simp only [h.dqh _ _, h.qn _ _, ← EReal.coe_mul, coe_sum]; rfl

theorem dqn : Body.Is x.dqn y.dqn := scaled1024_is h.dqh h.qw'
theorem dq : Body.Is x.dq y.dq :=
  mul_is h.rq (sub_is h.dqn (mul_is h.qn (headMean1024_is (mul_is h.dqn h.qn) h.gm')))
theorem outQ : Body.Is x.outQ y.dq := by
  intro i c
  unfold In.outQ
  pointwise [k0_pay353]
  exact h.dq i c
theorem dkh : Body.Is x.dkh y.dkh :=
  join_is (f := fun g s d => (y.grp g).dk s d) h.g0.dk h.g1.dk h.g2.dk h.g3.dk
theorem gkw (c : Fin 256) : x.gkw (ix2 0 c) = ((y.gkw c.val : ℝ) : EReal) := by
  pointwise [In.gkw]
  simp only [h.dkh _ _, h.kn _ _, ← EReal.coe_mul, coe_sum]; rfl
theorem dkn : Body.Is x.dkn y.dkn := scaled256_is h.dkh h.kw'
theorem dk : Body.Is x.dk y.dk :=
  mul_is h.rk (sub_is h.dkn (mul_is h.kn (headMean256_is (mul_is h.dkn h.kn) h.gm')))
theorem dv : Body.Is x.dv y.dv :=
  join_is (f := fun g s d => (y.grp g).dv s d) h.g0.dv h.g1.dv h.g2.dv h.g3.dv
theorem dkv : Body.Is x.dkv y.dkv := by
  intro s c
  unfold In.dkv Spec.B.dkv
  pointwise
  have := c.isLt
  split_ifs
  all_goals first
    | exact h.dk _ _
    | exact h.dv _ _
    | (exfalso; omega)
theorem carry : Body.Is x.carry (fun s c => y.dkv s c) := by
  intro s c
  unfold In.carry
  pointwise [k0_pay3]
  exact (h.dkv _ _).trans (by simp)
theorem outKV {ca : FVec Ideal S128x512 .f32} {f : ℕ → ℕ → ℝ} (hc : Body.Is ca f) : Body.Is (x.outKV ca) (fun i c => y.dkv (128 + i) c + f i c) := by
  intro i c
  unfold In.outKV
  pointwise [k0_pay1, k0_pay354]
  rw [EReal.coe_add, hc i c]
  exact congrArg (· + _) ((h.dkv _ _).trans (by simp))
theorem gs : Body.Is x.gs (fun r l => if l < 16 ∧ r = 0 then y.gs l else 0) := by
  have z : Body.Is (broadcast S8x128 (Scalar.ofBits .f32 0x00000000#32) : FVec Ideal S8x128 .f32) (fun _ _ => 0) := by
    intro r l; pointwise; rfl
  refine (h.g3.sinks 12 13 14 15 (h.g2.sinks 8 9 10 11 (h.g1.sinks 4 5 6 7 (h.g0.sinks 0 1 2 3 z)))).congr fun r l _ hl => ?_
  by_cases hr : r = 0
  swap
  · simp [hr]
  by_cases h16 : l < 16
  swap
  · have hn : ∀ n : Fin 16, ¬ l = n.val := fun n e => h16 (e ▸ n.isLt)
    have hm : ∀ n : ℕ, n < 16 → ¬ l = n := fun n hn e => h16 (e ▸ hn)
    simp [hn, hm, h16]
  subst hr
  simp only [and_true, h16, if_true]
  unfold Spec.B.gs
  interval_cases l <;> simp <;> rfl
end In.Is

end
end Cert.KernelIdeal.Body
end
-- ==== Proof.In0.lean ====
module

public import proofs.«01_k».proof.Proof.Outs
public import proofs.«01_k».proof.Proof.Real3

/-! What a grid step reads, element by element. -/

@[expose] public section

set_option maxRecDepth 16384

namespace Cert.KernelIdeal.Body
open Cert.KernelIdeal Cert.KernelIdeal.Gen
open Idealize.ShloMosaic Idealize.ShloMosaic.TcCoe Idealize.SL.Sem

noncomputable section

theorem steps (t : Fin cfg0.N) : t.val < 32 := lt_of_lt_of_eq t.isLt (by decide)

/-- Where each window's block sits. -/
theorem idx : ∀ t : Fin cfg0.N, win0_0.index t = ![31 - t.val, 0] ∧ win0_1.index t = ![31 - t.val - 1, 4]
    ∧ win0_2.index t = ![31 - t.val, 4] ∧ win0_3.index t = ![31 - t.val - 1, 5] ∧ win0_4.index t = ![31 - t.val, 5]
    ∧ win0_5.index t = ![31 - t.val, 3] ∧ win0_6.index t = ![31 - t.val, 4] ∧ win0_7.index t = ![31 - t.val, 0]
    ∧ win0_8.index t = ![0, 0] ∧ win0_9.index t = ![0, 0] ∧ win0_10.index t = ![0, 0] ∧ win0_11.index t = ![0] :=
  (by decide +kernel : ∀ t : Fin grid0.N, _)

section
variable {F : FTy → Type} [FloatOps F] [Named F]
variable (m : (ℓ : Loc nD τ sig) → Buf (Elt F) ℓ) (c : Dev nD) (t : Fin cfg0.N)

theorem X0_at (i : Fin 128) (j : Fin 1024) : X0_0 m c t (ix2 i j)
    = m ((c : Thread nD τ).loc main_arg0) (ix2 ⟨128 * (31 - t.val) + i.val, by have := steps t; omega⟩ ⟨j.val, by omega⟩) := by
  unfold X0_0 Pipeline.Window.fill
  rw [dif_pos (moved0_0 t _)]
  blk_ext [iblk, V, idx t]

theorem kp_at (i : Fin 128) (j : Fin 256) : iblk m c 1 t (ix2 i j)
    = m ((c : Thread nD τ).loc main_arg0) (ix2 ⟨128 * (31 - t.val - 1) + i.val, by have := steps t; omega⟩ ⟨1024 + j.val, by omega⟩) := by
  blk_ext [iblk, V, idx t]

theorem kc_at (i : Fin 128) (j : Fin 256) : iblk m c 2 t (ix2 i j)
    = m ((c : Thread nD τ).loc main_arg0) (ix2 ⟨128 * (31 - t.val) + i.val, by have := steps t; omega⟩ ⟨1024 + j.val, by omega⟩) := by
  blk_ext [iblk, V, idx t]

theorem vp_at (i : Fin 128) (j : Fin 256) : iblk m c 3 t (ix2 i j)
    = m ((c : Thread nD τ).loc main_arg0) (ix2 ⟨128 * (31 - t.val - 1) + i.val, by have := steps t; omega⟩ ⟨1280 + j.val, by omega⟩) := by
  blk_ext [iblk, V, idx t]

theorem vc_at (i : Fin 128) (j : Fin 256) : iblk m c 4 t (ix2 i j)
    = m ((c : Thread nD τ).loc main_arg0) (ix2 ⟨128 * (31 - t.val) + i.val, by have := steps t; omega⟩ ⟨1280 + j.val, by omega⟩) := by
  blk_ext [iblk, V, idx t]

theorem glo_at (i : Fin 128) (j : Fin 512) : iblk m c 5 t (ix2 i j)
    = m ((c : Thread nD τ).loc main_arg0) (ix2 ⟨128 * (31 - t.val) + i.val, by have := steps t; omega⟩ ⟨1536 + j.val, by omega⟩) := by
  blk_ext [iblk, V, idx t]

theorem ghi_at (i : Fin 128) (j : Fin 512) : iblk m c 6 t (ix2 i j)
    = m ((c : Thread nD τ).loc main_arg0) (ix2 ⟨128 * (31 - t.val) + i.val, by have := steps t; omega⟩ ⟨2048 + j.val, by omega⟩) := by
  blk_ext [iblk, V, idx t]

theorem dag_at (i : Fin 128) (j : Fin 1024) : iblk m c 7 t (ix2 i j)
    = m ((c : Thread nD τ).loc main_arg1) (ix2 ⟨128 * (31 - t.val) + i.val, by have := steps t; omega⟩ j) := by
  blk_ext [iblk, V, idx t]

theorem qw_at (j : Fin 1024) : iblk m c 8 t (ix2 0 j) = V m c main_v3 (ix2 0 j) := by
  blk_ext [iblk, idx t]
theorem kw_at (j : Fin 256) : iblk m c 9 t (ix2 0 j) = V m c main_v7 (ix2 0 j) := by
  blk_ext [iblk, idx t]
theorem gm_at (i j : Fin 256) : iblk m c 10 t (ix2 i j) = V m c main_v16 (ix2 i j) := by
  blk_ext [iblk, idx t]
theorem sk_at (j : Fin 16) : iblk m c 11 t (ix1 j) = m ((c : Thread nD τ).loc main_arg5) (ix1 j) := by
  blk_ext [iblk, V, idx t]

end

section
variable (m : (ℓ : Loc nD τ sig) → Buf (Elt Ideal) ℓ) (c : Dev nD)
theorem V3_at (j : Fin 1024) : V m c main_v3 (ix2 0 j) = m ((c : Thread nD τ).loc main_arg3) (ix1 ⟨j.val % 64, by omega⟩) := by
  unfold V
  simp only [hostOps0, hostOps0_1, hostOps0_2, hostOps0_3, hostOps0_4, List.flatten_cons, List.flatten_nil, List.append_nil, List.cons_append, List.nil_append]
  after_results
  pointwise
theorem V7_at (j : Fin 256) : V m c main_v7 (ix2 0 j) = m ((c : Thread nD τ).loc main_arg4) (ix1 ⟨j.val % 64, by omega⟩) := by
  unfold V
  simp only [hostOps0, hostOps0_1, hostOps0_2, hostOps0_3, hostOps0_4, List.flatten_cons, List.flatten_nil, List.append_nil, List.cons_append, List.nil_append]
  after_results
  pointwise
/-- A column's head, as the host computes it. -/
theorem floor_bits (i : Fin 256) :
    Scalar.select
      (IntOp.andi
        (IntOp.cmpi CmpIPredicate.ne
          (if BitVec.ofNat 32 i.val = 0 then 0 else if (BitVec.ofNat 32 i.val).msb = true then -1 else 1 : BitVec 32)
          (if 64#32 = 0 then 0 else if (64#32).msb = true then -1 else 1 : BitVec 32))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by
  revert i; decide +kernel

theorem eq_bits (a b : Fin 4) : IntOp.cmpi CmpIPredicate.eq (BitVec.ofNat 32 a.val) (BitVec.ofNat 32 b.val) = BitVec.ofBool (decide (a.val = b.val)) := by
  revert a b; decide +kernel

theorem ofBits_64th : Ideal.ofBits .f32 0x3C800000#32 = ((1 / 64 : ℝ) : EReal) := by
  simp [Ideal.ofBits, Ideal.ieee, -EReal.coe_mul]
  norm_num

theorem V16_at (i j : Fin 256) : V m c main_v16 (ix2 i j) = ((avg i.val j.val : ℝ) : EReal) := by
  unfold V
  simp only [hostOps0, hostOps0_1, hostOps0_2, hostOps0_3, hostOps0_4, List.flatten_cons, List.flatten_nil, List.append_nil, List.cons_append, List.nil_append]
  after_results
  simp only [StableHlo.TRef.ofBuf, StableHlo.TRef.toBuf, cast_eq, id]
  pointwise
  have e := eq_bits ⟨i.val / 64, by omega⟩ ⟨j.val / 64, by omega⟩
  dsimp only at e
  refine (congrArg₂ (fun a b => Scalar.select (IntOp.cmpi CmpIPredicate.eq a b) (Ideal.ofBits .f32 0x3C800000#32) (0 : EReal)) (floor_bits i) (floor_bits j)).trans ?_
  rw [select_bit e, ofBits_64th]
  unfold avg
  split_ifs <;> rfl

theorem V17_at (i : Fin 4096) (j : Fin 8704) : V m c main_v17_0 (ix2 i j) = m ((c : Thread nD τ).loc main_arg2) (ix2 i j) := by
  unfold V
  simp only [hostOps0, hostOps0_1, hostOps0_2, hostOps0_3, hostOps0_4, List.flatten_cons, List.flatten_nil, List.append_nil, List.cons_append, List.nil_append]
  after_results
  rfl

/-- The arrays of a launch hold the real numbers of a table. -/
structure Holds (m : (ℓ : Loc nD τ sig) → Buf (Elt Ideal) ℓ) (c : Dev nD) (x : Spec.T) : Prop where
  eps : x.eps = Body.eps
  proj : ∀ (n : Fin 4096) (j : Fin 8704), m ((c : Thread nD τ).loc main_arg0) (ix2 n j) = ((x.proj n.val j.val : ℝ) : EReal)
  dag : ∀ (n : Fin 4096) (j : Fin 1024), m ((c : Thread nD τ).loc main_arg1) (ix2 n j) = ((x.dag n.val j.val : ℝ) : EReal)
  qw : ∀ j : Fin 64, m ((c : Thread nD τ).loc main_arg3) (ix1 j) = ((x.qw j.val : ℝ) : EReal)
  kw : ∀ j : Fin 64, m ((c : Thread nD τ).loc main_arg4) (ix1 j) = ((x.kw j.val : ℝ) : EReal)
  sk : ∀ j : Fin 16, m ((c : Thread nD τ).loc main_arg5) (ix1 j) = ((x.sk j.val : ℝ) : EReal)

theorem first_bits : ∀ t : Fin cfg0.N,
    (Scalar.select (Scalar.cmpi .eq (Scalar.subi 31#32 (BitVec.ofNat 32 (grid0.coords t 0).val)) 0#32) 128#32 0#32 : BitVec 32)
      = if 31 - t.val = 0 then 128#32 else 0#32 := (by decide +kernel : ∀ t : Fin grid0.N, _)

theorem first_is {x : Spec.T} (t : Fin cfg0.N) :
    ((inAt m c t).first = 0#32 ∧ (x.blk (31 - t.val)).first = 0) ∨ ((inAt m c t).first = 128#32 ∧ (x.blk (31 - t.val)).first = 128) := by
  have e := first_bits t
  unfold inAt
  dsimp only
  rw [e]
  unfold Spec.T.blk
  by_cases hz : 31 - t.val = 0
  · right; simp [hz]
  · left; simp [hz]

theorem k'_rows {x : In Ideal} {f : ℕ → ℕ → ℝ} (h1 : Is x.kp (fun i j => f i j)) (h2 : Is x.kc (fun i j => f (128 + i) j)) : Is x.k' f := by
  intro s j
  unfold In.k'
  pointwise [k0_pay4]
  have := s.isLt
  split_ifs
  all_goals first
    | exact h1 _ _
    | exact (h2 _ _).trans (congrArg (fun n => ((f n j.val : ℝ) : EReal)) (by (try dsimp only); omega))

theorem k'_is {x : Spec.T} (h : Holds m c x) (t : Fin cfg0.N) : Is (inAt m c t).k' (x.blk (31 - t.val)).k := by
  refine k'_rows (Is.congr (fun i j => (kp_at m c t i j).trans (h.proj _ _)) (g := fun i j => x.proj (Spec.T.keyRow (31 - t.val) i) (1024 + j)) (f := fun i j => x.proj (128 * (31 - t.val - 1) + i) (1024 + j)) fun i j hi _ => ?_)
    (Is.congr (fun i j => (kc_at m c t i j).trans (h.proj _ _)) (g := fun i j => x.proj (Spec.T.keyRow (31 - t.val) (128 + i)) (1024 + j)) (f := fun i j => x.proj (128 * (31 - t.val) + i) (1024 + j)) fun i j _ _ => ?_)
  · unfold Spec.T.keyRow; rw [if_pos hi]
  · unfold Spec.T.keyRow; rw [if_neg (by omega), Nat.add_sub_cancel_left]

theorem v'_rows {x : In Ideal} {f : ℕ → ℕ → ℝ} (h1 : Is x.vp (fun i j => f i j)) (h2 : Is x.vc (fun i j => f (128 + i) j)) : Is x.v' f := by
  intro s j
  unfold In.v'
  pointwise [k0_pay5]
  have := s.isLt
  split_ifs
  all_goals first
    | exact h1 _ _
    | exact (h2 _ _).trans (congrArg (fun n => ((f n j.val : ℝ) : EReal)) (by (try dsimp only); omega))

theorem v'_is {x : Spec.T} (h : Holds m c x) (t : Fin cfg0.N) : Is (inAt m c t).v' (x.blk (31 - t.val)).v := by
  refine v'_rows (Is.congr (fun i j => (vp_at m c t i j).trans (h.proj _ _)) (g := fun i j => x.proj (Spec.T.keyRow (31 - t.val) i) (1280 + j)) (f := fun i j => x.proj (128 * (31 - t.val - 1) + i) (1280 + j)) fun i j hi _ => ?_)
    (Is.congr (fun i j => (vc_at m c t i j).trans (h.proj _ _)) (g := fun i j => x.proj (Spec.T.keyRow (31 - t.val) (128 + i)) (1280 + j)) (f := fun i j => x.proj (128 * (31 - t.val) + i) (1280 + j)) fun i j _ _ => ?_)
  · unfold Spec.T.keyRow; rw [if_pos hi]
  · unfold Spec.T.keyRow; rw [if_neg (by omega), Nat.add_sub_cancel_left]

theorem gate'_cols {x : In Ideal} {f : ℕ → ℕ → ℝ} (h1 : Is x.glo (fun i j => f i j)) (h2 : Is x.ghi (fun i j => f i (512 + j))) : Is x.gate' f := by
  intro i j
  unfold In.gate'
  pointwise [k0_pay6]
  have := j.isLt
  split_ifs
  all_goals first
    | exact h1 _ _
    | exact (h2 _ _).trans (congrArg (fun n => ((f i.val n : ℝ) : EReal)) (by (try dsimp only); omega))

theorem gate'_is {x : Spec.T} (h : Holds m c x) (t : Fin cfg0.N) : Is (inAt m c t).gate' (x.blk (31 - t.val)).gate :=
  gate'_cols (fun i j => (glo_at m c t i j).trans (h.proj _ _))
    (Is.congr (fun i j => (ghi_at m c t i j).trans (h.proj _ _)) (g := fun i j => x.proj (128 * (31 - t.val) + i) (1536 + (512 + j))) (f := fun i j => x.proj (128 * (31 - t.val) + i) (2048 + j))
      fun i j _ _ => congrArg (x.proj _) (by omega))

theorem q_is {x : Spec.T} (h : Holds m c x) (t : Fin cfg0.N) : Is (inAt m c t).q (x.blk (31 - t.val)).q :=
  fun i j => (X0_at m c t i j).trans (h.proj _ _)
theorem dag_is {x : Spec.T} (h : Holds m c x) (t : Fin cfg0.N) : Is (inAt m c t).dag (x.blk (31 - t.val)).dag :=
  fun i j => (dag_at m c t i j).trans (h.dag _ _)
theorem qw_is {x : Spec.T} (h : Holds m c x) (t : Fin cfg0.N) : Is (inAt m c t).qw (fun _ j => (x.blk (31 - t.val)).qw j) := by
  intro i j
  have hi : i = 0 := Fin.ext (by omega)
  subst hi
  exact (qw_at m c t j).trans ((V3_at m c j).trans (h.qw _))
theorem kw_is {x : Spec.T} (h : Holds m c x) (t : Fin cfg0.N) : Is (inAt m c t).kw (fun _ j => (x.blk (31 - t.val)).kw j) := by
  intro i j
  have hi : i = 0 := Fin.ext (by omega)
  subst hi
  exact (kw_at m c t j).trans ((V7_at m c j).trans (h.kw _))
theorem gm_is (t : Fin cfg0.N) : Is (inAt m c t).gm avg :=
  fun i j => (gm_at m c t i j).trans (V16_at m c i j)
theorem sk_is {x : Spec.T} (h : Holds m c x) (t : Fin cfg0.N) (j : Fin 16) : (inAt m c t).sk j = (((x.blk (31 - t.val)).sk j.val : ℝ) : EReal) :=
  (sk_at m c t j).trans (h.sk j)

variable {m c} in
/-- The step at point `t` reads block `31 - t`. -/
theorem inAt_is {x : Spec.T} (h : Holds m c x) (t : Fin cfg0.N) : (inAt m c t).Is (x.blk (31 - t.val)) :=
  ⟨h.eps, first_is m c t, q_is m c h t, k'_is m c h t, v'_is m c h t, gate'_is m c h t, dag_is m c h t, qw_is m c h t, kw_is m c h t,
    gm_is m c t, sk_is m c h t⟩

end

end
end Cert.KernelIdeal.Body
end
-- ==== Proof.Run0.lean ====
module

public import proofs.«01_k».proof.Proof.In0

/-! What the arrays hold after the run, as real numbers. -/

@[expose] public section

set_option maxRecDepth 16384

namespace Cert.KernelIdeal.Body
open Cert.KernelIdeal Cert.KernelIdeal.Gen
open Idealize.ShloMosaic Idealize.ShloMosaic.TcCoe Idealize.SL.Sem

noncomputable section

theorem Is.at {a b : ℕ} {t : FTy} {X : FVec Ideal ⟨2, ![a, b]⟩ t} {f : ℕ → ℕ → ℝ} (h : Is X f) (j : Shape.Idx ⟨2, ![a, b]⟩) :
    X j = ((f (j 0).val (j 1).val : ℝ) : EReal) := by
  have e : j = ix2 (⟨(j 0).val, (j 0).isLt⟩ : Fin a) (⟨(j 1).val, (j 1).isLt⟩ : Fin b) := by
    funext k
    match k with
    | ⟨0, _⟩ => rfl
    | ⟨1, _⟩ => rfl
  exact (congrArg X e).trans (h _ _)

/-- The tile of a step in real numbers, over what the step before left. -/
def tileR (y : Spec.B) (f : ℕ → ℕ → ℝ) (i c : ℕ) : ℝ :=
  if c < 1024 then y.dq i c else if c < 1536 then y.dkv (128 + i) (c - 1024) + f i (c - 1024) else y.dgate i (c - 1536)

theorem tile_is {x : In Ideal} {y : Spec.B} (h : x.Is y) {ca : FVec Ideal S128x512 .f32} {f : ℕ → ℕ → ℝ} (hc : Is ca f) :
    Is (x.tile ca) (tileR y f) := by
  have key : ∀ j : S128x2560.Idx, x.tile ca j = ((tileR y f (j 0).val (j 1).val : ℝ) : EReal) := by
    intro j
    unfold In.tile
    have e1 := h.dgate
    have e2 := h.outKV hc
    have e3 := h.outQ
    canon_tiles j h using (View.cover_of_tiledBy _ ![128, 512] (by sl_kernel_rfl) j)
    · rw [e1.at j, h0, h1]
      unfold tileR
      rw [if_neg (by omega), if_neg (by omega), Nat.add_sub_cancel_left]
    · rw [e2.at j, h0, h1]
      unfold tileR
      rw [if_neg (by omega), if_pos (by omega), Nat.add_sub_cancel_left]
    · rw [e3.at j, h0, h1]
      unfold tileR
      rw [if_pos (by omega)]
  exact fun i j => key (ix2 i j)

/-- A row of reals. -/
def IsR {b : ℕ} (x : FVec Ideal ⟨2, ![1, b]⟩ .f32) (f : ℕ → ℝ) : Prop := ∀ j : Fin b, x (ix2 0 j) = ((f j.val : ℝ) : EReal)

section
variable {m : (ℓ : Loc nD τ sig) → Buf (Elt Ideal) ℓ} {c : Dev nD} {x : Spec.T} (h : Holds m c x)
include h

theorem carry_is (n : ℕ) (hn : n < cfg0.N) : Is (t := .f32) (outsAt0 m c n hn).2.2.2.2 (x.blk (31 - n)).dkv := by
  have hs := steps ⟨n, hn⟩
  have e := (inAt_is h ⟨n, hn⟩).carry
  by_cases h1 : 1 ≤ n
  · exact (carry_later m c ⟨n, hn⟩ (by dsimp only at *; omega) h1) ▸ e
  · exact (carry_first m c ⟨n, hn⟩ (by dsimp only at *; omega) h1) ▸ e

theorem zero_is : Is (k0_pay346 : FVec Ideal S128x512 .f32) (fun _ _ => 0) := by
  intro i j
  pointwise [k0_pay346]
  rfl

theorem tile_out (n : ℕ) (hn : n < cfg0.N) : Is (t := .bf16) (outsAt0 m c n hn).1 (fun i j => x.dproj (128 * (31 - n) + i) j) := by
  have hs := steps ⟨n, hn⟩
  have e := inAt_is h ⟨n, hn⟩
  dsimp only at hs
  by_cases h1 : 1 ≤ n
  · have hm : ¬ n % 32 = 0 := by omega
    have k : Is (t := .bf16) (outsAt0 m c n hn).1 (tileR (x.blk (31 - n)) (x.blk (31 - (n - 1))).dkv) := (tile_later m c ⟨n, hn⟩ hm h1) ▸ tile_is e (carry_is h (n - 1) _)
    refine k.congr fun i j hi _ => ?_
    unfold tileR Spec.T.dproj Spec.T.dkv
    rw [show (128 * (31 - n) + i) / 128 = 31 - n by omega, show (128 * (31 - n) + i) % 128 = i by omega,
      show 31 - (n - 1) = 31 - n + 1 by omega, if_pos (show 31 - n < 31 by omega)]
  · have hm : n % 32 = 0 := by omega
    have k : Is (t := .bf16) (outsAt0 m c n hn).1 (tileR (x.blk (31 - n)) (fun _ _ => 0)) := (tile_first m c ⟨n, hn⟩ hm h1) ▸ tile_is e (zero_is h)
    refine k.congr fun i j hi _ => ?_
    unfold tileR Spec.T.dproj Spec.T.dkv
    rw [show (128 * (31 - n) + i) / 128 = 31 - n by omega, show (128 * (31 - n) + i) % 128 = i by omega,
      if_neg (show ¬ 31 - n < 31 by omega)]

theorem gqw_out (n : ℕ) (hn : n < cfg0.N) : IsR (outsAt0 m c n hn).2.1 (fun j => ∑ t ∈ Finset.range (n + 1), (x.blk (31 - t)).gqw j) := by
  induction n with
  | zero =>
    intro j
    have e := (inAt_is h ⟨0, hn⟩).gqw j
    rw [gqw_first m c ⟨0, hn⟩ rfl (show ¬ 1 ≤ 0 by decide)]
    generalize (inAt m c ⟨0, hn⟩).gqw = X at e ⊢
    pointwise [k0_pay347]
    rw [e]
    simp
  | succ n ih =>
    intro j
    have hs := steps ⟨n + 1, hn⟩
    dsimp only at hs
    have e := (inAt_is h ⟨n + 1, hn⟩).gqw j
    have e' := ih (Nat.lt_of_succ_lt hn) j
    rw [gqw_later m c ⟨n + 1, hn⟩ (by dsimp only; omega) (by dsimp only; omega)]
    generalize (inAt m c ⟨n + 1, hn⟩).gqw = X at e ⊢
    pointwise [k0_pay350]
    rw [e]
    refine (congrArg (· + _) e').trans ?_
    rw [← EReal.coe_add, Finset.sum_range_succ _ (n + 1)]

theorem gkw_out (n : ℕ) (hn : n < cfg0.N) : IsR (outsAt0 m c n hn).2.2.1 (fun j => ∑ t ∈ Finset.range (n + 1), (x.blk (31 - t)).gkw j) := by
  induction n with
  | zero =>
    intro j
    have e := (inAt_is h ⟨0, hn⟩).gkw j
    rw [gkw_first m c ⟨0, hn⟩ rfl (show ¬ 1 ≤ 0 by decide)]
    generalize (inAt m c ⟨0, hn⟩).gkw = X at e ⊢
    pointwise [k0_pay348]
    rw [e]
    simp
  | succ n ih =>
    intro j
    have hs := steps ⟨n + 1, hn⟩
    dsimp only at hs
    have e := (inAt_is h ⟨n + 1, hn⟩).gkw j
    have e' := ih (Nat.lt_of_succ_lt hn) j
    rw [gkw_later m c ⟨n + 1, hn⟩ (by dsimp only; omega) (by dsimp only; omega)]
    generalize (inAt m c ⟨n + 1, hn⟩).gkw = X at e ⊢
    pointwise [k0_pay351]
    rw [e]
    refine (congrArg (· + _) e').trans ?_
    rw [← EReal.coe_add, Finset.sum_range_succ _ (n + 1)]

theorem gs_out (n : ℕ) (hn : n < cfg0.N) : Is (t := .f32) (outsAt0 m c n hn).2.2.2.1
    (fun r l => if l < 16 ∧ r = 0 then ∑ t ∈ Finset.range (n + 1), (x.blk (31 - t)).gs l else 0) := by
  induction n with
  | zero =>
    intro r l
    have e := (inAt_is h ⟨0, hn⟩).gs r l
    rw [gs_first m c ⟨0, hn⟩ rfl (show ¬ 1 ≤ 0 by decide)]
    generalize (inAt m c ⟨0, hn⟩).gs = X at e ⊢
    pointwise [k0_pay349]
    rw [e]
    simp
  | succ n ih =>
    intro r l
    have hs := steps ⟨n + 1, hn⟩
    dsimp only at hs
    have e := (inAt_is h ⟨n + 1, hn⟩).gs r l
    have e' := ih (Nat.lt_of_succ_lt hn) r l
    rw [gs_later m c ⟨n + 1, hn⟩ (by dsimp only; omega) (by dsimp only; omega)]
    generalize (inAt m c ⟨n + 1, hn⟩).gs = X at e ⊢
    pointwise [k0_pay352]
    rw [e]
    refine (congrArg (· + _) e').trans ?_
    rw [← EReal.coe_add]
    congr 1
    dsimp only
    split_ifs
    · rw [Finset.sum_range_succ _ (n + 1)]
    · simp

end

theorem sum_rev (f : ℕ → ℝ) : ∑ t ∈ Finset.range (31 + 1), f (31 - t) = ∑ b : Fin 32, f b.val := by
  rw [Finset.sum_range_reflect f 32, Fin.sum_univ_eq_sum_range f 32]

end
end Cert.KernelIdeal.Body
end
-- ==== Proof.Run1.lean ====
module

public import proofs.«01_k».proof.Proof.Run0

/-! The four arrays the program ends with. -/

@[expose] public section

set_option maxRecDepth 16384

noncomputable section

namespace Cert.KernelIdeal.Body
open Idealize.ShloMosaic Idealize.ShloMosaic.Pipeline Idealize.SL.Sem Idealize.ShloMosaic.View Cert.KernelIdeal Cert.KernelIdeal.Gen
open scoped BigOperators

/-- The last step of the grid. -/
def lastStep : Fin cfg0.N := ⟨31, by decide⟩

theorem V17 (m : (ℓ : Loc nD τ sig) → Buf (Elt Ideal) ℓ) (c : Dev nD) (j : S4096x8704.Idx) : V m c main_v17_0 j = m ((c.tc : Thread nD τ).loc main_arg2) j := by
  unfold V
  simp only [hostOps0, hostOps0_1, hostOps0_2, hostOps0_3, hostOps0_4, List.flatten_cons, List.flatten_nil, List.append_nil, List.cons_append, List.nil_append]
  after_results
  rfl

theorem idx12 : ∀ t : Fin cfg0.N, win0_12.index t = ![31 - t.val, 0] :=
  (by decide +kernel : ∀ t : Fin grid0.N, _)

theorem IsR.at {b : ℕ} {X : FVec Ideal ⟨2, ![1, b]⟩ .f32} {f : ℕ → ℝ} (h : IsR X f) (j : Shape.Idx ⟨2, ![1, b]⟩) :
    X j = ((f (j 1).val : ℝ) : EReal) := by
  have e : j = ix2 (0 : Fin 1) (⟨(j 1).val, (j 1).isLt⟩ : Fin b) := by
    funext k
    match k with
    | ⟨0, _⟩ => exact Subsingleton.elim (α := Fin 1) _ _
    | ⟨1, _⟩ => rfl
  exact (congrArg X e).trans (h _)

section
variable {m : (ℓ : Loc nD τ sig) → Buf (Elt Ideal) ℓ} {c : Dev nD} {x : Spec.T} (h : Holds m c x)
include h

theorem end_gqw : (dats m 0 c).arrAt 13 cfg0.N = fun i : S1x1024.Idx => ((x.gqw (i 1).val : ℝ) : EReal) := by
  refine (dats m 0 c).arrAt_eq_of_after_last 13 lastStep (by decide +kernel) _ (fun j => ?_)
  blk_simp
  rw [after0_13]
  exact ((gqw_out h 31 lastStep.isLt).at j).trans (congrArg _ (sum_rev fun b => (x.blk b).gqw (j 1).val))

theorem end_gkw : (dats m 0 c).arrAt 14 cfg0.N = fun i : S1x256.Idx => ((x.gkw (i 1).val : ℝ) : EReal) := by
  refine (dats m 0 c).arrAt_eq_of_after_last 14 lastStep (by decide +kernel) _ (fun j => ?_)
  blk_simp
  rw [after0_14]
  exact ((gkw_out h 31 lastStep.isLt).at j).trans (congrArg _ (sum_rev fun b => (x.blk b).gkw (j 1).val))

theorem end_gs : (dats m 0 c).arrAt 15 cfg0.N = fun i : S8x128.Idx => ((if (i 1).val < 16 ∧ (i 0).val = 0 then x.gs (i 1).val else 0 : ℝ) : EReal) := by
  refine (dats m 0 c).arrAt_eq_of_after_last 15 lastStep (by decide +kernel) _ (fun j => ?_)
  blk_simp
  rw [after0_15]
  refine ((gs_out h 31 lastStep.isLt).at j).trans (congrArg _ ?_)
  exact if_congr Iff.rfl (sum_rev fun b => (x.blk b).gs (j 1).val) rfl

theorem end_tile : (dats m 0 c).arrAt 12 cfg0.N = fun i : S4096x8704.Idx => if (i 1).val < 2560 then ((x.dproj (i 0).val (i 1).val : ℝ) : EReal) else m ((c.tc : Thread nD τ).loc main_arg2) i := by
  refine (dats m 0 c).arrAt_eq_of_coversWhere_of_agree 12 _ (fun β => β ⟨1, by decide⟩ < 1) (by decide +kernel) (fun t hf y => ?_) (fun j hj => ?_)
  · blk_simp
    rw [after0_12]
    have hs := steps t
    have e := idx12 t
    have e0 : win0_12.index t 0 = 31 - t.val := congrFun e 0
    have e1 : win0_12.index t 1 = 0 := congrFun e 1
    have hy : (y 1).val < 2560 := (y 1).isLt
    rw [e0, e1, if_pos (by omega)]
    refine ((tile_out h t.val t.isLt).at _).trans ?_
    dsimp only
    have a0 : ∀ u s : ℕ, 128 * u + s = u * 128 + s := fun u s => by omega
    have a1 : ∀ s : ℕ, s = 0 * 2560 + s := fun s => by omega
    exact congrArg (fun z : ℝ => (z : EReal)) (congrArg₂ x.dproj (a0 (31 - t.val) (y 0).val) (a1 (y 1).val))
  · blk_simp [Pipeline.Window.cell_apply] at hj
    blk_simp
    refine Eq.trans ?_ (if_neg (show ¬ (j 1).val < 2560 by omega)).symm
    rw [A_eq]
    exact V17 m c j
end
end Cert.KernelIdeal.Body
end
-- ==== Proof.RefSpec.lean ====
module

public import proofs.«01_k».proof.Proof.Spec

/-! The real numbers the reference computes: whole sequences at once, with zero keys before the first block. -/

@[expose] public section

noncomputable section

namespace Spec
namespace G
variable (x : G)
/-- The weights of the 256 keys and, last, of the sink. -/
def wt (r i s : ℕ) : ℝ := if s < 256 then x.pe r i s else Real.exp (x.sk r)
/-- The gradient of the softmax's entries: none for the sink's. -/
def ct (r i s : ℕ) : ℝ := if s < 256 then x.dp r i s else 0

theorem sum_wt (r i : ℕ) : ∑ s : Fin 257, x.wt r i s.val = x.den r i := by
  rw [Fin.sum_univ_castSucc]
  unfold den
  refine congrArg₂ (· + ·) (Finset.sum_congr rfl fun s _ => ?_) ?_
  · exact if_pos s.isLt
  · exact if_neg (lt_irrefl 256)

theorem sum_ct_wt (r i : ℕ) : ∑ s : Fin 257, x.ct r i s.val * x.wt r i s.val = x.dl r i * x.den r i := by
  rw [Fin.sum_univ_castSucc]
  unfold dl
  rw [Finset.sum_mul]
  refine (congrArg₂ (· + ·) (Finset.sum_congr rfl fun s _ => ?_) ?_).trans (add_zero _)
  · have e := (x.den_pos r i).ne'
    unfold ct wt p
    rw [Fin.val_castSucc, if_pos s.isLt, if_pos s.isLt]
    field_simp
  · unfold ct
    rw [if_neg (by simp), zero_mul]
end G

namespace T
variable (x : T)

/-- The entries of head `h` of row `n`, the heads starting at column `o`. -/
def hd (o n h d : ℕ) : ℝ := x.proj n (o + (h * 64 + d))
/-- The mean square of a head, and the epsilon. -/
def ms (o n h : ℕ) : ℝ := (∑ d : Fin 64, x.hd o n h d.val * x.hd o n h d.val) * (1 / 64) + x.eps
def rs (o n h : ℕ) : ℝ := (√(x.ms o n h))⁻¹
def nn (o n h d : ℕ) : ℝ := x.hd o n h d * x.rs o n h
def rq (n h d : ℕ) : ℝ := x.nn 0 n h d * x.qw d
def rk (n g d : ℕ) : ℝ := x.nn 1024 n g d * x.kw d
def rv (n g d : ℕ) : ℝ := x.hd 1280 n g d
/-- The 256 rows of a block, the 128 before it first; zero before the first block. -/
def prev (f : ℕ → ℕ → ℕ → ℝ) (b s g d : ℕ) : ℝ :=
  if s < 128 then (if b < 1 then 0 else f ((b - 1) * 128 + s) g d) else f (b * 128 + (s - 128)) g d
def rgrp (b g : ℕ) : G where
  first := if b = 0 then 128 else 0
  q r i d := x.rq (b * 128 + i) (g * 4 + r) d
  k s d := prev x.rk b s g d
  v s d := prev x.rv b s g d
  gate r i d := x.proj (b * 128 + i) (1536 + (g * 256 + r * 64 + d))
  dag r i d := x.dag (b * 128 + i) (g * 256 + r * 64 + d)
  sk r := x.sk (g * 4 + r)
/-- Gradients of the normalised queries, of the normalised keys and of the values, head by head. -/
def rdq (n h d : ℕ) : ℝ := (x.rgrp (n / 128) (h / 4)).dq (h % 4) (n % 128) d
def rdk (n g d : ℕ) : ℝ :=
  (x.rgrp (n / 128) g).dk (128 + n % 128) d + if n / 128 < 31 then (x.rgrp (n / 128 + 1) g).dk (n % 128) d else 0
def rdv (n g d : ℕ) : ℝ :=
  (x.rgrp (n / 128) g).dv (128 + n % 128) d + if n / 128 < 31 then (x.rgrp (n / 128 + 1) g).dv (n % 128) d else 0
/-- Half of what the mean square contributes to the gradient of a head's entry, before the entry itself. -/
def sq (o n h : ℕ) (f : ℕ → ℝ) : ℝ :=
  (∑ d : Fin 64, x.hd o n h d.val * f d.val) * (-(1 / 2) * (x.rs o n h * (1 / x.ms o n h))) * (1 / 64)
/-- The gradient of a head's entry, from the gradient of its normalised entries. -/
def back (o n h : ℕ) (f : ℕ → ℝ) (d : ℕ) : ℝ := f d * x.rs o n h + x.hd o n h d * x.sq o n h f + x.sq o n h f * x.hd o n h d
def ro (n c : ℕ) : ℝ := (x.rgrp (n / 128) (c / 256)).o (c / 64 % 4) (n % 128) (c % 64)
def rdgate (n c : ℕ) : ℝ :=
  x.ro n c * x.dag n c * sig (x.proj n (1536 + c)) + x.proj n (1536 + c) * (x.ro n c * x.dag n c) * (sig (x.proj n (1536 + c)) * (1 - sig (x.proj n (1536 + c))))
/-- The gradients of queries, keys, values and gates, by columns. -/
def rproj (n c : ℕ) : ℝ :=
  if c < 1024 then x.back 0 n (c / 64) (fun d => x.rdq n (c / 64) d * x.qw d) (c % 64)
  else if c < 1280 then x.back 1024 n ((c - 1024) / 64) (fun d => x.rdk n ((c - 1024) / 64) d * x.kw d) ((c - 1024) % 64)
  else if c < 1536 then x.rdv n ((c - 1280) / 64) ((c - 1280) % 64)
  else x.rdgate n (c - 1536)
def rgqw (c : ℕ) : ℝ := ∑ n : Fin 4096, x.nn 0 n.val (c / 64) (c % 64) * x.rdq n.val (c / 64) (c % 64)
def rgkw (c : ℕ) : ℝ := ∑ n : Fin 4096, x.nn 1024 n.val (c / 64) (c % 64) * x.rdk n.val (c / 64) (c % 64)
def rgs (h : ℕ) : ℝ := ∑ b : Fin 32, (x.rgrp b.val (h / 4)).gs (h % 4)
end T
end Spec
end
-- ==== Proof.Args.lean ====
module

public import proofs.«01_k».proof.Pre_finite
public import proofs.«01_k».proof.Proof.RefSpec
public import Idealize.ShloMosaic.Lib.Pointwise
public import Idealize.ShloMosaic.Lib.ReduceAll

/-! What the precondition says: the arguments are real numbers. -/

@[expose] public section

set_option maxRecDepth 16384

noncomputable section

namespace Cert.Args
open Idealize.ShloMosaic

theorem facts : Cert.Pre_finite.Facts :=
  ⟨by decide, by decide, by decide, by decide, by decide, by decide, by decide, by decide, by decide, by decide⟩

/-- An extended real whose absolute value compares below infinity is a real number. -/
theorem real_of (y : EReal) (e : FloatOps.cmpf (F := Ideal) (φ := .f32) .olt (FloatOps.hostAbsf (F := Ideal) (φ := .f32) y) (FloatOps.ofBits (F := Ideal) .f32 0x7F800000#32) = 1#1) : y = ((y.toReal : ℝ) : EReal) := by
  have hi : (FloatOps.ofBits (F := Ideal) .f32 0x7F800000#32 : EReal) = ⊤ := by
    simp [Ideal.ofBits, Ideal.ieee]
  rw [hi] at e
  change BitVec.ofBool (decide (max y (-y) < (⊤ : EReal))) = 1#1 at e
  have h : max y (-y) < (⊤ : EReal) := by
    by_contra hn
    rw [decide_eq_false hn] at e
    exact absurd e (by decide)
  refine (EReal.coe_toReal (fun h1 => ?_) fun h2 => ?_).symm
  · rw [h1] at h
    simp at h
  · rw [h2] at h
    simp at h

/-- The table of the arguments' real numbers; zero outside the arrays. -/
def tab (a0 : FVec Ideal Pre_finite.S4096x8704 .bf16) (a1 : FVec Ideal Pre_finite.S4096x1024 .bf16) (a3 a4 : FVec Ideal Pre_finite.S64 .f32) (a5 : FVec Ideal Pre_finite.S16 .f32) : Spec.T where
  eps := 8796093 / 2 ^ 43
  proj n j := if h : n < 4096 ∧ j < 8704 then (a0 (ix2 ⟨n, h.1⟩ ⟨j, h.2⟩) : EReal).toReal else 0
  dag n j := if h : n < 4096 ∧ j < 1024 then (a1 (ix2 ⟨n, h.1⟩ ⟨j, h.2⟩) : EReal).toReal else 0
  qw j := if h : j < 64 then (a3 (ix1 ⟨j, h⟩) : EReal).toReal else 0
  kw j := if h : j < 64 then (a4 (ix1 ⟨j, h⟩) : EReal).toReal else 0
  sk j := if h : j < 16 then (a5 (ix1 ⟨j, h⟩) : EReal).toReal else 0

variable (a0 : FVec Ideal Pre_finite.S4096x8704 .bf16) (a1 : FVec Ideal Pre_finite.S4096x1024 .bf16) (a2 : FVec Ideal Pre_finite.S4096x8704 .bf16)
  (a3 a4 : FVec Ideal Pre_finite.S64 .f32) (a5 : FVec Ideal Pre_finite.S16 .f32)

theorem tab_proj (n : Fin 4096) (j : Fin 8704) : (a0 (ix2 n j) : EReal).toReal = (tab a0 a1 a3 a4 a5).proj n.val j.val := by
  unfold tab
  dsimp only
  rw [dif_pos ⟨n.isLt, j.isLt⟩]
theorem tab_dag (n : Fin 4096) (j : Fin 1024) : (a1 (ix2 n j) : EReal).toReal = (tab a0 a1 a3 a4 a5).dag n.val j.val := by
  unfold tab
  dsimp only
  rw [dif_pos ⟨n.isLt, j.isLt⟩]
theorem tab_qw (j : Fin 64) : (a3 (ix1 j) : EReal).toReal = (tab a0 a1 a3 a4 a5).qw j.val := by
  unfold tab
  dsimp only
  rw [dif_pos j.isLt]
theorem tab_kw (j : Fin 64) : (a4 (ix1 j) : EReal).toReal = (tab a0 a1 a3 a4 a5).kw j.val := by
  unfold tab
  dsimp only
  rw [dif_pos j.isLt]
theorem tab_sk (j : Fin 16) : (a5 (ix1 j) : EReal).toReal = (tab a0 a1 a3 a4 a5).sk j.val := by
  unfold tab
  dsimp only
  rw [dif_pos j.isLt]

theorem all_real (h : @Cert.Pre_finite.fn facts Ideal _ a0 a1 a2 a3 a4 a5 = fun _ => 1#1) :
    (∀ i, (a0 i : EReal) = (((a0 i : EReal).toReal : ℝ) : EReal)) ∧ (∀ i, (a1 i : EReal) = (((a1 i : EReal).toReal : ℝ) : EReal)) ∧
    (∀ i, (a3 i : EReal) = (((a3 i : EReal).toReal : ℝ) : EReal)) ∧ (∀ i, (a4 i : EReal) = (((a4 i : EReal).toReal : ℝ) : EReal)) ∧
    (∀ i, (a5 i : EReal) = (((a5 i : EReal).toReal : ℝ) : EReal)) := by
  have e := congrFun h (fun a => a.elim0)
  unfold Cert.Pre_finite.fn Cert.Pre_finite.fn_part1 at e
  dsimp only at e
  obtain ⟨e, h5⟩ := IntOp.andi_eq_one.1 e
  obtain ⟨e, h4⟩ := IntOp.andi_eq_one.1 e
  obtain ⟨e, h3⟩ := IntOp.andi_eq_one.1 e
  obtain ⟨h0, h1⟩ := IntOp.andi_eq_one.1 e
  haveI : Subsingleton Pre_finite.S_.Idx := ⟨fun a b => funext fun k => k.elim0⟩
  refine ⟨fun i => real_of _ (Host.reduce_andi_all _ _ _ _ _ h0 i), fun i => real_of _ (Host.reduce_andi_all _ _ _ _ _ h1 i),
    fun i => real_of _ (Host.reduce_andi_all _ _ _ _ _ h3 i), fun i => real_of _ (Host.reduce_andi_all _ _ _ _ _ h4 i),
    fun i => real_of _ (Host.reduce_andi_all _ _ _ _ _ h5 i)⟩
end Cert.Args
end
-- ==== Proof.Ends.lean ====
module

public import proofs.«01_k».proof.Proof.Run1
public import proofs.«01_k».proof.Proof.Args

/-! The kernel's runs: how its four results end. -/

@[expose] public section

set_option maxRecDepth 16384

noncomputable section

namespace Cert.KernelIdeal.Body
open Cert.KernelIdeal Cert.KernelIdeal.Gen
open Idealize.ShloMosaic Idealize.ShloMosaic.TcCoe Idealize.SL.Sem

/-- The four results, from a device's table and the rows the kernel leaves as they were. -/
def res0 (x : Spec.T) (old : S4096x8704.Idx → EReal) : S4096x8704.Idx → EReal := fun i => if (i 1).val < 2560 then ((x.dproj (i 0).val (i 1).val : ℝ) : EReal) else old i
def res1 (x : Spec.T) : S1x1024.Idx → EReal := fun i => ((x.gqw (i 1).val : ℝ) : EReal)
def res2 (x : Spec.T) : S1x256.Idx → EReal := fun i => ((x.gkw (i 1).val : ℝ) : EReal)
def res3 (x : Spec.T) : S8x128.Idx → EReal := fun i => ((if (i 1).val < 16 ∧ (i 0).val = 0 then x.gs (i 1).val else 0 : ℝ) : EReal)

variable (m : (ℓ : Loc nD τ sig) → Buf (Elt Ideal) ℓ) (ρ : Dev nD → PrngReg)

/-- A device's table. -/
def table (c : Dev nD) : Spec.T := Args.tab (m ((c.tc : Thread nD τ).loc main_arg0)) (m ((c.tc : Thread nD τ).loc main_arg1))
  (m ((c.tc : Thread nD τ).loc main_arg3)) (m ((c.tc : Thread nD τ).loc main_arg4)) (m ((c.tc : Thread nD τ).loc main_arg5))

theorem holds (c : Dev nD) (h : @Cert.Pre_finite.fn Args.facts Ideal _ (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) = fun _ => 1#1) :
    Holds m c (table m c) := by
  obtain ⟨h0, h1, h3, h4, h5⟩ := Args.all_real _ _ _ _ _ _ h
  exact ⟨rfl, fun n j => (h0 _).trans (congrArg (fun z : ℝ => (z : EReal)) (Args.tab_proj _ _ _ _ _ n j)), fun n j => (h1 _).trans (congrArg (fun z : ℝ => (z : EReal)) (Args.tab_dag _ _ _ _ _ n j)),
    fun j => (h3 _).trans (congrArg (fun z : ℝ => (z : EReal)) (Args.tab_qw _ _ _ _ _ j)), fun j => (h4 _).trans (congrArg (fun z : ℝ => (z : EReal)) (Args.tab_kw _ _ _ _ _ j)),
    fun j => (h5 _).trans (congrArg (fun z : ℝ => (z : EReal)) (Args.tab_sk _ _ _ _ _ j))⟩

theorem ends (h : ∀ c, Holds m c (table m c)) : θ_run defs (onTc (τ := τ) (main (F := Ideal))) ⟨m, fun _ => 0, ρ⟩ (fun r => ∀ c : Dev nD,
      r.2.mem ((c.tc : Thread nD τ).loc main_v17_0) = res0 (table m c) (m ((c.tc : Thread nD τ).loc main_arg2))
      ∧ r.2.mem ((c.tc : Thread nD τ).loc main_v17_1) = res1 (table m c)
      ∧ r.2.mem ((c.tc : Thread nD τ).loc main_v17_2) = res2 (table m c)
      ∧ r.2.mem ((c.tc : Thread nD τ).loc main_v17_3) = res3 (table m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r e c => ⟨((e.1 c).1 12).trans (end_tile (h c)), ((e.1 c).1 13).trans (end_gqw (h c)),
    ((e.1 c).1 14).trans (end_gkw (h c)), ((e.1 c).1 15).trans (end_gs (h c)), e.2 c⟩)
    (θ_run_and (run_main m ρ) (unchanged m ρ))
end Cert.KernelIdeal.Body
end
-- ==== Proof.Ref0.lean ====
module

public import proofs.«01_k».proof.Proof.RefSpec
public import proofs.«01_k».proof.Proof.Gen.ReferenceIdeal.Run
public import Idealize.ShloMosaic.Lib.Pointwise

/-! The reference's values as real numbers: the normalised heads. -/

@[expose] public section

set_option maxRecDepth 16384

noncomputable section

namespace Cert.ReferenceIdeal.Body
open Cert.ReferenceIdeal Cert.ReferenceIdeal.Gen Cert.ReferenceIdeal.Value
open Idealize.ShloMosaic Idealize.ShloMosaic.TcCoe Idealize.SL.Sem
open scoped BigOperators

/-- The arguments hold the real numbers of `x`. -/
structure Holds (V0 : Valuation τ sig (Elt Ideal)) (x : Spec.T) : Prop where
  eps : x.eps = 8796093 / 2 ^ 43
  proj : ∀ (i : Fin 4096) (j : Fin 8704), V0 (Proc.devRef .tc main_arg0) (ix2 i j) = ((x.proj i.val j.val : ℝ) : EReal)
  dag : ∀ (i : Fin 4096) (j : Fin 1024), V0 (Proc.devRef .tc main_arg1) (ix2 i j) = ((x.dag i.val j.val : ℝ) : EReal)
  qw : ∀ j : Fin 64, V0 (Proc.devRef .tc main_arg3) (ix1 j) = ((x.qw j.val : ℝ) : EReal)
  kw : ∀ j : Fin 64, V0 (Proc.devRef .tc main_arg4) (ix1 j) = ((x.kw j.val : ℝ) : EReal)
  sk : ∀ j : Fin 16, V0 (Proc.devRef .tc main_arg5) (ix1 j) = ((x.sk j.val : ℝ) : EReal)

theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem ofBits_64 : Ideal.ofBits .f32 0x42800000#32 = ((64 : ℝ) : EReal) := by
  simp [Ideal.ofBits, Ideal.ieee, -EReal.coe_mul]; norm_num

theorem ofBits_eps : Ideal.ofBits .f32 0x358637BD#32 = ((8796093 / 2 ^ 43 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_mhalf : Ideal.ofBits .f32 0xBF000000#32 = ((-(1 / 2) : ℝ) : EReal) := by
  simp [Ideal.ofBits, Ideal.ieee, -EReal.coe_mul]; norm_num

theorem ofBits_minf : Ideal.ofBits .f32 0xFF800000#32 = ⊥ := by
  simp [Ideal.ofBits, Ideal.ieee]

variable {V0 : Valuation τ sig (Elt Ideal)} {x : Spec.T} (h : Holds V0 x)
include h

theorem ms_pos (o n k : ℕ) : 0 < x.ms o n k := by
  have e := h.eps
  unfold Spec.T.ms
  refine add_pos_of_nonneg_of_pos (mul_nonneg (Finset.sum_nonneg fun d _ => mul_self_nonneg _) (by norm_num)) ?_
  rw [e]; norm_num

theorem v2 (n : Fin 4096) (c : Fin 2560) : res_main_v2 V0 (ix3 (0 : Fin 1) n c) = ((x.proj n.val c.val : ℝ) : EReal) := by
  pointwise [res_main_v2]
  exact h.proj _ _

theorem v6 (n : Fin 4096) (c : Fin 1024) : res_main_v6 V0 (ix3 (0 : Fin 1) n c) = ((x.proj n.val (1536 + c.val) : ℝ) : EReal) := by
  pointwise [res_main_v6]
  exact v2 h _ _

theorem v9 (n : Fin 4096) (k : Fin 16) (d : Fin 64) : res_main_v9 V0 (ix4 (0 : Fin 1) n k d) = ((x.hd 0 n.val k.val d.val : ℝ) : EReal) := by
  pointwise [res_main_v9]
  refine (v2 h _ _).trans ?_
  unfold Spec.T.hd
  rw [Nat.zero_add]

theorem v16 (n : Fin 4096) (k : Fin 16) : res_main_v16 V0 (ix4 (0 : Fin 1) n k 0) = ((x.ms 0 n.val k.val : ℝ) : EReal) := by
  pointwise [res_main_v16]
  simp only [v9 h, ← EReal.coe_mul, coe_sum]
  rw [ofBits_64, ofBits_eps, Ideal.div_coe (by norm_num), ← EReal.coe_mul, ← EReal.coe_add, ← h.eps]
  rfl

theorem v17 (n : Fin 4096) (k : Fin 16) : res_main_v17 V0 (ix4 (0 : Fin 1) n k 0) = ((x.rs 0 n.val k.val : ℝ) : EReal) := by
  pointwise [res_main_v17]
  have e := ms_pos h 0 n.val k.val
  rw [v16 h, Ideal.rsqrt_coe, if_neg (not_lt.2 e.le), if_neg e.ne']
  rfl

theorem v22 (n : Fin 4096) (k : Fin 16) (d : Fin 64) : res_main_v22 V0 (ix4 (0 : Fin 1) n k d) = ((x.nn 0 n.val k.val d.val : ℝ) : EReal) := by
  pointwise [res_main_v22]
  rw [v9 h, v17 h, ← EReal.coe_mul]
  rfl

theorem v26 (n : Fin 4096) (k : Fin 4) (d : Fin 64) : res_main_v26 V0 (ix4 (0 : Fin 1) n k d) = ((x.hd 1024 n.val k.val d.val : ℝ) : EReal) := by
  pointwise [res_main_v26]
  refine (v2 h _ _).trans ?_
  unfold Spec.T.hd
  rfl

theorem v33 (n : Fin 4096) (k : Fin 4) : res_main_v33 V0 (ix4 (0 : Fin 1) n k 0) = ((x.ms 1024 n.val k.val : ℝ) : EReal) := by
  pointwise [res_main_v33]
  simp only [v26 h, ← EReal.coe_mul, coe_sum]
  rw [ofBits_64, ofBits_eps, Ideal.div_coe (by norm_num), ← EReal.coe_mul, ← EReal.coe_add, ← h.eps]
  rfl

theorem v34 (n : Fin 4096) (k : Fin 4) : res_main_v34 V0 (ix4 (0 : Fin 1) n k 0) = ((x.rs 1024 n.val k.val : ℝ) : EReal) := by
  pointwise [res_main_v34]
  have e := ms_pos h 1024 n.val k.val
  rw [v33 h, Ideal.rsqrt_coe, if_neg (not_lt.2 e.le), if_neg e.ne']
  rfl

theorem v39 (n : Fin 4096) (k : Fin 4) (d : Fin 64) : res_main_v39 V0 (ix4 (0 : Fin 1) n k d) = ((x.nn 1024 n.val k.val d.val : ℝ) : EReal) := by
  pointwise [res_main_v39]
  rw [v26 h, v34 h, ← EReal.coe_mul]
  rfl

theorem v23 (k : Fin 16) (d : Fin 64) : res_main_v23 V0 (ix4 (0 : Fin 1) (0 : Fin 1) k d) = ((x.qw d.val : ℝ) : EReal) := by
  pointwise [res_main_v23]
  exact h.qw _

theorem v40 (k : Fin 4) (d : Fin 64) : res_main_v40 V0 (ix4 (0 : Fin 1) (0 : Fin 1) k d) = ((x.kw d.val : ℝ) : EReal) := by
  pointwise [res_main_v40]
  exact h.kw _

theorem v44 (b : Fin 32) (i : Fin 128) (g r : Fin 4) (d : Fin 64) : res_main_v44 V0 (ix6 (0 : Fin 1) b i g r d)
    = (((x.rgrp b.val g.val).q r.val i.val d.val : ℝ) : EReal) := by
  pointwise [res_main_v44]
  rw [v22 h, v23 h, ← EReal.coe_mul]
  rfl

theorem v45 (b : Fin 32) (i : Fin 128) (g : Fin 4) (d : Fin 64) : res_main_v45 V0 (ix5 (0 : Fin 1) b i g d)
    = ((x.rk (b.val * 128 + i.val) g.val d.val : ℝ) : EReal) := by
  pointwise [res_main_v45]
  rw [v39 h, v40 h, ← EReal.coe_mul]
  rfl

theorem v46 (b : Fin 32) (i : Fin 128) (g : Fin 4) (d : Fin 64) : res_main_v46 V0 (ix5 (0 : Fin 1) b i g d)
    = ((x.rv (b.val * 128 + i.val) g.val d.val : ℝ) : EReal) := by
  pointwise [res_main_v46]
  refine (v2 h _ _).trans ?_
  rfl

theorem v57 (b : Fin 32) (s : Fin 256) (g : Fin 4) (d : Fin 64) : res_main_v57 V0 (ix5 (0 : Fin 1) b s g d)
    = (((x.rgrp b.val g.val).k s.val d.val : ℝ) : EReal) := by
  pointwise [res_main_v57]
  simp only [v45 h]
  unfold Spec.T.rgrp Spec.T.prev
  dsimp only
  split_ifs
  · rfl
  · rfl
  · rfl

theorem v58 (b : Fin 32) (s : Fin 256) (g : Fin 4) (d : Fin 64) : res_main_v58 V0 (ix5 (0 : Fin 1) b s g d)
    = (((x.rgrp b.val g.val).v s.val d.val : ℝ) : EReal) := by
  pointwise [res_main_v58]
  simp only [v46 h]
  unfold Spec.T.rgrp Spec.T.prev
  dsimp only
  split_ifs
  · rfl
  · rfl
  · rfl

end Cert.ReferenceIdeal.Body
end
-- ==== Proof.Sums.lean ====
module

public import Idealize.ShloMosaic.Lib.Pointwise

/-! Sums of an array along several axes, read at an index. -/

@[expose] public section

set_option maxRecDepth 16384

noncomputable section

namespace Sums
open Idealize.ShloMosaic
open scoped BigOperators

theorem lanes_fiber {n0 n1 n2 n3 n4 n5 : ℕ} (h : (⟨6, ![n0, n1, n2, n3, n4, n5]⟩ : Shape).ReducesTo [5] (⟨5, ![n0, n1, n2, n3, n4]⟩ : Shape)) (a0 : Fin n0) (a1 : Fin n1) (a2 : Fin n2) (a3 : Fin n3) (a4 : Fin n4) (x : (⟨6, ![n0, n1, n2, n3, n4, n5]⟩ : Shape).Idx) :
    h.drop x = ix5 a0 a1 a2 a3 a4 ↔ ∃ k, (fun k : Fin n5 => (ix6 a0 a1 a2 a3 a4 k : (⟨6, ![n0, n1, n2, n3, n4, n5]⟩ : Shape).Idx)) k = x := by
  constructor
  · intro e
    refine ⟨x 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem lanes {n0 n1 n2 n3 n4 n5 : ℕ} (h : (⟨6, ![n0, n1, n2, n3, n4, n5]⟩ : Shape).ReducesTo [5] (⟨5, ![n0, n1, n2, n3, n4]⟩ : Shape)) (v : (⟨6, ![n0, n1, n2, n3, n4, n5]⟩ : Shape).Idx → EReal) (init : EReal) (a0 : Fin n0) (a1 : Fin n1) (a2 : Fin n2) (a3 : Fin n3) (a4 : Fin n4) :
    Ideal.hostReduceAdd h v init (ix5 a0 a1 a2 a3 a4) = init + ∑ k : Fin n5, v (ix6 a0 a1 a2 a3 a4 k) :=
  congrArg (init + ·) ((Finset.sum_filter_eq_sum_of_fiber _ (fun k : Fin n5 => (ix6 a0 a1 a2 a3 a4 k : (⟨6, ![n0, n1, n2, n3, n4, n5]⟩ : Shape).Idx)) (fun _ _ e => congrFun e 5) (lanes_fiber h a0 a1 a2 a3 a4) v))

theorem ends6_fiber {n1 n2 n3 n4 : ℕ} (h : (⟨6, ![1, n1, n2, n3, n4, 1]⟩ : Shape).ReducesTo [0, 5] (⟨4, ![n1, n2, n3, n4]⟩ : Shape)) (a1 : Fin n1) (a2 : Fin n2) (a3 : Fin n3) (a4 : Fin n4) (x : (⟨6, ![1, n1, n2, n3, n4, 1]⟩ : Shape).Idx) :
    h.drop x = ix4 a1 a2 a3 a4 ↔ ∃ k, (fun _ : Unit => ix6 (0 : Fin 1) a1 a2 a3 a4 (0 : Fin 1)) k = x := by
  constructor
  · intro e
    refine ⟨(), ?_⟩
    funext a
    apply Fin.ext
    match a with
    | ⟨0, _⟩ => exact (Nat.lt_one_iff.1 (x 0).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (Nat.lt_one_iff.1 (x 5).isLt).symm
  · rintro ⟨k, rfl⟩
    funext b
    apply Fin.ext
    match b with
    | ⟨0, _⟩ => rfl
    | ⟨1, _⟩ => rfl
    | ⟨2, _⟩ => rfl
    | ⟨3, _⟩ => rfl

theorem ends6 {n1 n2 n3 n4 : ℕ} (h : (⟨6, ![1, n1, n2, n3, n4, 1]⟩ : Shape).ReducesTo [0, 5] (⟨4, ![n1, n2, n3, n4]⟩ : Shape)) (v : (⟨6, ![1, n1, n2, n3, n4, 1]⟩ : Shape).Idx → EReal) (init : EReal) (a1 : Fin n1) (a2 : Fin n2) (a3 : Fin n3) (a4 : Fin n4) :
    Ideal.hostReduceAdd h v init (ix4 a1 a2 a3 a4) = init + v (ix6 (0 : Fin 1) a1 a2 a3 a4 (0 : Fin 1)) :=
  congrArg (init + ·) ((Finset.sum_filter_eq_sum_of_fiber _ (fun _ : Unit => ix6 (0 : Fin 1) a1 a2 a3 a4 (0 : Fin 1)) (fun _ _ _ => rfl) (ends6_fiber h a1 a2 a3 a4) v).trans (by simp))

theorem ends4_fiber {n1 n2 : ℕ} (h : (⟨4, ![1, n1, n2, 1]⟩ : Shape).ReducesTo [0, 3] (⟨2, ![n1, n2]⟩ : Shape)) (a1 : Fin n1) (a2 : Fin n2) (x : (⟨4, ![1, n1, n2, 1]⟩ : Shape).Idx) :
    h.drop x = ix2 a1 a2 ↔ ∃ k, (fun _ : Unit => ix4 (0 : Fin 1) a1 a2 (0 : Fin 1)) k = x := by
  constructor
  · intro e
    refine ⟨(), ?_⟩
    funext a
    apply Fin.ext
    match a with
    | ⟨0, _⟩ => exact (Nat.lt_one_iff.1 (x 0).isLt).symm
    | ⟨1, _⟩ => exact (congrArg Fin.val (congrFun e 0)).symm
    | ⟨2, _⟩ => exact (congrArg Fin.val (congrFun e 1)).symm
    | ⟨3, _⟩ => exact (Nat.lt_one_iff.1 (x 3).isLt).symm
  · rintro ⟨k, rfl⟩
    funext b
    apply Fin.ext
    match b with
    | ⟨0, _⟩ => rfl
    | ⟨1, _⟩ => rfl

theorem ends4 {n1 n2 : ℕ} (h : (⟨4, ![1, n1, n2, 1]⟩ : Shape).ReducesTo [0, 3] (⟨2, ![n1, n2]⟩ : Shape)) (v : (⟨4, ![1, n1, n2, 1]⟩ : Shape).Idx → EReal) (init : EReal) (a1 : Fin n1) (a2 : Fin n2) :
    Ideal.hostReduceAdd h v init (ix2 a1 a2) = init + v (ix4 (0 : Fin 1) a1 a2 (0 : Fin 1)) :=
  congrArg (init + ·) ((Finset.sum_filter_eq_sum_of_fiber _ (fun _ : Unit => ix4 (0 : Fin 1) a1 a2 (0 : Fin 1)) (fun _ _ _ => rfl) (ends4_fiber h a1 a2) v).trans (by simp))

theorem first4_fiber {n2 n3 : ℕ} (h : (⟨4, ![1, 1, n2, n3]⟩ : Shape).ReducesTo [0, 1] (⟨2, ![n2, n3]⟩ : Shape)) (a2 : Fin n2) (a3 : Fin n3) (x : (⟨4, ![1, 1, n2, n3]⟩ : Shape).Idx) :
    h.drop x = ix2 a2 a3 ↔ ∃ k, (fun _ : Unit => ix4 (0 : Fin 1) (0 : Fin 1) a2 a3) k = x := by
  constructor
  · intro e
    refine ⟨(), ?_⟩
    funext a
    apply Fin.ext
    match a with
    | ⟨0, _⟩ => exact (Nat.lt_one_iff.1 (x 0).isLt).symm
    | ⟨1, _⟩ => exact (Nat.lt_one_iff.1 (x 1).isLt).symm
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl

theorem first4 {n2 n3 : ℕ} (h : (⟨4, ![1, 1, n2, n3]⟩ : Shape).ReducesTo [0, 1] (⟨2, ![n2, n3]⟩ : Shape)) (v : (⟨4, ![1, 1, n2, n3]⟩ : Shape).Idx → EReal) (init : EReal) (a2 : Fin n2) (a3 : Fin n3) :
    Ideal.hostReduceAdd h v init (ix2 a2 a3) = init + v (ix4 (0 : Fin 1) (0 : Fin 1) a2 a3) :=
  congrArg (init + ·) ((Finset.sum_filter_eq_sum_of_fiber _ (fun _ : Unit => ix4 (0 : Fin 1) (0 : Fin 1) a2 a3) (fun _ _ _ => rfl) (first4_fiber h a2 a3) v).trans (by simp))

theorem heads_fiber {n1 n2 n3 n4 : ℕ} (h : (⟨6, ![1, n1, n2, n3, n4, 1]⟩ : Shape).ReducesTo [0, 1, 4, 5] (⟨2, ![n2, n3]⟩ : Shape)) (a2 : Fin n2) (a3 : Fin n3) (x : (⟨6, ![1, n1, n2, n3, n4, 1]⟩ : Shape).Idx) :
    h.drop x = ix2 a2 a3 ↔ ∃ k, (fun k : Fin n1 × Fin n4 => (ix6 (0 : Fin 1) k.1 a2 a3 k.2 (0 : Fin 1) : (⟨6, ![1, n1, n2, n3, n4, 1]⟩ : Shape).Idx)) k = x := by
  constructor
  · intro e
    refine ⟨(x 1, x 4), ?_⟩
    funext a
    apply Fin.ext
    match a with
    | ⟨0, _⟩ => exact (Nat.lt_one_iff.1 (x 0).isLt).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (Nat.lt_one_iff.1 (x 5).isLt).symm
  · rintro ⟨k, rfl⟩
    funext b
    apply Fin.ext
    match b with
    | ⟨0, _⟩ => rfl
    | ⟨1, _⟩ => rfl

theorem heads {n1 n2 n3 n4 : ℕ} (h : (⟨6, ![1, n1, n2, n3, n4, 1]⟩ : Shape).ReducesTo [0, 1, 4, 5] (⟨2, ![n2, n3]⟩ : Shape)) (v : (⟨6, ![1, n1, n2, n3, n4, 1]⟩ : Shape).Idx → EReal) (init : EReal) (a2 : Fin n2) (a3 : Fin n3) :
    Ideal.hostReduceAdd h v init (ix2 a2 a3) = init + ∑ k : Fin n1, ∑ l : Fin n4, v (ix6 (0 : Fin 1) k a2 a3 l (0 : Fin 1)) :=
  congrArg (init + ·) ((Finset.sum_filter_eq_sum_of_fiber _ (fun k : Fin n1 × Fin n4 => (ix6 (0 : Fin 1) k.1 a2 a3 k.2 (0 : Fin 1) : (⟨6, ![1, n1, n2, n3, n4, 1]⟩ : Shape).Idx)) (fun _ _ e => Prod.ext (congrFun e 1) (congrFun e 4)) (heads_fiber h a2 a3) v).trans (Fintype.sum_prod_type _))

theorem lanes_max {n0 n1 n2 n3 n4 n5 : ℕ} (h : (⟨6, ![n0, n1, n2, n3, n4, n5]⟩ : Shape).ReducesTo [5] (⟨5, ![n0, n1, n2, n3, n4]⟩ : Shape))
    (v : (⟨6, ![n0, n1, n2, n3, n4, n5]⟩ : Shape).Idx → EReal) (init : EReal) (a0 : Fin n0) (a1 : Fin n1) (a2 : Fin n2) (a3 : Fin n3) (a4 : Fin n4)
    [DecidablePred fun i => h.drop i = (ix5 a0 a1 a2 a3 a4 : (⟨5, ![n0, n1, n2, n3, n4]⟩ : Shape).Idx)] :
    (Finset.univ.filter (fun i => h.drop i = ix5 a0 a1 a2 a3 a4)).fold max init v
      = (Finset.univ : Finset (Fin n5)).fold max init (fun k => v (ix6 a0 a1 a2 a3 a4 k)) :=
  Finset.fold_filter_eq_fold_of_fiber max _ (fun k : Fin n5 => (ix6 a0 a1 a2 a3 a4 k : (⟨6, ![n0, n1, n2, n3, n4, n5]⟩ : Shape).Idx)) (fun _ _ e => congrFun e 5) (lanes_fiber h a0 a1 a2 a3 a4) init v

end Sums
end
-- ==== Proof.Ref1.lean ====
module

public import proofs.«01_k».proof.Proof.Ref0
public import proofs.«01_k».proof.Proof.Sums

/-! The reference's values as real numbers: the softmax with a sink. -/

@[expose] public section

set_option maxRecDepth 16384

noncomputable section

namespace Cert.ReferenceIdeal.Body
open Cert.ReferenceIdeal Cert.ReferenceIdeal.Gen Cert.ReferenceIdeal.Value
open Idealize.ShloMosaic Idealize.ShloMosaic.TcCoe Idealize.SL.Sem
open scoped BigOperators

theorem band (i : Fin 128) (s : Fin 256) : IntOp.andi
            (IntOp.cmpi CmpIPredicate.sge (IntOp.subi (IntOp.addi (BitVec.ofNat 32 i.val) 128#32) (BitVec.ofNat 32 s.val)) 0#32)
            (IntOp.cmpi CmpIPredicate.slt (IntOp.subi (IntOp.addi (BitVec.ofNat 32 i.val) 128#32) (BitVec.ofNat 32 s.val)) 128#32) =
    BitVec.ofBool (decide (s.val ≤ i.val + 128 ∧ i.val < s.val)) := by
  revert i s; decide +kernel

theorem start (b : Fin 32) (s : Fin 256) : IntOp.cmpi CmpIPredicate.sge
            (IntOp.addi (IntOp.muli (IntOp.subi (BitVec.ofNat 32 b.val) 1#32) 128#32) (BitVec.ofNat 32 s.val)) 0#32 =
    BitVec.ofBool (decide ((if b.val = 0 then 128 else 0) ≤ s.val)) := by
  revert b s; decide +kernel

theorem andi_bool (p q : Bool) : IntOp.andi (BitVec.ofBool p) (BitVec.ofBool q) = BitVec.ofBool (p && q) := by
  revert p q; decide +kernel

theorem select_bit {α : Type} {P : Prop} [Decidable P] {c : BitVec 1} (h : c = BitVec.ofBool (decide P)) (x y : α) :
    Scalar.select c x y = if P then x else y := by
  subst h
  by_cases hp : P <;> simp [Scalar.select, hp]

variable {V0 : Valuation τ sig (Elt Ideal)} {x : Spec.T} (h : Holds V0 x)
include h

theorem v95 (b : Fin 32) (g r : Fin 4) (i : Fin 128) (s : Fin 256) : res_main_v95_1 V0 (ix6 (0 : Fin 1) b g r i s) =
    BitVec.ofBool (decide (Spec.sees (x.rgrp b.val g.val).first i.val s.val)) := by
  pointwise [res_main_v95_1, res_main_v71, res_main_v68]
  rw [band, start, andi_bool, ← Bool.decide_and]
  exact congrArg _ (decide_eq_decide.2 and_assoc)

theorem v98 (b : Fin 32) (g r : Fin 4) (i : Fin 128) (s : Fin 257) : res_main_v98 V0 (ix6 (0 : Fin 1) b g r i s) =
    if s.val < 256 then (if Spec.sees (x.rgrp b.val g.val).first i.val s.val then (((x.rgrp b.val g.val).sc r.val i.val s.val : ℝ) : EReal) else (⊥ : EReal)) else (((x.rgrp b.val g.val).sk r.val : ℝ) : EReal) := by
  pointwise [res_main_v98]
  by_cases hs : s.val < 256
  · rw [dif_pos hs, if_pos hs]
    refine (select_bit (v95 h b g r i ⟨s.val, hs⟩) _ _).trans ?_
    refine if_congr Iff.rfl ?_ ofBits_minf
    simp only [v57 h, v44 h, ← EReal.coe_mul, coe_sum]
    rw [ofBits_eighth, ← EReal.coe_mul]
    unfold Spec.G.sc
    simp only [mul_comm]
  · rw [dif_neg hs, if_neg hs]
    exact h.sk _

/-- The row maximum. -/
def top (V0 : Valuation τ sig (Elt Ideal)) (b : Fin 32) (g r : Fin 4) (i : Fin 128) : ℝ := (show EReal from res_main_v99 V0 (ix5 (0 : Fin 1) b g r i)).toReal

omit h in
theorem rowMax (X : FVec Ideal S1x32x4x4x128x257 .f32) (b : Fin 32) (g r : Fin 4) (i : Fin 128) :
    Host.reduce FloatOps.maximumf X (constant S_ .f32 0xFF800000#32) reducesTo_S1x32x4x4x128x257_S1x32x4x4x128_d5 h_S_ (ix5 (0 : Fin 1) b g r i)
      = (Finset.univ : Finset (Fin 257)).fold max (Ideal.ofBits .f32 0xFF800000#32) (fun k => X (ix6 (0 : Fin 1) b g r i k)) := by
  pointwise
  exact Sums.lanes_max _ X _ 0 b g r i

theorem v99 (b : Fin 32) (g r : Fin 4) (i : Fin 128) : res_main_v99 V0 (ix5 (0 : Fin 1) b g r i) = ((top V0 b g r i : ℝ) : EReal) := by
  refine (EReal.coe_toReal ?_ ?_).symm
  · refine ne_of_lt ((rowMax _ b g r i).trans_lt (Finset.fold_max_lt _ |>.2 ⟨?_, fun s _ => ?_⟩))
    · rw [ofBits_minf]; exact bot_lt_top
    · rw [v98 h]; split_ifs
      · exact EReal.coe_lt_top _
      · exact bot_lt_top
      · exact EReal.coe_lt_top _
  · refine ne_of_gt (lt_of_lt_of_eq (Finset.lt_fold_max _ |>.2 (Or.inr ⟨Fin.last 256, Finset.mem_univ _, ?_⟩)) (rowMax _ b g r i).symm)
    rw [v98 h, if_neg (by simp)]
    exact EReal.bot_lt_coe _

omit h in
theorem shifted (X : FVec Ideal S1x32x4x4x128x257 .f32) (Y : FVec Ideal S1x32x4x4x128 .f32) (b : Fin 32) (g r : Fin 4) (i : Fin 128) (s : Fin 257) :
    Host.exp (subf X (broadcastInDim S1x32x4x4x128x257 ![0, 1, 2, 3, 4, 5] bcast_S1x32x4x4x128x1_S1x32x4x4x128x257_0_1_2_3_4_5 (broadcastInDim S1x32x4x4x128x1 ![0, 1, 2, 3, 4] bcast_S1x32x4x4x128_S1x32x4x4x128x1_0_1_2_3_4 (maximumf (broadcastInDim S1x32x4x4x128 ![] bcast_S_S1x32x4x4x128 (constant S_ .f32 0xFF800000#32)) Y)))) (ix6 (0 : Fin 1) b g r i s)
      = Ideal.exp (X (ix6 (0 : Fin 1) b g r i s) - max (Ideal.ofBits .f32 0xFF800000#32) (Y (ix5 (0 : Fin 1) b g r i))) := by
  pointwise

theorem v119 (b : Fin 32) (g r : Fin 4) (i : Fin 128) (s : Fin 257) : res_main_v119 V0 (ix6 (0 : Fin 1) b g r i s) =
    (((x.rgrp b.val g.val).wt r.val i.val s.val * Real.exp (-(top V0 b g r i)) : ℝ) : EReal) := by
  refine (shifted _ _ b g r i s).trans ?_
  rw [v98 h, v99 h, ofBits_minf, max_eq_right bot_le]
  unfold Spec.G.wt Spec.G.pe
  split_ifs
  · rw [← EReal.coe_sub, Ideal.exp_coe, ← Real.exp_add, sub_eq_add_neg]
  · rw [EReal.bot_sub, Ideal.exp_bot, zero_mul]; rfl
  · rw [← EReal.coe_sub, Ideal.exp_coe, ← Real.exp_add, sub_eq_add_neg]

theorem v121 (b : Fin 32) (g r : Fin 4) (i : Fin 128) : res_main_v121 V0 (ix6 (0 : Fin 1) b g r i (0 : Fin 1)) =
    (((x.rgrp b.val g.val).den r.val i.val * Real.exp (-(top V0 b g r i)) : ℝ) : EReal) := by
  pointwise [res_main_v121]
  rw [Sums.lanes]
  simp only [v119 h, coe_sum]
  rw [zero_add, ← Finset.sum_mul, Spec.G.sum_wt]

theorem v127 (b : Fin 32) (g r : Fin 4) (i : Fin 128) (s : Fin 256) : res_main_v127 V0 (ix6 (0 : Fin 1) b g r i s) =
    (((x.rgrp b.val g.val).p r.val i.val s.val : ℝ) : EReal) := by
  have e := ((x.rgrp b.val g.val).den_pos r.val i.val).ne'
  have e' := (Real.exp_pos (-(top V0 b g r i))).ne'
  pointwise [res_main_v127]
  rw [v119 h, v121 h, Ideal.div_coe (mul_ne_zero e e'), ← EReal.coe_mul]
  congr 1
  unfold Spec.G.wt Spec.G.p
  rw [if_pos s.isLt]
  field_simp

theorem v134 (n : Fin 4096) (c : Fin 1024) : res_main_v134 V0 (ix3 (0 : Fin 1) n c) = ((x.dag n.val c.val : ℝ) : EReal) := by
  pointwise [res_main_v134]
  exact h.dag _ _

theorem v131_2 (n : Fin 4096) (c : Fin 1024) : res_main_v131_2 V0 (ix3 (0 : Fin 1) n c) = ((Spec.sig (x.proj n.val (1536 + c.val)) : ℝ) : EReal) := by
  pointwise [res_main_v131_2]
  rw [v6 h, ← EReal.coe_neg, Ideal.exp_coe, ← EReal.coe_one, ← EReal.coe_add, Ideal.div_coe, ← EReal.coe_mul]
  · congr 1; unfold Spec.sig; rw [zero_sub, one_mul]
  · positivity

theorem v131_0 (n : Fin 4096) (c : Fin 1024) : res_main_v131_0 V0 (ix3 (0 : Fin 1) n c) = ((x.proj n.val (1536 + c.val) * Spec.sig (x.proj n.val (1536 + c.val)) : ℝ) : EReal) := by
  pointwise [res_main_v131_0]
  rw [v131_2 h, v6 h, ← EReal.coe_mul]

theorem v130 (n : Fin 4096) (c : Fin 1024) : res_main_v130 V0 (ix3 (0 : Fin 1) n c) =
    (((x.rgrp (n.val / 128) (c.val / 256)).o (c.val / 64 % 4) (n.val % 128) (c.val % 64) : ℝ) : EReal) := by
  pointwise [res_main_v130]
  simp only [v58 h, v127 h, ← EReal.coe_mul, coe_sum]
  unfold Spec.G.o
  simp only [mul_comm]

theorem v139 (b : Fin 32) (g r : Fin 4) (i : Fin 128) (d : Fin 64) : res_main_v139 V0 (ix6 (0 : Fin 1) b g d r i) =
    (((x.rgrp b.val g.val).dO r.val i.val d.val : ℝ) : EReal) := by
  pointwise [res_main_v139]
  rw [v134 h, v131_0 h, ← EReal.coe_mul]
  rfl

theorem v142 (b : Fin 32) (g : Fin 4) (s : Fin 256) (d : Fin 64) : res_main_v142 V0 (ix5 (0 : Fin 1) b s g d) =
    (((x.rgrp b.val g.val).dv s.val d.val : ℝ) : EReal) := by
  pointwise [res_main_v142]
  simp only [v139 h, v127 h, ← EReal.coe_mul, coe_sum]
  unfold Spec.G.dv
  simp only [mul_comm]

theorem v143 (b : Fin 32) (g r : Fin 4) (i : Fin 128) (s : Fin 257) : res_main_v143 V0 (ix6 (0 : Fin 1) b g r i s) =
    (((x.rgrp b.val g.val).ct r.val i.val s.val : ℝ) : EReal) := by
  pointwise [res_main_v143]
  unfold Spec.G.ct
  by_cases hs : s.val < 256
  · rw [dif_pos hs, if_pos hs]
    simp only [v139 h, v58 h, ← EReal.coe_mul, coe_sum]
    rfl
  · rw [dif_neg hs, if_neg hs]
    rfl

theorem v156 (b : Fin 32) (g r : Fin 4) (i : Fin 128) (s : Fin 257) : res_main_v156 V0 (ix6 (0 : Fin 1) b g r i s) =
    (((x.rgrp b.val g.val).wt r.val i.val s.val / (x.rgrp b.val g.val).den r.val i.val * ((x.rgrp b.val g.val).ct r.val i.val s.val - (x.rgrp b.val g.val).dl r.val i.val) : ℝ) : EReal) := by
  have e := ((x.rgrp b.val g.val).den_pos r.val i.val).ne'
  have e' := (Real.exp_pos (-(top V0 b g r i))).ne'
  have e2 := mul_ne_zero e e'
  pointwise [res_main_v156]
  rw [Sums.ends6]
  pointwise
  rw [Sums.lanes]
  pointwise
  simp only [v143 h, v121 h, v119 h]
  rw [← EReal.coe_one]
  simp only [← EReal.coe_mul, Ideal.div_coe e2, Ideal.div_coe (mul_ne_zero e2 e2), coe_sum, ← EReal.coe_neg, ← EReal.coe_add]
  congr 1
  have k : ∀ s : Fin 257, (x.rgrp b.val g.val).ct r.val i.val s.val * (1 * (1 / ((x.rgrp b.val g.val).den r.val i.val * Real.exp (-(top V0 b g r i)) * ((x.rgrp b.val g.val).den r.val i.val * Real.exp (-(top V0 b g r i))))))
      * ((x.rgrp b.val g.val).wt r.val i.val s.val * Real.exp (-(top V0 b g r i)))
      = (x.rgrp b.val g.val).ct r.val i.val s.val * (x.rgrp b.val g.val).wt r.val i.val s.val * (1 / ((x.rgrp b.val g.val).den r.val i.val * (x.rgrp b.val g.val).den r.val i.val * Real.exp (-(top V0 b g r i)))) := by
    intro s
    field_simp
  simp only [k]
  rw [← Finset.sum_mul, Spec.G.sum_ct_wt]
  field_simp
  ring

end Cert.ReferenceIdeal.Body
end
-- ==== Proof.Ref2.lean ====
module

public import proofs.«01_k».proof.Proof.Ref1

/-! The reference's values as real numbers: the gradients. -/

@[expose] public section

set_option maxRecDepth 16384

noncomputable section

namespace Cert.ReferenceIdeal.Body
open Cert.ReferenceIdeal Cert.ReferenceIdeal.Gen Cert.ReferenceIdeal.Value
open Idealize.ShloMosaic Idealize.ShloMosaic.TcCoe Idealize.SL.Sem
open scoped BigOperators

variable {V0 : Valuation τ sig (Elt Ideal)} {x : Spec.T} (h : Holds V0 x)
include h

theorem v165 (b : Fin 32) (g r : Fin 4) (i : Fin 128) (s : Fin 256) : res_main_v165 V0 (ix6 (0 : Fin 1) b g s i r) =
    (((x.rgrp b.val g.val).ds r.val i.val s.val : ℝ) : EReal) := by
  pointwise [res_main_v165]
  rw [select_bit (v95 h b g r i s), v156 h, ofBits_eighth]
  unfold Spec.G.ds Spec.G.wt Spec.G.ct Spec.G.p Spec.G.pe
  dsimp only
  rw [if_pos s.isLt, if_pos s.isLt]
  split_ifs
  · rw [← EReal.coe_mul]
  · simp

theorem v169 (b : Fin 32) (g : Fin 4) (s : Fin 256) (d : Fin 64) : res_main_v169 V0 (ix5 (0 : Fin 1) b s g d) =
    (((x.rgrp b.val g.val).dk s.val d.val : ℝ) : EReal) := by
  pointwise [res_main_v169]
  simp only [v165 h, v44 h, ← EReal.coe_mul, coe_sum]
  rw [Finset.sum_comm]
  rfl

theorem v183 (n : Fin 4096) (g : Fin 4) (d : Fin 64) : res_main_v183 V0 (ix4 (0 : Fin 1) n g d) = ((x.rdk n.val g.val d.val : ℝ) : EReal) := by
  pointwise [res_main_v183, res_main_v172]
  have hn := Nat.mod_lt n.val (show 0 < 128 by decide)
  unfold Spec.T.rdk
  by_cases hb : n.val / 128 < 31
  · refine (congrArg₂ (fun y z : EReal => y + z) (v169 h _ _ _ _) ((dif_pos ⟨hb, hn⟩).trans (v169 h _ _ _ _))).trans ?_
    refine (EReal.coe_add _ _).symm.trans (congrArg (fun z : ℝ => (z : EReal)) ?_)
    refine congrArg₂ (fun y z : ℝ => y + z) rfl ?_
    refine Eq.trans ?_ (if_pos hb).symm
    exact congrArg (fun z => (x.rgrp z g.val).dk (n.val % 128) d.val) (Nat.add_comm 1 _)
  · refine (congrArg₂ (fun y z : EReal => y + z) (v169 h _ _ _ _) (dif_neg fun e => hb e.1)).trans ?_
    refine (add_zero _).trans (congrArg (fun z : ℝ => (z : EReal)) ?_)
    exact ((congrArg _ (if_neg hb)).trans (add_zero _)).symm

theorem v184 (n : Fin 4096) (k : Fin 16) (d : Fin 64) : res_main_v184 V0 (ix4 (0 : Fin 1) n k d) = ((x.rdq n.val k.val d.val : ℝ) : EReal) := by
  pointwise [res_main_v184]
  simp only [v165 h, v57 h, ← EReal.coe_mul, coe_sum]
  rfl

theorem v190 (n : Fin 4096) (g : Fin 4) (d : Fin 64) : res_main_v190 V0 (ix4 (0 : Fin 1) n g d) = ((x.rdk n.val g.val d.val * x.kw d.val : ℝ) : EReal) := by
  pointwise [res_main_v190]
  rw [v183 h, v40 h, ← EReal.coe_mul]

theorem v212 (n : Fin 4096) (k : Fin 16) (d : Fin 64) : res_main_v212 V0 (ix4 (0 : Fin 1) n k d) = ((x.rdq n.val k.val d.val * x.qw d.val : ℝ) : EReal) := by
  pointwise [res_main_v212]
  rw [v184 h, v23 h, ← EReal.coe_mul]

theorem v202 (n : Fin 4096) (k : Fin 4) (d : Fin 64) : res_main_v202 V0 (ix4 (0 : Fin 1) n k d) = ((x.sq 1024 n.val k.val (fun d => x.rdk n.val k.val d * x.kw d) : ℝ) : EReal) := by
  have e := (ms_pos h 1024 n.val k.val).ne'
  pointwise [res_main_v202]
  rw [Sums.ends4]
  pointwise
  simp only [v26 h, v190 h, ← EReal.coe_mul, coe_sum]
  rw [ofBits_mhalf, ofBits_64, v34 h, v33 h, Ideal.div_coe e, Ideal.div_coe (by norm_num), ← EReal.coe_mul, ← EReal.coe_mul, ← EReal.coe_mul, ← EReal.coe_mul]
  rfl

theorem v224 (n : Fin 4096) (k : Fin 16) (d : Fin 64) : res_main_v224 V0 (ix4 (0 : Fin 1) n k d) = ((x.sq 0 n.val k.val (fun d => x.rdq n.val k.val d * x.qw d) : ℝ) : EReal) := by
  have e := (ms_pos h 0 n.val k.val).ne'
  pointwise [res_main_v224]
  rw [Sums.ends4]
  pointwise
  simp only [v9 h, v212 h, ← EReal.coe_mul, coe_sum]
  rw [ofBits_mhalf, ofBits_64, v17 h, v16 h, Ideal.div_coe e, Ideal.div_coe (by norm_num), ← EReal.coe_mul, ← EReal.coe_mul, ← EReal.coe_mul, ← EReal.coe_mul]
  rfl

theorem values (n : Fin 4096) (g : Fin 4) (d : Fin 64) (A B : EReal) (hA : A = (((x.rgrp (n.val / 128) g.val).dv (128 + n.val % 128) d.val : ℝ) : EReal))
    (hB : B = ((if n.val / 128 < 31 then (x.rgrp (n.val / 128 + 1) g.val).dv (n.val % 128) d.val else 0 : ℝ) : EReal)) : A + B = ((x.rdv n.val g.val d.val : ℝ) : EReal) := by
  rw [hA, hB, ← EReal.coe_add]
  rfl

theorem second (b : Fin 32) (g : Fin 4) (s : Fin 128) (d : Fin 64) : res_main_v170 V0 (ix5 (0 : Fin 1) b s g d) =
    (((x.rgrp b.val g.val).dv s.val d.val : ℝ) : EReal) := by
  pointwise [res_main_v170]
  rw [v142 h]

theorem v135 (n : Fin 4096) (c : Fin 1024) : res_main_v135 V0 (ix3 (0 : Fin 1) n c) = ((x.ro n.val c.val * x.dag n.val c.val : ℝ) : EReal) := by
  pointwise [res_main_v135]
  rw [v130 h, v134 h, ← EReal.coe_mul]
  rfl

theorem gates (n c : ℕ) (A B C : EReal) (hA : A = ((x.ro n c * x.dag n c : ℝ) : EReal)) (hB : B = ((Spec.sig (x.proj n (1536 + c)) : ℝ) : EReal))
    (hC : C = ((x.proj n (1536 + c) : ℝ) : EReal)) : A * B + C * A * (B * (1 - B)) = ((x.rdgate n c : ℝ) : EReal) := by
  rw [hA, hB, hC]
  simp only [← EReal.coe_mul, ← EReal.coe_add, ← EReal.coe_sub, ← EReal.coe_one]
  rfl

theorem heads16 (o n k : ℕ) (f : ℕ → ℝ) (d : ℕ) (A B C D : EReal) (hA : A = ((f d : ℝ) : EReal)) (hB : B = ((x.rs o n k : ℝ) : EReal))
    (hC : C = ((x.hd o n k d : ℝ) : EReal)) (hD : D = ((x.sq o n k f : ℝ) : EReal)) : A * B + C * D + D * C = ((x.back o n k f d : ℝ) : EReal) := by
  rw [hA, hB, hC, hD, ← EReal.coe_mul, ← EReal.coe_mul, ← EReal.coe_mul, ← EReal.coe_add, ← EReal.coe_add]
  rfl

theorem out_proj (n : Fin 4096) (c : Fin 8704) : val5 V0 (Proc.devRef .tc main_v234) (ix2 n c) =
    if c.val < 2560 then ((x.rproj n.val c.val : ℝ) : EReal) else V0 (Proc.devRef .tc main_arg2) (ix2 n c) := by
  refine (congrFun (val5_main_v234 V0) _).trans ?_
  pointwise
  have hn := Nat.mod_lt n.val (show 0 < 128 by decide)
  unfold Spec.T.rproj
  by_cases h0 : c.val < 2560
  swap
  · refine (dif_neg h0).trans (Eq.trans ?_ (if_neg h0).symm)
    exact congrArg (fun z => V0 (Proc.devRef .tc main_arg2) (ix2 n z)) (Fin.ext (by dsimp only; omega))
  refine (dif_pos h0).trans (Eq.trans ?_ (if_pos h0).symm)
  by_cases h1 : c.val < 1024
  · refine (dif_pos h1).trans (Eq.trans ?_ (congrArg (fun z : ℝ => (z : EReal)) (if_pos h1).symm))
    exact heads16 h 0 n.val (c.val / 64) _ (c.val % 64) _ _ _ _ (v212 h _ _ _) (v17 h _ _) (v9 h _ _ _) (v224 h _ _ _)
  refine (dif_neg h1).trans (Eq.trans ?_ (congrArg (fun z : ℝ => (z : EReal)) (if_neg h1).symm))
  by_cases h2 : c.val < 1280
  · refine (dif_pos (show c.val - 1024 < 256 by omega)).trans (Eq.trans ?_ (congrArg (fun z : ℝ => (z : EReal)) (if_pos h2).symm))
    exact heads16 h 1024 n.val ((c.val - 1024) / 64) _ ((c.val - 1024) % 64) _ _ _ _ (v190 h _ _ _) (v34 h _ _) (v26 h _ _ _) (v202 h _ _ _)
  refine (dif_neg (show ¬c.val - 1024 < 256 by omega)).trans (Eq.trans ?_ (congrArg (fun z : ℝ => (z : EReal)) (if_neg h2).symm))
  by_cases h3 : c.val < 1536
  · refine (dif_pos (show c.val - 1024 - 256 < 256 by omega)).trans (Eq.trans ?_ (congrArg (fun z : ℝ => (z : EReal)) (if_pos h3).symm))
    have hc : c.val - 1024 - 256 = c.val - 1280 := by omega
    refine Eq.trans ?_ (congrArg (fun z => ((x.rdv n.val (z / 64) (z % 64) : ℝ) : EReal)) hc)
    refine values h n ⟨(c.val - 1024 - 256) / 64, by omega⟩ ⟨(c.val - 1024 - 256) % 64, by omega⟩ _ _ (v142 h _ _ _ _) ?_
    by_cases hb : n.val / 128 < 31
    · refine (dif_pos ⟨hb, hn, by omega, by omega⟩).trans ((second h _ _ _ _).trans (congrArg (fun z : ℝ => (z : EReal)) ?_))
      refine Eq.trans ?_ (if_pos hb).symm
      exact congrArg (fun z => (x.rgrp z ((c.val - 1024 - 256) / 64)).dv (n.val % 128) ((c.val - 1024 - 256) % 64)) (Nat.add_comm 1 _)
    · exact (dif_neg fun e => hb e.1).trans (congrArg (fun z : ℝ => (z : EReal)) (if_neg hb).symm)
  refine (dif_neg (show ¬c.val - 1024 - 256 < 256 by omega)).trans (Eq.trans ?_ (congrArg (fun z : ℝ => (z : EReal)) (if_neg h3).symm))
  have hc : c.val - 1024 - 256 - 256 = c.val - 1536 := by omega
  refine Eq.trans ?_ (congrArg (fun z => ((x.rdgate n.val z : ℝ) : EReal)) hc)
  exact gates h n.val (c.val - 1024 - 256 - 256) _ _ _ (v135 h _ _) (v131_2 h _ _) (v6 h _ _)

theorem out_gqw (c : Fin 1024) : val5 V0 (Proc.devRef .tc main_v235) (ix2 (0 : Fin 1) c) = ((x.rgqw c.val : ℝ) : EReal) := by
  refine (congrFun (val5_main_v235 V0) _).trans ?_
  pointwise
  rw [Sums.first4]
  pointwise
  simp only [v22 h, v184 h, ← EReal.coe_mul, coe_sum]
  rfl

theorem out_gkw (c : Fin 256) : val5 V0 (Proc.devRef .tc main_v236) (ix2 (0 : Fin 1) c) = ((x.rgkw c.val : ℝ) : EReal) := by
  refine (congrFun (val5_main_v236 V0) _).trans ?_
  pointwise
  rw [Sums.first4]
  pointwise
  simp only [v39 h, v183 h, ← EReal.coe_mul, coe_sum]
  rfl

theorem sinkSum (g r : Fin 4) : 0 + ∑ b : Fin 32, ∑ i : Fin 128, (extractStridedSlice S1x32x4x4x128x1 ![0, 0, 0, 0, 0, 256] (res_main_v156 V0)
    slices_S1x32x4x4x128x257_S1x32x4x4x128x1_0_0_0_0_0_256 : Vec Ideal S1x32x4x4x128x1 .f32) (ix6 (0 : Fin 1) b g r i (0 : Fin 1)) = ((∑ b : Fin 32, (x.rgrp b.val g.val).gs r.val : ℝ) : EReal) := by
  pointwise
  simp only [v156 h, coe_sum]
  refine congrArg (fun z : ℝ => (z : EReal)) (Finset.sum_congr rfl fun b _ => Finset.sum_congr rfl fun i _ => ?_)
  unfold Spec.G.wt Spec.G.ct Spec.G.ps
  rw [if_neg (by decide), if_neg (by decide)]
  ring

theorem out_gs (r : Fin 8) (l : Fin 128) : val5 V0 (Proc.devRef .tc main_v238) (ix2 r l) = ((if l.val < 16 ∧ r.val = 0 then x.rgs l.val else 0 : ℝ) : EReal) := by
  refine (congrFun (val5_main_v238 V0) _).trans ?_
  pointwise
  by_cases hl : r.val < 1 ∧ l.val < 16
  · refine (dif_pos hl).trans ?_
    refine (Sums.heads _ _ _ _ _).trans ?_
    rw [if_pos ⟨hl.2, by omega⟩]
    exact sinkSum h ⟨l.val / 4, by omega⟩ ⟨l.val % 4, by omega⟩
  · refine (dif_neg hl).trans ?_
    rw [if_neg fun e => hl ⟨by omega, e.1⟩]
    simp [FloatOps.sitofp]

end Cert.ReferenceIdeal.Body
end
-- ==== Proof.RefEq.lean ====
module

public import proofs.«01_k».proof.Proof.RefSpec
public import Idealize.ShloMosaic.Lib.Pointwise

/-! The block-by-block numbers and the whole-sequence numbers are the same. -/

@[expose] public section

noncomputable section

open Idealize.ShloMosaic

namespace Spec
namespace G

/-- Two groups that read the same numbers wherever a key is in view. -/
structure Agree (x y : G) : Prop where
  first : x.first = y.first
  q : ∀ r i d, d < 64 → x.q r i d = y.q r i d
  k : ∀ s d, x.first ≤ s → d < 64 → x.k s d = y.k s d
  v : ∀ s d, x.first ≤ s → x.v s d = y.v s d
  gate : x.gate = y.gate
  dag : x.dag = y.dag
  sk : x.sk = y.sk

variable {x y : G}

theorem pe_hidden {s : ℕ} (h : ¬x.first ≤ s) (r i : ℕ) : x.pe r i s = 0 := if_neg fun e => h e.2.2
theorem p_hidden {s : ℕ} (h : ¬x.first ≤ s) (r i : ℕ) : x.p r i s = 0 := by
  unfold p
  rw [pe_hidden h, zero_div]
theorem ds_hidden {s : ℕ} (h : ¬x.first ≤ s) (r i : ℕ) : x.ds r i s = 0 := by
  unfold ds
  rw [p_hidden h, zero_mul, zero_mul]
theorem dk_hidden {s : ℕ} (h : ¬x.first ≤ s) (d : ℕ) : x.dk s d = 0 :=
  Finset.sum_eq_zero fun _ _ => Finset.sum_eq_zero fun _ _ => by rw [ds_hidden h, zero_mul]

variable (a : Agree x y)
include a

theorem Agree.pe (r i s : ℕ) : x.pe r i s = y.pe r i s := by
  by_cases h : x.first ≤ s
  · unfold G.pe sc
    rw [a.first]
    refine if_congr Iff.rfl (congrArg (fun z => Real.exp (z * (1 / 8))) (Finset.sum_congr rfl fun d _ => ?_)) rfl
    rw [a.q _ _ _ d.isLt, a.k _ _ h d.isLt]
  · rw [pe_hidden h, pe_hidden fun e => h (a.first ▸ e)]

theorem Agree.den (r i : ℕ) : x.den r i = y.den r i := by
  unfold G.den
  simp only [a.pe, a.sk]

theorem Agree.p (r i s : ℕ) : x.p r i s = y.p r i s := by
  unfold G.p
  rw [a.pe, a.den]

theorem Agree.ps (r i : ℕ) : x.ps r i = y.ps r i := by
  unfold G.ps
  rw [a.sk, a.den]

theorem Agree.dO (r i d : ℕ) : x.dO r i d = y.dO r i d := by
  unfold G.dO
  rw [a.dag, a.gate]

theorem Agree.o (r i d : ℕ) : x.o r i d = y.o r i d := by
  refine Finset.sum_congr rfl fun s _ => ?_
  by_cases h : x.first ≤ s
  · rw [a.p, a.v _ _ h]
  · rw [← a.p, p_hidden h, zero_mul, zero_mul]

theorem Agree.dp {s : ℕ} (h : x.first ≤ s) (r i : ℕ) : x.dp r i s = y.dp r i s :=
  Finset.sum_congr rfl fun d _ => by rw [a.dO, a.v _ _ h]

theorem Agree.dl (r i : ℕ) : x.dl r i = y.dl r i := by
  refine Finset.sum_congr rfl fun s _ => ?_
  by_cases h : x.first ≤ s
  · rw [a.p, a.dp h]
  · rw [← a.p, p_hidden h, zero_mul, zero_mul]

theorem Agree.ds (r i s : ℕ) : x.ds r i s = y.ds r i s := by
  by_cases h : x.first ≤ s
  · unfold G.ds
    rw [a.p, a.dp h, a.dl]
  · rw [ds_hidden h, ds_hidden fun e => h (a.first ▸ e)]

theorem Agree.dq (r i d : ℕ) (hd : d < 64) : x.dq r i d = y.dq r i d := by
  refine Finset.sum_congr rfl fun s _ => ?_
  by_cases h : x.first ≤ s
  · rw [a.ds, a.k _ _ h hd]
  · rw [← a.ds, ds_hidden h, zero_mul, zero_mul]

theorem Agree.dk (s d : ℕ) (hd : d < 64) : x.dk s d = y.dk s d :=
  Finset.sum_congr rfl fun r _ => Finset.sum_congr rfl fun i _ => by rw [a.ds, a.q _ _ _ hd]

theorem Agree.dv (s d : ℕ) : x.dv s d = y.dv s d :=
  Finset.sum_congr rfl fun r _ => Finset.sum_congr rfl fun i _ => by rw [a.p, a.dO]

theorem Agree.gs (r : ℕ) : x.gs r = y.gs r :=
  Finset.sum_congr rfl fun i _ => by rw [a.ps, a.dl]

theorem Agree.dgate (r i d : ℕ) : x.dgate r i d = y.dgate r i d := by
  unfold G.dgate
  rw [a.dag, a.gate, a.o]
end G

/-- A sum over all rows, block by block. -/
theorem rows (f : ℕ → ℝ) : ∑ n : Fin 4096, f n.val = ∑ b : Fin 32, ∑ i : Fin 128, f (128 * b.val + i.val) := by
  rw [Fin.sum_univ_tiles 32 128 rfl]
  simp only [Nat.mul_comm 128]

/-- A sum over the 256 rows in view, the block before first. -/
theorem halves (f : ℕ → ℕ → ℝ) : ∑ b : Fin 32, ∑ s : Fin 256, f b.val s.val =
    ∑ b : Fin 32, (∑ i : Fin 128, f b.val i.val + ∑ i : Fin 128, f b.val (128 + i.val)) :=
  Finset.sum_congr rfl fun b _ => Fin.sum_univ_two_halves 128 128 rfl fun s : Fin 256 => f b.val s.val

/-- What the blocks give the block before them, counted where it arrives. -/
theorem shift (A D F : ℕ → ℕ → ℝ) (h0 : ∀ i, i < 128 → A 0 i = 0)
    (h : ∀ b i, i < 128 → D b i + (if b < 31 then A (b + 1) i else 0) = F b i) :
    ∑ b : Fin 32, (∑ i : Fin 128, A b.val i.val + ∑ i : Fin 128, D b.val i.val) = ∑ b : Fin 32, ∑ i : Fin 128, F b.val i.val := by
  have e : ∑ b : Fin 32, ∑ i : Fin 128, A b.val i.val = ∑ b : Fin 32, ∑ i : Fin 128, if b.val < 31 then A (b.val + 1) i.val else 0 := by
    rw [Fin.sum_univ_succ, Fin.sum_univ_castSucc (n := 31)]
    have e0 : ∑ i : Fin 128, A (0 : Fin 32).val i.val = 0 := Finset.sum_eq_zero fun i _ => h0 _ i.isLt
    have e1 : ∑ i : Fin 128, (if (Fin.last 31).val < 31 then A ((Fin.last 31).val + 1) i.val else 0) = 0 := Finset.sum_eq_zero fun i _ => if_neg (by simp)
    rw [e0, e1, zero_add, add_zero]
    refine Finset.sum_congr rfl fun b _ => Finset.sum_congr rfl fun i _ => ?_
    rw [if_pos (by simp)]
    rfl
  rw [Finset.sum_add_distrib, e, ← Finset.sum_add_distrib]
  refine Finset.sum_congr rfl fun b _ => ?_
  rw [← Finset.sum_add_distrib]
  exact Finset.sum_congr rfl fun i _ => (add_comm _ _).trans (h b.val i.val i.isLt)

namespace T
variable (x : T)

theorem rstd_q (b i c : ℕ) : rstd x.eps (x.blk b).q i c = x.rs 0 (128 * b + i) (c / 64) := by
  unfold rstd headMean rs ms hd blk
  simp only [Nat.zero_add, Nat.mul_comm 64]

theorem rstd_k (b s c : ℕ) : rstd x.eps (x.blk b).k s c = x.rs 1024 (keyRow b s) (c / 64) := by
  unfold rstd headMean rs ms hd blk
  simp only [Nat.mul_comm 64]

theorem hd_col (o n c : ℕ) : x.hd o n (c / 64) (c % 64) = x.proj n (o + c) := by
  unfold hd
  rw [Nat.div_add_mod']

theorem qn_eq (b i c : ℕ) : (x.blk b).qn i c = x.nn 0 (128 * b + i) (c / 64) (c % 64) := by
  refine (congrArg ((x.blk b).q i c * ·) (x.rstd_q b i c)).trans (congrArg (· * _) ?_)
  rw [hd_col, Nat.zero_add]
  rfl

theorem kn_eq (b s c : ℕ) : (x.blk b).kn s c = x.nn 1024 (keyRow b s) (c / 64) (c % 64) := by
  refine (congrArg ((x.blk b).k s c * ·) (x.rstd_k b s c)).trans (congrArg (· * _) ?_)
  rw [hd_col]
  rfl

theorem agree (b g : ℕ) : G.Agree ((x.blk b).grp g) (x.rgrp b g) where
  first := rfl
  q r i d hd := by
    have e1 : (256 * g + (64 * r + d)) / 64 = g * 4 + r := by omega
    have e2 : (256 * g + (64 * r + d)) % 64 = d := by omega
    refine congrArg₂ (· * ·) ((x.qn_eq b i _).trans ?_) (congrArg x.qw e2)
    rw [e1, e2, Nat.mul_comm]
  k s d hs hd := by
    have e1 : (64 * g + d) / 64 = g := by omega
    have e2 : (64 * g + d) % 64 = d := by omega
    have hs' : (if b = 0 then 128 else 0) ≤ s := hs
    refine (congrArg₂ (· * ·) ((x.kn_eq b s _).trans ?_) (congrArg x.kw e2)).trans (?_ : x.rk (keyRow b s) g d = _)
    · rw [e1, e2]
    show _ = prev x.rk b s g d
    unfold keyRow prev
    split_ifs at hs' ⊢ <;> first | omega | rw [Nat.mul_comm]
  v s d hs := by
    have hs' : (if b = 0 then 128 else 0) ≤ s := hs
    show x.proj (keyRow b s) (1280 + (64 * g + d)) = prev x.rv b s g d
    unfold keyRow prev rv hd
    rw [Nat.mul_comm g 64]
    split_ifs at hs' ⊢ <;> first | omega | rw [Nat.mul_comm]
  gate := by
    funext r i d
    show x.proj (128 * b + i) (1536 + (256 * g + (64 * r + d))) = x.proj (b * 128 + i) (1536 + (g * 256 + r * 64 + d))
    refine congrArg₂ x.proj ?_ ?_ <;> omega
  dag := by
    funext r i d
    show x.dag (128 * b + i) (256 * g + (64 * r + d)) = x.dag (b * 128 + i) (g * 256 + r * 64 + d)
    refine congrArg₂ x.dag ?_ ?_ <;> omega
  sk := by
    funext r
    exact congrArg x.sk (by omega)

theorem dqh_eq (b i c : ℕ) : (x.blk b).dqh i c = (x.rgrp b (c / 64 / 4)).dq (c / 64 % 4) i (c % 64) := by
  unfold B.dqh
  rw [show c / 64 / 4 = c / 256 by omega, show c / 64 % 4 = c % 256 / 64 by omega]
  exact (x.agree b _).dq _ _ _ (by omega)

theorem rdq_row (b i h d : ℕ) (hi : i < 128) : x.rdq (128 * b + i) h d = (x.rgrp b (h / 4)).dq (h % 4) i d := by
  unfold rdq
  rw [show (128 * b + i) / 128 = b by omega, show (128 * b + i) % 128 = i by omega]

theorem dkh_eq (b s c : ℕ) : (x.blk b).dkh s c = (x.rgrp b (c / 64)).dk s (c % 64) := (x.agree b _).dk _ _ (by omega)

variable (he : 0 < x.eps)
include he

theorem back_eq (o n h : ℕ) (f : ℕ → ℝ) (d : ℕ) :
    x.back o n h f d = x.rs o n h * (f d - x.nn o n h d * ((∑ d : Fin 64, f d.val * x.nn o n h d.val) * (1 / 64))) := by
  have hm : 0 < x.ms o n h := by
    have : 0 ≤ ∑ d : Fin 64, x.hd o n h d.val * x.hd o n h d.val := Finset.sum_nonneg fun d _ => mul_self_nonneg _
    unfold ms
    linarith
  have hr : x.rs o n h * x.rs o n h = 1 / x.ms o n h := by
    unfold rs
    rw [← mul_inv, Real.mul_self_sqrt hm.le, one_div]
  have hs : ∑ d : Fin 64, f d.val * x.nn o n h d.val = (∑ d : Fin 64, x.hd o n h d.val * f d.val) * x.rs o n h := by
    rw [Finset.sum_mul]
    exact Finset.sum_congr rfl fun d _ => by unfold nn; ring
  unfold back sq
  rw [hs, ← hr]
  unfold nn
  ring

theorem dq_eq (b i c : ℕ) (hi : i < 128) :
    (x.blk b).dq i c = x.back 0 (128 * b + i) (c / 64) (fun d => x.rdq (128 * b + i) (c / 64) d * x.qw d) (c % 64) := by
  have e : ∀ c, (x.blk b).dqn i c = x.rdq (128 * b + i) (c / 64) (c % 64) * x.qw (c % 64) := fun c => by
    rw [x.rdq_row b i _ _ hi, ← x.dqh_eq]
    rfl
  rw [x.back_eq he]
  unfold B.dq headMean
  refine congrArg₂ (· * ·) (x.rstd_q b i c) ?_
  rw [e, x.qn_eq]
  refine congrArg (fun z => _ - _ * (z * (1 / 64))) (Finset.sum_congr rfl fun d _ => ?_)
  dsimp only
  rw [e, x.qn_eq, show (64 * (c / 64) + d.val) / 64 = c / 64 by omega, show (64 * (c / 64) + d.val) % 64 = d.val by omega]

/-- A block's gradient of a key's entries, in the row the key is. -/
theorem dk_eq (b s c n : ℕ) (hn : keyRow b s = n) :
    (x.blk b).dk s c = x.rs 1024 n (c / 64) * ((x.rgrp b (c / 64)).dk s (c % 64) * x.kw (c % 64) - x.nn 1024 n (c / 64) (c % 64) *
      ((∑ d : Fin 64, (x.rgrp b (c / 64)).dk s d.val * x.kw d.val * x.nn 1024 n (c / 64) d.val) * (1 / 64))) := by
  have e : ∀ c, (x.blk b).dkn s c = (x.rgrp b (c / 64)).dk s (c % 64) * x.kw (c % 64) := fun c => by
    rw [← x.dkh_eq]
    rfl
  subst hn
  unfold B.dk headMean
  refine congrArg₂ (· * ·) (x.rstd_k b s c) ?_
  rw [e, x.kn_eq]
  refine congrArg (fun z => _ - _ * (z * (1 / 64))) (Finset.sum_congr rfl fun d _ => ?_)
  dsimp only
  rw [e, x.kn_eq, show (64 * (c / 64) + d.val) / 64 = c / 64 by omega, show (64 * (c / 64) + d.val) % 64 = d.val by omega]

theorem keys_eq (n c : ℕ) (hc : c < 256) :
    x.dkv n c = x.back 1024 n (c / 64) (fun d => x.rdk n (c / 64) d * x.kw d) (c % 64) := by
  have h1 : keyRow (n / 128) (128 + n % 128) = n := by unfold keyRow; rw [if_neg (by omega)]; omega
  have h2 : keyRow (n / 128 + 1) (n % 128) = n := by unfold keyRow; rw [if_pos (by omega)]; omega
  rw [x.back_eq he]
  unfold dkv B.dkv rdk
  rw [if_pos hc, if_pos hc, x.dk_eq he _ _ c n h1, x.dk_eq he _ _ c n h2]
  by_cases hb : n / 128 < 31
  · simp only [if_pos hb, add_mul, Finset.sum_add_distrib]
    ring
  · simp only [if_neg hb, add_zero]

omit he in
theorem values_eq (n c : ℕ) : x.dkv n (256 + c) = x.rdv n (c / 64) (c % 64) := by
  unfold dkv B.dkv rdv
  rw [if_neg (show ¬256 + c < 256 by omega), if_neg (show ¬256 + c < 256 by omega), Nat.add_sub_cancel_left]
  refine congrArg₂ (· + ·) ((x.agree _ _).dv _ _) (if_congr Iff.rfl ((x.agree _ _).dv _ _) rfl)

omit he in
theorem dgate_eq (n c : ℕ) : (x.blk (n / 128)).dgate (n % 128) c = x.rdgate n c := by
  refine ((x.agree _ _).dgate _ _ _).trans ?_
  have e1 : n / 128 * 128 + n % 128 = n := by omega
  have e2 : c / 256 * 256 + c % 256 / 64 * 64 + c % 64 = c := by omega
  unfold G.dgate rdgate ro
  show x.dag (n / 128 * 128 + n % 128) (c / 256 * 256 + c % 256 / 64 * 64 + c % 64) * _ *
    (sig (x.proj (n / 128 * 128 + n % 128) (1536 + (c / 256 * 256 + c % 256 / 64 * 64 + c % 64))) * (1 + x.proj (n / 128 * 128 + n % 128) (1536 + (c / 256 * 256 + c % 256 / 64 * 64 + c % 64)) *
      (1 - sig (x.proj (n / 128 * 128 + n % 128) (1536 + (c / 256 * 256 + c % 256 / 64 * 64 + c % 64)))))) = _
  rw [e1, e2, show c % 256 / 64 = c / 64 % 4 by omega]
  ring

theorem dproj_eq (n c : ℕ) : x.dproj n c = x.rproj n c := by
  have e1 : 128 * (n / 128) + n % 128 = n := by omega
  unfold dproj rproj
  by_cases h1 : c < 1024
  · rw [if_pos h1, if_pos h1, x.dq_eq he _ _ _ (by omega), e1]
  rw [if_neg h1, if_neg h1]
  by_cases h2 : c < 1280
  · rw [if_pos (by omega), if_pos h2, x.keys_eq he _ _ (by omega)]
  rw [if_neg h2]
  by_cases h3 : c < 1536
  · rw [if_pos h3, if_pos h3, show c - 1024 = 256 + (c - 1280) by omega, x.values_eq]
  · rw [if_neg h3, if_neg h3, x.dgate_eq]

omit he in
theorem gqw_eq (c : ℕ) : x.gqw c = x.rgqw c := by
  unfold gqw rgqw B.gqw
  refine Eq.trans ?_ (rows fun n => x.nn 0 n (c / 64) (c % 64) * x.rdq n (c / 64) (c % 64)).symm
  refine Finset.sum_congr rfl fun b _ => Finset.sum_congr rfl fun i _ => ?_
  rw [x.qn_eq, x.dqh_eq, x.rdq_row _ _ _ _ i.isLt, mul_comm]

omit he in
theorem gkw_eq (c : ℕ) : x.gkw c = x.rgkw c := by
  unfold gkw rgkw B.gkw
  refine Eq.trans ?_ (rows fun n => x.nn 1024 n (c / 64) (c % 64) * x.rdk n (c / 64) (c % 64)).symm
  refine (halves fun b s => (x.blk b).dkh s c * (x.blk b).kn s c).trans (shift (fun b i => (x.blk b).dkh i c * (x.blk b).kn i c) (fun b i => (x.blk b).dkh (128 + i) c * (x.blk b).kn (128 + i) c) (fun b i => x.nn 1024 (128 * b + i) (c / 64) (c % 64) * x.rdk (128 * b + i) (c / 64) (c % 64)) ?_ ?_)
  · intro i hi
    rw [x.dkh_eq, G.dk_hidden (show ¬(128 : ℕ) ≤ i by omega), zero_mul]
  · intro b i hi
    have h2 : keyRow b (128 + i) = 128 * b + i := by unfold keyRow; rw [if_neg (by omega)]; omega
    have h1 : keyRow (b + 1) i = 128 * b + i := by unfold keyRow; rw [if_pos (by omega)]; omega
    rw [x.kn_eq, x.kn_eq, h1, h2, x.dkh_eq, x.dkh_eq]
    unfold rdk
    rw [show (128 * b + i) / 128 = b by omega, show (128 * b + i) % 128 = i by omega]
    by_cases hb : b < 31
    · rw [if_pos hb, if_pos hb]; ring
    · rw [if_neg hb, if_neg hb]; ring

omit he in
theorem gs_eq (h : ℕ) : x.gs h = x.rgs h := Finset.sum_congr rfl fun b _ => (x.agree b.val _).gs _
end T
end Spec
end
-- ==== Proof.RefEnds.lean ====
module

public import proofs.«01_k».proof.Proof.Ref2
public import proofs.«01_k».proof.Proof.RefEq

/-! The reference's runs: how its four results end, in the block-by-block numbers. -/

@[expose] public section

set_option maxRecDepth 16384

noncomputable section

namespace Cert.ReferenceIdeal.Body
open Cert.ReferenceIdeal Cert.ReferenceIdeal.Gen Cert.ReferenceIdeal.Value
open Idealize.ShloMosaic Idealize.ShloMosaic.TcCoe Idealize.SL.Sem

theorem pair {n0 n1 : ℕ} (i : (⟨2, ![n0, n1]⟩ : Shape).Idx) : i = ix2 (i 0) (i 1) := by
  funext a
  match a with
  | ⟨0, _⟩ => rfl
  | ⟨1, _⟩ => rfl

variable {V0 : Valuation τ sig (Elt Ideal)} {x : Spec.T} (h : Holds V0 x)
include h

theorem eps_pos : 0 < x.eps := by
  rw [h.eps]
  norm_num

theorem res0 : (val5 V0 (Proc.devRef .tc main_v234) : S4096x8704.Idx → EReal) =
    fun i => if (i 1).val < 2560 then ((x.dproj (i 0).val (i 1).val : ℝ) : EReal) else V0 (Proc.devRef .tc main_arg2) i := by
  funext i
  obtain ⟨n, j, rfl⟩ : ∃ n j, i = ix2 n j := ⟨_, _, pair i⟩
  refine (out_proj h n j).trans ?_
  rw [← x.dproj_eq (eps_pos h)]
  rfl

theorem res1 : (val5 V0 (Proc.devRef .tc main_v235) : S1x1024.Idx → EReal) = fun i => ((x.gqw (i 1).val : ℝ) : EReal) := by
  funext i
  obtain ⟨n, j, rfl⟩ : ∃ n j, i = ix2 n j := ⟨_, _, pair i⟩
  obtain rfl : n = 0 := Subsingleton.elim _ _
  refine (out_gqw h j).trans ?_
  rw [← x.gqw_eq]
  rfl

theorem res2 : (val5 V0 (Proc.devRef .tc main_v236) : S1x256.Idx → EReal) = fun i => ((x.gkw (i 1).val : ℝ) : EReal) := by
  funext i
  obtain ⟨n, j, rfl⟩ : ∃ n j, i = ix2 n j := ⟨_, _, pair i⟩
  obtain rfl : n = 0 := Subsingleton.elim _ _
  refine (out_gkw h j).trans ?_
  rw [← x.gkw_eq]
  rfl

theorem res3 : (val5 V0 (Proc.devRef .tc main_v238) : S8x128.Idx → EReal) =
    fun i => ((if (i 1).val < 16 ∧ (i 0).val = 0 then x.gs (i 1).val else 0 : ℝ) : EReal) := by
  funext i
  obtain ⟨n, j, rfl⟩ : ∃ n j, i = ix2 n j := ⟨_, _, pair i⟩
  refine (out_gs h n j).trans ?_
  rw [← x.gs_eq]
  rfl
end Cert.ReferenceIdeal.Body
end
-- ==== Proof.Entry.lean ====
module

public import Idealize.ShloMosaic.Lib.Pointwise

/-! An array of two axes, read at two natural numbers. -/

@[expose] public section

noncomputable section

namespace Entry
open Idealize.ShloMosaic
open scoped BigOperators

/-- Entry `(r, q)` of the array, and zero outside it. -/
def rd {a b : ℕ} (A : Shape.Idx ⟨2, ![a, b]⟩ → EReal) (r q : ℕ) : EReal :=
  if h : r < a ∧ q < b then A (ix2 ⟨r, h.1⟩ ⟨q, h.2⟩) else 0

theorem sum_mul {n : ℕ} {f f' g g' : Fin n → EReal} (hf : ∀ s, f s = f' s) (hg : ∀ s, g s = g' s) :
    ∑ s, f s * g s = ∑ s, f' s * g' s :=
  Finset.sum_congr rfl fun s _ => congrArg₂ (· * ·) (hf s) (hg s)

theorem sum_mul_comm {n : ℕ} {f f' g g' : Fin n → EReal} (hf : ∀ s, f s = g' s) (hg : ∀ s, g s = f' s) :
    ∑ s, f s * g s = ∑ s, f' s * g' s :=
  (sum_mul hf hg).trans (Finset.sum_congr rfl fun s _ => mul_comm _ _)

/-- An array at an index is its entry at the index's two coordinates. -/
theorem rd_of {a b : ℕ} (A : Shape.Idx ⟨2, ![a, b]⟩ → EReal) (j : Shape.Idx ⟨2, ![a, b]⟩) {r q : ℕ}
    (hr : (j 0).val = r) (hq : (j 1).val = q) : A j = rd A r q := by
  subst hr hq
  have h : (j 0).val < a ∧ (j 1).val < b := ⟨(j 0).isLt, (j 1).isLt⟩
  unfold rd
  rw [dif_pos h]
  refine congrArg A (funext fun k => ?_)
  match k with
  | ⟨0, _⟩ => rfl
  | ⟨1, _⟩ => rfl

end Entry
-- ==== Proof.Products.lean ====
module

public import proofs.«01_k».proof.Proof.Gen.Kernel2Ideal.Frame
public import proofs.«01_k».proof.Proof.Entry
public import Idealize.ShloMosaic.Lib.Pipeline.ValueKit

/-! What each product's call leaves in its result: every entry is one sum over the whole contracted axis. -/

@[expose] public section

set_option maxRecDepth 16384

noncomputable section

namespace Cert.Kernel2Ideal.Products
open Idealize.ShloMosaic Idealize.ShloMosaic.TcCoe Idealize.ShloMosaic.Pipeline Idealize.SL.Sem Cert.Kernel2Ideal Cert.Kernel2Ideal.Gen
open scoped BigOperators

variable (V : (c : Dev nD) → (b : Ref sig .tc) → Buf (Elt Ideal) ((c : Thread nD τ).loc b)) (c : Dev nD)

theorem idx0 : ∀ t : Fin cfg0.N, win0_0.index t 0 = 0 ∧ win0_0.index t 1 = win0_2.index t 0 ∧ win0_1.index t 0 = 0 ∧ win0_1.index t 1 = win0_2.index t 1 :=
  (by decide +kernel : ∀ t : Fin grid0.N, _)

/-- The gradient of the output projection's weights. -/
theorem end0 {A : S4096x2048.Idx → EReal} {B : S4096x2048.Idx → EReal} (hA : V c main_arg2 = A) (hB : V c main_arg3 = B) :
    (dat0 V c).arrAt 2 cfg0.N = fun i : S2048x2048.Idx =>
    ∑ s : Fin 4096, Entry.rd A s.val (i 0).val * Entry.rd B s.val (i 1).val := by
  subst hA hB
  refine (dat0 V c).arrAt_eq_of_covers 2 _ (by decide +kernel) fun t hf y => ?_
  blk_simp
  rw [after0_2]
  frame_out
  unfold k0_pay1
  pointwise []
  obtain ⟨e0, e1, e2, e3⟩ := idx0 t
  refine Entry.sum_mul
    (fun s => Entry.rd_of (V c main_arg2 : S4096x2048.Idx → EReal) (((cfg0.win 0).blk t).view.emb (ix2 s (y 0))) ?_ ?_)
    (fun s => Entry.rd_of (V c main_arg3 : S4096x2048.Idx → EReal) (((cfg0.win 1).blk t).view.emb (ix2 s (y 1))) ?_ ?_)
  all_goals
    blk_simp
    simp only [e0, e1, e2, e3] <;> omega

theorem idx1 : ∀ t : Fin cfg1.N, win1_0.index t 0 = win1_2.index t 0 ∧ win1_0.index t 1 = 0 ∧ win1_1.index t 0 = win1_2.index t 1 ∧ win1_1.index t 1 = 0 :=
  (by decide +kernel : ∀ t : Fin grid1.N, _)

/-- The gradient of the merged branches. -/
theorem end1 {A : S4096x2048.Idx → EReal} {B : S2048x2048.Idx → EReal} (hA : V c main_arg3 = A) (hB : V c main_arg4 = B) :
    (dat1 V c).arrAt 2 cfg1.N = fun i : S4096x2048.Idx =>
    ∑ s : Fin 2048, Entry.rd A (i 0).val s.val * Entry.rd B (i 1).val s.val := by
  subst hA hB
  refine (dat1 V c).arrAt_eq_of_covers 2 _ (by decide +kernel) fun t hf y => ?_
  blk_simp
  rw [after1_2]
  frame_out
  unfold k1_pay1
  pointwise []
  obtain ⟨e0, e1, e2, e3⟩ := idx1 t
  refine Entry.sum_mul
    (fun s => Entry.rd_of (V c main_arg3 : S4096x2048.Idx → EReal) (((cfg1.win 0).blk t).view.emb (ix2 (y 0) s)) ?_ ?_)
    (fun s => Entry.rd_of (V c main_arg4 : S2048x2048.Idx → EReal) (((cfg1.win 1).blk t).view.emb (ix2 (y 1) s)) ?_ ?_)
  all_goals
    blk_simp
    simp only [e0, e1, e2, e3] <;> omega

theorem idx2 : ∀ t : Fin cfg2.N, win2_0.index t 0 = 0 ∧ win2_0.index t 1 = win2_2.index t 0 ∧ win2_1.index t 0 = 0 ∧ win2_1.index t 1 = win2_2.index t 1 :=
  (by decide +kernel : ∀ t : Fin grid2.N, _)

/-- The gradient of the attention projection's weights. -/
theorem end2 {A : S4096x4096.Idx → EReal} {B : S4096x1024.Idx → EReal} (hA : V c main_arg5 = A) (hB : V c main_arg6 = B) :
    (dat2 V c).arrAt 2 cfg2.N = fun i : S2048x1024.Idx =>
    ∑ s : Fin 4096, Entry.rd A s.val (i 0).val * Entry.rd B s.val (i 1).val := by
  subst hA hB
  refine (dat2 V c).arrAt_eq_of_covers 2 _ (by decide +kernel) fun t hf y => ?_
  blk_simp
  rw [after2_2]
  frame_out
  unfold k2_pay1
  pointwise []
  obtain ⟨e0, e1, e2, e3⟩ := idx2 t
  refine Entry.sum_mul
    (fun s => Entry.rd_of (V c main_arg5 : S4096x4096.Idx → EReal) (((cfg2.win 0).blk t).view.emb (ix2 s (y 0))) ?_ ?_)
    (fun s => Entry.rd_of (V c main_arg6 : S4096x1024.Idx → EReal) (((cfg2.win 1).blk t).view.emb (ix2 s (y 1))) ?_ ?_)
  all_goals
    blk_simp
    simp only [e0, e1, e2, e3] <;> omega

theorem idx3 : ∀ t : Fin cfg3.N, win3_0.index t 0 = 0 ∧ win3_0.index t 1 = win3_2.index t 0 + 4 ∧ win3_1.index t 0 = 0 ∧ win3_1.index t 1 = win3_2.index t 1 :=
  (by decide +kernel : ∀ t : Fin grid3.N, _)

/-- The gradient of the state-space projection's weights. -/
theorem end3 {A : S4096x4096.Idx → EReal} {B : S4096x1024.Idx → EReal} (hA : V c main_arg5 = A) (hB : V c main_arg8 = B) :
    (dat3 V c).arrAt 2 cfg3.N = fun i : S2048x1024.Idx =>
    ∑ s : Fin 4096, Entry.rd A s.val (2048 + (i 0).val) * Entry.rd B s.val (i 1).val := by
  subst hA hB
  refine (dat3 V c).arrAt_eq_of_covers 2 _ (by decide +kernel) fun t hf y => ?_
  blk_simp
  rw [after3_2]
  frame_out
  unfold k3_pay1
  pointwise []
  obtain ⟨e0, e1, e2, e3⟩ := idx3 t
  refine Entry.sum_mul
    (fun s => Entry.rd_of (V c main_arg5 : S4096x4096.Idx → EReal) (((cfg3.win 0).blk t).view.emb (ix2 s (y 0))) ?_ ?_)
    (fun s => Entry.rd_of (V c main_arg8 : S4096x1024.Idx → EReal) (((cfg3.win 1).blk t).view.emb (ix2 s (y 1))) ?_ ?_)
  all_goals
    blk_simp
    simp only [e0, e1, e2, e3] <;> omega

theorem idx4 : ∀ t : Fin cfg4.N, win4_0.index t 0 = win4_2.index t 0 ∧ win4_0.index t 1 = 0 ∧ win4_1.index t 0 = 0 ∧ win4_1.index t 1 = win4_2.index t 1 :=
  (by decide +kernel : ∀ t : Fin grid4.N, _)

/-- The gradient of the gated attention. -/
theorem end4 {A : S4096x4096.Idx → EReal} {B : S2048x1024.Idx → EReal} (hA : V c main_arg5 = A) (hB : V c main_arg7 = B) :
    (dat4 V c).arrAt 2 cfg4.N = fun i : S4096x1024.Idx =>
    ∑ s : Fin 2048, Entry.rd A (i 0).val s.val * Entry.rd B s.val (i 1).val := by
  subst hA hB
  refine (dat4 V c).arrAt_eq_of_covers 2 _ (by decide +kernel) fun t hf y => ?_
  blk_simp
  rw [after4_2]
  frame_out
  unfold k4_pay1
  pointwise []
  obtain ⟨e0, e1, e2, e3⟩ := idx4 t
  refine Entry.sum_mul
    (fun s => Entry.rd_of (V c main_arg5 : S4096x4096.Idx → EReal) (((cfg4.win 0).blk t).view.emb (ix2 (y 0) s)) ?_ ?_)
    (fun s => Entry.rd_of (V c main_arg7 : S2048x1024.Idx → EReal) (((cfg4.win 1).blk t).view.emb (ix2 s (y 1))) ?_ ?_)
  all_goals
    blk_simp
    simp only [e0, e1, e2, e3] <;> omega

theorem idx5 : ∀ t : Fin cfg5.N, win5_0.index t 0 = win5_2.index t 0 ∧ win5_0.index t 1 = 1 ∧ win5_1.index t 0 = 0 ∧ win5_1.index t 1 = win5_2.index t 1 :=
  (by decide +kernel : ∀ t : Fin grid5.N, _)

/-- The gradient of the gated state-space branch. -/
theorem end5 {A : S4096x4096.Idx → EReal} {B : S2048x1024.Idx → EReal} (hA : V c main_arg5 = A) (hB : V c main_arg9 = B) :
    (dat5 V c).arrAt 2 cfg5.N = fun i : S4096x1024.Idx =>
    ∑ s : Fin 2048, Entry.rd A (i 0).val (2048 + s.val) * Entry.rd B s.val (i 1).val := by
  subst hA hB
  refine (dat5 V c).arrAt_eq_of_covers 2 _ (by decide +kernel) fun t hf y => ?_
  blk_simp
  rw [after5_2]
  frame_out
  unfold k5_pay1
  pointwise []
  obtain ⟨e0, e1, e2, e3⟩ := idx5 t
  refine Entry.sum_mul
    (fun s => Entry.rd_of (V c main_arg5 : S4096x4096.Idx → EReal) (((cfg5.win 0).blk t).view.emb (ix2 (y 0) s)) ?_ ?_)
    (fun s => Entry.rd_of (V c main_arg9 : S2048x1024.Idx → EReal) (((cfg5.win 1).blk t).view.emb (ix2 s (y 1))) ?_ ?_)
  all_goals
    blk_simp
    simp only [e0, e1, e2, e3] <;> omega

theorem idx6 : ∀ t : Fin cfg6.N, win6_0.index t 0 = 0 ∧ win6_0.index t 1 = win6_2.index t 0 ∧ win6_1.index t 0 = 0 ∧ win6_1.index t 1 = win6_2.index t 1 :=
  (by decide +kernel : ∀ t : Fin grid6.N, _)

/-- The gradient of the gated linear unit's weights. -/
theorem end6 {A : S4096x2048.Idx → EReal} {B : S4096x1024.Idx → EReal} (hA : V c main_arg11 = A) (hB : V c main_arg10 = B) :
    (dat6 V c).arrAt 2 cfg6.N = fun i : S2048x1024.Idx =>
    ∑ s : Fin 4096, Entry.rd A s.val (i 0).val * Entry.rd B s.val (i 1).val := by
  subst hA hB
  refine (dat6 V c).arrAt_eq_of_covers 2 _ (by decide +kernel) fun t hf y => ?_
  blk_simp
  rw [after6_2]
  frame_out
  unfold k6_pay1
  pointwise []
  obtain ⟨e0, e1, e2, e3⟩ := idx6 t
  refine Entry.sum_mul
    (fun s => Entry.rd_of (V c main_arg11 : S4096x2048.Idx → EReal) (((cfg6.win 0).blk t).view.emb (ix2 s (y 0))) ?_ ?_)
    (fun s => Entry.rd_of (V c main_arg10 : S4096x1024.Idx → EReal) (((cfg6.win 1).blk t).view.emb (ix2 s (y 1))) ?_ ?_)
  all_goals
    blk_simp
    simp only [e0, e1, e2, e3] <;> omega

theorem idx7 : ∀ t : Fin cfg7.N, win7_0.index t 0 = win7_2.index t 0 ∧ win7_0.index t 1 = 0 ∧ win7_1.index t 0 = 0 ∧ win7_1.index t 1 = win7_2.index t 1 :=
  (by decide +kernel : ∀ t : Fin grid7.N, _)

/-- The gradient of the gated linear unit's input. -/
theorem end7 {A : S4096x2048.Idx → EReal} {B : S2048x1024.Idx → EReal} (hA : V c main_arg11 = A) (hB : V c main_arg12 = B) :
    (dat7 V c).arrAt 2 cfg7.N = fun i : S4096x1024.Idx =>
    ∑ s : Fin 2048, Entry.rd A (i 0).val s.val * Entry.rd B s.val (i 1).val := by
  subst hA hB
  refine (dat7 V c).arrAt_eq_of_covers 2 _ (by decide +kernel) fun t hf y => ?_
  blk_simp
  rw [after7_2]
  frame_out
  unfold k7_pay1
  pointwise []
  obtain ⟨e0, e1, e2, e3⟩ := idx7 t
  refine Entry.sum_mul
    (fun s => Entry.rd_of (V c main_arg11 : S4096x2048.Idx → EReal) (((cfg7.win 0).blk t).view.emb (ix2 (y 0) s)) ?_ ?_)
    (fun s => Entry.rd_of (V c main_arg12 : S2048x1024.Idx → EReal) (((cfg7.win 1).blk t).view.emb (ix2 s (y 1))) ?_ ?_)
  all_goals
    blk_simp
    simp only [e0, e1, e2, e3] <;> omega

theorem idx8 : ∀ t : Fin cfg8.N, win8_0.index t 0 = 0 ∧ win8_0.index t 1 = win8_2.index t 0 ∧ win8_1.index t 0 = 0 ∧ win8_1.index t 1 = win8_2.index t 1 :=
  (by decide +kernel : ∀ t : Fin grid8.N, _)

/-- The gradient of the input projection's weights, the first half of the rows of `w_in`. -/
theorem end8 {A : S4096x8704.Idx → EReal} {B : S4096x2048.Idx → EReal} (hA : V c main_arg1 = A) (hB : V c main_arg0 = B) :
    (dat8 V c).arrAt 2 cfg8.N = fun i : S8704x1024.Idx =>
    ∑ s : Fin 4096, Entry.rd A s.val (i 0).val * Entry.rd B s.val (i 1).val := by
  subst hA hB
  refine (dat8 V c).arrAt_eq_of_covers 2 _ (by decide +kernel) fun t hf y => ?_
  blk_simp
  rw [after8_2]
  frame_out
  unfold k8_pay1
  pointwise []
  obtain ⟨e0, e1, e2, e3⟩ := idx8 t
  refine Entry.sum_mul
    (fun s => Entry.rd_of (V c main_arg1 : S4096x8704.Idx → EReal) (((cfg8.win 0).blk t).view.emb (ix2 s (y 0))) ?_ ?_)
    (fun s => Entry.rd_of (V c main_arg0 : S4096x2048.Idx → EReal) (((cfg8.win 1).blk t).view.emb (ix2 s (y 1))) ?_ ?_)
  all_goals
    blk_simp
    simp only [e0, e1, e2, e3] <;> omega

theorem idx9 : ∀ t : Fin cfg9.N, win9_0.index t 0 = 0 ∧ win9_0.index t 1 = win9_2.index t 0 ∧ win9_1.index t 0 = 0 ∧ win9_1.index t 1 = win9_2.index t 1 + 1 :=
  (by decide +kernel : ∀ t : Fin grid9.N, _)

/-- The gradient of the input projection's weights, the second half. -/
theorem end9 {A : S4096x8704.Idx → EReal} {B : S4096x2048.Idx → EReal} (hA : V c main_arg1 = A) (hB : V c main_arg0 = B) :
    (dat9 V c).arrAt 2 cfg9.N = fun i : S8704x1024.Idx =>
    ∑ s : Fin 4096, Entry.rd A s.val (i 0).val * Entry.rd B s.val (1024 + (i 1).val) := by
  subst hA hB
  refine (dat9 V c).arrAt_eq_of_covers 2 _ (by decide +kernel) fun t hf y => ?_
  blk_simp
  rw [after9_2]
  frame_out
  unfold k9_pay1
  pointwise []
  obtain ⟨e0, e1, e2, e3⟩ := idx9 t
  refine Entry.sum_mul
    (fun s => Entry.rd_of (V c main_arg1 : S4096x8704.Idx → EReal) (((cfg9.win 0).blk t).view.emb (ix2 s (y 0))) ?_ ?_)
    (fun s => Entry.rd_of (V c main_arg0 : S4096x2048.Idx → EReal) (((cfg9.win 1).blk t).view.emb (ix2 s (y 1))) ?_ ?_)
  all_goals
    blk_simp
    simp only [e0, e1, e2, e3] <;> omega

end Cert.Kernel2Ideal.Products
-- ==== Proof.ProductsRun.lean ====
module

public import proofs.«01_k».proof.Proof.Products

/-! The ten products' calls, run one after the other: what every result holds at the end. -/

@[expose] public section

set_option maxRecDepth 16384

noncomputable section

namespace Cert.Kernel2Ideal.Products
open Idealize.ShloMosaic Idealize.ShloMosaic.TcCoe Idealize.ShloMosaic.Pipeline Idealize.SL.Sem Cert.Kernel2Ideal Cert.Kernel2Ideal.Gen
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- Device `c`'s arguments. -/
abbrev arg (a : Ref sig .tc) : Buf (Elt Ideal) ((c : Thread nD τ).loc a) := m ((c : Thread nD τ).loc a)

theorem off9 : ∀ r ∈ ([main_v0, main_v1, main_v2, main_v3, main_v4, main_v5, main_v6, main_v7, main_v8] : List (Ref sig .tc)), ∀ w, arrRef spec9 w ≠ r := by decide +kernel
theorem stay9 (r : Ref sig .tc) (h : r ∈ ([main_v0, main_v1, main_v2, main_v3, main_v4, main_v5, main_v6, main_v7, main_v8] : List (Ref sig .tc))) : W10 m ρ c (Proc.devRef .tc r) = W9 m ρ c (Proc.devRef .tc r) :=
  W10_of_ne m ρ c r (off9 r h)

theorem off8 : ∀ r ∈ ([main_v0, main_v1, main_v2, main_v3, main_v4, main_v5, main_v6, main_v7] : List (Ref sig .tc)), ∀ w, arrRef spec8 w ≠ r := by decide +kernel
theorem stay8 (r : Ref sig .tc) (h : r ∈ ([main_v0, main_v1, main_v2, main_v3, main_v4, main_v5, main_v6, main_v7] : List (Ref sig .tc))) : W10 m ρ c (Proc.devRef .tc r) = W8 m ρ c (Proc.devRef .tc r) :=
  (stay9 m ρ c r (List.mem_append_left [main_v8] h)).trans (W9_of_ne m ρ c r (off8 r h))

theorem off7 : ∀ r ∈ ([main_v0, main_v1, main_v2, main_v3, main_v4, main_v5, main_v6] : List (Ref sig .tc)), ∀ w, arrRef spec7 w ≠ r := by decide +kernel
theorem stay7 (r : Ref sig .tc) (h : r ∈ ([main_v0, main_v1, main_v2, main_v3, main_v4, main_v5, main_v6] : List (Ref sig .tc))) : W10 m ρ c (Proc.devRef .tc r) = W7 m ρ c (Proc.devRef .tc r) :=
  (stay8 m ρ c r (List.mem_append_left [main_v7] h)).trans (W8_of_ne m ρ c r (off7 r h))

theorem off6 : ∀ r ∈ ([main_v0, main_v1, main_v2, main_v3, main_v4, main_v5] : List (Ref sig .tc)), ∀ w, arrRef spec6 w ≠ r := by decide +kernel
theorem stay6 (r : Ref sig .tc) (h : r ∈ ([main_v0, main_v1, main_v2, main_v3, main_v4, main_v5] : List (Ref sig .tc))) : W10 m ρ c (Proc.devRef .tc r) = W6 m ρ c (Proc.devRef .tc r) :=
  (stay7 m ρ c r (List.mem_append_left [main_v6] h)).trans (W7_of_ne m ρ c r (off6 r h))

theorem off5 : ∀ r ∈ ([main_v0, main_v1, main_v2, main_v3, main_v4] : List (Ref sig .tc)), ∀ w, arrRef spec5 w ≠ r := by decide +kernel
theorem stay5 (r : Ref sig .tc) (h : r ∈ ([main_v0, main_v1, main_v2, main_v3, main_v4] : List (Ref sig .tc))) : W10 m ρ c (Proc.devRef .tc r) = W5 m ρ c (Proc.devRef .tc r) :=
  (stay6 m ρ c r (List.mem_append_left [main_v5] h)).trans (W6_of_ne m ρ c r (off5 r h))

theorem off4 : ∀ r ∈ ([main_v0, main_v1, main_v2, main_v3] : List (Ref sig .tc)), ∀ w, arrRef spec4 w ≠ r := by decide +kernel
theorem stay4 (r : Ref sig .tc) (h : r ∈ ([main_v0, main_v1, main_v2, main_v3] : List (Ref sig .tc))) : W10 m ρ c (Proc.devRef .tc r) = W4 m ρ c (Proc.devRef .tc r) :=
  (stay5 m ρ c r (List.mem_append_left [main_v4] h)).trans (W5_of_ne m ρ c r (off4 r h))

theorem off3 : ∀ r ∈ ([main_v0, main_v1, main_v2] : List (Ref sig .tc)), ∀ w, arrRef spec3 w ≠ r := by decide +kernel
theorem stay3 (r : Ref sig .tc) (h : r ∈ ([main_v0, main_v1, main_v2] : List (Ref sig .tc))) : W10 m ρ c (Proc.devRef .tc r) = W3 m ρ c (Proc.devRef .tc r) :=
  (stay4 m ρ c r (List.mem_append_left [main_v3] h)).trans (W4_of_ne m ρ c r (off3 r h))

theorem off2 : ∀ r ∈ ([main_v0, main_v1] : List (Ref sig .tc)), ∀ w, arrRef spec2 w ≠ r := by decide +kernel
theorem stay2 (r : Ref sig .tc) (h : r ∈ ([main_v0, main_v1] : List (Ref sig .tc))) : W10 m ρ c (Proc.devRef .tc r) = W2 m ρ c (Proc.devRef .tc r) :=
  (stay3 m ρ c r (List.mem_append_left [main_v2] h)).trans (W3_of_ne m ρ c r (off2 r h))

theorem off1 : ∀ r ∈ ([main_v0] : List (Ref sig .tc)), ∀ w, arrRef spec1 w ≠ r := by decide +kernel
theorem stay1 (r : Ref sig .tc) (h : r ∈ ([main_v0] : List (Ref sig .tc))) : W10 m ρ c (Proc.devRef .tc r) = W1 m ρ c (Proc.devRef .tc r) :=
  (stay2 m ρ c r (List.mem_append_left [main_v1] h)).trans (W2_of_ne m ρ c r (off1 r h))

/-- The gradient of the output projection's weights. -/
def res0 : S2048x2048.Idx → EReal := fun i => ∑ s : Fin 4096, Entry.rd (arg m c main_arg2 : S4096x2048.Idx → EReal) s.val (i 0).val * Entry.rd (arg m c main_arg3 : S4096x2048.Idx → EReal) s.val (i 1).val
theorem val0 : W10 m ρ c (Proc.devRef .tc main_v0) = res0 m c :=
  (stay1 m ρ c main_v0 (by decide)).trans ((W1_arr m ρ c 2).trans (end0 (V0 m ρ) c (W0_args m ρ c main_arg2 (by decide)) (W0_args m ρ c main_arg3 (by decide))))

/-- The gradient of the merged branches. -/
def res1 : S4096x2048.Idx → EReal := fun i => ∑ s : Fin 2048, Entry.rd (arg m c main_arg3 : S4096x2048.Idx → EReal) (i 0).val s.val * Entry.rd (arg m c main_arg4 : S2048x2048.Idx → EReal) (i 1).val s.val
theorem val1 : W10 m ρ c (Proc.devRef .tc main_v1) = res1 m c :=
  (stay2 m ρ c main_v1 (by decide)).trans ((W2_arr m ρ c 2).trans (end1 (V1 m ρ) c (W1_args m ρ c main_arg3 (by decide)) (W1_args m ρ c main_arg4 (by decide))))

/-- The gradient of the attention projection's weights. -/
def res2 : S2048x1024.Idx → EReal := fun i => ∑ s : Fin 4096, Entry.rd (arg m c main_arg5 : S4096x4096.Idx → EReal) s.val (i 0).val * Entry.rd (arg m c main_arg6 : S4096x1024.Idx → EReal) s.val (i 1).val
theorem val2 : W10 m ρ c (Proc.devRef .tc main_v2) = res2 m c :=
  (stay3 m ρ c main_v2 (by decide)).trans ((W3_arr m ρ c 2).trans (end2 (V2 m ρ) c (W2_args m ρ c main_arg5 (by decide)) (W2_args m ρ c main_arg6 (by decide))))

/-- The gradient of the state-space projection's weights. -/
def res3 : S2048x1024.Idx → EReal := fun i => ∑ s : Fin 4096, Entry.rd (arg m c main_arg5 : S4096x4096.Idx → EReal) s.val (2048 + (i 0).val) * Entry.rd (arg m c main_arg8 : S4096x1024.Idx → EReal) s.val (i 1).val
theorem val3 : W10 m ρ c (Proc.devRef .tc main_v3) = res3 m c :=
  (stay4 m ρ c main_v3 (by decide)).trans ((W4_arr m ρ c 2).trans (end3 (V3 m ρ) c (W3_args m ρ c main_arg5 (by decide)) (W3_args m ρ c main_arg8 (by decide))))

/-- The gradient of the gated attention. -/
def res4 : S4096x1024.Idx → EReal := fun i => ∑ s : Fin 2048, Entry.rd (arg m c main_arg5 : S4096x4096.Idx → EReal) (i 0).val s.val * Entry.rd (arg m c main_arg7 : S2048x1024.Idx → EReal) s.val (i 1).val
theorem val4 : W10 m ρ c (Proc.devRef .tc main_v4) = res4 m c :=
  (stay5 m ρ c main_v4 (by decide)).trans ((W5_arr m ρ c 2).trans (end4 (V4 m ρ) c (W4_args m ρ c main_arg5 (by decide)) (W4_args m ρ c main_arg7 (by decide))))

/-- The gradient of the gated state-space branch. -/
def res5 : S4096x1024.Idx → EReal := fun i => ∑ s : Fin 2048, Entry.rd (arg m c main_arg5 : S4096x4096.Idx → EReal) (i 0).val (2048 + s.val) * Entry.rd (arg m c main_arg9 : S2048x1024.Idx → EReal) s.val (i 1).val
theorem val5 : W10 m ρ c (Proc.devRef .tc main_v5) = res5 m c :=
  (stay6 m ρ c main_v5 (by decide)).trans ((W6_arr m ρ c 2).trans (end5 (V5 m ρ) c (W5_args m ρ c main_arg5 (by decide)) (W5_args m ρ c main_arg9 (by decide))))

/-- The gradient of the gated linear unit's weights. -/
def res6 : S2048x1024.Idx → EReal := fun i => ∑ s : Fin 4096, Entry.rd (arg m c main_arg11 : S4096x2048.Idx → EReal) s.val (i 0).val * Entry.rd (arg m c main_arg10 : S4096x1024.Idx → EReal) s.val (i 1).val
theorem val6 : W10 m ρ c (Proc.devRef .tc main_v6) = res6 m c :=
  (stay7 m ρ c main_v6 (by decide)).trans ((W7_arr m ρ c 2).trans (end6 (V6 m ρ) c (W6_args m ρ c main_arg11 (by decide)) (W6_args m ρ c main_arg10 (by decide))))

/-- The gradient of the gated linear unit's input. -/
def res7 : S4096x1024.Idx → EReal := fun i => ∑ s : Fin 2048, Entry.rd (arg m c main_arg11 : S4096x2048.Idx → EReal) (i 0).val s.val * Entry.rd (arg m c main_arg12 : S2048x1024.Idx → EReal) s.val (i 1).val
theorem val7 : W10 m ρ c (Proc.devRef .tc main_v7) = res7 m c :=
  (stay8 m ρ c main_v7 (by decide)).trans ((W8_arr m ρ c 2).trans (end7 (V7 m ρ) c (W7_args m ρ c main_arg11 (by decide)) (W7_args m ρ c main_arg12 (by decide))))

/-- The gradient of the input projection's weights, the first half of the rows of `w_in`. -/
def res8 : S8704x1024.Idx → EReal := fun i => ∑ s : Fin 4096, Entry.rd (arg m c main_arg1 : S4096x8704.Idx → EReal) s.val (i 0).val * Entry.rd (arg m c main_arg0 : S4096x2048.Idx → EReal) s.val (i 1).val
theorem val8 : W10 m ρ c (Proc.devRef .tc main_v8) = res8 m c :=
  (stay9 m ρ c main_v8 (by decide)).trans ((W9_arr m ρ c 2).trans (end8 (V8 m ρ) c (W8_args m ρ c main_arg1 (by decide)) (W8_args m ρ c main_arg0 (by decide))))

/-- The gradient of the input projection's weights, the second half. -/
def res9 : S8704x1024.Idx → EReal := fun i => ∑ s : Fin 4096, Entry.rd (arg m c main_arg1 : S4096x8704.Idx → EReal) s.val (i 0).val * Entry.rd (arg m c main_arg0 : S4096x2048.Idx → EReal) s.val (1024 + (i 1).val)
theorem val9 : W10 m ρ c (Proc.devRef .tc main_v9) = res9 m c :=
  (W10_arr m ρ c 2).trans (end9 (V9 m ρ) c (W9_args m ρ c main_arg1 (by decide)) (W9_args m ρ c main_arg0 (by decide)))

set_option backward.isDefEq.respectTransparency.types false in
/-- The run: every result at its sums of the arguments. -/
theorem run : θ_run defs (onTc (τ := τ) (main (F := Ideal))) ⟨m, fun _ => 0, ρ⟩ (fun r => ∀ c : Dev nD,
      r.2.mem ((c.tc : Thread nD τ).loc main_v0) = res0 m c
      ∧ r.2.mem ((c.tc : Thread nD τ).loc main_v1) = res1 m c
      ∧ r.2.mem ((c.tc : Thread nD τ).loc main_v2) = res2 m c
      ∧ r.2.mem ((c.tc : Thread nD τ).loc main_v3) = res3 m c
      ∧ r.2.mem ((c.tc : Thread nD τ).loc main_v4) = res4 m c
      ∧ r.2.mem ((c.tc : Thread nD τ).loc main_v5) = res5 m c
      ∧ r.2.mem ((c.tc : Thread nD τ).loc main_v6) = res6 m c
      ∧ r.2.mem ((c.tc : Thread nD τ).loc main_v7) = res7 m c
      ∧ r.2.mem ((c.tc : Thread nD τ).loc main_v8) = res8 m c
      ∧ r.2.mem ((c.tc : Thread nD τ).loc main_v9) = res9 m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c => ⟨(h c _ (mem_uc main_v0 (by decide))).trans (val0 m ρ c),
      (h c _ (mem_uc main_v1 (by decide))).trans (val1 m ρ c),
      (h c _ (mem_uc main_v2 (by decide))).trans (val2 m ρ c),
      (h c _ (mem_uc main_v3 (by decide))).trans (val3 m ρ c),
      (h c _ (mem_uc main_v4 (by decide))).trans (val4 m ρ c),
      (h c _ (mem_uc main_v5 (by decide))).trans (val5 m ρ c),
      (h c _ (mem_uc main_v6 (by decide))).trans (val6 m ρ c),
      (h c _ (mem_uc main_v7 (by decide))).trans (val7 m ρ c),
      (h c _ (mem_uc main_v8 (by decide))).trans (val8 m ρ c),
      (h c _ (mem_uc main_v9 (by decide))).trans (val9 m ρ c)⟩)

end Cert.Kernel2Ideal.Products
-- ==== Proof.RefProducts.lean ====
module

public import proofs.«01_k».proof.Proof.Gen.Reference2Ideal.Run
public import proofs.«01_k».proof.Proof.Entry

/-! The derivatives of the step's products in the reference: every entry is one sum over the contracted axis. -/

@[expose] public section

set_option maxRecDepth 16384

noncomputable section

namespace Cert.Reference2Ideal.Products
open Idealize.ShloMosaic Idealize.ShloMosaic.TcCoe Idealize.SL.Sem Cert.Reference2Ideal Cert.Reference2Ideal.Gen
open scoped BigOperators

variable (m : (ℓ : Loc nD τ sig) → Buf (Elt Ideal) ℓ) (ρ : Dev nD → PrngReg) (c : Dev nD)

/-- Device `c`'s arguments. -/
abbrev arg (a : Ref sig .tc) : Buf (Elt Ideal) ((c : Thread nD τ).loc a) := m ((c : Thread nD τ).loc a)

/-- The gradient of the output projection's weights. -/
def res0 : S2048x2048.Idx → EReal := fun i => ∑ s : Fin 4096, Entry.rd (arg m c main_arg2 : S4096x2048.Idx → EReal) s.val (i 0).val * Entry.rd (arg m c main_arg3 : S4096x2048.Idx → EReal) s.val (i 1).val

theorem val0 : (transpose S2048x2048 [1, 0] (Host.dotGeneral dot_S4096x2048_S4096x2048_S2048x2048_0_0_1_1_n_n none (extf .f32 (m ((c.tc : Thread nD τ).loc main_arg3)) bitsLt_bf16_f32) (extf .f32 (m ((c.tc : Thread nD τ).loc main_arg2)) bitsLt_bf16_f32)) transposes_S2048x2048_S2048x2048_1_0 : FVec Ideal S2048x2048 .f32) = res0 m c := by
  funext i
  unfold res0
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the merged branches. -/
def res1 : S4096x2048.Idx → EReal := fun i => ∑ s : Fin 2048, Entry.rd (arg m c main_arg3 : S4096x2048.Idx → EReal) (i 0).val s.val * Entry.rd (arg m c main_arg4 : S2048x2048.Idx → EReal) (i 1).val s.val

theorem val1 : (truncf .bf16 (Host.dotGeneral dot_S4096x2048_S2048x2048_S4096x2048_1_1_0_0_n_n none (extf .f32 (m ((c.tc : Thread nD τ).loc main_arg3)) bitsLt_bf16_f32) (extf .f32 (m ((c.tc : Thread nD τ).loc main_arg4)) bitsLt_bf16_f32)) bitsLt_bf16_f32 : FVec Ideal S4096x2048 .bf16) = res1 m c := by
  funext i
  unfold res1
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the attention projection's weights. -/
def res2 : S2048x1024.Idx → EReal := fun i => ∑ s : Fin 4096, Entry.rd (arg m c main_arg5 : S4096x4096.Idx → EReal) s.val (i 0).val * Entry.rd (arg m c main_arg6 : S4096x1024.Idx → EReal) s.val (i 1).val

theorem val2 : (transpose S2048x1024 [1, 0] (transpose S1024x2048 [1, 0] (Host.dotGeneral dot_S4096x2048_S4096x1024_S2048x1024_0_0_1_1_n_n none (extf .f32 (extractStridedSlice S4096x2048 ![0, 0] (m ((c.tc : Thread nD τ).loc main_arg5)) slices_S4096x4096_S4096x2048_0_0) bitsLt_bf16_f32) (extf .f32 (m ((c.tc : Thread nD τ).loc main_arg6)) bitsLt_bf16_f32)) transposes_S2048x1024_S1024x2048_1_0) transposes_S1024x2048_S2048x1024_1_0 : FVec Ideal S2048x1024 .f32) = res2 m c := by
  funext i
  unfold res2
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the state-space projection's weights. -/
def res3 : S2048x1024.Idx → EReal := fun i => ∑ s : Fin 4096, Entry.rd (arg m c main_arg5 : S4096x4096.Idx → EReal) s.val (2048 + (i 0).val) * Entry.rd (arg m c main_arg8 : S4096x1024.Idx → EReal) s.val (i 1).val

theorem val3 : (transpose S2048x1024 [1, 0] (transpose S1024x2048 [1, 0] (Host.dotGeneral dot_S4096x2048_S4096x1024_S2048x1024_0_0_1_1_n_n none (extf .f32 (extractStridedSlice S4096x2048 ![0, 2048] (m ((c.tc : Thread nD τ).loc main_arg5)) slices_S4096x4096_S4096x2048_0_2048) bitsLt_bf16_f32) (extf .f32 (m ((c.tc : Thread nD τ).loc main_arg8)) bitsLt_bf16_f32)) transposes_S2048x1024_S1024x2048_1_0) transposes_S1024x2048_S2048x1024_1_0 : FVec Ideal S2048x1024 .f32) = res3 m c := by
  funext i
  unfold res3
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the gated attention. -/
def res4 : S4096x1024.Idx → EReal := fun i => ∑ s : Fin 2048, Entry.rd (arg m c main_arg5 : S4096x4096.Idx → EReal) (i 0).val s.val * Entry.rd (arg m c main_arg7 : S2048x1024.Idx → EReal) s.val (i 1).val

theorem val4 : (truncf .bf16 (Host.dotGeneral dot_S4096x2048_S1024x2048_S4096x1024_1_1_0_0_n_n none (extf .f32 (extractStridedSlice S4096x2048 ![0, 0] (m ((c.tc : Thread nD τ).loc main_arg5)) slices_S4096x4096_S4096x2048_0_0) bitsLt_bf16_f32) (extf .f32 (transpose S1024x2048 [1, 0] (m ((c.tc : Thread nD τ).loc main_arg7)) transposes_S2048x1024_S1024x2048_1_0) bitsLt_bf16_f32)) bitsLt_bf16_f32 : FVec Ideal S4096x1024 .bf16) = res4 m c := by
  funext i
  unfold res4
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the gated state-space branch. -/
def res5 : S4096x1024.Idx → EReal := fun i => ∑ s : Fin 2048, Entry.rd (arg m c main_arg5 : S4096x4096.Idx → EReal) (i 0).val (2048 + s.val) * Entry.rd (arg m c main_arg9 : S2048x1024.Idx → EReal) s.val (i 1).val

theorem val5 : (truncf .bf16 (Host.dotGeneral dot_S4096x2048_S1024x2048_S4096x1024_1_1_0_0_n_n none (extf .f32 (extractStridedSlice S4096x2048 ![0, 2048] (m ((c.tc : Thread nD τ).loc main_arg5)) slices_S4096x4096_S4096x2048_0_2048) bitsLt_bf16_f32) (extf .f32 (transpose S1024x2048 [1, 0] (m ((c.tc : Thread nD τ).loc main_arg9)) transposes_S2048x1024_S1024x2048_1_0) bitsLt_bf16_f32)) bitsLt_bf16_f32 : FVec Ideal S4096x1024 .bf16) = res5 m c := by
  funext i
  unfold res5
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the gated linear unit's weights. -/
def res6 : S2048x1024.Idx → EReal := fun i => ∑ s : Fin 4096, Entry.rd (arg m c main_arg11 : S4096x2048.Idx → EReal) s.val (i 0).val * Entry.rd (arg m c main_arg10 : S4096x1024.Idx → EReal) s.val (i 1).val

theorem val6 : (transpose S2048x1024 [1, 0] (transpose S1024x2048 [1, 0] (Host.dotGeneral dot_S4096x2048_S4096x1024_S2048x1024_0_0_1_1_n_n none (extf .f32 (m ((c.tc : Thread nD τ).loc main_arg11)) bitsLt_bf16_f32) (extf .f32 (m ((c.tc : Thread nD τ).loc main_arg10)) bitsLt_bf16_f32)) transposes_S2048x1024_S1024x2048_1_0) transposes_S1024x2048_S2048x1024_1_0 : FVec Ideal S2048x1024 .f32) = res6 m c := by
  funext i
  unfold res6
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the gated linear unit's input. -/
def res7 : S4096x1024.Idx → EReal := fun i => ∑ s : Fin 2048, Entry.rd (arg m c main_arg11 : S4096x2048.Idx → EReal) (i 0).val s.val * Entry.rd (arg m c main_arg12 : S2048x1024.Idx → EReal) s.val (i 1).val

theorem val7 : (truncf .bf16 (Host.dotGeneral dot_S4096x2048_S1024x2048_S4096x1024_1_1_0_0_n_n none (extf .f32 (m ((c.tc : Thread nD τ).loc main_arg11)) bitsLt_bf16_f32) (extf .f32 (transpose S1024x2048 [1, 0] (m ((c.tc : Thread nD τ).loc main_arg12)) transposes_S2048x1024_S1024x2048_1_0) bitsLt_bf16_f32)) bitsLt_bf16_f32 : FVec Ideal S4096x1024 .bf16) = res7 m c := by
  funext i
  unfold res7
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the input projection's weights, the first half of the rows of `w_in`. -/
def res8 : S8704x1024.Idx → EReal := fun i => ∑ s : Fin 4096, Entry.rd (arg m c main_arg1 : S4096x8704.Idx → EReal) s.val (i 0).val * Entry.rd (arg m c main_arg0 : S4096x2048.Idx → EReal) s.val (i 1).val

theorem val8 : (extractStridedSlice S8704x1024 ![0, 0] (transpose S8704x2048 [1, 0] (transpose S2048x8704 [1, 0] (Host.dotGeneral dot_S4096x8704_S4096x2048_S8704x2048_0_0_1_1_n_n none (extf .f32 (m ((c.tc : Thread nD τ).loc main_arg1)) bitsLt_bf16_f32) (extf .f32 (m ((c.tc : Thread nD τ).loc main_arg0)) bitsLt_bf16_f32)) transposes_S8704x2048_S2048x8704_1_0) transposes_S2048x8704_S8704x2048_1_0) slices_S8704x2048_S8704x1024_0_0 : FVec Ideal S8704x1024 .f32) = res8 m c := by
  funext i
  unfold res8
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

/-- The gradient of the input projection's weights, the second half. -/
def res9 : S8704x1024.Idx → EReal := fun i => ∑ s : Fin 4096, Entry.rd (arg m c main_arg1 : S4096x8704.Idx → EReal) s.val (i 0).val * Entry.rd (arg m c main_arg0 : S4096x2048.Idx → EReal) s.val (1024 + (i 1).val)

theorem val9 : (extractStridedSlice S8704x1024 ![0, 1024] (transpose S8704x2048 [1, 0] (transpose S2048x8704 [1, 0] (Host.dotGeneral dot_S4096x8704_S4096x2048_S8704x2048_0_0_1_1_n_n none (extf .f32 (m ((c.tc : Thread nD τ).loc main_arg1)) bitsLt_bf16_f32) (extf .f32 (m ((c.tc : Thread nD τ).loc main_arg0)) bitsLt_bf16_f32)) transposes_S8704x2048_S2048x8704_1_0) transposes_S2048x8704_S8704x2048_1_0) slices_S8704x2048_S8704x1024_0_1024 : FVec Ideal S8704x1024 .f32) = res9 m c := by
  funext i
  unfold res9
  pointwise []
  first
    | exact Entry.sum_mul (fun s => Entry.rd_of _ _ rfl rfl) (fun s => Entry.rd_of _ _ rfl rfl)
    | exact Entry.sum_mul_comm (fun s => Entry.rd_of _ _ rfl rfl) (fun s => Entry.rd_of _ _ rfl rfl)

end Cert.Reference2Ideal.Products
-- ==== Proof.ProductsClaim.lean ====
/- The products of the step: the run of the ten calls and of their reference, joined to the claims. -/
module

public import proofs.«01_k».proof.Defs
public import proofs.«01_k».proof.Proof.Gen.Kernel2
public import proofs.«01_k».proof.Proof.Gen.Kernel2.Frame
public import proofs.«01_k».proof.Proof.Gen.Reference2Ideal
public import proofs.«01_k».proof.Proof.ProductsRun
public import proofs.«01_k».proof.Proof.RefProducts

@[expose] public section

set_option maxRecDepth 16384

noncomputable section

namespace Cert.Products
open Idealize.ShloMosaic Idealize.SL.Sem

/-- The frame of the calls as printed. -/
theorem frame : Cert.quiescent_Kernel2 (hKernel2 := Cert.Kernel2.Gen.facts) :=
  fun m g _ => Cert.Kernel2.Gen.frame (F := Bits) m g

theorem frame_ideal : Cert.quiescent_Kernel2Ideal (hKernel2Ideal := Cert.Kernel2Ideal.Gen.facts) :=
  fun m g _ => Cert.Kernel2Ideal.Gen.frame (F := Ideal) m g

theorem frame_reference : Cert.quiescent_Reference2Ideal (hReference2Ideal := Cert.Reference2Ideal.Gen.facts) :=
  fun m g _ => (θ_run Cert.Reference2Ideal.defs _ _).mono (fun r h => ⟨fun c => (h c).2.2.2.2.2.2.2.2.2.2, sem_eq_zero_of_no_sems (by decide) r.2⟩)
    (Cert.Reference2Ideal.Value.run m g)

/-- From equal arguments, the calls' results and the reference's are the same extended reals: each is the same sum. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨Cert.Kernel2Ideal.Products.res0 m, Cert.Kernel2Ideal.Products.res1 m, Cert.Kernel2Ideal.Products.res2 m, Cert.Kernel2Ideal.Products.res3 m, Cert.Kernel2Ideal.Products.res4 m, Cert.Kernel2Ideal.Products.res5 m, Cert.Kernel2Ideal.Products.res6 m, Cert.Kernel2Ideal.Products.res7 m, Cert.Kernel2Ideal.Products.res8 m, Cert.Kernel2Ideal.Products.res9 m, ?_, ?_⟩
  · refine (θ_run Cert.Kernel2Ideal.defs _ _).mono (fun r h c => ?_)
      (θ_run_and (Cert.Kernel2Ideal.Products.run m g) (Cert.Kernel2Ideal.Gen.unchanged (F := Ideal) m g))
    obtain ⟨h0, h1, h2, h3, h4, h5, h6, h7, h8, h9⟩ := h.1 c
    exact ⟨h0, h1, h2, h3, h4, h5, h6, h7, h8, h9, h.2 c⟩
  · refine (θ_run Cert.Reference2Ideal.defs _ _).mono (fun r h c => ?_) (Cert.Reference2Ideal.Value.run m' g')
    obtain ⟨e0, e1, e2, e3, e4, e5, e6, e7, e8, e9, e10, e11, e12⟩ := hargs c
    obtain ⟨h0, h1, h2, h3, h4, h5, h6, h7, h8, h9, h⟩ := h c
    have r0 := Cert.Reference2Ideal.Products.val0 m' c
    have r1 := Cert.Reference2Ideal.Products.val1 m' c
    have r2 := Cert.Reference2Ideal.Products.val2 m' c
    have r3 := Cert.Reference2Ideal.Products.val3 m' c
    have r4 := Cert.Reference2Ideal.Products.val4 m' c
    have r5 := Cert.Reference2Ideal.Products.val5 m' c
    have r6 := Cert.Reference2Ideal.Products.val6 m' c
    have r7 := Cert.Reference2Ideal.Products.val7 m' c
    have r8 := Cert.Reference2Ideal.Products.val8 m' c
    have r9 := Cert.Reference2Ideal.Products.val9 m' c
    have s0 : Cert.Reference2Ideal.Products.res0 m' c = Cert.Kernel2Ideal.Products.res0 m c := by
      unfold Cert.Reference2Ideal.Products.res0 Cert.Kernel2Ideal.Products.res0
      exact congrArg₂ (fun A B => (fun i => ∑ s : Fin 4096, Entry.rd A s.val (i 0).val * Entry.rd B s.val (i 1).val : Cert.Kernel2Ideal.S2048x2048.Idx → EReal)) e2 e3
    have s1 : Cert.Reference2Ideal.Products.res1 m' c = Cert.Kernel2Ideal.Products.res1 m c := by
      unfold Cert.Reference2Ideal.Products.res1 Cert.Kernel2Ideal.Products.res1
      exact congrArg₂ (fun A B => (fun i => ∑ s : Fin 2048, Entry.rd A (i 0).val s.val * Entry.rd B (i 1).val s.val : Cert.Kernel2Ideal.S4096x2048.Idx → EReal)) e3 e4
    have s2 : Cert.Reference2Ideal.Products.res2 m' c = Cert.Kernel2Ideal.Products.res2 m c := by
      unfold Cert.Reference2Ideal.Products.res2 Cert.Kernel2Ideal.Products.res2
      exact congrArg₂ (fun A B => (fun i => ∑ s : Fin 4096, Entry.rd A s.val (i 0).val * Entry.rd B s.val (i 1).val : Cert.Kernel2Ideal.S2048x1024.Idx → EReal)) e5 e6
    have s3 : Cert.Reference2Ideal.Products.res3 m' c = Cert.Kernel2Ideal.Products.res3 m c := by
      unfold Cert.Reference2Ideal.Products.res3 Cert.Kernel2Ideal.Products.res3
      exact congrArg₂ (fun A B => (fun i => ∑ s : Fin 4096, Entry.rd A s.val (2048 + (i 0).val) * Entry.rd B s.val (i 1).val : Cert.Kernel2Ideal.S2048x1024.Idx → EReal)) e5 e8
    have s4 : Cert.Reference2Ideal.Products.res4 m' c = Cert.Kernel2Ideal.Products.res4 m c := by
      unfold Cert.Reference2Ideal.Products.res4 Cert.Kernel2Ideal.Products.res4
      exact congrArg₂ (fun A B => (fun i => ∑ s : Fin 2048, Entry.rd A (i 0).val s.val * Entry.rd B s.val (i 1).val : Cert.Kernel2Ideal.S4096x1024.Idx → EReal)) e5 e7
    have s5 : Cert.Reference2Ideal.Products.res5 m' c = Cert.Kernel2Ideal.Products.res5 m c := by
      unfold Cert.Reference2Ideal.Products.res5 Cert.Kernel2Ideal.Products.res5
      exact congrArg₂ (fun A B => (fun i => ∑ s : Fin 2048, Entry.rd A (i 0).val (2048 + s.val) * Entry.rd B s.val (i 1).val : Cert.Kernel2Ideal.S4096x1024.Idx → EReal)) e5 e9
    have s6 : Cert.Reference2Ideal.Products.res6 m' c = Cert.Kernel2Ideal.Products.res6 m c := by
      unfold Cert.Reference2Ideal.Products.res6 Cert.Kernel2Ideal.Products.res6
      exact congrArg₂ (fun A B => (fun i => ∑ s : Fin 4096, Entry.rd A s.val (i 0).val * Entry.rd B s.val (i 1).val : Cert.Kernel2Ideal.S2048x1024.Idx → EReal)) e11 e10
    have s7 : Cert.Reference2Ideal.Products.res7 m' c = Cert.Kernel2Ideal.Products.res7 m c := by
      unfold Cert.Reference2Ideal.Products.res7 Cert.Kernel2Ideal.Products.res7
      exact congrArg₂ (fun A B => (fun i => ∑ s : Fin 2048, Entry.rd A (i 0).val s.val * Entry.rd B s.val (i 1).val : Cert.Kernel2Ideal.S4096x1024.Idx → EReal)) e11 e12
    have s8 : Cert.Reference2Ideal.Products.res8 m' c = Cert.Kernel2Ideal.Products.res8 m c := by
      unfold Cert.Reference2Ideal.Products.res8 Cert.Kernel2Ideal.Products.res8
      exact congrArg₂ (fun A B => (fun i => ∑ s : Fin 4096, Entry.rd A s.val (i 0).val * Entry.rd B s.val (i 1).val : Cert.Kernel2Ideal.S8704x1024.Idx → EReal)) e1 e0
    have s9 : Cert.Reference2Ideal.Products.res9 m' c = Cert.Kernel2Ideal.Products.res9 m c := by
      unfold Cert.Reference2Ideal.Products.res9 Cert.Kernel2Ideal.Products.res9
      exact congrArg₂ (fun A B => (fun i => ∑ s : Fin 4096, Entry.rd A s.val (i 0).val * Entry.rd B s.val (1024 + (i 1).val) : Cert.Kernel2Ideal.S8704x1024.Idx → EReal)) e1 e0
    exact ⟨h0.trans (r0.trans s0), h1.trans (r1.trans s1), h2.trans (r2.trans s2), h3.trans (r3.trans s3), h4.trans (r4.trans s4), h5.trans (r5.trans s5), h6.trans (r6.trans s6), h7.trans (r7.trans s7), h8.trans (r8.trans s8), h9.trans (r9.trans s9), h⟩

end Cert.Products
-- ==== Proof.Forward.lean ====
module

public import proofs.«01_k».proof.Proof.Gen.Kernel3Ideal.Frame
public import proofs.«01_k».proof.Proof.Entry
public import Idealize.ShloMosaic.Lib.Pipeline.ValueKit

/-! What each forward product's call leaves in its result: one sum over the call's contracted axis, and what the call adds to it. -/

@[expose] public section

set_option maxRecDepth 16384

noncomputable section

namespace Cert.Kernel3Ideal.Forward
open Idealize.ShloMosaic Idealize.ShloMosaic.TcCoe Idealize.ShloMosaic.Pipeline Idealize.SL.Sem Cert.Kernel3Ideal Cert.Kernel3Ideal.Gen
open scoped BigOperators

variable (V : (c : Dev nD) → (b : Ref sig .tc) → Buf (Elt Ideal) ((c : Thread nD τ).loc b)) (c : Dev nD)

theorem idx0 : ∀ t : Fin cfg0.N, win0_0.index t 0 = win0_2.index t 0 ∧ win0_0.index t 1 = 0 ∧ win0_1.index t 0 = win0_2.index t 1 ∧ win0_1.index t 1 = 0 :=
  (by decide +kernel : ∀ t : Fin grid0.N, _)

/-- The input projection's first half of the sum. -/
theorem end0 {A : S4096x2048.Idx → EReal} {B : S8704x1024.Idx → EReal} (hA : V c main_arg0 = A) (hB : V c main_arg1 = B) :
    (dat0 V c).arrAt 2 cfg0.N = fun i : S4096x8704.Idx =>
    ∑ s : Fin 1024, Entry.rd A (i 0).val s.val * Entry.rd B (i 1).val s.val := by
  subst hA hB
  refine (dat0 V c).arrAt_eq_of_covers 2 _ (by decide +kernel) fun t hf y => ?_
  blk_simp
  rw [after0_2]
  frame_out
  unfold k0_pay1
  pointwise []
  obtain ⟨e0, e1, e2, e3⟩ := idx0 t
  refine Entry.sum_mul
      (fun s => Entry.rd_of (V c main_arg0 : S4096x2048.Idx → EReal) (((cfg0.win 0).blk t).view.emb (ix2 (y 0) s)) ?_ ?_)
      (fun s => Entry.rd_of (V c main_arg1 : S8704x1024.Idx → EReal) (((cfg0.win 1).blk t).view.emb (ix2 (y 1) s)) ?_ ?_)
  all_goals
    blk_simp
    simp only [e0, e1, e2, e3] <;> omega

theorem idx1 : ∀ t : Fin cfg1.N, win1_0.index t 0 = win1_3.index t 0 ∧ win1_0.index t 1 = 1 ∧ win1_1.index t 0 = win1_3.index t 1 ∧ win1_1.index t 1 = 0 ∧ win1_2.index t 0 = win1_3.index t 0 ∧ win1_2.index t 1 = win1_3.index t 1 :=
  (by decide +kernel : ∀ t : Fin grid1.N, _)

/-- The input projection: the second half of the sum, added to what the first call left. -/
theorem end1 {A : S4096x2048.Idx → EReal} {B : S8704x1024.Idx → EReal} {D : S4096x8704.Idx → EReal} (hA : V c main_arg0 = A)
    (hB : V c main_arg2 = B) (hD : V c main_v0 = D) : (dat1 V c).arrAt 3 cfg1.N = fun i : S4096x8704.Idx =>
    (∑ s : Fin 1024, Entry.rd A (i 0).val (1024 + s.val) * Entry.rd B (i 1).val s.val) + Entry.rd D (i 0).val (i 1).val := by
  subst hA hB hD
  refine (dat1 V c).arrAt_eq_of_covers 3 _ (by decide +kernel) fun t hf y => ?_
  blk_simp
  rw [after1_3]
  frame_out
  unfold k1_pay1
  pointwise []
  obtain ⟨e0, e1, e2, e3, e4, e5⟩ := idx1 t
  refine congrArg₂ (· + ·) (Entry.sum_mul
      (fun s => Entry.rd_of (V c main_arg0 : S4096x2048.Idx → EReal) (((cfg1.win 0).blk t).view.emb (ix2 (y 0) s)) ?_ ?_)
      (fun s => Entry.rd_of (V c main_arg2 : S8704x1024.Idx → EReal) (((cfg1.win 1).blk t).view.emb (ix2 (y 1) s)) ?_ ?_))
    (Entry.rd_of (V c main_v0 : S4096x8704.Idx → EReal) (((cfg1.win 2).blk t).view.emb y) ?_ ?_)
  all_goals
    blk_simp
    simp only [e0, e1, e2, e3, e4, e5] <;> omega

theorem idx2 : ∀ t : Fin cfg2.N, win2_0.index t 0 = win2_3.index t 0 ∧ win2_0.index t 1 = 0 ∧ win2_1.index t 0 = win2_3.index t 1 ∧ win2_1.index t 1 = 0 ∧ win2_2.index t 0 = 0 ∧ win2_2.index t 1 = win2_3.index t 1 :=
  (by decide +kernel : ∀ t : Fin grid2.N, _)

/-- The gated linear unit's product and its bias. -/
theorem end2 {A : S4096x1024.Idx → EReal} {B : S2048x1024.Idx → EReal} {D : S1x2048.Idx → EReal} (hA : V c main_arg3 = A)
    (hB : V c main_arg4 = B) (hD : V c main_v2 = D) : (dat2 V c).arrAt 3 cfg2.N = fun i : S4096x2048.Idx =>
    (∑ s : Fin 1024, Entry.rd A (i 0).val s.val * Entry.rd B (i 1).val s.val) + Entry.rd D 0 (i 1).val := by
  subst hA hB hD
  refine (dat2 V c).arrAt_eq_of_covers 3 _ (by decide +kernel) fun t hf y => ?_
  blk_simp
  rw [after2_3]
  frame_out
  unfold k2_pay1
  pointwise []
  obtain ⟨e0, e1, e2, e3, e4, e5⟩ := idx2 t
  refine congrArg₂ (· + ·) (Entry.sum_mul
      (fun s => Entry.rd_of (V c main_arg3 : S4096x1024.Idx → EReal) (((cfg2.win 0).blk t).view.emb (ix2 (y 0) s)) ?_ ?_)
      (fun s => Entry.rd_of (V c main_arg4 : S2048x1024.Idx → EReal) (((cfg2.win 1).blk t).view.emb (ix2 (y 1) s)) ?_ ?_))
    (Entry.rd_of (V c main_v2 : S1x2048.Idx → EReal) (((cfg2.win 2).blk t).view.emb (ix2 0 (y 1))) ?_ ?_)
  all_goals
    blk_simp
    simp only [e0, e1, e2, e3, e4, e5] <;> omega

theorem idx3 : ∀ t : Fin cfg3.N, win3_0.index t 0 = win3_2.index t 0 ∧ win3_0.index t 1 = 0 ∧ win3_1.index t 0 = win3_2.index t 1 ∧ win3_1.index t 1 = 0 ∧ win3_2.index t 1 < 2 :=
  (by decide +kernel : ∀ t : Fin grid3.N, _)

/-- The attention branch's projection, in the first half of the columns. -/
theorem end3 {A : S4096x1024.Idx → EReal} {B : S2048x1024.Idx → EReal} {D : S4096x4096.Idx → EReal} (hA : V c main_arg6 = A)
    (hB : V c main_arg7 = B) (hD : V c main_v4 = D) : (dat3 V c).arrAt 2 cfg3.N = fun i : S4096x4096.Idx =>
    if (i 1).val < 2048 then ∑ s : Fin 1024, Entry.rd A (i 0).val s.val * Entry.rd B ((i 1).val) s.val else D i := by
  subst hA hB hD
  refine (dat3 V c).arrAt_eq_of_coversWhere_of_agree 2 _ (fun β => β ⟨1, by decide⟩ < 2) (by decide +kernel) (fun t hf y => ?_) (fun j hj => ?_)
  · obtain ⟨e0, e1, e2, e3, e4⟩ := idx3 t
    have hy : (y 1).val < 1024 := (y 1).isLt
    blk_simp
    rw [after3_2, if_pos (by omega)]
    frame_out
    unfold k3_pay1
    pointwise []
    refine Entry.sum_mul
      (fun s => Entry.rd_of (V c main_arg6 : S4096x1024.Idx → EReal) (((cfg3.win 0).blk t).view.emb (ix2 (y 0) s)) ?_ ?_)
      (fun s => Entry.rd_of (V c main_arg7 : S2048x1024.Idx → EReal) (((cfg3.win 1).blk t).view.emb (ix2 (y 1) s)) ?_ ?_)
    all_goals
      blk_simp
      simp only [e0, e1, e3] <;> omega
  · blk_simp [Pipeline.Window.cell_apply] at hj
    blk_simp
    refine Eq.trans ?_ (if_neg (show ¬ (j 1).val < 2048 by omega)).symm
    rw [A_eq3]

theorem idx4 : ∀ t : Fin cfg4.N, win4_0.index t 0 = win4_2.index t 0 ∧ win4_0.index t 1 = 0 ∧ win4_1.index t 0 + 2 = win4_2.index t 1 ∧ win4_1.index t 1 = 0 ∧ 2 ≤ win4_2.index t 1 :=
  (by decide +kernel : ∀ t : Fin grid4.N, _)

/-- The state-space branch's projection, in the second half of the columns. -/
theorem end4 {A : S4096x1024.Idx → EReal} {B : S2048x1024.Idx → EReal} {D : S4096x4096.Idx → EReal} (hA : V c main_arg8 = A)
    (hB : V c main_arg9 = B) (hD : V c main_v5 = D) : (dat4 V c).arrAt 2 cfg4.N = fun i : S4096x4096.Idx =>
    if 2048 ≤ (i 1).val then ∑ s : Fin 1024, Entry.rd A (i 0).val s.val * Entry.rd B ((i 1).val - 2048) s.val else D i := by
  subst hA hB hD
  refine (dat4 V c).arrAt_eq_of_coversWhere_of_agree 2 _ (fun β => 2 ≤ β ⟨1, by decide⟩) (by decide +kernel) (fun t hf y => ?_) (fun j hj => ?_)
  · obtain ⟨e0, e1, e2, e3, e4⟩ := idx4 t
    have hy : (y 1).val < 1024 := (y 1).isLt
    blk_simp
    rw [after4_2, if_pos (by omega)]
    unfold outsAt4
    dsimp only [out4_A_2]
    frame_out
    unfold k4_pay1
    pointwise []
    refine Entry.sum_mul
      (fun s => Entry.rd_of (V c main_arg8 : S4096x1024.Idx → EReal) (((cfg4.win 0).blk t).view.emb (ix2 (y 0) s)) ?_ ?_)
      (fun s => Entry.rd_of (V c main_arg9 : S2048x1024.Idx → EReal) (((cfg4.win 1).blk t).view.emb (ix2 (y 1) s)) ?_ ?_)
    all_goals
      blk_simp
      simp only [e0, e1, e3] <;> omega
  · blk_simp [Pipeline.Window.cell_apply] at hj
    blk_simp
    refine Eq.trans ?_ (if_neg (show ¬ 2048 ≤ (j 1).val by omega)).symm
    rw [A_eq4]

end Cert.Kernel3Ideal.Forward
-- ==== Proof.ForwardRun.lean ====
module

public import proofs.«01_k».proof.Proof.Forward

/-! The forward products' calls, run one after the other: what every result holds at the end. -/

@[expose] public section

set_option maxRecDepth 16384

noncomputable section

namespace Cert.Kernel3Ideal.Forward
open Idealize.ShloMosaic Idealize.ShloMosaic.TcCoe Idealize.ShloMosaic.Pipeline Idealize.SL.Sem Cert.Kernel3Ideal Cert.Kernel3Ideal.Gen
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- Device `c`'s arguments. -/
abbrev arg (a : Ref sig .tc) : Buf (Elt Ideal) ((c : Thread nD τ).loc a) := m ((c : Thread nD τ).loc a)

/-- The input projection: a sum over the second half of the contracted axis and a sum over the first. -/
def proj : S4096x8704.Idx → EReal := fun i =>
  (∑ s : Fin 1024, Entry.rd (arg m c main_arg0 : S4096x2048.Idx → EReal) (i 0).val (1024 + s.val) * Entry.rd (arg m c main_arg2 : S8704x1024.Idx → EReal) (i 1).val s.val)
    + ∑ s : Fin 1024, Entry.rd (arg m c main_arg0 : S4096x2048.Idx → EReal) (i 0).val s.val * Entry.rd (arg m c main_arg1 : S8704x1024.Idx → EReal) (i 1).val s.val

/-- The gated linear unit's product and its bias. -/
def glu : S4096x2048.Idx → EReal := fun i =>
  (∑ s : Fin 1024, Entry.rd (arg m c main_arg3 : S4096x1024.Idx → EReal) (i 0).val s.val * Entry.rd (arg m c main_arg4 : S2048x1024.Idx → EReal) (i 1).val s.val)
    + (arg m c main_arg5 : S2048.Idx → EReal) (ix1 (i 1))

/-- The two branches' projections, side by side. -/
def branches : S4096x4096.Idx → EReal := fun i =>
  if 2048 ≤ (i 1).val then ∑ s : Fin 1024, Entry.rd (arg m c main_arg8 : S4096x1024.Idx → EReal) (i 0).val s.val * Entry.rd (arg m c main_arg9 : S2048x1024.Idx → EReal) ((i 1).val - 2048) s.val
  else ∑ s : Fin 1024, Entry.rd (arg m c main_arg6 : S4096x1024.Idx → EReal) (i 0).val s.val * Entry.rd (arg m c main_arg7 : S2048x1024.Idx → EReal) (i 1).val s.val

theorem val0 : W7 m ρ c (Proc.devRef .tc main_v1) = proj m c := by
  rw [W7_of_ne m ρ c main_v1 (by decide +kernel), W6_of m ρ c main_v1 (by decide +kernel), W5_of_ne m ρ c main_v1 (by decide +kernel),
    W4_of_ne m ρ c main_v1 (by decide +kernel), W3_of m ρ c main_v1 (by decide +kernel)]
  refine (W2_arr m ρ c 3).trans ((end1 (V1 m ρ) c (W1_args m ρ c main_arg0 (by decide)) (W1_args m ρ c main_arg2 (by decide))
    ((W1_arr m ρ c 2).trans (end0 (V0 m ρ) c (W0_args m ρ c main_arg0 (by decide)) (W0_args m ρ c main_arg1 (by decide))))).trans ?_)
  funext i
  exact congrArg₂ (· + ·) rfl (Entry.rd_of _ i rfl rfl).symm

theorem bias : V3 m ρ c main_v2 = shapeCast S1x2048 (arg m c main_arg5 : FVec Ideal S2048 .f32) shapeCasts_S2048_S1x2048 := by
  have h := W2_args m ρ c main_arg5 (by decide)
  show StableHlo.after hostOps2 (W2 m ρ c) (Proc.devRef .tc main_v2) = _
  simp only [hostOps2]
  after_results
  rw [h]
  rfl

theorem val1 : W7 m ρ c (Proc.devRef .tc main_v3) = glu m c := by
  rw [W7_of_ne m ρ c main_v3 (by decide +kernel), W6_of m ρ c main_v3 (by decide +kernel), W5_of_ne m ρ c main_v3 (by decide +kernel)]
  refine (W4_arr m ρ c 3).trans ((end2 (V3 m ρ) c (W3_args m ρ c main_arg3 (by decide)) (W3_args m ρ c main_arg4 (by decide))
    (bias m ρ c)).trans ?_)
  funext i
  refine congrArg₂ (· + ·) rfl ((Entry.rd_of _ (ix2 0 (i 1)) rfl rfl).symm.trans ?_)
  pointwise []

theorem val2 : W7 m ρ c (Proc.devRef .tc main_v5) = branches m c := by
  have h : V6 m ρ c main_v5 = W5 m ρ c (Proc.devRef .tc main_v4) := by
    show StableHlo.after hostOps4 (W5 m ρ c) (Proc.devRef .tc main_v5) = _
    simp only [hostOps4]
    after_results
    rfl
  refine (W7_arr m ρ c 2).trans ((end4 (V6 m ρ) c (W6_args m ρ c main_arg8 (by decide)) (W6_args m ρ c main_arg9 (by decide))
    (h.trans ((W5_arr m ρ c 2).trans (end3 (V4 m ρ) c (W4_args m ρ c main_arg6 (by decide)) (W4_args m ρ c main_arg7 (by decide)) rfl)))).trans ?_)
  funext i
  unfold branches
  by_cases hi : 2048 ≤ (i 1).val
  · rw [if_pos hi, if_pos hi]
  · rw [if_neg hi, if_neg hi, if_pos (by omega)]

set_option backward.isDefEq.respectTransparency.types false in
/-- The run: every result at its sums of the arguments. -/
theorem run : θ_run defs (onTc (τ := τ) (main (F := Ideal))) ⟨m, fun _ => 0, ρ⟩ (fun r => ∀ c : Dev nD,
      r.2.mem ((c.tc : Thread nD τ).loc main_v1) = proj m c
      ∧ r.2.mem ((c.tc : Thread nD τ).loc main_v3) = glu m c
      ∧ r.2.mem ((c.tc : Thread nD τ).loc main_v5) = branches m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c => ⟨(h c _ (mem_uc main_v1 (by decide))).trans (val0 m ρ c),
      (h c _ (mem_uc main_v3 (by decide))).trans (val1 m ρ c),
      (h c _ (mem_uc main_v5 (by decide))).trans (val2 m ρ c)⟩)

end Cert.Kernel3Ideal.Forward
-- ==== Proof.RefForward.lean ====
module

public import proofs.«01_k».proof.Proof.Gen.Reference3Ideal.Run
public import proofs.«01_k».proof.Proof.Entry

/-! The forward products in the reference: the input projection's sum in its two halves, the other products as one sum. -/

@[expose] public section

set_option maxRecDepth 16384

noncomputable section

namespace Cert.Reference3Ideal.Forward
open Idealize.ShloMosaic Idealize.ShloMosaic.TcCoe Idealize.SL.Sem Cert.Reference3Ideal Cert.Reference3Ideal.Gen
open scoped BigOperators

variable (m : (ℓ : Loc nD τ sig) → Buf (Elt Ideal) ℓ) (c : Dev nD)

/-- Device `c`'s arguments. -/
abbrev arg (a : Ref sig .tc) : Buf (Elt Ideal) ((c : Thread nD τ).loc a) := m ((c : Thread nD τ).loc a)

/-- The input projection: a sum over the second half of the contracted axis and a sum over the first. -/
def proj : S4096x8704.Idx → EReal := fun i =>
  (∑ s : Fin 1024, Entry.rd (arg m c main_arg0 : S4096x2048.Idx → EReal) (i 0).val (1024 + s.val) * Entry.rd (arg m c main_arg2 : S8704x1024.Idx → EReal) (i 1).val s.val)
    + ∑ s : Fin 1024, Entry.rd (arg m c main_arg0 : S4096x2048.Idx → EReal) (i 0).val s.val * Entry.rd (arg m c main_arg1 : S8704x1024.Idx → EReal) (i 1).val s.val

/-- The gated linear unit's product and its bias. -/
def glu : S4096x2048.Idx → EReal := fun i =>
  (∑ s : Fin 1024, Entry.rd (arg m c main_arg3 : S4096x1024.Idx → EReal) (i 0).val s.val * Entry.rd (arg m c main_arg4 : S2048x1024.Idx → EReal) (i 1).val s.val)
    + (arg m c main_arg5 : S2048.Idx → EReal) (ix1 (i 1))

/-- The two branches' projections, side by side. -/
def branches : S4096x4096.Idx → EReal := fun i =>
  if 2048 ≤ (i 1).val then ∑ s : Fin 1024, Entry.rd (arg m c main_arg8 : S4096x1024.Idx → EReal) (i 0).val s.val * Entry.rd (arg m c main_arg9 : S2048x1024.Idx → EReal) ((i 1).val - 2048) s.val
  else ∑ s : Fin 1024, Entry.rd (arg m c main_arg6 : S4096x1024.Idx → EReal) (i 0).val s.val * Entry.rd (arg m c main_arg7 : S2048x1024.Idx → EReal) (i 1).val s.val

theorem val0 : (truncf .bf16 (Host.dotGeneral dot_S4096x2048_S2048x8704_S4096x8704_1_0_0_1_n_n none (extf .f32 (m ((c.tc : Thread nD τ).loc main_arg0)) bitsLt_bf16_f32) (transpose S2048x8704 [1, 0] (concatenate S8704x2048 1 [⟨S8704x1024, (extf .f32 (m ((c.tc : Thread nD τ).loc main_arg1)) bitsLt_bf16_f32)⟩, ⟨S8704x1024, (extf .f32 (m ((c.tc : Thread nD τ).loc main_arg2)) bitsLt_bf16_f32)⟩] concatenates_S8704x1024_S8704x1024_S8704x2048_d1) transposes_S8704x2048_S2048x8704_1_0)) bitsLt_bf16_f32 : FVec Ideal S4096x8704 .bf16) = proj m c := by
  funext i
  unfold proj
  pointwise []
  exact (congrArg₂ (· + ·) (Entry.sum_mul (fun s => Entry.rd_of _ _ rfl rfl) fun s => Entry.rd_of _ _ rfl rfl)
    (Entry.sum_mul (fun s => Entry.rd_of _ _ rfl rfl) fun s => Entry.rd_of _ _ rfl rfl)).trans (add_comm _ _)

theorem val1 : (truncf .bf16 (addf (Host.dotGeneral dot_S4096x1024_S1024x2048_S4096x2048_1_0_0_1_n_n none (extf .f32 (m ((c.tc : Thread nD τ).loc main_arg3)) bitsLt_bf16_f32) (transpose S1024x2048 [1, 0] (extf .f32 (m ((c.tc : Thread nD τ).loc main_arg4)) bitsLt_bf16_f32) transposes_S2048x1024_S1024x2048_1_0)) (broadcastInDim S4096x2048 ![0, 1] bcast_S1x2048_S4096x2048_0_1 (broadcastInDim S1x2048 ![1] bcast_S2048_S1x2048_1 (m ((c.tc : Thread nD τ).loc main_arg5))))) bitsLt_bf16_f32 : FVec Ideal S4096x2048 .bf16) = glu m c := by
  funext i
  unfold glu
  pointwise []
  refine congrArg₂ (· + ·) (Entry.sum_mul (fun s => Entry.rd_of _ _ rfl rfl) fun s => Entry.rd_of _ _ rfl rfl) ?_
  rfl

theorem val2 : (truncf .bf16 (concatenate S4096x4096 1 [⟨S4096x2048, (Host.dotGeneral dot_S4096x1024_S1024x2048_S4096x2048_1_0_0_1_n_n none (extf .f32 (m ((c.tc : Thread nD τ).loc main_arg6)) bitsLt_bf16_f32) (transpose S1024x2048 [1, 0] (extf .f32 (m ((c.tc : Thread nD τ).loc main_arg7)) bitsLt_bf16_f32) transposes_S2048x1024_S1024x2048_1_0))⟩, ⟨S4096x2048, (Host.dotGeneral dot_S4096x1024_S1024x2048_S4096x2048_1_0_0_1_n_n none (extf .f32 (m ((c.tc : Thread nD τ).loc main_arg8)) bitsLt_bf16_f32) (transpose S1024x2048 [1, 0] (extf .f32 (m ((c.tc : Thread nD τ).loc main_arg9)) bitsLt_bf16_f32) transposes_S2048x1024_S1024x2048_1_0))⟩] concatenates_S4096x2048_S4096x2048_S4096x4096_d1) bitsLt_bf16_f32 : FVec Ideal S4096x4096 .bf16) = branches m c := by
  funext i
  unfold branches
  pointwise []
  by_cases hi : 2048 ≤ (i 1).val
  · rw [if_pos hi, dif_neg (by omega)]
    exact Entry.sum_mul (fun s => Entry.rd_of _ _ rfl rfl) fun s => Entry.rd_of _ _ rfl rfl
  · rw [if_neg hi, dif_pos (by omega)]
    exact Entry.sum_mul (fun s => Entry.rd_of _ _ rfl rfl) fun s => Entry.rd_of _ _ rfl rfl

end Cert.Reference3Ideal.Forward
-- ==== Proof.ForwardClaim.lean ====
/- The forward products of the step: the run of the five calls and of their reference, joined to the claims. -/
module

public import proofs.«01_k».proof.Defs
public import proofs.«01_k».proof.Proof.Gen.Kernel3
public import proofs.«01_k».proof.Proof.Gen.Kernel3.Frame
public import proofs.«01_k».proof.Proof.Gen.Reference3Ideal
public import proofs.«01_k».proof.Proof.ForwardRun
public import proofs.«01_k».proof.Proof.RefForward

@[expose] public section

set_option maxRecDepth 16384

noncomputable section

namespace Cert.Forward
open Idealize.ShloMosaic Idealize.SL.Sem

/-- The frame of the calls as printed. -/
theorem frame : Cert.quiescent_Kernel3 (hKernel3 := Cert.Kernel3.Gen.facts) :=
  fun m g _ => Cert.Kernel3.Gen.frame (F := Bits) m g

theorem frame_ideal : Cert.quiescent_Kernel3Ideal (hKernel3Ideal := Cert.Kernel3Ideal.Gen.facts) :=
  fun m g _ => Cert.Kernel3Ideal.Gen.frame (F := Ideal) m g

theorem frame_reference : Cert.quiescent_Reference3Ideal (hReference3Ideal := Cert.Reference3Ideal.Gen.facts) :=
  fun m g _ => (θ_run Cert.Reference3Ideal.defs _ _).mono (fun r h => ⟨fun c => (h c).2.2.2, sem_eq_zero_of_no_sems (by decide) r.2⟩)
    (Cert.Reference3Ideal.Value.run m g)

/-- From equal arguments, the calls' results and the reference's are the same extended reals. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨Cert.Kernel3Ideal.Forward.proj m, Cert.Kernel3Ideal.Forward.glu m, Cert.Kernel3Ideal.Forward.branches m, ?_, ?_⟩
  · refine (θ_run Cert.Kernel3Ideal.defs _ _).mono (fun r h c => ?_)
      (θ_run_and (Cert.Kernel3Ideal.Forward.run m g) (Cert.Kernel3Ideal.Gen.unchanged (F := Ideal) m g))
    obtain ⟨h0, h1, h2⟩ := h.1 c
    exact ⟨h0, h1, h2, h.2 c⟩
  · refine (θ_run Cert.Reference3Ideal.defs _ _).mono (fun r h c => ?_) (Cert.Reference3Ideal.Value.run m' g')
    obtain ⟨e0, e1, e2, e3, e4, e5, e6, e7, e8, e9⟩ := hargs c
    obtain ⟨h0, h1, h2, h⟩ := h c
    have p : ∀ a b a' b' : ℕ → EReal, a = a' → b = b' → ∀ n, ∑ s : Fin n, a s.val * b s.val = ∑ s : Fin n, a' s.val * b' s.val := by
      intro a b a' b' ha hb n
      rw [ha, hb]
    have s0 : Cert.Reference3Ideal.Forward.proj m' c = Cert.Kernel3Ideal.Forward.proj m c := funext fun i => congrArg₂ (· + ·)
      (p _ _ _ _ (congrArg (fun A s => Entry.rd (A : Cert.Kernel3Ideal.S4096x2048.Idx → EReal) (i 0).val (1024 + s)) e0)
        (congrArg (fun A => Entry.rd (A : Cert.Kernel3Ideal.S8704x1024.Idx → EReal) (i 1).val) e2) 1024)
      (p _ _ _ _ (congrArg (fun A => Entry.rd (A : Cert.Kernel3Ideal.S4096x2048.Idx → EReal) (i 0).val) e0)
        (congrArg (fun A => Entry.rd (A : Cert.Kernel3Ideal.S8704x1024.Idx → EReal) (i 1).val) e1) 1024)
    have s1 : Cert.Reference3Ideal.Forward.glu m' c = Cert.Kernel3Ideal.Forward.glu m c := funext fun i => congrArg₂ (· + ·)
      (p _ _ _ _ (congrArg (fun A => Entry.rd (A : Cert.Kernel3Ideal.S4096x1024.Idx → EReal) (i 0).val) e3)
        (congrArg (fun A => Entry.rd (A : Cert.Kernel3Ideal.S2048x1024.Idx → EReal) (i 1).val) e4) 1024)
      (congrArg (fun A => (A : Cert.Kernel3Ideal.S2048.Idx → EReal) (ix1 (i 1))) e5)
    have s2 : Cert.Reference3Ideal.Forward.branches m' c = Cert.Kernel3Ideal.Forward.branches m c := funext fun i => if_congr Iff.rfl
      (p _ _ _ _ (congrArg (fun A => Entry.rd (A : Cert.Kernel3Ideal.S4096x1024.Idx → EReal) (i 0).val) e8)
        (congrArg (fun A => Entry.rd (A : Cert.Kernel3Ideal.S2048x1024.Idx → EReal) ((i 1).val - 2048)) e9) 1024)
      (p _ _ _ _ (congrArg (fun A => Entry.rd (A : Cert.Kernel3Ideal.S4096x1024.Idx → EReal) (i 0).val) e6)
        (congrArg (fun A => Entry.rd (A : Cert.Kernel3Ideal.S2048x1024.Idx → EReal) (i 1).val) e7) 1024)
    exact ⟨h0.trans ((Cert.Reference3Ideal.Forward.val0 m' c).trans s0), h1.trans ((Cert.Reference3Ideal.Forward.val1 m' c).trans s1),
      h2.trans ((Cert.Reference3Ideal.Forward.val2 m' c).trans s2), h⟩

end Cert.Forward
-- ==== Proof.Quarters.lean ====
module

public import proofs.«01_k».proof.Proof.Entry
public import Idealize.ShloMosaic.Lib.Pipeline.ValueKit

/-! A product whose contracted axis is taken in four parts: the parts' sums, added up in a buffer, are the sum over
the whole axis. -/

@[expose] public section

noncomputable section

namespace Quarters
open Idealize.ShloMosaic Idealize.ShloMosaic.Pipeline
open scoped BigOperators

variable {a b n : ℕ} (A : Shape.Idx ⟨2, ![a, n]⟩ → EReal) (B : Shape.Idx ⟨2, ![n, b]⟩ → EReal)

/-- Row `r`, column `q` of the product. -/
def prod (r q : ℕ) : EReal := ∑ s : Fin n, Entry.rd A r s.val * Entry.rd B s.val q

/-- What step `t` adds at row `r`, column `q` of its block: the part `t % 4` of the contracted axis. -/
def part (h w : ℕ) (t r q : ℕ) : EReal :=
  ∑ k : Fin w, Entry.rd A (t / 4 * h + r) (t % 4 * w + k.val) * Entry.rd B (t % 4 * w + k.val) q

theorem whole {h w N b' : ℕ} (f : (t : ℕ) → t < N → Shape.Idx ⟨2, ![h, b']⟩ → EReal)
    (first : ∀ t : Fin N, t.val % 4 = 0 → ∀ i, f t.val t.isLt i = part A B h w t.val (i 0).val (i 1).val)
    (next : ∀ t : Fin N, ¬t.val % 4 = 0 → ∀ i, f t.val t.isLt i
      = f (t.val - 1) (Nat.lt_of_le_of_lt (Nat.sub_le _ _) t.isLt) i + part A B h w t.val (i 0).val (i 1).val)
    (hn : n = 4 * w) (t : Fin N) (ht : t.val % 4 = 3) (i : Shape.Idx ⟨2, ![h, b']⟩) :
    f t.val t.isLt i = prod A B (t.val / 4 * h + (i 0).val) (i 1).val := by
  rw [eq_sum_fin_of_reset_step_apply_of_flush f 4 (fun _ => 0) (fun t i => part A B h w t.val (i 0).val (i 1).val)
    (fun t h i => (first t h i).trans (zero_add _).symm) next t ht i, zero_add]
  refine Eq.trans (Finset.sum_congr rfl fun s _ => ?_)
    (Fin.sum_mul_add_fin 4 w (fun s : Fin n => Entry.rd A (t.val / 4 * h + (i 0).val) s.val * Entry.rd B s.val (i 1).val) hn)
  have hs := s.isLt
  unfold part
  dsimp only
  rw [show (4 * (t.val / 4) + s.val) / 4 = t.val / 4 by omega, show (4 * (t.val / 4) + s.val) % 4 = s.val by omega]

end Quarters
-- ==== Proof.Normed4.lean ====
module

public import proofs.«01_k».proof.Proof.Gen.Kernel4Ideal.Value
public import proofs.«01_k».proof.Proof.Quarters

/-! The first half of the gradient of the normalised input: four partial sums per block, kept in a buffer between them. -/

@[expose] public section

set_option maxRecDepth 16384

noncomputable section

namespace Cert.Kernel4Ideal.Normed
open Idealize.ShloMosaic Idealize.ShloMosaic.TcCoe Idealize.ShloMosaic.Pipeline Idealize.SL.Sem Cert.Kernel4Ideal Cert.Kernel4Ideal.Gen
open scoped BigOperators

variable (m : (ℓ : Loc nD τ sig) → Buf (Elt Ideal) ℓ) (ρ : Dev nD → PrngReg) (c : Dev nD)

/-- The gradient of the projection. -/
abbrev dproj : S4096x8704.Idx → EReal := m ((c : Thread nD τ).loc main_arg0)
/-- The weights' half. -/
abbrev weights : S8704x1024.Idx → EReal := m ((c : Thread nD τ).loc main_arg1)

theorem idx : ∀ t : Fin cfg0.N, win0_0.index t 0 = t.val / 4 ∧ win0_0.index t 1 = t.val % 4 ∧ win0_1.index t 0 = t.val % 4 ∧ win0_1.index t 1 = 0
    ∧ win0_2.index t 0 = t.val / 4 ∧ win0_2.index t 1 = 0 :=
  (by decide +kernel : ∀ t : Fin grid0.N, _)

theorem pay (t : Fin cfg0.N) (i : S1024x1024.Idx) : k0_pay1 (F := Ideal) (iblk m c 0 t) (iblk m c 1 t) i
    = Quarters.part (dproj m c) (weights m c) 1024 2176 t.val (i 0).val (i 1).val := by
  obtain ⟨e0, e1, e2, e3, -, -⟩ := idx t
  unfold k0_pay1 Quarters.part
  pointwise []
  refine Entry.sum_mul
    (fun s => Entry.rd_of (dproj m c) (((cfg0.win 0).blk t).view.emb (ix2 (i 0) s)) ?_ ?_)
    (fun s => Entry.rd_of (weights m c) (((cfg0.win 1).blk t).view.emb (ix2 s (i 1))) ?_ ?_)
  all_goals
    blk_simp
    simp only [e0, e1, e2, e3] <;> omega

theorem first (t : Fin cfg0.N) (h : t.val % 4 = 0) (i : S1024x1024.Idx) :
    (outsAt0 m c t.val t.isLt).2 i = Quarters.part (dproj m c) (weights m c) 1024 2176 t.val (i 0).val (i 1).val := by
  rw [outsAt0_A m c t h (by omega) (by omega), ← pay]
  dsimp only
  frame_out
  unfold k0_pay2
  pointwise []

theorem next (t : Fin cfg0.N) (h : ¬t.val % 4 = 0) (i : S1024x1024.Idx) :
    (outsAt0 m c t.val t.isLt).2 i
      = (outsAt0 m c (t.val - 1) (Nat.lt_of_le_of_lt (Nat.sub_le _ _) t.isLt)).2 i
        + Quarters.part (dproj m c) (weights m c) 1024 2176 t.val (i 0).val (i 1).val := by
  rw [← pay]
  refine Eq.trans (b := k0_pay3 (F := Ideal) (iblk m c 0 t) (iblk m c 1 t) (scM0_0.view.read (Elt Ideal)
    ((Memref.isWhole_whole cc0_scratch0).unread (outsAt0 m c (t.val - 1) (Nat.lt_of_le_of_lt (Nat.sub_le _ _) t.isLt)).2)) i) ?_ ?_
  · by_cases h2 : t.val % 4 = 3
    · rw [outsAt0_C m c t h (by omega) h2]
      dsimp only
      frame_out
    · rw [outsAt0_B m c t h (by omega) h2]
      dsimp only
      frame_out
  · rw [Memref.IsWhole.read_unread]
    unfold k0_pay3
    pointwise []

/-- The last of the four points leaves the buffer's contents in the result's block. -/
theorem stored (t : Fin cfg0.N) (h : t.val % 4 = 3) : (outsAt0 m c t.val t.isLt).1 = (outsAt0 m c t.val t.isLt).2 := by
  funext i
  rw [outsAt0_C m c t (by omega) (by omega) h]
  dsimp only
  frame_out
  unfold k0_pay4 k0_pay3
  pointwise []

/-- The result: the product in the columns the call writes. -/
theorem final : (dats m 0 c).arrAt 2 cfg0.N = fun i : S4096x2048.Idx =>
    if (i 1).val < 1024 then Quarters.prod (dproj m c) (weights m c) (i 0).val (i 1).val else V m c (Pipeline.arrRef spec0 2) i := by
  refine (dats m 0 c).arrAt_eq_of_coversWhere_of_agree 2 _ (fun β => β ⟨1, by decide⟩ < 1) (by decide +kernel) (fun t hf y => ?_) (fun j hj => ?_)
  · have ht := (flush0_2 t).mp hf
    obtain ⟨-, -, -, -, e0, e1⟩ := idx t
    have hy : (y 1).val < 1024 := (y 1).isLt
    blk_simp
    rw [after0_2, e0, e1, if_pos (by omega), stored m c t ht,
      Quarters.whole (dproj m c) (weights m c) (fun n hn => (outsAt0 m c n hn).2) (first m c) (next m c) rfl t ht]
    exact congrArg₂ (Quarters.prod (dproj m c) (weights m c)) (by omega) (by omega)
  · blk_simp [Pipeline.Window.cell_apply] at hj
    blk_simp
    refine Eq.trans ?_ (if_neg (show ¬ (j 1).val < 1024 by omega)).symm
    rw [A_eq]

end Cert.Kernel4Ideal.Normed
-- ==== Proof.Normed5.lean ====
module

public import proofs.«01_k».proof.Proof.Gen.Kernel5Ideal.Value
public import proofs.«01_k».proof.Proof.Quarters

/-! The second half of the gradient of the normalised input: four partial sums per block, kept in a buffer between them. -/

@[expose] public section

set_option maxRecDepth 16384

noncomputable section

namespace Cert.Kernel5Ideal.Normed
open Idealize.ShloMosaic Idealize.ShloMosaic.TcCoe Idealize.ShloMosaic.Pipeline Idealize.SL.Sem Cert.Kernel5Ideal Cert.Kernel5Ideal.Gen
open scoped BigOperators

variable (m : (ℓ : Loc nD τ sig) → Buf (Elt Ideal) ℓ) (ρ : Dev nD → PrngReg) (c : Dev nD)

/-- The gradient of the projection. -/
abbrev dproj : S4096x8704.Idx → EReal := m ((c : Thread nD τ).loc main_arg0)
/-- The weights' half. -/
abbrev weights : S8704x1024.Idx → EReal := m ((c : Thread nD τ).loc main_arg1)

theorem idx : ∀ t : Fin cfg0.N, win0_0.index t 0 = t.val / 4 ∧ win0_0.index t 1 = t.val % 4 ∧ win0_1.index t 0 = t.val % 4 ∧ win0_1.index t 1 = 0
    ∧ win0_2.index t 0 = t.val / 4 ∧ win0_2.index t 1 = 1 :=
  (by decide +kernel : ∀ t : Fin grid0.N, _)

theorem pay (t : Fin cfg0.N) (i : S1024x1024.Idx) : k0_pay1 (F := Ideal) (iblk m c 0 t) (iblk m c 1 t) i
    = Quarters.part (dproj m c) (weights m c) 1024 2176 t.val (i 0).val (i 1).val := by
  obtain ⟨e0, e1, e2, e3, -, -⟩ := idx t
  unfold k0_pay1 Quarters.part
  pointwise []
  refine Entry.sum_mul
    (fun s => Entry.rd_of (dproj m c) (((cfg0.win 0).blk t).view.emb (ix2 (i 0) s)) ?_ ?_)
    (fun s => Entry.rd_of (weights m c) (((cfg0.win 1).blk t).view.emb (ix2 s (i 1))) ?_ ?_)
  all_goals
    blk_simp
    simp only [e0, e1, e2, e3] <;> omega

theorem first (t : Fin cfg0.N) (h : t.val % 4 = 0) (i : S1024x1024.Idx) :
    (outsAt0 m c t.val t.isLt).2 i = Quarters.part (dproj m c) (weights m c) 1024 2176 t.val (i 0).val (i 1).val := by
  rw [outsAt0_A m c t h (by omega) (by omega), ← pay]
  dsimp only
  frame_out
  unfold k0_pay2
  pointwise []

theorem next (t : Fin cfg0.N) (h : ¬t.val % 4 = 0) (i : S1024x1024.Idx) :
    (outsAt0 m c t.val t.isLt).2 i
      = (outsAt0 m c (t.val - 1) (Nat.lt_of_le_of_lt (Nat.sub_le _ _) t.isLt)).2 i
        + Quarters.part (dproj m c) (weights m c) 1024 2176 t.val (i 0).val (i 1).val := by
  rw [← pay]
  refine Eq.trans (b := k0_pay3 (F := Ideal) (iblk m c 0 t) (iblk m c 1 t) (scM0_0.view.read (Elt Ideal)
    ((Memref.isWhole_whole cc0_scratch0).unread (outsAt0 m c (t.val - 1) (Nat.lt_of_le_of_lt (Nat.sub_le _ _) t.isLt)).2)) i) ?_ ?_
  · by_cases h2 : t.val % 4 = 3
    · rw [outsAt0_C m c t h (by omega) h2]
      dsimp only
      frame_out
    · rw [outsAt0_B m c t h (by omega) h2]
      dsimp only
      frame_out
  · rw [Memref.IsWhole.read_unread]
    unfold k0_pay3
    pointwise []

/-- The last of the four points leaves the buffer's contents in the result's block. -/
theorem stored (t : Fin cfg0.N) (h : t.val % 4 = 3) : (outsAt0 m c t.val t.isLt).1 = (outsAt0 m c t.val t.isLt).2 := by
  funext i
  rw [outsAt0_C m c t (by omega) (by omega) h]
  dsimp only
  frame_out
  unfold k0_pay4 k0_pay3
  pointwise []

/-- The result: the product in the columns the call writes. -/
theorem final : (dats m 0 c).arrAt 2 cfg0.N = fun i : S4096x2048.Idx =>
    if 1024 ≤ (i 1).val then Quarters.prod (dproj m c) (weights m c) (i 0).val ((i 1).val - 1024) else V m c (Pipeline.arrRef spec0 2) i := by
  refine (dats m 0 c).arrAt_eq_of_coversWhere_of_agree 2 _ (fun β => 1 ≤ β ⟨1, by decide⟩) (by decide +kernel) (fun t hf y => ?_) (fun j hj => ?_)
  · have ht := (flush0_2 t).mp hf
    obtain ⟨-, -, -, -, e0, e1⟩ := idx t
    have hy : (y 1).val < 1024 := (y 1).isLt
    blk_simp
    rw [after0_2, e0, e1, if_pos (by omega), stored m c t ht,
      Quarters.whole (dproj m c) (weights m c) (fun n hn => (outsAt0 m c n hn).2) (first m c) (next m c) rfl t ht]
    exact congrArg₂ (Quarters.prod (dproj m c) (weights m c)) (by omega) (by omega)
  · blk_simp [Pipeline.Window.cell_apply] at hj
    blk_simp
    refine Eq.trans ?_ (if_neg (show ¬ 1024 ≤ (j 1).val by omega)).symm
    rw [A_eq]

end Cert.Kernel5Ideal.Normed
-- ==== Proof.RefNormed.lean ====
module

public import proofs.«01_k».proof.Proof.Gen.Reference4Ideal.Run
public import proofs.«01_k».proof.Proof.Gen.Reference5Ideal.Run
public import proofs.«01_k».proof.Proof.Quarters

/-! The gradient of the normalised input in the reference: its two halves are products, each entry one sum. -/

@[expose] public section

set_option maxRecDepth 16384

noncomputable section

namespace Cert.Reference4Ideal.Normed
open Idealize.ShloMosaic Idealize.ShloMosaic.TcCoe Idealize.SL.Sem Cert.Reference4Ideal Cert.Reference4Ideal.Gen
open scoped BigOperators

variable (m : (ℓ : Loc nD τ sig) → Buf (Elt Ideal) ℓ) (c : Dev nD)

theorem val (i : S4096x2048.Idx) (h : (i 1).val < 1024) : (pad S4096x2048 ![0, 0] ![0, 1024] ![0, 0] (Host.dotGeneral dot_S4096x8704_S1024x8704_S4096x1024_1_1_0_0_n_n none (extf .f32 (m ((c.tc : Thread nD τ).loc main_arg0)) bitsLt_bf16_f32) (extf .f32 (transpose S1024x8704 [1, 0] (m ((c.tc : Thread nD τ).loc main_arg1)) transposes_S8704x1024_S1024x8704_1_0) bitsLt_bf16_f32)) (sitofp .f32 (constantI S_ 32 0#32)) pads_S4096x1024_S4096x2048_000_010240 h_S_ : FVec Ideal S4096x2048 .f32) i
    = Quarters.prod (m ((c.tc : Thread nD τ).loc main_arg0) : S4096x8704.Idx → EReal) (m ((c.tc : Thread nD τ).loc main_arg1) : S8704x1024.Idx → EReal) (i 0).val (i 1).val := by
  unfold Quarters.prod
  pointwise []
  rw [dif_pos h]
  exact Entry.sum_mul (fun s => Entry.rd_of _ _ rfl rfl) (fun s => Entry.rd_of _ _ rfl rfl)

end Cert.Reference4Ideal.Normed

namespace Cert.Reference5Ideal.Normed
open Idealize.ShloMosaic Idealize.ShloMosaic.TcCoe Idealize.SL.Sem Cert.Reference5Ideal Cert.Reference5Ideal.Gen
open scoped BigOperators

variable (m : (ℓ : Loc nD τ sig) → Buf (Elt Ideal) ℓ) (c : Dev nD)

theorem val : (concatenate S4096x2048 1 [⟨S4096x1024, (extractStridedSlice S4096x1024 ![0, 0] (m ((c.tc : Thread nD τ).loc main_arg2)) slices_S4096x2048_S4096x1024_0_0)⟩, ⟨S4096x1024, (Host.dotGeneral dot_S4096x8704_S1024x8704_S4096x1024_1_1_0_0_n_n none (extf .f32 (m ((c.tc : Thread nD τ).loc main_arg0)) bitsLt_bf16_f32) (extf .f32 (transpose S1024x8704 [1, 0] (m ((c.tc : Thread nD τ).loc main_arg1)) transposes_S8704x1024_S1024x8704_1_0) bitsLt_bf16_f32))⟩] concatenates_S4096x1024_S4096x1024_S4096x2048_d1 : FVec Ideal S4096x2048 .f32)
    = fun i => if 1024 ≤ (i 1).val then Quarters.prod (m ((c.tc : Thread nD τ).loc main_arg0) : S4096x8704.Idx → EReal) (m ((c.tc : Thread nD τ).loc main_arg1) : S8704x1024.Idx → EReal) (i 0).val ((i 1).val - 1024)
      else m ((c.tc : Thread nD τ).loc main_arg2) i := by
  funext i
  unfold Quarters.prod
  pointwise []
  by_cases h : 1024 ≤ (i 1).val
  · rw [if_pos h, dif_neg (by omega)]
    exact Entry.sum_mul (fun s => Entry.rd_of _ _ rfl rfl) (fun s => Entry.rd_of _ _ rfl rfl)
  · rw [if_neg h, dif_pos (by omega)]

end Cert.Reference5Ideal.Normed
-- ==== Proof.NormedClaim.lean ====
/- The gradient of the normalised input: the runs of the two calls and of their references, joined to the claims. -/
module

public import proofs.«01_k».proof.Defs
public import proofs.«01_k».proof.Proof.Gen.Kernel4.Frame
public import proofs.«01_k».proof.Proof.Gen.Kernel5.Frame
public import proofs.«01_k».proof.Proof.Normed4
public import proofs.«01_k».proof.Proof.Normed5
public import proofs.«01_k».proof.Proof.RefNormed
public import Idealize.ShloMosaic.Lib.WordCmp

@[expose] public section

set_option maxRecDepth 16384

noncomputable section

namespace Cert.Kernel5Ideal.Normed
open Idealize.ShloMosaic Idealize.ShloMosaic.TcCoe Idealize.SL.Sem Cert.Kernel5Ideal Cert.Kernel5Ideal.Gen
/-- Before the call the result holds the argument whose array it takes over. -/
theorem start (m : (ℓ : Loc nD τ sig) → Buf (Elt Ideal) ℓ) (c : Dev nD) (i : S4096x2048.Idx) :
    V m c (Pipeline.arrRef spec0 2) i = m ((c : Thread nD τ).loc main_arg2) i := by
  show V m c main_v0 i = _
  unfold V
  simp only [hostOps0, List.flatten_cons, List.flatten_nil, List.append_nil, List.cons_append, List.nil_append]
  after_results
  rfl
end Cert.Kernel5Ideal.Normed

namespace Cert.Normed
open Idealize.ShloMosaic Idealize.SL.Sem

theorem mask_facts : Cert.On_first_half.Facts := ⟨by decide⟩

/-- The mask names the columns below the half. -/
theorem mask (a0 : FVec Ideal Cert.On_first_half.S4096x8704 .bf16) (a1 : FVec Ideal Cert.On_first_half.S8704x1024 .bf16)
    (i : Cert.On_first_half.S4096x2048.Idx) (h : @Cert.On_first_half.fn mask_facts Ideal _ a0 a1 i = 1#1) : (i 1).val < 1024 := by
  have hi : (i 1).val < 2048 := (i 1).isLt
  unfold Cert.On_first_half.fn at h
  dsimp only at h
  exact (WordCmp.cmpi_slt_ofNat_eq_one_iff (w := 32) (by omega) (by decide)).1 h

theorem frame4 : Cert.quiescent_Kernel4 (hKernel4 := Cert.Kernel4.Gen.facts) :=
  fun m g _ => Cert.Kernel4.Gen.frame (F := Bits) m g

theorem frame4_ideal : Cert.quiescent_Kernel4Ideal (hKernel4Ideal := Cert.Kernel4Ideal.Gen.facts) :=
  fun m g _ => Cert.Kernel4Ideal.Gen.frame (F := Ideal) m g

theorem frame4_reference : Cert.quiescent_Reference4Ideal (hReference4Ideal := Cert.Reference4Ideal.Gen.facts) :=
  fun m g _ => (θ_run Cert.Reference4Ideal.defs _ _).mono (fun r h => ⟨fun c => (h c).2, sem_eq_zero_of_no_sems (by decide) r.2⟩)
    (Cert.Reference4Ideal.Value.run m g)

theorem frame5 : Cert.quiescent_Kernel5 (hKernel5 := Cert.Kernel5.Gen.facts) :=
  fun m g _ => Cert.Kernel5.Gen.frame (F := Bits) m g

theorem frame5_ideal : Cert.quiescent_Kernel5Ideal (hKernel5Ideal := Cert.Kernel5Ideal.Gen.facts) :=
  fun m g _ => Cert.Kernel5Ideal.Gen.frame (F := Ideal) m g

theorem frame5_reference : Cert.quiescent_Reference5Ideal (hReference5Ideal := Cert.Reference5Ideal.Gen.facts) :=
  fun m g _ => (θ_run Cert.Reference5Ideal.defs _ _).mono (fun r h => ⟨fun c => (h c).2, sem_eq_zero_of_no_sems (by decide) r.2⟩)
    (Cert.Reference5Ideal.Value.run m g)

/-- On the first half of the columns, the first call's result and the reference's are the same extended reals. -/
theorem algebraic4 : Cert.algebraic_Kernel4Ideal_Reference4Ideal_on_first_half (hKernel4Ideal := Cert.Kernel4Ideal.Gen.facts)
    (hReference4Ideal := Cert.Reference4Ideal.Gen.facts) (hOn_first_half := mask_facts) := by
  intro m g m' g' _ hargs
  refine ⟨fun c i => Quarters.prod (Cert.Kernel4Ideal.Normed.dproj m c) (Cert.Kernel4Ideal.Normed.weights m c) (i 0).val (i 1).val, ?_, ?_⟩
  · refine (θ_run Cert.Kernel4Ideal.defs _ _).mono (fun r h c => ?_) (Cert.Kernel4Ideal.Value.run_blocks m g)
    obtain ⟨h, h'⟩ := h c
    refine ⟨fun i hi => ?_, h'⟩
    rw [h, Cert.Kernel4Ideal.Normed.final]
    exact if_pos (mask _ _ i hi)
  · refine (θ_run Cert.Reference4Ideal.defs _ _).mono (fun r h c => ?_) (Cert.Reference4Ideal.Value.run m' g')
    obtain ⟨e0, e1⟩ := hargs c
    obtain ⟨h, h'⟩ := h c
    refine ⟨fun i hi => ((congrFun h i).trans (Cert.Reference4Ideal.Normed.val m' c i (mask _ _ i hi))).trans ?_, h'⟩
    exact congrArg₂ (fun A B => (Quarters.prod (A : Cert.Kernel4Ideal.S4096x8704.Idx → EReal) (B : Cert.Kernel4Ideal.S8704x1024.Idx → EReal) (i 0).val (i 1).val)) e0 e1

/-- The second call's result and the reference's are the same extended reals: the argument's first half, then the product. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c i => if 1024 ≤ (i 1).val then Quarters.prod (Cert.Kernel5Ideal.Normed.dproj m c) (Cert.Kernel5Ideal.Normed.weights m c) (i 0).val ((i 1).val - 1024)
    else m ((c.tc : Thread Cert.Kernel5Ideal.nD Cert.Kernel5Ideal.τ).loc Cert.Kernel5Ideal.main_arg2) i, ?_, ?_⟩
  · refine (θ_run Cert.Kernel5Ideal.defs _ _).mono (fun r h c => ?_) (Cert.Kernel5Ideal.Value.run_blocks m g)
    obtain ⟨h, h'⟩ := h c
    refine ⟨h.trans ((Cert.Kernel5Ideal.Normed.final m c).trans (funext fun i => ?_)), h'⟩
    rw [Cert.Kernel5Ideal.Normed.start]
  · refine (θ_run Cert.Reference5Ideal.defs _ _).mono (fun r h c => ?_) (Cert.Reference5Ideal.Value.run m' g')
    obtain ⟨e0, e1, e2⟩ := hargs c
    obtain ⟨h, h'⟩ := h c
    refine ⟨(h.trans (Cert.Reference5Ideal.Normed.val m' c)).trans (funext fun i => ?_), h'⟩
    refine ite_congr rfl (fun _ => ?_) (fun _ => congrFun e2 i)
    exact congrArg₂ (fun A B => (Quarters.prod (A : Cert.Kernel5Ideal.S4096x8704.Idx → EReal) (B : Cert.Kernel5Ideal.S8704x1024.Idx → EReal) (i 0).val ((i 1).val - 1024))) e0 e1

end Cert.Normed

end
-- ==== Proof.Merge.lean ====
module

public import proofs.«01_k».proof.Proof.Gen.Kernel6Ideal.Value
public import proofs.«01_k».proof.Proof.Entry
public import Idealize.ShloMosaic.Lib.Pipeline.ValueKit

/-! The gradient of the gated merge: what the call leaves in its two results, entry by entry. -/

@[expose] public section

set_option maxRecDepth 16384

noncomputable section

namespace Cert.Kernel6Ideal.Merge
open Idealize.ShloMosaic Idealize.ShloMosaic.TcCoe Idealize.ShloMosaic.Pipeline Idealize.SL.Sem Cert.Kernel6Ideal Cert.Kernel6Ideal.Gen
open scoped BigOperators

variable (m : (ℓ : Loc nD τ sig) → Buf (Elt Ideal) ℓ) (ρ : Dev nD → PrngReg) (c : Dev nD)

theorem idx : ∀ t : Fin cfg0.N, win0_0.index t 0 = win0_3.index t 0 ∧ win0_0.index t 1 = win0_3.index t 1 % 4
    ∧ win0_1.index t 0 = win0_3.index t 0 ∧ win0_1.index t 1 = win0_3.index t 1
    ∧ win0_2.index t 0 = win0_3.index t 0 ∧ win0_2.index t 1 = 9 + win0_3.index t 1
    ∧ win0_4.index t 0 = win0_3.index t 0 ∧ win0_4.index t 1 = 9 + win0_3.index t 1 :=
  (by decide +kernel : ∀ t : Fin grid0.N, _)

/-- The gate's weight. -/
def gate (g : EReal) : EReal := Ideal.div 1 (1 + Ideal.exp (-g))

/-- The gradient of the branches: the gradient of the merged row, weighted by the gate. -/
def branch (dm yy proj : ℕ → ℕ → EReal) (r q : ℕ) : EReal := dm r (q % 2048) * gate (proj r (4608 + q))

/-- The gradient of the gates. -/
def gates (dm yy proj : ℕ → ℕ → EReal) (r q : ℕ) : EReal :=
  dm r (q % 2048) * yy r q * gate (proj r (4608 + q)) * (1 - gate (proj r (4608 + q)))

/-- The gradient of the merged row. -/
abbrev dmerged : ℕ → ℕ → EReal := Entry.rd (m ((c : Thread nD τ).loc main_arg0) : S4096x2048.Idx → EReal)
/-- The two branches, side by side. -/
abbrev branches : ℕ → ℕ → EReal := Entry.rd (m ((c : Thread nD τ).loc main_arg1) : S4096x4096.Idx → EReal)
/-- The projection: the gates are its last columns. -/
abbrev projection : ℕ → ℕ → EReal := Entry.rd (m ((c : Thread nD τ).loc main_arg2) : S4096x8704.Idx → EReal)

theorem read0 (t : Fin cfg0.N) (y : S1024x512.Idx) :
    (iblk m c 0 t : S1024x512.Idx → EReal) y = dmerged m c (win0_3.index t 0 * 1024 + (y 0).val) ((win0_3.index t 1 * 512 + (y 1).val) % 2048) := by
  obtain ⟨e0, e1, -⟩ := idx t
  have hy : (y 1).val < 512 := (y 1).isLt
  refine Entry.rd_of (m ((c : Thread nD τ).loc main_arg0) : S4096x2048.Idx → EReal) (((cfg0.win 0).blk t).view.emb y) ?_ ?_
  all_goals
    blk_simp
    simp only [e0, e1] <;> omega

theorem read1 (t : Fin cfg0.N) (y : S1024x512.Idx) :
    (iblk m c 1 t : S1024x512.Idx → EReal) y = branches m c (win0_3.index t 0 * 1024 + (y 0).val) (win0_3.index t 1 * 512 + (y 1).val) := by
  obtain ⟨-, -, e0, e1, -⟩ := idx t
  refine Entry.rd_of (m ((c : Thread nD τ).loc main_arg1) : S4096x4096.Idx → EReal) (((cfg0.win 1).blk t).view.emb y) ?_ ?_
  all_goals
    blk_simp
    simp only [e0, e1]

theorem read2 (t : Fin cfg0.N) (y : S1024x512.Idx) :
    (iblk m c 2 t : S1024x512.Idx → EReal) y = projection m c (win0_3.index t 0 * 1024 + (y 0).val) (4608 + (win0_3.index t 1 * 512 + (y 1).val)) := by
  obtain ⟨-, -, -, -, e0, e1, -⟩ := idx t
  refine Entry.rd_of (m ((c : Thread nD τ).loc main_arg2) : S4096x8704.Idx → EReal) (((cfg0.win 2).blk t).view.emb y) ?_ ?_
  all_goals
    blk_simp
    simp only [e0, e1] <;> omega

theorem end_branches : (dats m 0 c).arrAt 3 cfg0.N = fun i : S4096x4096.Idx =>
    branch (dmerged m c) (branches m c) (projection m c) (i 0).val (i 1).val := by
  refine (dats m 0 c).arrAt_eq_of_covers 3 _ (by decide +kernel) fun t hf y => ?_
  blk_simp
  rw [after0_3]
  frame_out
  unfold k0_pay3 k0_pay2 k0_pay1 branch gate
  pointwise []
  rw [read0 m c t, read2 m c t, zero_sub]

theorem end_gates : (dats m 0 c).arrAt 4 cfg0.N = fun i : S4096x8704.Idx =>
    if 4608 ≤ (i 1).val then gates (dmerged m c) (branches m c) (projection m c) (i 0).val ((i 1).val - 4608) else V m c (Pipeline.arrRef spec0 4) i := by
  refine (dats m 0 c).arrAt_eq_of_coversWhere_of_agree 4 _ (fun β => 9 ≤ β ⟨1, by decide⟩) (by decide +kernel) (fun t hf y => ?_) (fun j hj => ?_)
  · obtain ⟨-, -, -, -, -, -, e0, e1⟩ := idx t
    blk_simp
    rw [after0_4, e0, e1, if_pos (by omega)]
    frame_out
    unfold k0_pay4 k0_pay2 k0_pay1 gates gate
    pointwise []
    rw [read0 m c t, read1 m c t, read2 m c t, zero_sub,
      show (9 + win0_3.index t 1) * 512 + (y 1).val - 4608 = win0_3.index t 1 * 512 + (y 1).val by omega]
  · blk_simp [Pipeline.Window.cell_apply] at hj
    blk_simp
    refine Eq.trans ?_ (if_neg (show ¬ 4608 ≤ (j 1).val by omega)).symm
    rw [A_eq]

end Cert.Kernel6Ideal.Merge
-- ==== Proof.RefMerge.lean ====
module

public import proofs.«01_k».proof.Proof.Gen.Reference6Ideal.Run
public import proofs.«01_k».proof.Proof.Merge

/-! The gradient of the gated merge in the reference, entry by entry. -/

@[expose] public section

set_option maxRecDepth 16384

noncomputable section

namespace Cert.Reference6Ideal.Merge
open Idealize.ShloMosaic Idealize.ShloMosaic.TcCoe Idealize.SL.Sem Cert.Reference6Ideal Cert.Reference6Ideal.Gen
open Cert.Kernel6Ideal.Merge (gate branch gates)

variable (m : (ℓ : Loc nD τ sig) → Buf (Elt Ideal) ℓ) (c : Dev nD)

/-- The gradient of the merged row. -/
abbrev dmerged : ℕ → ℕ → EReal := Entry.rd (m ((c.tc : Thread nD τ).loc main_arg0) : S4096x2048.Idx → EReal)
/-- The two branches, side by side. -/
abbrev branches : ℕ → ℕ → EReal := Entry.rd (m ((c.tc : Thread nD τ).loc main_arg1) : S4096x4096.Idx → EReal)
/-- The projection: the gates are its last columns. -/
abbrev projection : ℕ → ℕ → EReal := Entry.rd (m ((c.tc : Thread nD τ).loc main_arg2) : S4096x8704.Idx → EReal)

theorem branch_of {g g' d d' : EReal} (hg : g = g') (hd : d = d') :
    Ideal.div 1 (1 + Ideal.exp (-g)) * d = d' * Ideal.div 1 (1 + Ideal.exp (-g')) := by
  rw [hg, hd, mul_comm]

theorem gates_of {g g' d d' y y' : EReal} (hg : g = g') (hd : d = d') (hy : y = y') :
    d * y * (Ideal.div 1 (1 + Ideal.exp (-g)) * (1 - Ideal.div 1 (1 + Ideal.exp (-g))))
      = d' * y' * Ideal.div 1 (1 + Ideal.exp (-g')) * (1 - Ideal.div 1 (1 + Ideal.exp (-g'))) := by
  rw [hg, hd, hy, mul_assoc (d' * y')]

theorem val0 : (truncf .bf16 (concatenate S4096x4096 1 [⟨S4096x2048, (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 0] (extf .f32 (extractStridedSlice S4096x4096 ![0, 4608] (m ((c.tc : Thread nD τ).loc main_arg2)) slices_S4096x8704_S4096x4096_0_4608) bitsLt_bf16_f32) slices_S4096x4096_S4096x2048_0_0))))) (extf .f32 (m ((c.tc : Thread nD τ).loc main_arg0)) bitsLt_bf16_f32))⟩, ⟨S4096x2048, (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2048] (extf .f32 (extractStridedSlice S4096x4096 ![0, 4608] (m ((c.tc : Thread nD τ).loc main_arg2)) slices_S4096x8704_S4096x4096_0_4608) bitsLt_bf16_f32) slices_S4096x4096_S4096x2048_0_2048))))) (extf .f32 (m ((c.tc : Thread nD τ).loc main_arg0)) bitsLt_bf16_f32))⟩] concatenates_S4096x2048_S4096x2048_S4096x4096_d1) bitsLt_bf16_f32 : FVec Ideal S4096x4096 .bf16)
    = fun i => branch (dmerged m c) (branches m c) (projection m c) (i 0).val (i 1).val := by
  funext i
  have hi : (i 1).val < 4096 := (i 1).isLt
  unfold branch gate
  pointwise []
  by_cases h : (i 1).val < 2048
  · rw [dif_pos h]
    refine branch_of (Entry.rd_of _ _ rfl ?_) (Entry.rd_of _ _ rfl ?_)
    all_goals first | (dsimp only [ix2]; omega) | rfl
  · rw [dif_neg h]
    refine branch_of (Entry.rd_of _ _ rfl ?_) (Entry.rd_of _ _ rfl ?_)
    all_goals first | (dsimp only [ix2]; omega) | rfl

theorem val1 (i : S4096x8704.Idx) (h : 4608 ≤ (i 1).val) : (truncf .bf16 (pad S4096x8704 ![0, 4608] ![0, 0] ![0, 0] (concatenate S4096x4096 1 [⟨S4096x2048, (mulf (mulf (extf .f32 (m ((c.tc : Thread nD τ).loc main_arg0)) bitsLt_bf16_f32) (extractStridedSlice S4096x2048 ![0, 0] (extf .f32 (m ((c.tc : Thread nD τ).loc main_arg1)) bitsLt_bf16_f32) slices_S4096x4096_S4096x2048_0_0)) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 0] (extf .f32 (extractStridedSlice S4096x4096 ![0, 4608] (m ((c.tc : Thread nD τ).loc main_arg2)) slices_S4096x8704_S4096x4096_0_4608) bitsLt_bf16_f32) slices_S4096x4096_S4096x2048_0_0))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 0] (extf .f32 (extractStridedSlice S4096x4096 ![0, 4608] (m ((c.tc : Thread nD τ).loc main_arg2)) slices_S4096x8704_S4096x4096_0_4608) bitsLt_bf16_f32) slices_S4096x4096_S4096x2048_0_0))))))))⟩, ⟨S4096x2048, (mulf (mulf (extf .f32 (m ((c.tc : Thread nD τ).loc main_arg0)) bitsLt_bf16_f32) (extractStridedSlice S4096x2048 ![0, 2048] (extf .f32 (m ((c.tc : Thread nD τ).loc main_arg1)) bitsLt_bf16_f32) slices_S4096x4096_S4096x2048_0_2048)) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2048] (extf .f32 (extractStridedSlice S4096x4096 ![0, 4608] (m ((c.tc : Thread nD τ).loc main_arg2)) slices_S4096x8704_S4096x4096_0_4608) bitsLt_bf16_f32) slices_S4096x4096_S4096x2048_0_2048))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2048] (extf .f32 (extractStridedSlice S4096x4096 ![0, 4608] (m ((c.tc : Thread nD τ).loc main_arg2)) slices_S4096x8704_S4096x4096_0_4608) bitsLt_bf16_f32) slices_S4096x4096_S4096x2048_0_2048))))))))⟩] concatenates_S4096x2048_S4096x2048_S4096x4096_d1) (sitofp .f32 (constantI S_ 32 0#32)) pads_S4096x4096_S4096x8704_000_460800 h_S_) bitsLt_bf16_f32 : FVec Ideal S4096x8704 .bf16) i
    = gates (dmerged m c) (branches m c) (projection m c) (i 0).val ((i 1).val - 4608) := by
  have hi : (i 1).val < 8704 := (i 1).isLt
  unfold gates gate
  pointwise []
  rw [dif_pos ⟨h, by omega⟩]
  by_cases h' : (i 1).val - 4608 < 2048
  · rw [dif_pos h']
    refine gates_of (Entry.rd_of _ _ rfl ?_) (Entry.rd_of _ _ rfl ?_) (Entry.rd_of _ _ rfl ?_)
    all_goals first | (dsimp only [ix2]; omega) | rfl
  · rw [dif_neg h']
    refine gates_of (Entry.rd_of _ _ rfl ?_) (Entry.rd_of _ _ rfl ?_) (Entry.rd_of _ _ rfl ?_)
    all_goals first | (dsimp only [ix2]; omega) | rfl

end Cert.Reference6Ideal.Merge
-- ==== Proof.MergeClaim.lean ====
/- The gradient of the gated merge: the run of the call and of its reference, joined to the claims. -/
module

public import proofs.«01_k».proof.Defs
public import proofs.«01_k».proof.Proof.Gen.Kernel6.Frame
public import proofs.«01_k».proof.Proof.RefMerge
public import Idealize.ShloMosaic.Lib.WordCmp

@[expose] public section

set_option maxRecDepth 16384

noncomputable section

namespace Cert.Merge
open Idealize.ShloMosaic Idealize.SL.Sem
open Cert.Kernel6Ideal.Merge (branch gates)

theorem mask_facts : Cert.On_gate_columns.Facts := ⟨by decide, by decide⟩

/-- The second mask names the gates' columns. -/
theorem mask (a0 : FVec Ideal Cert.On_gate_columns.S4096x2048 .bf16) (a1 : FVec Ideal Cert.On_gate_columns.S4096x4096 .bf16)
    (a2 : FVec Ideal Cert.On_gate_columns.S4096x8704 .bf16) (i : Cert.On_gate_columns.S4096x8704.Idx)
    (h : (@Cert.On_gate_columns.fn mask_facts Ideal _ a0 a1 a2).2 i = 1#1) : 4608 ≤ (i 1).val := by
  have hi : (i 1).val < 8704 := (i 1).isLt
  unfold Cert.On_gate_columns.fn at h
  dsimp only at h
  exact (WordCmp.cmpi_sge_ofNat_eq_one_iff (w := 32) (by omega) (by decide)).1 h

theorem frame : Cert.quiescent_Kernel6 (hKernel6 := Cert.Kernel6.Gen.facts) :=
  fun m g _ => Cert.Kernel6.Gen.frame (F := Bits) m g

theorem frame_ideal : Cert.quiescent_Kernel6Ideal (hKernel6Ideal := Cert.Kernel6Ideal.Gen.facts) :=
  fun m g _ => Cert.Kernel6Ideal.Gen.frame (F := Ideal) m g

theorem frame_reference : Cert.quiescent_Reference6Ideal (hReference6Ideal := Cert.Reference6Ideal.Gen.facts) :=
  fun m g _ => (θ_run Cert.Reference6Ideal.defs _ _).mono (fun r h => ⟨fun c => (h c).2.2, sem_eq_zero_of_no_sems (by decide) r.2⟩)
    (Cert.Reference6Ideal.Value.run m g)

/-- The branches' gradient, and the gates' gradient on the columns it is written to, are the reference's. -/
theorem algebraic : Cert.algebraic_Kernel6Ideal_Reference6Ideal_on_gate_columns (hKernel6Ideal := Cert.Kernel6Ideal.Gen.facts)
    (hReference6Ideal := Cert.Reference6Ideal.Gen.facts) (hOn_gate_columns := mask_facts) := by
  intro m g m' g' _ hargs
  refine ⟨fun c i => branch (Cert.Kernel6Ideal.Merge.dmerged m c) (Cert.Kernel6Ideal.Merge.branches m c) (Cert.Kernel6Ideal.Merge.projection m c) (i 0).val (i 1).val,
    fun c i => gates (Cert.Kernel6Ideal.Merge.dmerged m c) (Cert.Kernel6Ideal.Merge.branches m c) (Cert.Kernel6Ideal.Merge.projection m c) (i 0).val ((i 1).val - 4608), ?_, ?_⟩
  · refine (θ_run Cert.Kernel6Ideal.defs _ _).mono (fun r h c => ?_) (Cert.Kernel6Ideal.Value.run_blocks m g)
    obtain ⟨h0, h1, h'⟩ := h c
    refine ⟨fun i _ => congrFun (h0.trans (Cert.Kernel6Ideal.Merge.end_branches m c)) i, fun i hi => ?_, h'⟩
    rw [h1, Cert.Kernel6Ideal.Merge.end_gates]
    exact if_pos (mask _ _ _ i hi)
  · refine (θ_run Cert.Reference6Ideal.defs _ _).mono (fun r h c => ?_) (Cert.Reference6Ideal.Value.run m' g')
    obtain ⟨e0, e1, e2⟩ := hargs c
    obtain ⟨h0, h1, h'⟩ := h c
    have d0 : Cert.Reference6Ideal.Merge.dmerged m' c = Cert.Kernel6Ideal.Merge.dmerged m c :=
      congrArg (fun A => Entry.rd (A : Cert.Kernel6Ideal.S4096x2048.Idx → EReal)) e0
    have d1 : Cert.Reference6Ideal.Merge.branches m' c = Cert.Kernel6Ideal.Merge.branches m c :=
      congrArg (fun A => Entry.rd (A : Cert.Kernel6Ideal.S4096x4096.Idx → EReal)) e1
    have d2 : Cert.Reference6Ideal.Merge.projection m' c = Cert.Kernel6Ideal.Merge.projection m c :=
      congrArg (fun A => Entry.rd (A : Cert.Kernel6Ideal.S4096x8704.Idx → EReal)) e2
    refine ⟨fun i _ => (congrFun (h0.trans (Cert.Reference6Ideal.Merge.val0 m' c)) i).trans ?_,
      fun i hi => ((congrFun h1 i).trans (Cert.Reference6Ideal.Merge.val1 m' c i (mask _ _ _ i hi))).trans ?_, h'⟩
    · dsimp only
      rw [d0, d1, d2]
    · dsimp only
      rw [d0, d1, d2]

end Cert.Merge

end
-- ==== Proof.Columns.lean ====
module

public import proofs.«01_k».proof.Proof.Entry
public import Idealize.ShloMosaic.Lib.Pipeline.ValueKit

/-! Column sums taken a block of rows at a time: the blocks' sums, added up in the result's block, are the sums over all
the rows. A constant factor moves through a sum. -/

@[expose] public section

noncomputable section

namespace Columns
open Idealize.ShloMosaic Idealize.ShloMosaic.Pipeline
open scoped BigOperators

/-- The sum of `n` rows, at column `q`. -/
def total (n : ℕ) (g : ℕ → ℕ → EReal) (q : ℕ) : EReal := ∑ s : Fin n, g s.val q

/-- What step `t` adds at column `q` of its block: the rows of block `t % p`. -/
def part (g : ℕ → ℕ → EReal) (p h w t q : ℕ) : EReal := ∑ k : Fin h, g (t % p * h + k.val) (t / p * w + q)

theorem whole {p h w b N n : ℕ} [NeZero p] (g : ℕ → ℕ → EReal) (f : (t : ℕ) → t < N → Shape.Idx ⟨2, ![1, b]⟩ → EReal)
    (first : ∀ t : Fin N, t.val % p = 0 → ∀ i, f t.val t.isLt i = part g p h w t.val (i 1).val)
    (next : ∀ t : Fin N, ¬t.val % p = 0 → ∀ i, f t.val t.isLt i
      = f (t.val - 1) (Nat.lt_of_le_of_lt (Nat.sub_le _ _) t.isLt) i + part g p h w t.val (i 1).val)
    (hn : n = p * h) (t : Fin N) (ht : t.val % p = p - 1) (i : Shape.Idx ⟨2, ![1, b]⟩) :
    f t.val t.isLt i = total n g (t.val / p * w + (i 1).val) := by
  rw [eq_sum_fin_of_reset_step_apply_of_flush f p (fun _ => 0) (fun t i => part g p h w t.val (i 1).val)
    (fun t h i => (first t h i).trans (zero_add _).symm) next t ht i, zero_add]
  refine Eq.trans (Finset.sum_congr rfl fun s _ => ?_)
    (Fin.sum_mul_add_fin p h (fun s : Fin n => g s.val (t.val / p * w + (i 1).val)) hn)
  have hs := s.isLt
  unfold part
  dsimp only
  rw [Nat.mul_add_div (by omega), Nat.div_eq_of_lt hs, Nat.mul_add_mod, Nat.mod_eq_of_lt hs, add_zero]

/-- A real factor that is not negative moves into a sum. -/
theorem mul_sum {n : ℕ} {r : ℝ} (hr : 0 ≤ r) (f : Fin n → EReal) : (r : EReal) * ∑ s, f s = ∑ s, (r : EReal) * f s := by
  induction n with
  | zero => simp
  | succ n ih =>
    rw [Fin.sum_univ_succ, Fin.sum_univ_succ,
      EReal.left_distrib_of_nonneg_of_ne_top (EReal.coe_nonneg.2 hr) (EReal.coe_ne_top r), ih]

end Columns
-- ==== Proof.Glu.lean ====
module

public import proofs.«01_k».proof.Proof.Gen.Kernel7Ideal.Value
public import proofs.«01_k».proof.Proof.Columns
public import Idealize.ShloMosaic.Lib.WordCmp

/-! The gradient of the gated linear unit: what the call leaves in its two results, entry by entry. -/

@[expose] public section

set_option maxRecDepth 16384

noncomputable section

namespace Cert.Kernel7Ideal.Glu
open Idealize.ShloMosaic Idealize.ShloMosaic.TcCoe Idealize.ShloMosaic.Pipeline Idealize.SL.Sem Cert.Kernel7Ideal Cert.Kernel7Ideal.Gen
open scoped BigOperators

variable (m : (ℓ : Loc nD τ sig) → Buf (Elt Ideal) ℓ) (ρ : Dev nD → PrngReg) (c : Dev nD)

theorem idx : ∀ t : Fin cfg0.N, (grid0.coords t 0).val = t.val / 4 ∧ win0_0.index t 0 = t.val % 4 ∧ win0_0.index t 1 = t.val / 4 % 2
    ∧ win0_1.index t 0 = t.val % 4 ∧ win0_1.index t 1 = t.val / 4 % 2 ∧ win0_2.index t 0 = t.val % 4 ∧ win0_2.index t 1 = 2 + t.val / 4 % 2
    ∧ win0_3.index t 0 = t.val % 4 ∧ win0_3.index t 1 = 7 + t.val / 4 % 2
    ∧ win0_4.index t 0 = t.val % 4 ∧ win0_4.index t 1 = t.val / 4 ∧ win0_5.index t 0 = 0 ∧ win0_5.index t 1 = t.val / 4 :=
  (by decide +kernel : ∀ t : Fin grid0.N, _)

/-- The sigmoid. -/
def sig1 (g : EReal) : EReal := Ideal.div 1 (1 + Ideal.exp (-g))

/-- The silu of the gating columns. -/
def silu (z : EReal) : EReal := z * sig1 z

/-- The gradient of the unit's two halves: of the linear columns, and of the columns under the sigmoid. -/
def grad (ds glu proj : ℕ → ℕ → EReal) (r q : ℕ) : EReal :=
  if q < 1024 then ds r (q % 1024) * sig1 (glu r (1024 + q % 1024)) * silu (proj r (3584 + q % 1024))
  else ds r (q % 1024) * glu r (q % 1024) * sig1 (glu r (1024 + q % 1024)) * (1 - sig1 (glu r (1024 + q % 1024))) * silu (proj r (3584 + q % 1024))

/-- The gradient of the unit's result. -/
abbrev ds : ℕ → ℕ → EReal := Entry.rd (m ((c : Thread nD τ).loc main_arg0) : S4096x1024.Idx → EReal)
/-- The unit's two halves, side by side. -/
abbrev glu : ℕ → ℕ → EReal := Entry.rd (m ((c : Thread nD τ).loc main_arg1) : S4096x2048.Idx → EReal)
/-- The projection: the gating columns start at 3584. -/
abbrev proj : ℕ → ℕ → EReal := Entry.rd (m ((c : Thread nD τ).loc main_arg2) : S4096x8704.Idx → EReal)

theorem read0 (t : Fin cfg0.N) (y : S1024x512.Idx) :
    (iblk m c 0 t : S1024x512.Idx → EReal) y = ds m c (t.val % 4 * 1024 + (y 0).val) ((t.val / 4 * 512 + (y 1).val) % 1024) := by
  obtain ⟨-, e0, e1, -⟩ := idx t
  have hy : (y 1).val < 512 := (y 1).isLt
  refine Entry.rd_of (m ((c : Thread nD τ).loc main_arg0) : S4096x1024.Idx → EReal) (((cfg0.win 0).blk t).view.emb y) ?_ ?_
  all_goals
    blk_simp
    simp only [e0, e1] <;> omega

theorem read1 (t : Fin cfg0.N) (y : S1024x512.Idx) :
    (iblk m c 1 t : S1024x512.Idx → EReal) y = glu m c (t.val % 4 * 1024 + (y 0).val) ((t.val / 4 * 512 + (y 1).val) % 1024) := by
  obtain ⟨-, -, -, e0, e1, -⟩ := idx t
  have hy : (y 1).val < 512 := (y 1).isLt
  refine Entry.rd_of (m ((c : Thread nD τ).loc main_arg1) : S4096x2048.Idx → EReal) (((cfg0.win 1).blk t).view.emb y) ?_ ?_
  all_goals
    blk_simp
    simp only [e0, e1] <;> omega

theorem read2 (t : Fin cfg0.N) (y : S1024x512.Idx) :
    (iblk m c 2 t : S1024x512.Idx → EReal) y = glu m c (t.val % 4 * 1024 + (y 0).val) (1024 + (t.val / 4 * 512 + (y 1).val) % 1024) := by
  obtain ⟨-, -, -, -, -, e0, e1, -⟩ := idx t
  have hy : (y 1).val < 512 := (y 1).isLt
  refine Entry.rd_of (m ((c : Thread nD τ).loc main_arg1) : S4096x2048.Idx → EReal) (((cfg0.win 2).blk t).view.emb y) ?_ ?_
  all_goals
    blk_simp
    simp only [e0, e1] <;> omega

theorem read3 (t : Fin cfg0.N) (y : S1024x512.Idx) :
    (iblk m c 3 t : S1024x512.Idx → EReal) y = proj m c (t.val % 4 * 1024 + (y 0).val) (3584 + (t.val / 4 * 512 + (y 1).val) % 1024) := by
  obtain ⟨-, -, -, -, -, -, -, e0, e1, -⟩ := idx t
  have hy : (y 1).val < 512 := (y 1).isLt
  refine Entry.rd_of (m ((c : Thread nD τ).loc main_arg2) : S4096x8704.Idx → EReal) (((cfg0.win 3).blk t).view.emb y) ?_ ?_
  all_goals
    blk_simp
    simp only [e0, e1] <;> omega

theorem grad_at (t : Fin cfg0.N) (y : S1024x512.Idx) :
    k0_pay4 (F := Ideal) (grid0.coords t) (iblk m c 0 t) (iblk m c 1 t) (iblk m c 2 t) (iblk m c 3 t) y
      = grad (ds m c) (glu m c) (proj m c) (t.val % 4 * 1024 + (y 0).val) (t.val / 4 * 512 + (y 1).val) := by
  obtain ⟨e, -⟩ := idx t
  have ht : t.val < 16 := lt_of_lt_of_eq t.isLt (by decide)
  have hy : (y 1).val < 512 := (y 1).isLt
  unfold k0_pay4 grad silu sig1
  dsimp only
  rw [e]
  by_cases h : t.val / 4 < 2
  · have hb : Scalar.cmpi .slt (BitVec.ofNat 32 (t.val / 4)) 2#32 = 1#1 :=
      (WordCmp.cmpi_slt_ofNat_eq_one_iff (w := 32) (by omega) (by decide)).2 h
    rw [hb, WordCmp.select_one, if_pos (by omega)]
    pointwise []
    rw [read0 m c t, read2 m c t, read3 m c t, zero_sub, zero_sub]
  · have hb : Scalar.cmpi .slt (BitVec.ofNat 32 (t.val / 4)) 2#32 = 0#1 :=
      (BitVec.eq_zero_or_eq_one _).resolve_right fun h1 => h
        ((WordCmp.cmpi_slt_ofNat_eq_one_iff (w := 32) (by omega) (by decide)).1 h1)
    rw [hb, WordCmp.select_zero, if_neg (by omega)]
    pointwise []
    rw [read0 m c t, read1 m c t, read2 m c t, read3 m c t, zero_sub, zero_sub]

theorem end_grad : (dats m 0 c).arrAt 4 cfg0.N = fun i : S4096x2048.Idx => grad (ds m c) (glu m c) (proj m c) (i 0).val (i 1).val := by
  refine (dats m 0 c).arrAt_eq_of_covers 4 _ (by decide +kernel) fun t hf y => ?_
  obtain ⟨-, -, -, -, -, -, -, -, -, e0, e1, -⟩ := idx t
  blk_simp
  rw [after0_4, e0, e1, ← grad_at m c t y]
  by_cases h : t.val % 4 = 0
  · rw [outsAt0_A m c t h (by omega)]
    dsimp only
    frame_out
    unfold k0_pay5
    pointwise []
  · rw [outsAt0_B m c t h (by omega)]
    dsimp only
    frame_out
    unfold k0_pay5
    pointwise []

theorem pay (t : Fin cfg0.N) (i : S1x512.Idx) :
    k0_pay1 (F := Ideal) (k0_pay4 (F := Ideal) (grid0.coords t) (iblk m c 0 t) (iblk m c 1 t) (iblk m c 2 t) (iblk m c 3 t)) i
      = Columns.part (grad (ds m c) (glu m c) (proj m c)) 4 1024 512 t.val (i 1).val := by
  unfold k0_pay1 Columns.part
  pointwise []
  exact Finset.sum_congr rfl fun k _ => grad_at m c t _

theorem first (t : Fin cfg0.N) (h : t.val % 4 = 0) (i : S1x512.Idx) :
    (outsAt0 m c t.val t.isLt).2 i = Columns.part (grad (ds m c) (glu m c) (proj m c)) 4 1024 512 t.val (i 1).val := by
  rw [outsAt0_A m c t h (by omega), ← pay]
  dsimp only
  frame_out
  unfold k0_pay2
  pointwise []

theorem next (t : Fin cfg0.N) (h : ¬t.val % 4 = 0) (i : S1x512.Idx) :
    (outsAt0 m c t.val t.isLt).2 i
      = (outsAt0 m c (t.val - 1) (Nat.lt_of_le_of_lt (Nat.sub_le _ _) t.isLt)).2 i
        + Columns.part (grad (ds m c) (glu m c) (proj m c)) 4 1024 512 t.val (i 1).val := by
  rw [← pay, outsAt0_B m c t h (by omega)]
  dsimp only
  frame_out
  unfold k0_pay3
  pointwise []

/-- The bias's gradient: the sums of the columns. -/
theorem end_bias : (dats m 0 c).arrAt 5 cfg0.N = fun i : S1x2048.Idx =>
    Columns.total 4096 (grad (ds m c) (glu m c) (proj m c)) (i 1).val := by
  refine (dats m 0 c).arrAt_eq_of_covers 5 _ (by decide +kernel) fun t hf y => ?_
  have ht := (flush0_5 t).mp hf
  obtain ⟨-, -, -, -, -, -, -, -, -, -, -, -, e1⟩ := idx t
  blk_simp
  rw [after0_5, e1]
  exact Columns.whole (grad (ds m c) (glu m c) (proj m c)) (fun n hn => (outsAt0 m c n hn).2) (first m c) (next m c) rfl t ht y

end Cert.Kernel7Ideal.Glu
-- ==== Proof.RefGlu.lean ====
module

public import proofs.«01_k».proof.Proof.Gen.Reference7Ideal.Run
public import proofs.«01_k».proof.Proof.Glu

/-! The reference's gradient of the gated linear unit, entry by entry: the same functions of the arguments as the call
leaves. -/

@[expose] public section

set_option maxRecDepth 16384

noncomputable section

namespace Cert.Reference7Ideal.Glu
open Idealize.ShloMosaic Idealize.ShloMosaic.TcCoe Idealize.SL.Sem Cert.Reference7Ideal Cert.Reference7Ideal.Gen
open Cert.Kernel7Ideal.Glu (sig1 silu grad)
open scoped BigOperators

variable (m : (ℓ : Loc nD τ sig) → Buf (Elt Ideal) ℓ) (c : Dev nD)

/-- The gradient of the unit's result. -/
abbrev ds : ℕ → ℕ → EReal := Entry.rd (m ((c.tc : Thread nD τ).loc main_arg0) : S4096x1024.Idx → EReal)
/-- The unit's two halves, side by side. -/
abbrev glu : ℕ → ℕ → EReal := Entry.rd (m ((c.tc : Thread nD τ).loc main_arg1) : S4096x2048.Idx → EReal)
/-- The projection: the gating columns start at 3584. -/
abbrev proj : ℕ → ℕ → EReal := Entry.rd (m ((c.tc : Thread nD τ).loc main_arg2) : S4096x8704.Idx → EReal)

theorem linear_of {d d' g g' z z' : EReal} (hd : d = d') (hg : g = g') (hz : z = z') :
    d * (z * Ideal.div 1 (1 + Ideal.exp (-z))) * Ideal.div 1 (1 + Ideal.exp (-g)) = d' * sig1 g' * silu z' := by
  rw [hd, hg, hz, mul_right_comm]
  rfl

theorem gate_of {d d' a a' g g' z z' : EReal} (hd : d = d') (ha : a = a') (hg : g = g') (hz : z = z') :
    a * (d * (z * Ideal.div 1 (1 + Ideal.exp (-z)))) * (Ideal.div 1 (1 + Ideal.exp (-g)) * (1 - Ideal.div 1 (1 + Ideal.exp (-g))))
      = d' * a' * sig1 g' * (1 - sig1 g') * silu z' := by
  rw [hd, ha, hg, hz]
  unfold silu sig1
  ac_rfl

theorem grad_eq : ((concatenate S4096x2048 1 [⟨S4096x1024, (mulf (mulf (extf .f32 (m ((c.tc : Thread nD τ).loc main_arg0)) bitsLt_bf16_f32) (mulf (extf .f32 (extractStridedSlice S4096x1024 ![0, 3584] (m ((c.tc : Thread nD τ).loc main_arg2)) slices_S4096x8704_S4096x1024_0_3584) bitsLt_bf16_f32) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32))))))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))))⟩, ⟨S4096x1024, (mulf (mulf (extractStridedSlice S4096x1024 ![0, 0] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_0) (mulf (extf .f32 (m ((c.tc : Thread nD τ).loc main_arg0)) bitsLt_bf16_f32) (mulf (extf .f32 (extractStridedSlice S4096x1024 ![0, 3584] (m ((c.tc : Thread nD τ).loc main_arg2)) slices_S4096x8704_S4096x1024_0_3584) bitsLt_bf16_f32) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32)))))))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))))))⟩] concatenates_S4096x1024_S4096x1024_S4096x2048_d1) : FVec Ideal S4096x2048 .f32)
    = fun i => grad (ds m c) (glu m c) (proj m c) (i 0).val (i 1).val := by
  funext i
  have hi : (i 1).val < 2048 := (i 1).isLt
  unfold grad
  pointwise []
  by_cases h : (i 1).val < 1024
  · rw [dif_pos h, if_pos h]
    refine linear_of (Entry.rd_of _ _ rfl ?_) (Entry.rd_of _ _ rfl ?_) (Entry.rd_of _ _ rfl ?_)
    all_goals first | (dsimp only [ix2]; omega) | rfl
  · rw [dif_neg h, if_neg h]
    refine gate_of (Entry.rd_of _ _ rfl ?_) (Entry.rd_of _ _ rfl ?_) (Entry.rd_of _ _ rfl ?_) (Entry.rd_of _ _ rfl ?_)
    all_goals first | (dsimp only [ix2]; omega) | rfl

theorem val0 : (truncf .bf16 (concatenate S4096x2048 1 [⟨S4096x1024, (mulf (mulf (extf .f32 (m ((c.tc : Thread nD τ).loc main_arg0)) bitsLt_bf16_f32) (mulf (extf .f32 (extractStridedSlice S4096x1024 ![0, 3584] (m ((c.tc : Thread nD τ).loc main_arg2)) slices_S4096x8704_S4096x1024_0_3584) bitsLt_bf16_f32) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32))))))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))))⟩, ⟨S4096x1024, (mulf (mulf (extractStridedSlice S4096x1024 ![0, 0] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_0) (mulf (extf .f32 (m ((c.tc : Thread nD τ).loc main_arg0)) bitsLt_bf16_f32) (mulf (extf .f32 (extractStridedSlice S4096x1024 ![0, 3584] (m ((c.tc : Thread nD τ).loc main_arg2)) slices_S4096x8704_S4096x1024_0_3584) bitsLt_bf16_f32) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32)))))))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))))))⟩] concatenates_S4096x1024_S4096x1024_S4096x2048_d1) bitsLt_bf16_f32 : FVec Ideal S4096x2048 .bf16)
    = fun i => grad (ds m c) (glu m c) (proj m c) (i 0).val (i 1).val := grad_eq m c

theorem val1 : (shapeCast _ (Host.reduceAdd (shapeCast _ (Host.reduceAdd (concatenate S4096x2048 1 [⟨S4096x1024, (mulf (mulf (extf .f32 (m ((c.tc : Thread nD τ).loc main_arg0)) bitsLt_bf16_f32) (mulf (extf .f32 (extractStridedSlice S4096x1024 ![0, 3584] (m ((c.tc : Thread nD τ).loc main_arg2)) slices_S4096x8704_S4096x1024_0_3584) bitsLt_bf16_f32) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32))))))) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))))⟩, ⟨S4096x1024, (mulf (mulf (extractStridedSlice S4096x1024 ![0, 0] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_0) (mulf (extf .f32 (m ((c.tc : Thread nD τ).loc main_arg0)) bitsLt_bf16_f32) (mulf (extf .f32 (extractStridedSlice S4096x1024 ![0, 3584] (m ((c.tc : Thread nD τ).loc main_arg2)) slices_S4096x8704_S4096x1024_0_3584) bitsLt_bf16_f32) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32)))))))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024))))))))⟩] concatenates_S4096x1024_S4096x1024_S4096x2048_d1) (constant S_ .f32 0x00000000#32) reducesTo_S4096x2048_S2048_d0 h_S_) shapeCasts_S2048_S1x2048) (constant S_ .f32 0x00000000#32) reducesTo_S1x2048_S2048_d0 h_S_) shapeCasts_S2048_S1x2048 : FVec Ideal S1x2048 .f32)
    = fun i => Columns.total 4096 (grad (ds m c) (glu m c) (proj m c)) (i 1).val := by
  rw [grad_eq]
  funext i
  unfold Columns.total
  pointwise []
  exact Fin.sum_univ_one _

end Cert.Reference7Ideal.Glu
-- ==== Proof.GluClaim.lean ====
/- The gradient of the gated linear unit: the run of the call and of its reference, joined to the claims. -/
module

public import proofs.«01_k».proof.Defs
public import proofs.«01_k».proof.Proof.Gen.Kernel7.Frame
public import proofs.«01_k».proof.Proof.RefGlu

@[expose] public section

set_option maxRecDepth 16384

noncomputable section

namespace Cert.Glu
open Idealize.ShloMosaic Idealize.SL.Sem
open Cert.Kernel7Ideal.Glu (ds glu proj grad)

theorem frame : Cert.quiescent_Kernel7 (hKernel7 := Cert.Kernel7.Gen.facts) :=
  fun m g _ => Cert.Kernel7.Gen.frame (F := Bits) m g

theorem frame_ideal : Cert.quiescent_Kernel7Ideal (hKernel7Ideal := Cert.Kernel7Ideal.Gen.facts) :=
  fun m g _ => Cert.Kernel7Ideal.Gen.frame (F := Ideal) m g

theorem frame_reference : Cert.quiescent_Reference7Ideal (hReference7Ideal := Cert.Reference7Ideal.Gen.facts) :=
  fun m g _ => (θ_run Cert.Reference7Ideal.defs _ _).mono (fun r h => ⟨fun c => (h c).2.2, sem_eq_zero_of_no_sems (by decide) r.2⟩)
    (Cert.Reference7Ideal.Value.run m g)

/-- The gradient of the unit's two halves, and its sums by columns, are the reference's. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c i => grad (ds m c) (glu m c) (proj m c) (i 0).val (i 1).val,
    fun c i => Columns.total 4096 (grad (ds m c) (glu m c) (proj m c)) (i 1).val, ?_, ?_⟩
  · refine (θ_run Cert.Kernel7Ideal.defs _ _).mono (fun r h c => ?_) (Cert.Kernel7Ideal.Value.run_blocks m g)
    obtain ⟨h0, h1, h'⟩ := h c
    exact ⟨h0.trans (Cert.Kernel7Ideal.Glu.end_grad m c), h1.trans (Cert.Kernel7Ideal.Glu.end_bias m c), h'⟩
  · refine (θ_run Cert.Reference7Ideal.defs _ _).mono (fun r h c => ?_) (Cert.Reference7Ideal.Value.run m' g')
    obtain ⟨e0, e1, e2⟩ := hargs c
    obtain ⟨h0, h1, h'⟩ := h c
    have d0 : Cert.Reference7Ideal.Glu.ds m' c = ds m c :=
      congrArg (fun A => Entry.rd (A : Cert.Kernel7Ideal.S4096x1024.Idx → EReal)) e0
    have d1 : Cert.Reference7Ideal.Glu.glu m' c = glu m c :=
      congrArg (fun A => Entry.rd (A : Cert.Kernel7Ideal.S4096x2048.Idx → EReal)) e1
    have d2 : Cert.Reference7Ideal.Glu.proj m' c = proj m c :=
      congrArg (fun A => Entry.rd (A : Cert.Kernel7Ideal.S4096x8704.Idx → EReal)) e2
    refine ⟨h0.trans ((Cert.Reference7Ideal.Glu.val0 m' c).trans ?_), h1.trans ((Cert.Reference7Ideal.Glu.val1 m' c).trans ?_), h'⟩
    all_goals
      dsimp only
      rw [d0, d1, d2]
      rfl

end Cert.Glu

end
-- ==== Proof.GluZ.lean ====
module

public import proofs.«01_k».proof.Proof.Gen.Kernel8Ideal.Value
public import proofs.«01_k».proof.Proof.Glu

/-! The gradient of the gating columns: what the call leaves in the projection's gradient, entry by entry. -/

@[expose] public section

set_option maxRecDepth 16384

noncomputable section

namespace Cert.Kernel8Ideal.Glu
open Idealize.ShloMosaic Idealize.ShloMosaic.TcCoe Idealize.ShloMosaic.Pipeline Idealize.SL.Sem Cert.Kernel8Ideal Cert.Kernel8Ideal.Gen
open Cert.Kernel7Ideal.Glu (sig1)
open scoped BigOperators

variable (m : (ℓ : Loc nD τ sig) → Buf (Elt Ideal) ℓ) (ρ : Dev nD → PrngReg) (c : Dev nD)

theorem idx : ∀ t : Fin cfg0.N, win0_1.index t 0 = win0_0.index t 0 ∧ win0_1.index t 1 = win0_0.index t 1
    ∧ win0_2.index t 0 = win0_0.index t 0 ∧ win0_2.index t 1 = 2 + win0_0.index t 1
    ∧ win0_3.index t 0 = win0_0.index t 0 ∧ win0_3.index t 1 = 7 + win0_0.index t 1
    ∧ win0_4.index t 0 = win0_0.index t 0 ∧ win0_4.index t 1 = 7 + win0_0.index t 1 ∧ win0_0.index t 1 < 2 :=
  (by decide +kernel : ∀ t : Fin grid0.N, _)

/-- The gradient of the gating columns, with the derivative of the silu. -/
def grad (ds glu proj : ℕ → ℕ → EReal) (r q : ℕ) : EReal :=
  ds r q * glu r q * sig1 (glu r (1024 + q))
    * (sig1 (proj r (3584 + q)) * (1 + proj r (3584 + q) * (1 - sig1 (proj r (3584 + q)))))

/-- The projection's gradient with the gating columns' written into it. -/
def whole (ds glu proj dproj : ℕ → ℕ → EReal) (r q : ℕ) : EReal :=
  if 3584 ≤ q ∧ q < 4608 then grad ds glu proj r (q - 3584) else dproj r q

/-- The gradient of the unit's result. -/
abbrev ds : ℕ → ℕ → EReal := Entry.rd (m ((c : Thread nD τ).loc main_arg0) : S4096x1024.Idx → EReal)
/-- The unit's two halves, side by side. -/
abbrev glu : ℕ → ℕ → EReal := Entry.rd (m ((c : Thread nD τ).loc main_arg1) : S4096x2048.Idx → EReal)
/-- The projection: the gating columns start at 3584. -/
abbrev proj : ℕ → ℕ → EReal := Entry.rd (m ((c : Thread nD τ).loc main_arg2) : S4096x8704.Idx → EReal)
/-- The projection's gradient, as it is found. -/
abbrev dproj : ℕ → ℕ → EReal := Entry.rd (m ((c : Thread nD τ).loc main_arg3) : S4096x8704.Idx → EReal)

theorem read0 (t : Fin cfg0.N) (y : S1024x512.Idx) :
    (iblk m c 0 t : S1024x512.Idx → EReal) y = ds m c (win0_0.index t 0 * 1024 + (y 0).val) (win0_0.index t 1 * 512 + (y 1).val) := by
  refine (congrFun (V_main_arg0 m c) _).trans (Entry.rd_of (m ((c : Thread nD τ).loc main_arg0) : S4096x1024.Idx → EReal) (((cfg0.win 0).blk t).view.emb y) ?_ ?_)
  all_goals blk_simp

theorem read1 (t : Fin cfg0.N) (y : S1024x512.Idx) :
    (iblk m c 1 t : S1024x512.Idx → EReal) y = glu m c (win0_0.index t 0 * 1024 + (y 0).val) (win0_0.index t 1 * 512 + (y 1).val) := by
  obtain ⟨e0, e1, -⟩ := idx t
  refine (congrFun (V_main_arg1 m c) _).trans (Entry.rd_of (m ((c : Thread nD τ).loc main_arg1) : S4096x2048.Idx → EReal) (((cfg0.win 1).blk t).view.emb y) ?_ ?_)
  all_goals
    blk_simp
    simp only [e0, e1]

theorem read2 (t : Fin cfg0.N) (y : S1024x512.Idx) :
    (iblk m c 2 t : S1024x512.Idx → EReal) y = glu m c (win0_0.index t 0 * 1024 + (y 0).val) (1024 + (win0_0.index t 1 * 512 + (y 1).val)) := by
  obtain ⟨-, -, e0, e1, -⟩ := idx t
  refine (congrFun (V_main_arg1 m c) _).trans (Entry.rd_of (m ((c : Thread nD τ).loc main_arg1) : S4096x2048.Idx → EReal) (((cfg0.win 2).blk t).view.emb y) ?_ ?_)
  all_goals
    blk_simp
    simp only [e0, e1] <;> omega

theorem read3 (t : Fin cfg0.N) (y : S1024x512.Idx) :
    (iblk m c 3 t : S1024x512.Idx → EReal) y = proj m c (win0_0.index t 0 * 1024 + (y 0).val) (3584 + (win0_0.index t 1 * 512 + (y 1).val)) := by
  obtain ⟨-, -, -, -, e0, e1, -⟩ := idx t
  refine (congrFun (V_main_arg2 m c) _).trans (Entry.rd_of (m ((c : Thread nD τ).loc main_arg2) : S4096x8704.Idx → EReal) (((cfg0.win 3).blk t).view.emb y) ?_ ?_)
  all_goals
    blk_simp
    simp only [e0, e1] <;> omega

/-- The array the call writes into starts as a copy of the projection's gradient. -/
theorem start : V m c main_v0 = m ((c : Thread nD τ).loc main_arg3) := by
  show StableHlo.after hostOps0 _ (Proc.devRef .tc main_v0) = _
  simp only [hostOps0]
  after_results
  rfl

theorem final : (dats m 0 c).arrAt 4 cfg0.N = fun i : S4096x8704.Idx =>
    whole (ds m c) (glu m c) (proj m c) (dproj m c) (i 0).val (i 1).val := by
  refine (dats m 0 c).arrAt_eq_of_coversWhere_of_agree 4 _ (fun β => 7 ≤ β ⟨1, by decide⟩ ∧ β ⟨1, by decide⟩ < 9) (by decide +kernel) (fun t hf y => ?_) (fun j hj => ?_)
  · obtain ⟨-, -, -, -, -, -, e0, e1, h⟩ := idx t
    have hy : (y 1).val < 512 := (y 1).isLt
    blk_simp
    unfold whole
    rw [after0_4, e0, e1, if_pos (by omega)]
    unfold outsAt0
    dsimp only [out0_A_4]
    frame_out
    unfold k0_pay1 grad sig1
    pointwise []
    rw [read0 m c t, read1 m c t, read2 m c t, read3 m c t, zero_sub, zero_sub,
      show (7 + win0_0.index t 1) * 512 + (y 1).val - 3584 = win0_0.index t 1 * 512 + (y 1).val by omega]
  · blk_simp [Pipeline.Window.cell_apply] at hj
    blk_simp
    unfold whole
    refine Eq.trans ?_ (if_neg (show ¬ (3584 ≤ (j 1).val ∧ (j 1).val < 4608) by omega)).symm
    rw [A_eq]
    exact (congrFun (start m c) j).trans (Entry.rd_of (m ((c : Thread nD τ).loc main_arg3) : S4096x8704.Idx → EReal) j rfl rfl)

end Cert.Kernel8Ideal.Glu
-- ==== Proof.RefGluZ.lean ====
module

public import proofs.«01_k».proof.Pre_finite8
public import proofs.«01_k».proof.Proof.Args
public import proofs.«01_k».proof.Proof.Gen.Reference8Ideal.Run
public import proofs.«01_k».proof.Proof.GluZ

/-! The reference's gradient of the gating columns: it is the call's where the unit's gradient and its first half are real numbers. -/

@[expose] public section

set_option maxRecDepth 16384

noncomputable section

namespace Cert.Reference8Ideal.Glu
open Idealize.ShloMosaic Idealize.ShloMosaic.TcCoe Idealize.SL.Sem Cert.Reference8Ideal Cert.Reference8Ideal.Gen
open Cert.Kernel7Ideal.Glu (sig1)
open Cert.Kernel8Ideal.Glu (grad whole)
open scoped BigOperators

variable (m : (ℓ : Loc nD τ sig) → Buf (Elt Ideal) ℓ) (c : Dev nD)

/-- The gradient of the unit's result. -/
abbrev ds : ℕ → ℕ → EReal := Entry.rd (m ((c.tc : Thread nD τ).loc main_arg0) : S4096x1024.Idx → EReal)
/-- The unit's two halves, side by side. -/
abbrev glu : ℕ → ℕ → EReal := Entry.rd (m ((c.tc : Thread nD τ).loc main_arg1) : S4096x2048.Idx → EReal)
/-- The projection: the gating columns start at 3584. -/
abbrev proj : ℕ → ℕ → EReal := Entry.rd (m ((c.tc : Thread nD τ).loc main_arg2) : S4096x8704.Idx → EReal)
/-- The projection's gradient, as it is found. -/
abbrev dproj : ℕ → ℕ → EReal := Entry.rd (m ((c.tc : Thread nD τ).loc main_arg3) : S4096x8704.Idx → EReal)

theorem pre_facts : Cert.Pre_finite8.Facts := ⟨by decide, by decide, by decide, by decide, by decide⟩

/-- What the precondition says: the unit's gradient and the unit's first half hold real numbers. -/
theorem all_real (a0 : FVec Ideal Pre_finite8.S4096x1024 .bf16) (a1 : FVec Ideal Pre_finite8.S4096x2048 .bf16)
    (a2 a3 : FVec Ideal Pre_finite8.S4096x8704 .bf16) (h : @Cert.Pre_finite8.fn pre_facts Ideal _ a0 a1 a2 a3 = fun _ => 1#1) :
    (∀ i, (a0 i : EReal) = (((a0 i : EReal).toReal : ℝ) : EReal)) ∧
    (∀ i, (i 1).val < 1024 → (a1 i : EReal) = (((a1 i : EReal).toReal : ℝ) : EReal)) := by
  have e := congrFun h (fun a => a.elim0)
  unfold Cert.Pre_finite8.fn at e
  dsimp only at e
  obtain ⟨h0, h1⟩ := IntOp.andi_eq_one.1 e
  haveI : Subsingleton Pre_finite8.S_.Idx := ⟨fun a b => funext fun k => k.elim0⟩
  refine ⟨fun i => Cert.Args.real_of _ (Host.reduce_andi_all _ _ _ _ _ h0 i), fun i hi => ?_⟩
  have e1 := Cert.Args.real_of _ (Host.reduce_andi_all _ _ _ _ _ h1 (ix2 (i 0) ⟨(i 1).val, hi⟩))
  have ej : (extractStridedSlice Pre_finite8.S4096x1024 ![0, 0] a1 pre_facts.slices_S4096x2048_S4096x1024_0_0 (ix2 (i 0) ⟨(i 1).val, hi⟩) : EReal) = a1 i := by
    refine congrArg a1 (funext fun k => Fin.ext ?_)
    match k with
    | ⟨0, _⟩ => exact Nat.zero_add _
    | ⟨1, _⟩ => exact Nat.zero_add _
  rw [← ej]
  exact e1

/-- The reference's spelling, the two terms of the product rule: the gating columns and the unit's gate may be infinite. -/
theorem grad_of {d a g z d' a' g' z' : EReal} (hd : d = d') (ha : a = a') (hg : g = g') (hz : z = z')
    (rd : d = ((d.toReal : ℝ) : EReal)) (ra : a = ((a.toReal : ℝ) : EReal)) :
    a * Ideal.div 1 (1 + Ideal.exp (-g)) * d * Ideal.div 1 (1 + Ideal.exp (-z))
        + z * (a * Ideal.div 1 (1 + Ideal.exp (-g)) * d) * (Ideal.div 1 (1 + Ideal.exp (-z)) * (1 - Ideal.div 1 (1 + Ideal.exp (-z))))
      = d' * a' * sig1 g' * (sig1 z' * (1 + z' * (1 - sig1 z'))) := by
  subst hd ha hg hz
  have hs : ∀ x : ℝ, sig1 (x : EReal) = (((1 + Real.exp (-x))⁻¹ : ℝ) : EReal) := Ideal.logistic_coe
  have hb : sig1 ⊥ = ((0 : ℝ) : EReal) := Ideal.logistic_bot
  have ht : sig1 ⊤ = ((1 : ℝ) : EReal) := Ideal.logistic_top
  have hg : ∃ s : ℝ, sig1 g = (s : EReal) := by
    induction g with
    | bot => exact ⟨_, hb⟩
    | top => exact ⟨_, ht⟩
    | coe g => exact ⟨_, hs g⟩
  obtain ⟨s, hg⟩ := hg
  show a * sig1 g * d * sig1 z + z * (a * sig1 g * d) * (sig1 z * (1 - sig1 z)) = _
  have e : d * a * sig1 g = a * sig1 g * d := by ac_rfl
  rw [e, rd, ra, hg, ← EReal.coe_mul, ← EReal.coe_mul]
  generalize a.toReal * s * d.toReal = t
  induction z with
  | bot => rw [hb]; simp
  | top =>
    have h1 : (1 : EReal) - 1 = 0 := by rw [← EReal.coe_one, ← EReal.coe_sub, sub_self, EReal.coe_zero]
    rw [ht]
    simp [h1]
  | coe z =>
    rw [hs, ← EReal.coe_one]
    simp only [← EReal.coe_mul, ← EReal.coe_add, ← EReal.coe_sub]
    congr 1
    ring

theorem val0 (h0 : ∀ i, (m ((c.tc : Thread nD τ).loc main_arg0) i : EReal) = (((m ((c.tc : Thread nD τ).loc main_arg0) i : EReal).toReal : ℝ) : EReal))
    (h1 : ∀ i, (i 1).val < 1024 → (m ((c.tc : Thread nD τ).loc main_arg1) i : EReal) = (((m ((c.tc : Thread nD τ).loc main_arg1) i : EReal).toReal : ℝ) : EReal)) :
    ((concatenate S4096x8704 1 [⟨S4096x3584, ((extractStridedSlice S4096x3584 ![0, 0] (m ((c.tc : Thread nD τ).loc main_arg3)) slices_S4096x8704_S4096x3584_0_0) : FVec Ideal S4096x3584 .bf16)⟩, ⟨S4096x1024, ((truncf .bf16 (addf (mulf (mulf (mulf (extractStridedSlice S4096x1024 ![0, 0] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024)))))) (extf .f32 (m ((c.tc : Thread nD τ).loc main_arg0)) bitsLt_bf16_f32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32)))))) (mulf (mulf (extf .f32 (extractStridedSlice S4096x1024 ![0, 3584] (m ((c.tc : Thread nD τ).loc main_arg2)) slices_S4096x8704_S4096x1024_0_3584) bitsLt_bf16_f32) (mulf (mulf (extractStridedSlice S4096x1024 ![0, 0] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (addf (extf .f32 (m ((c.tc : Thread nD τ).loc main_arg1)) bitsLt_bf16_f32) (broadcastInDim S4096x2048 ![0, 1] bcast_S1x2048_S4096x2048_0_1 (broadcastInDim S1x2048 ![1] bcast_S2048_S1x2048_1 (broadcastInDim S2048 ![] bcast_S_S2048 (constant S_ .f32 0x00000000#32))))) slices_S4096x2048_S4096x1024_0_1024)))))) (extf .f32 (m ((c.tc : Thread nD τ).loc main_arg0)) bitsLt_bf16_f32))) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 (extractStridedSlice S4096x1024 ![0, 3584] (m ((c.tc : Thread nD τ).loc main_arg2)) slices_S4096x8704_S4096x1024_0_3584) bitsLt_bf16_f32))))))))) bitsLt_bf16_f32) : FVec Ideal S4096x1024 .bf16)⟩, ⟨S4096x4096, ((extractStridedSlice S4096x4096 ![0, 4608] (m ((c.tc : Thread nD τ).loc main_arg3)) slices_S4096x8704_S4096x4096_0_4608) : FVec Ideal S4096x4096 .bf16)⟩] concatenates_S4096x3584_S4096x1024_S4096x4096_S4096x8704_d1 : FVec Ideal S4096x8704 .bf16) : FVec Ideal S4096x8704 .bf16)
    = fun i => whole (ds m c) (glu m c) (proj m c) (dproj m c) (i 0).val (i 1).val := by
  funext i
  have hi : (i 1).val < 8704 := (i 1).isLt
  unfold whole grad
  pointwise []
  by_cases ha : (i 1).val < 3584
  · rw [dif_pos ha]
    refine Eq.trans ?_ (if_neg (show ¬(3584 ≤ (i 1).val ∧ (i 1).val < 4608) by omega)).symm
    refine Entry.rd_of _ _ rfl ?_
    first | (dsimp only [ix2]; omega) | rfl
  · by_cases hb : (i 1).val - 3584 < 1024
    · rw [dif_neg ha, dif_pos hb]
      refine Eq.trans ?_ (if_pos (show 3584 ≤ (i 1).val ∧ (i 1).val < 4608 from ⟨by omega, by omega⟩)).symm
      refine grad_of (Entry.rd_of _ _ rfl ?_) (Entry.rd_of _ _ rfl ?_) (Entry.rd_of _ _ rfl ?_) (Entry.rd_of _ _ rfl ?_) (h0 _) (h1 _ ?_)
      all_goals first | (dsimp only [ix2]; omega) | rfl | exact hb
    · rw [dif_neg ha, dif_neg hb]
      refine Eq.trans ?_ (if_neg (show ¬(3584 ≤ (i 1).val ∧ (i 1).val < 4608) by omega)).symm
      refine Entry.rd_of _ _ rfl ?_
      first | (dsimp only [ix2]; omega) | rfl

end Cert.Reference8Ideal.Glu
-- ==== Proof.GluZClaim.lean ====
/- The gradient of the gating columns: the run of the call and of its reference, joined to the claims. -/
module

public import proofs.«01_k».proof.Defs
public import proofs.«01_k».proof.Proof.Gen.Kernel8.Frame
public import proofs.«01_k».proof.Proof.RefGluZ

@[expose] public section

set_option maxRecDepth 16384

noncomputable section

namespace Cert.GluZ
open Idealize.ShloMosaic Idealize.SL.Sem
open Cert.Kernel8Ideal.Glu (ds glu proj dproj whole)

theorem frame : Cert.quiescent_Kernel8 (hKernel8 := Cert.Kernel8.Gen.facts) :=
  fun m g _ => Cert.Kernel8.Gen.frame (F := Bits) m g

theorem frame_ideal : Cert.quiescent_Kernel8Ideal (hKernel8Ideal := Cert.Kernel8Ideal.Gen.facts) :=
  fun m g _ => Cert.Kernel8Ideal.Gen.frame (F := Ideal) m g

theorem frame_ideal_finite : Cert.quiescent_Kernel8Ideal_pre_finite8 (hKernel8Ideal := Cert.Kernel8Ideal.Gen.facts)
    (hPre_finite8 := Cert.Reference8Ideal.Glu.pre_facts) :=
  fun m g _ => Cert.Kernel8Ideal.Gen.frame (F := Ideal) m g

theorem frame_reference : Cert.quiescent_Reference8Ideal (hReference8Ideal := Cert.Reference8Ideal.Gen.facts) :=
  fun m g _ => (θ_run Cert.Reference8Ideal.defs _ _).mono (fun r h => ⟨fun c => (h c).2, sem_eq_zero_of_no_sems (by decide) r.2⟩)
    (Cert.Reference8Ideal.Value.run m g)

theorem frame_reference_finite : Cert.quiescent_Reference8Ideal_pre_finite8 (hReference8Ideal := Cert.Reference8Ideal.Gen.facts)
    (hPre_finite8 := Cert.Reference8Ideal.Glu.pre_facts) :=
  fun m g _ => frame_reference m g trivial

/-- The gating columns of the projection's gradient, and all its other columns as they were, are the reference's. -/
theorem algebraic : Cert.algebraic_Kernel8Ideal_Reference8Ideal_pre_finite8 (hKernel8Ideal := Cert.Kernel8Ideal.Gen.facts)
    (hReference8Ideal := Cert.Reference8Ideal.Gen.facts) (hPre_finite8 := Cert.Reference8Ideal.Glu.pre_facts) := by
  intro m g m' g' hpre hargs
  refine ⟨fun c i => whole (ds m c) (glu m c) (proj m c) (dproj m c) (i 0).val (i 1).val, ?_, ?_⟩
  · refine (θ_run Cert.Kernel8Ideal.defs _ _).mono (fun r h c => ?_) (Cert.Kernel8Ideal.Value.run_blocks m g)
    obtain ⟨h0, h'⟩ := h c
    exact ⟨h0.trans (Cert.Kernel8Ideal.Glu.final m c), h'⟩
  · refine (θ_run Cert.Reference8Ideal.defs _ _).mono (fun r h c => ?_) (Cert.Reference8Ideal.Value.run m' g')
    obtain ⟨e0, e1, e2, e3⟩ := hargs c
    obtain ⟨h0, h'⟩ := h c
    have d0 : Cert.Reference8Ideal.Glu.ds m' c = ds m c :=
      congrArg (fun A => Entry.rd (A : Cert.Kernel8Ideal.S4096x1024.Idx → EReal)) e0
    have d1 : Cert.Reference8Ideal.Glu.glu m' c = glu m c :=
      congrArg (fun A => Entry.rd (A : Cert.Kernel8Ideal.S4096x2048.Idx → EReal)) e1
    have d2 : Cert.Reference8Ideal.Glu.proj m' c = proj m c :=
      congrArg (fun A => Entry.rd (A : Cert.Kernel8Ideal.S4096x8704.Idx → EReal)) e2
    have d3 : Cert.Reference8Ideal.Glu.dproj m' c = dproj m c :=
      congrArg (fun A => Entry.rd (A : Cert.Kernel8Ideal.S4096x8704.Idx → EReal)) e3
    obtain ⟨r0, r1⟩ := Cert.Reference8Ideal.Glu.all_real _ _ _ _ (hpre c)
    refine ⟨h0.trans ((Cert.Reference8Ideal.Glu.val0 m' c (by rw [e0]; exact r0) (by rw [e1]; exact r1)).trans ?_), h'⟩
    dsimp only
    rw [d0, d1, d2, d3]
    rfl

end Cert.GluZ

end
-- ==== Proof.Rms.lean ====
module

public import proofs.«01_k».proof.Proof.Entry

/-! The root-mean-square normalisation of a row and its gradient, as functions of the arrays' entries. -/

@[expose] public section

noncomputable section

namespace Rms
open Idealize.ShloMosaic
open scoped BigOperators

/-- Entry `q` of an array of one axis, and zero outside it. -/
def rd1 {n : ℕ} (A : Shape.Idx ⟨1, ![n]⟩ → EReal) (q : ℕ) : EReal := if h : q < n then A (ix1 ⟨q, h⟩) else 0

theorem rd1_of {n : ℕ} (A : Shape.Idx ⟨1, ![n]⟩ → EReal) (j : Shape.Idx ⟨1, ![n]⟩) {q : ℕ} (hq : (j 0).val = q) : A j = rd1 A q := by
  subst hq
  have h : (j 0).val < n := (j 0).isLt
  unfold rd1
  rw [dif_pos h]
  refine congrArg A (funext fun k => ?_)
  match k with
  | ⟨0, _⟩ => rfl

/-- The length of a row, and what is added to the mean square, as the programs write them. -/
def len : EReal := Ideal.ofBits .f32 0x45000000#32
def tiny : EReal := Ideal.ofBits .f32 0x358637BD#32

/-- One over the root of a row's mean square. -/
def rstd (x : ℕ → ℕ → EReal) (r : ℕ) : EReal := Ideal.rsqrt (Ideal.div (∑ k : Fin 2048, x r k.val * x r k.val) len + tiny)

/-- The normalised row, before the weight. -/
def unit (x : ℕ → ℕ → EReal) (r q : ℕ) : EReal := x r q * rstd x r

/-- The normalised row with its weight. -/
def norm (x : ℕ → ℕ → EReal) (w : ℕ → EReal) (r q : ℕ) : EReal := unit x r q * w q

/-- The gradient of the row: the residual's, and what comes back through the normalisation. -/
def grad (x : ℕ → ℕ → EReal) (w : ℕ → EReal) (dh dout : ℕ → ℕ → EReal) (r q : ℕ) : EReal :=
  dout r q + rstd x r * (dh r q * w q - unit x r q * Ideal.div (∑ k : Fin 2048, dh r k.val * w k.val * unit x r k.val) len)

/-- One row's part of the weight's gradient. -/
def weight (x dh : ℕ → ℕ → EReal) (r q : ℕ) : EReal := dh r q * unit x r q

end Rms
-- ==== Proof.Norm.lean ====
module

public import proofs.«01_k».proof.Proof.Gen.Kernel9Ideal.Value
public import proofs.«01_k».proof.Proof.Columns
public import proofs.«01_k».proof.Proof.Rms

/-! The gradient of the first normalisation: what the call leaves in its two results, entry by entry. -/

@[expose] public section

set_option maxRecDepth 16384

noncomputable section

namespace Cert.Kernel9Ideal.Norm
open Idealize.ShloMosaic Idealize.ShloMosaic.TcCoe Idealize.ShloMosaic.Pipeline Idealize.SL.Sem Cert.Kernel9Ideal Cert.Kernel9Ideal.Gen
open scoped BigOperators

variable (m : (ℓ : Loc nD τ sig) → Buf (Elt Ideal) ℓ) (ρ : Dev nD → PrngReg) (c : Dev nD)

theorem idx : ∀ t : Fin cfg0.N, t.val % 16 = t.val ∧ win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = 0 :=
  (by decide +kernel : ∀ t : Fin grid0.N, _)

/-- The layer's input. -/
abbrev x : ℕ → ℕ → EReal := Entry.rd (m ((c : Thread nD τ).loc main_arg0) : S4096x2048.Idx → EReal)
/-- The normalisation's weight. -/
abbrev w : ℕ → EReal := Rms.rd1 (m ((c : Thread nD τ).loc main_arg1) : S2048.Idx → EReal)
/-- The gradient of the normalised input. -/
abbrev dh : ℕ → ℕ → EReal := Entry.rd (m ((c : Thread nD τ).loc main_arg2) : S4096x2048.Idx → EReal)
/-- The gradient of the layer's output. -/
abbrev dout : ℕ → ℕ → EReal := Entry.rd (m ((c : Thread nD τ).loc main_arg3) : S4096x2048.Idx → EReal)

theorem row : V m c main_v0 = shapeCast S1x2048 (m ((c : Thread nD τ).loc main_arg1)) shapeCasts_S2048_S1x2048 := by
  show StableHlo.after hostOps0 _ (Proc.devRef .tc main_v0) = _
  simp only [hostOps0]
  after_results
  rfl

theorem read0 (t : Fin cfg0.N) (y : S256x2048.Idx) : (iblk m c 0 t : S256x2048.Idx → EReal) y = x m c (t.val * 256 + (y 0).val) (y 1).val := by
  obtain ⟨-, e0, e1, -⟩ := idx t
  refine (congrFun (V_main_arg0 m c) _).trans (Entry.rd_of (m ((c : Thread nD τ).loc main_arg0) : S4096x2048.Idx → EReal) (((cfg0.win 0).blk t).view.emb y) ?_ ?_)
  all_goals
    blk_simp
    simp only [e0, e1] <;> omega

theorem read1 (t : Fin cfg0.N) (y : S1x2048.Idx) : (iblk m c 1 t : S1x2048.Idx → EReal) y = w m c (y 1).val := by
  obtain ⟨-, -, -, -, e1, -⟩ := idx t
  refine (congrFun (row m c) _).trans ?_
  pointwise []
  refine Rms.rd1_of (m ((c : Thread nD τ).loc main_arg1) : S2048.Idx → EReal) _ ?_
  dsimp only [ix1]
  blk_simp
  simp only [e1] <;> omega

theorem read2 (t : Fin cfg0.N) (y : S256x2048.Idx) : (iblk m c 2 t : S256x2048.Idx → EReal) y = dh m c (t.val * 256 + (y 0).val) (y 1).val := by
  obtain ⟨-, -, -, -, -, e0, e1, -⟩ := idx t
  refine (congrFun (V_main_arg2 m c) _).trans (Entry.rd_of (m ((c : Thread nD τ).loc main_arg2) : S4096x2048.Idx → EReal) (((cfg0.win 2).blk t).view.emb y) ?_ ?_)
  all_goals
    blk_simp
    simp only [e0, e1] <;> omega

theorem read3 (t : Fin cfg0.N) (y : S256x2048.Idx) : (iblk m c 3 t : S256x2048.Idx → EReal) y = dout m c (t.val * 256 + (y 0).val) (y 1).val := by
  obtain ⟨-, -, -, -, -, -, -, e0, e1, -⟩ := idx t
  refine (congrFun (V_main_arg3 m c) _).trans (Entry.rd_of (m ((c : Thread nD τ).loc main_arg3) : S4096x2048.Idx → EReal) (((cfg0.win 3).blk t).view.emb y) ?_ ?_)
  all_goals
    blk_simp
    simp only [e0, e1] <;> omega

theorem rstd_at (t : Fin cfg0.N) (y : S256x1.Idx) : k0_pay2 (F := Ideal) (iblk m c 0 t) y = Rms.rstd (x m c) (t.val * 256 + (y 0).val) := by
  unfold k0_pay2 Rms.rstd
  pointwise []
  exact congrArg (fun s => Ideal.rsqrt (Ideal.div s Rms.len + Rms.tiny))
    (Entry.sum_mul (fun s => read0 m c t _) (fun s => read0 m c t _))

theorem unit_at (t : Fin cfg0.N) (y : S256x2048.Idx) : k0_pay3 (F := Ideal) (iblk m c 0 t) y = Rms.unit (x m c) (t.val * 256 + (y 0).val) (y 1).val := by
  unfold k0_pay3 Rms.unit
  pointwise []
  rw [read0 m c t, rstd_at m c t]
  rfl

theorem grad_at (t : Fin cfg0.N) (y : S256x2048.Idx) :
    k0_pay4 (F := Ideal) (iblk m c 0 t) (iblk m c 2 t) (iblk m c 1 t) (iblk m c 3 t) y
      = Rms.grad (x m c) (w m c) (dh m c) (dout m c) (t.val * 256 + (y 0).val) (y 1).val := by
  unfold k0_pay4 Rms.grad
  pointwise []
  rw [unit_at m c t, rstd_at m c t, read3 m c t, read2 m c t, read1 m c t]
  refine congrArg (HAdd.hAdd _) (congrArg (HMul.hMul _) (congrArg (HSub.hSub _) (congrArg (HMul.hMul _) (congrArg (fun s => Ideal.div s _) (Finset.sum_congr rfl fun k _ => ?_)))))
  rw [unit_at m c t, read2 m c t, read1 m c t]
  rfl

theorem end_grad : (dats m 0 c).arrAt 4 cfg0.N = fun i : S4096x2048.Idx =>
    Rms.grad (x m c) (w m c) (dh m c) (dout m c) (i 0).val (i 1).val := by
  refine (dats m 0 c).arrAt_eq_of_covers 4 _ (by decide +kernel) fun t hf y => ?_
  obtain ⟨hm, -, -, -, -, -, -, -, -, e0, e1, -⟩ := idx t
  blk_simp
  rw [after0_4, e0, e1, zero_mul, zero_add, ← grad_at m c t y]
  by_cases h : t.val % 16 = 0
  · rw [outsAt0_A m c t h (by omega)]
    dsimp only
    frame_out
  · rw [outsAt0_B m c t h (by omega)]
    dsimp only
    frame_out

theorem pay (t : Fin cfg0.N) (i : S1x2048.Idx) : k0_pay5 (F := Ideal) (iblk m c 0 t) (iblk m c 2 t) i
    = Columns.part (Rms.weight (x m c) (dh m c)) 16 256 2048 t.val (i 1).val := by
  obtain ⟨hm, -⟩ := idx t
  unfold k0_pay5 Columns.part Rms.weight
  pointwise []
  rw [hm, show t.val / 16 = 0 by omega, zero_mul, zero_add]
  refine Finset.sum_congr rfl fun k _ => ?_
  rw [unit_at m c t, read2 m c t]
  rfl

theorem first (t : Fin cfg0.N) (h : t.val % 16 = 0) (i : S1x2048.Idx) :
    (outsAt0 m c t.val t.isLt).2 i = Columns.part (Rms.weight (x m c) (dh m c)) 16 256 2048 t.val (i 1).val := by
  obtain ⟨hm, -⟩ := idx t
  rw [outsAt0_A m c t h (by omega), ← pay]
  dsimp only
  frame_out
  unfold k0_pay6
  pointwise []

theorem next (t : Fin cfg0.N) (h : ¬t.val % 16 = 0) (i : S1x2048.Idx) :
    (outsAt0 m c t.val t.isLt).2 i
      = (outsAt0 m c (t.val - 1) (Nat.lt_of_le_of_lt (Nat.sub_le _ _) t.isLt)).2 i
        + Columns.part (Rms.weight (x m c) (dh m c)) 16 256 2048 t.val (i 1).val := by
  rw [← pay, outsAt0_B m c t h (by omega)]
  dsimp only
  frame_out
  unfold k0_pay1
  pointwise []

/-- The weight's gradient: the sums of the columns. -/
theorem end_weight : (dats m 0 c).arrAt 5 cfg0.N = fun i : S1x2048.Idx =>
    Columns.total 4096 (Rms.weight (x m c) (dh m c)) (i 1).val := by
  refine (dats m 0 c).arrAt_eq_of_covers 5 _ (by decide +kernel) fun t hf y => ?_
  have ht := (flush0_5 t).mp hf
  obtain ⟨hm, -, -, -, -, -, -, -, -, -, -, -, e1⟩ := idx t
  blk_simp
  rw [after0_5, e1]
  refine (Columns.whole (Rms.weight (x m c) (dh m c)) (fun n hn => (outsAt0 m c n hn).2) (first m c) (next m c) rfl t ht y).trans ?_
  rw [show t.val / 16 = 0 by omega]

end Cert.Kernel9Ideal.Norm
-- ==== Proof.RefNorm.lean ====
module

public import proofs.«01_k».proof.Proof.Args
public import proofs.«01_k».proof.Proof.Gen.Reference9Ideal.Run
public import proofs.«01_k».proof.Proof.Columns
public import proofs.«01_k».proof.Proof.Rms
public import proofs.«01_k».proof.Proof.Real0

/-! The reference's gradient of the first normalisation is the call's, at infinite entries too. -/

@[expose] public section

set_option maxRecDepth 16384

noncomputable section

namespace Rms
open Idealize.ShloMosaic
open scoped BigOperators

/-- The mean square of a row and the small number. -/
def spread (x : ℕ → ℕ → EReal) (r : ℕ) : EReal := Ideal.div (∑ k : Fin 2048, x r k.val * x r k.val) len + tiny

/-- What the reference sends back to the square of each entry of a row. -/
def back (x : ℕ → ℕ → EReal) (w : ℕ → EReal) (dh : ℕ → ℕ → EReal) (r : ℕ) : EReal :=
  Ideal.div ((∑ k : Fin 2048, x r k.val * (dh r k.val * w k.val)) * (Ideal.ofBits .f32 0xBF000000#32 * Ideal.div (rstd x r) (spread x r))) len

theorem len_eq : len = ((2048 : ℝ) : EReal) := by
  unfold len
  simp [Ideal.ofBits, Ideal.ieee, -EReal.coe_mul]
  norm_num

theorem neg_half : Ideal.ofBits .f32 0xBF000000#32 = ((-(1 / 2) : ℝ) : EReal) := by
  simp [Ideal.ofBits, Ideal.ieee, -EReal.coe_mul]
  norm_num

theorem square_nonneg (a : EReal) : 0 ≤ a * a := by
  rcases le_total 0 a with h | h
  · exact mul_nonneg h h
  · rw [← neg_mul_neg]
    have h' : 0 ≤ -a := EReal.neg_nonneg.2 h
    exact mul_nonneg h' h'

/-- The mean square and the small number are positive: a positive real number, or infinite. -/
theorem spread_cases (x : ℕ → ℕ → EReal) (r : ℕ) : spread x r = ⊤ ∨ ∃ v : ℝ, 0 < v ∧ spread x r = (v : EReal) := by
  have h0 : 0 ≤ ∑ k : Fin 2048, x r k.val * x r k.val := Finset.sum_nonneg fun k _ => square_nonneg _
  have he := Cert.KernelIdeal.Body.eps_pos
  unfold spread tiny
  rw [len_eq, Ideal.div_coe (show (2048 : ℝ) ≠ 0 by norm_num), Cert.KernelIdeal.Body.ofBits_eps]
  generalize (∑ k : Fin 2048, x r k.val * x r k.val) = s at h0
  induction s with
  | bot => exact absurd h0 (by simp)
  | top =>
    left
    rw [EReal.top_mul_coe_of_pos (by norm_num), EReal.top_add_coe]
  | coe s =>
    right
    have hs : 0 ≤ s := by exact_mod_cast h0
    exact ⟨s * (1 / 2048) + Cert.KernelIdeal.Body.eps, by positivity, by rw [← EReal.coe_mul, ← EReal.coe_add]⟩

theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul, mul_two]

/-- The reference's spelling of the row's gradient is the call's. -/
theorem grad_of (x dh : ℕ → ℕ → EReal) (w : ℕ → EReal) (dout : ℕ → ℕ → EReal) (r q : ℕ) :
    dout r q + (dh r q * w q * rstd x r + x r q * back x w dh r + back x w dh r * x r q) = grad x w dh dout r q := by
  unfold grad back unit
  have hd : rstd x r = Ideal.rsqrt (spread x r) := rfl
  rw [hd]
  refine congrArg (fun a => dout r q + a) ?_
  rcases spread_cases x r with hs | ⟨v, v0, hs⟩
  · rw [hs, Ideal.rsqrt_top, len_eq, neg_half]
    simp [Ideal.div]
  · have hr : Ideal.rsqrt (spread x r) = (((√v)⁻¹ : ℝ) : EReal) := by
      rw [hs, Ideal.rsqrt_coe, if_neg (by linarith), if_neg (by linarith)]
    rw [hr, hs, neg_half, len_eq]
    simp only [Ideal.div_coe (show (2048 : ℝ) ≠ 0 by norm_num), Ideal.div_coe (ne_of_gt v0)]
    have hp : (0 : ℝ) ≤ (√v)⁻¹ := by positivity
    have e2 : 1 / v = (√v)⁻¹ * (√v)⁻¹ := by
      rw [← mul_inv, Real.mul_self_sqrt v0.le, one_div]
    have e1 : (∑ k : Fin 2048, dh r k.val * w k.val * (x r k.val * (((√v)⁻¹ : ℝ) : EReal)))
        = (((√v)⁻¹ : ℝ) : EReal) * ∑ k : Fin 2048, x r k.val * (dh r k.val * w k.val) := by
      rw [Columns.mul_sum hp]
      exact Finset.sum_congr rfl fun k _ => by ac_rfl
    rw [e1, e2]
    generalize (∑ k : Fin 2048, x r k.val * (dh r k.val * w k.val)) = S
    generalize (√v)⁻¹ = ρ at hp
    rw [sub_eq_add_neg, EReal.left_distrib_of_nonneg_of_ne_top (EReal.coe_nonneg.2 hp) (EReal.coe_ne_top ρ), add_assoc]
    refine congrArg₂ (· + ·) (mul_comm _ _) ?_
    rw [mul_comm _ (x r q), twice]
    generalize x r q = X
    have hl : X * (S * (((-(1 / 2) : ℝ) : EReal) * ((ρ : EReal) * ((ρ * ρ : ℝ) : EReal))) * ((1 / 2048 : ℝ) : EReal)) * ((2 : ℝ) : EReal)
        = X * S * ((((-(1 / 2) : ℝ) : EReal) * ((ρ : EReal) * ((ρ * ρ : ℝ) : EReal))) * ((1 / 2048 : ℝ) : EReal) * ((2 : ℝ) : EReal)) := by
      ac_rfl
    have hr : (ρ : EReal) * (X * (ρ : EReal) * ((ρ : EReal) * S * ((1 / 2048 : ℝ) : EReal)))
        = X * S * ((ρ : EReal) * (ρ : EReal) * ((1 / 2048 : ℝ) : EReal) * (ρ : EReal)) := by
      ac_rfl
    rw [hl, mul_neg, hr, ← mul_neg, ← EReal.coe_mul, ← EReal.coe_mul, ← EReal.coe_mul, ← EReal.coe_mul, ← EReal.coe_mul,
      ← EReal.coe_mul, ← EReal.coe_mul, ← EReal.coe_neg]
    refine congrArg (fun a : ℝ => X * S * (a : EReal)) ?_
    ring

end Rms

namespace Cert.Reference9Ideal.Norm
open Idealize.ShloMosaic Idealize.ShloMosaic.TcCoe Idealize.SL.Sem Cert.Reference9Ideal Cert.Reference9Ideal.Gen
open scoped BigOperators

variable (m : (ℓ : Loc nD τ sig) → Buf (Elt Ideal) ℓ) (c : Dev nD)

/-- The layer's input. -/
abbrev x : ℕ → ℕ → EReal := Entry.rd (m ((c.tc : Thread nD τ).loc main_arg0) : S4096x2048.Idx → EReal)
/-- The normalisation's weight. -/
abbrev w : ℕ → EReal := Rms.rd1 (m ((c.tc : Thread nD τ).loc main_arg1) : S2048.Idx → EReal)
/-- The gradient of the normalised input. -/
abbrev dh : ℕ → ℕ → EReal := Entry.rd (m ((c.tc : Thread nD τ).loc main_arg2) : S4096x2048.Idx → EReal)
/-- The gradient of the layer's output. -/
abbrev dout : ℕ → ℕ → EReal := Entry.rd (m ((c.tc : Thread nD τ).loc main_arg3) : S4096x2048.Idx → EReal)

theorem x_at (i : S4096x2048.Idx) : (m ((c.tc : Thread nD τ).loc main_arg0) i : EReal) = x m c (i 0).val (i 1).val := Entry.rd_of _ i rfl rfl
theorem w_at (i : S2048.Idx) : (m ((c.tc : Thread nD τ).loc main_arg1) i : EReal) = w m c (i 0).val := Rms.rd1_of _ i rfl
theorem dh_at (i : S4096x2048.Idx) : (m ((c.tc : Thread nD τ).loc main_arg2) i : EReal) = dh m c (i 0).val (i 1).val := Entry.rd_of _ i rfl rfl
theorem dout_at (i : S4096x2048.Idx) : (m ((c.tc : Thread nD τ).loc main_arg3) i : EReal) = dout m c (i 0).val (i 1).val := Entry.rd_of _ i rfl rfl

theorem spread_eq : (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)) : FVec Ideal S4096x1 .f32) = fun i => Rms.spread (x m c) (i 0).val := by
  funext i
  unfold Rms.spread
  pointwise []
  exact congrArg (fun s => Ideal.div s Rms.len + Rms.tiny) (Entry.sum_mul (fun s => x_at m c _) (fun s => x_at m c _))

theorem rstd_eq : (Host.rsqrt (fun i => Rms.spread (x m c) (i 0).val) : FVec Ideal S4096x1 .f32) = fun i => Rms.rstd (x m c) (i 0).val := by
  funext i
  pointwise []
  rfl

theorem back_eq : (Host.reduceAdd (Host.divf (mulf (shapeCast _ (Host.reduceAdd (mulf (m ((c.tc : Thread nD τ).loc main_arg0)) (mulf (m ((c.tc : Thread nD τ).loc main_arg2)) (broadcastInDim S4096x2048 ![0, 1] bcast_S1x2048_S4096x2048_0_1 (broadcastInDim S1x2048 ![1] bcast_S2048_S1x2048_1 (m ((c.tc : Thread nD τ).loc main_arg1)))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_ : FVec Ideal S4096 .f32) = fun i => Rms.back (x m c) (w m c) (dh m c) (i 0).val := by
  rw [spread_eq, rstd_eq]
  funext i
  unfold Rms.back
  pointwise []
  refine (Fin.sum_univ_one _).trans ?_
  refine congrArg (fun s => Ideal.div (s * _) Rms.len) (Finset.sum_congr rfl fun k _ => ?_)
  rw [x_at m c, dh_at m c, w_at m c]
  rfl

theorem val0 :
    (addf (m ((c.tc : Thread nD τ).loc main_arg3)) (addf (addf (mulf (mulf (m ((c.tc : Thread nD τ).loc main_arg2)) (broadcastInDim S4096x2048 ![0, 1] bcast_S1x2048_S4096x2048_0_1 (broadcastInDim S1x2048 ![1] bcast_S2048_S1x2048_1 (m ((c.tc : Thread nD τ).loc main_arg1))))) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf (m ((c.tc : Thread nD τ).loc main_arg0)) (broadcastInDim S4096x2048 ![0] bcast_S4096_S4096x2048_0 (Host.reduceAdd (Host.divf (mulf (shapeCast _ (Host.reduceAdd (mulf (m ((c.tc : Thread nD τ).loc main_arg0)) (mulf (m ((c.tc : Thread nD τ).loc main_arg2)) (broadcastInDim S4096x2048 ![0, 1] bcast_S1x2048_S4096x2048_0_1 (broadcastInDim S1x2048 ![1] bcast_S2048_S1x2048_1 (m ((c.tc : Thread nD τ).loc main_arg1)))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf (m ((c.tc : Thread nD τ).loc main_arg0)) (mulf (m ((c.tc : Thread nD τ).loc main_arg2)) (broadcastInDim S4096x2048 ![0, 1] bcast_S1x2048_S4096x2048_0_1 (broadcastInDim S1x2048 ![1] bcast_S2048_S1x2048_1 (m ((c.tc : Thread nD τ).loc main_arg1)))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) (m ((c.tc : Thread nD τ).loc main_arg0)))) : FVec Ideal S4096x2048 .f32)
    = fun i => Rms.grad (x m c) (w m c) (dh m c) (dout m c) (i 0).val (i 1).val := by
  rw [back_eq, spread_eq, rstd_eq]
  funext i
  pointwise []
  rw [x_at m c, dh_at m c, w_at m c, dout_at m c]
  exact Rms.grad_of _ _ _ _ _ _

theorem val1 : (shapeCast _ (Host.reduceAdd (shapeCast _ (Host.reduceAdd (mulf (mulf (m ((c.tc : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (m ((c.tc : Thread nD τ).loc main_arg2))) (constant S_ .f32 0x00000000#32) reducesTo_S4096x2048_S2048_d0 h_S_) shapeCasts_S2048_S1x2048) (constant S_ .f32 0x00000000#32) reducesTo_S1x2048_S2048_d0 h_S_) shapeCasts_S2048_S1x2048 : FVec Ideal S1x2048 .f32)
    = fun i => Columns.total 4096 (Rms.weight (x m c) (dh m c)) (i 1).val := by
  rw [spread_eq, rstd_eq]
  funext i
  unfold Columns.total Rms.weight Rms.unit
  pointwise []
  refine (Fin.sum_univ_one _).trans (Finset.sum_congr rfl fun k _ => ?_)
  rw [x_at m c, dh_at m c]
  exact mul_comm _ _

end Cert.Reference9Ideal.Norm
-- ==== Proof.NormClaim.lean ====
/- The gradient of the first normalisation: the run of the call and of its reference, joined to the claims. -/
module

public import proofs.«01_k».proof.Defs
public import proofs.«01_k».proof.Proof.Gen.Kernel9.Frame
public import proofs.«01_k».proof.Proof.Norm
public import proofs.«01_k».proof.Proof.RefNorm

@[expose] public section

set_option maxRecDepth 16384

noncomputable section

namespace Cert.Norm
open Idealize.ShloMosaic Idealize.SL.Sem
open Cert.Kernel9Ideal.Norm (x w dh dout)

theorem frame : Cert.quiescent_Kernel9 (hKernel9 := Cert.Kernel9.Gen.facts) :=
  fun m g _ => Cert.Kernel9.Gen.frame (F := Bits) m g

theorem frame_ideal : Cert.quiescent_Kernel9Ideal (hKernel9Ideal := Cert.Kernel9Ideal.Gen.facts) :=
  fun m g _ => Cert.Kernel9Ideal.Gen.frame (F := Ideal) m g

theorem frame_reference : Cert.quiescent_Reference9Ideal (hReference9Ideal := Cert.Reference9Ideal.Gen.facts) :=
  fun m g _ => (θ_run Cert.Reference9Ideal.defs _ _).mono (fun r h => ⟨fun c => (h c).2.2, sem_eq_zero_of_no_sems (by decide) r.2⟩)
    (Cert.Reference9Ideal.Value.run m g)

/-- The input's gradient, residual included, and the weight's gradient are the reference's. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c i => Rms.grad (x m c) (w m c) (dh m c) (dout m c) (i 0).val (i 1).val,
    fun c i => Columns.total 4096 (Rms.weight (x m c) (dh m c)) (i 1).val, ?_, ?_⟩
  · refine (θ_run Cert.Kernel9Ideal.defs _ _).mono (fun r h c => ?_) (Cert.Kernel9Ideal.Value.run_blocks m g)
    obtain ⟨h0, h1, h'⟩ := h c
    exact ⟨h0.trans (Cert.Kernel9Ideal.Norm.end_grad m c), h1.trans (Cert.Kernel9Ideal.Norm.end_weight m c), h'⟩
  · refine (θ_run Cert.Reference9Ideal.defs _ _).mono (fun r h c => ?_) (Cert.Reference9Ideal.Value.run m' g')
    obtain ⟨e0, e1, e2, e3⟩ := hargs c
    obtain ⟨h0, h1, h'⟩ := h c
    have d0 : Cert.Reference9Ideal.Norm.x m' c = x m c :=
      congrArg (fun A => Entry.rd (A : Cert.Kernel9Ideal.S4096x2048.Idx → EReal)) e0
    have d1 : Cert.Reference9Ideal.Norm.w m' c = w m c :=
      congrArg (fun A => Rms.rd1 (A : Cert.Kernel9Ideal.S2048.Idx → EReal)) e1
    have d2 : Cert.Reference9Ideal.Norm.dh m' c = dh m c :=
      congrArg (fun A => Entry.rd (A : Cert.Kernel9Ideal.S4096x2048.Idx → EReal)) e2
    have d3 : Cert.Reference9Ideal.Norm.dout m' c = dout m c :=
      congrArg (fun A => Entry.rd (A : Cert.Kernel9Ideal.S4096x2048.Idx → EReal)) e3
    refine ⟨h0.trans ((Cert.Reference9Ideal.Norm.val0 m' c).trans ?_),
      h1.trans ((Cert.Reference9Ideal.Norm.val1 m' c).trans ?_), h'⟩
    · dsimp only
      rw [d0, d1, d2, d3]
      rfl
    · dsimp only
      rw [d0, d2]
      rfl

end Cert.Norm

end
-- ==== Proof.Loss.lean ====
module

public import proofs.«01_k».proof.Proof.Gen.Kernel10Ideal.Value
public import proofs.«01_k».proof.Proof.Columns

/-! The output projection with the loss: what the call leaves in its three results, entry by entry. -/

@[expose] public section

set_option maxRecDepth 16384

noncomputable section

namespace Cert.Kernel10Ideal.Loss
open Idealize.ShloMosaic Idealize.ShloMosaic.TcCoe Idealize.ShloMosaic.Pipeline Idealize.SL.Sem Cert.Kernel10Ideal Cert.Kernel10Ideal.Gen
open scoped BigOperators

variable (m : (ℓ : Loc nD τ sig) → Buf (Elt Ideal) ℓ) (ρ : Dev nD → PrngReg) (c : Dev nD)

theorem idx : ∀ t : Fin cfg0.N, win0_0.index t 0 = t.val % 4 ∧ win0_0.index t 1 = 0 ∧ win0_1.index t 0 = 0 ∧ win0_1.index t 1 = t.val / 4
    ∧ win0_2.index t 0 = t.val % 4 ∧ win0_2.index t 1 = t.val / 4 ∧ win0_3.index t 0 = t.val % 4 ∧ win0_3.index t 1 = t.val / 4
    ∧ win0_4.index t 0 = t.val % 4 ∧ win0_4.index t 1 = t.val / 4 ∧ win0_5.index t 0 = t.val % 4 ∧ win0_5.index t 1 = t.val / 4
    ∧ win0_6.index t 0 = 0 ∧ win0_6.index t 1 = t.val / 4 :=
  (by decide +kernel : ∀ t : Fin grid0.N, _)

/-- The error of the layer's output: the input, plus the projected row, minus the target. -/
def err (merged wo x target : ℕ → ℕ → EReal) (r q : ℕ) : EReal :=
  x r q + ∑ s : Fin 2048, merged r s.val * wo s.val q - target r q

/-- One entry of the output's gradient. -/
def grad (merged wo x target : ℕ → ℕ → EReal) (r q : ℕ) : EReal := err merged wo x target r q * ((1 / 2048 : ℝ) : EReal)

/-- One entry's part of the loss. -/
def loss (merged wo x target : ℕ → ℕ → EReal) (r q : ℕ) : EReal :=
  ((1 / 2 : ℝ) : EReal) * err merged wo x target r q * (err merged wo x target r q * ((1 / 2048 : ℝ) : EReal))

/-- The merged rows. -/
abbrev merged : ℕ → ℕ → EReal := Entry.rd (m ((c : Thread nD τ).loc main_arg0) : S4096x2048.Idx → EReal)
/-- The projection's weights. -/
abbrev wo : ℕ → ℕ → EReal := Entry.rd (m ((c : Thread nD τ).loc main_arg1) : S2048x2048.Idx → EReal)
/-- The layer's input. -/
abbrev x : ℕ → ℕ → EReal := Entry.rd (m ((c : Thread nD τ).loc main_arg2) : S4096x2048.Idx → EReal)
/-- The target. -/
abbrev target : ℕ → ℕ → EReal := Entry.rd (m ((c : Thread nD τ).loc main_arg3) : S4096x2048.Idx → EReal)

theorem ofBits_2048th : Ideal.ofBits .f32 0x3A000000#32 = ((1 / 2048 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem err_at (t : Fin cfg0.N) (y : S1024x1024.Idx) : k0_pay1 (F := Ideal) (iblk m c 2 t) (iblk m c 0 t) (iblk m c 1 t) (iblk m c 3 t) y
    = err (merged m c) (wo m c) (x m c) (target m c) (t.val % 4 * 1024 + (y 0).val) (t.val / 4 * 1024 + (y 1).val) := by
  obtain ⟨a0, a1, b0, b1, x0, x1, d0, d1, -⟩ := idx t
  unfold k0_pay1 err
  pointwise []
  refine congrArg₂ (· - ·) (congrArg₂ (· + ·)
    (Entry.rd_of (m ((c : Thread nD τ).loc main_arg2) : S4096x2048.Idx → EReal) (((cfg0.win 2).blk t).view.emb y) ?_ ?_)
    (Entry.sum_mul
      (fun s => Entry.rd_of (m ((c : Thread nD τ).loc main_arg0) : S4096x2048.Idx → EReal) (((cfg0.win 0).blk t).view.emb (ix2 (y 0) s)) ?_ ?_)
      (fun s => Entry.rd_of (m ((c : Thread nD τ).loc main_arg1) : S2048x2048.Idx → EReal) (((cfg0.win 1).blk t).view.emb (ix2 s (y 1))) ?_ ?_)))
    (Entry.rd_of (m ((c : Thread nD τ).loc main_arg3) : S4096x2048.Idx → EReal) (((cfg0.win 3).blk t).view.emb y) ?_ ?_)
  all_goals
    blk_simp
    simp only [a0, a1, b0, b1, x0, x1, d0, d1] <;> omega

theorem grad_at (t : Fin cfg0.N) (y : S1024x1024.Idx) : k0_pay2 (F := Ideal) (iblk m c 2 t) (iblk m c 0 t) (iblk m c 1 t) (iblk m c 3 t) y
    = grad (merged m c) (wo m c) (x m c) (target m c) (t.val % 4 * 1024 + (y 0).val) (t.val / 4 * 1024 + (y 1).val) := by
  unfold k0_pay2 grad
  pointwise []
  rw [err_at m c t y, ofBits_2048th]

theorem end_grad : (dats m 0 c).arrAt 4 cfg0.N = fun i : S4096x2048.Idx =>
    grad (merged m c) (wo m c) (x m c) (target m c) (i 0).val (i 1).val := by
  refine (dats m 0 c).arrAt_eq_of_covers 4 _ (by decide +kernel) fun t hf y => ?_
  obtain ⟨-, -, -, -, -, -, -, -, e0, e1, -⟩ := idx t
  blk_simp
  rw [after0_4, e0, e1, ← grad_at m c t y]
  by_cases h : t.val % 4 = 0
  · rw [outsAt0_A m c t h (by omega)]
    dsimp only
    frame_out
    unfold k0_pay3
    pointwise []
  · rw [outsAt0_B m c t h (by omega)]
    dsimp only
    frame_out
    unfold k0_pay3
    pointwise []

theorem end_narrow : (dats m 0 c).arrAt 5 cfg0.N = fun i : S4096x2048.Idx =>
    grad (merged m c) (wo m c) (x m c) (target m c) (i 0).val (i 1).val := by
  refine (dats m 0 c).arrAt_eq_of_covers 5 _ (by decide +kernel) fun t hf y => ?_
  obtain ⟨-, -, -, -, -, -, -, -, -, -, e0, e1, -⟩ := idx t
  blk_simp
  rw [after0_5, e0, e1, ← grad_at m c t y]
  by_cases h : t.val % 4 = 0
  · rw [outsAt0_A m c t h (by omega)]
    dsimp only
    frame_out
    unfold k0_pay4
    pointwise []
  · rw [outsAt0_B m c t h (by omega)]
    dsimp only
    frame_out
    unfold k0_pay4
    pointwise []

theorem pay (t : Fin cfg0.N) (i : S1x1024.Idx) : k0_pay5 (F := Ideal) (iblk m c 2 t) (iblk m c 0 t) (iblk m c 1 t) (iblk m c 3 t) i
    = Columns.part (loss (merged m c) (wo m c) (x m c) (target m c)) 4 1024 1024 t.val (i 1).val := by
  unfold k0_pay5 Columns.part loss
  pointwise []
  refine Finset.sum_congr rfl fun k _ => ?_
  rw [err_at m c t, grad_at m c t, ofBits_half]
  rfl

theorem first (t : Fin cfg0.N) (h : t.val % 4 = 0) (i : S1x1024.Idx) :
    (outsAt0 m c t.val t.isLt).2.2 i = Columns.part (loss (merged m c) (wo m c) (x m c) (target m c)) 4 1024 1024 t.val (i 1).val := by
  rw [outsAt0_A m c t h (by omega), ← pay]
  dsimp only
  frame_out
  unfold k0_pay6
  pointwise []

theorem next (t : Fin cfg0.N) (h : ¬t.val % 4 = 0) (i : S1x1024.Idx) :
    (outsAt0 m c t.val t.isLt).2.2 i
      = (outsAt0 m c (t.val - 1) (Nat.lt_of_le_of_lt (Nat.sub_le _ _) t.isLt)).2.2 i
        + Columns.part (loss (merged m c) (wo m c) (x m c) (target m c)) 4 1024 1024 t.val (i 1).val := by
  rw [← pay, outsAt0_B m c t h (by omega)]
  dsimp only
  frame_out
  unfold k0_pay7
  pointwise []

theorem end_loss : (dats m 0 c).arrAt 6 cfg0.N = fun i : S1x2048.Idx =>
    Columns.total 4096 (loss (merged m c) (wo m c) (x m c) (target m c)) (i 1).val := by
  refine (dats m 0 c).arrAt_eq_of_covers 6 _ (by decide +kernel) fun t hf y => ?_
  have ht := (flush0_6 t).mp hf
  obtain ⟨-, -, -, -, -, -, -, -, -, -, -, -, -, e1⟩ := idx t
  blk_simp
  rw [after0_6, e1]
  exact Columns.whole (loss (merged m c) (wo m c) (x m c) (target m c)) (fun n hn => (outsAt0 m c n hn).2.2) (first m c) (next m c) rfl t ht y

end Cert.Kernel10Ideal.Loss
-- ==== Proof.RefLoss.lean ====
module

public import proofs.«01_k».proof.Proof.Gen.Reference10Ideal.Run
public import proofs.«01_k».proof.Proof.Loss

/-! The reference's output gradient and loss, entry by entry: the same functions of the arguments as the call leaves. -/

@[expose] public section

set_option maxRecDepth 16384

noncomputable section

namespace Cert.Reference10Ideal.Loss
open Idealize.ShloMosaic Idealize.ShloMosaic.TcCoe Idealize.SL.Sem Cert.Reference10Ideal Cert.Reference10Ideal.Gen
open Cert.Kernel10Ideal.Loss (err grad loss ofBits_half)
open scoped BigOperators

variable (m : (ℓ : Loc nD τ sig) → Buf (Elt Ideal) ℓ) (c : Dev nD)

/-- The merged rows. -/
abbrev merged : ℕ → ℕ → EReal := Entry.rd (m ((c.tc : Thread nD τ).loc main_arg0) : S4096x2048.Idx → EReal)
/-- The projection's weights. -/
abbrev wo : ℕ → ℕ → EReal := Entry.rd (m ((c.tc : Thread nD τ).loc main_arg1) : S2048x2048.Idx → EReal)
/-- The layer's input. -/
abbrev x : ℕ → ℕ → EReal := Entry.rd (m ((c.tc : Thread nD τ).loc main_arg2) : S4096x2048.Idx → EReal)
/-- The target. -/
abbrev target : ℕ → ℕ → EReal := Entry.rd (m ((c.tc : Thread nD τ).loc main_arg3) : S4096x2048.Idx → EReal)

theorem ofBits_two : Ideal.ofBits .f32 0x40000000#32 = ((2 : ℝ) : EReal) := by
  simp [Ideal.ofBits, Ideal.ieee, -EReal.coe_mul]
  norm_num

theorem ofBits_2048 : Ideal.ofBits .f32 0x45000000#32 = ((2048 : ℝ) : EReal) := by
  simp [Ideal.ofBits, Ideal.ieee, -EReal.coe_mul]
  norm_num

theorem div_2048 (e : EReal) : Ideal.div e ((2048 : ℝ) : EReal) = e * ((1 / 2048 : ℝ) : EReal) := Ideal.div_coe (by norm_num) e

/-- The gradient of half the mean square: half, times twice the error, over the row's length. -/
theorem grad_of (e : EReal) : Ideal.div ((1 / 2 : ℝ) : EReal) ((2048 : ℝ) : EReal) * (((2 : ℝ) : EReal) * e) = e * ((1 / 2048 : ℝ) : EReal) := by
  rw [div_2048, ← mul_assoc, ← EReal.coe_mul, ← EReal.coe_mul, mul_comm]
  norm_num

theorem loss_of (e : EReal) : ((1 / 2 : ℝ) : EReal) * Ideal.div (e * e) ((2048 : ℝ) : EReal)
    = ((1 / 2 : ℝ) : EReal) * e * (e * ((1 / 2048 : ℝ) : EReal)) := by
  rw [div_2048, mul_assoc, mul_assoc]

theorem err_at (i : S4096x2048.Idx) : (subf (addf (m ((c.tc : Thread nD τ).loc main_arg2)) (Host.dotGeneral dot_S4096x2048_S2048x2048_S4096x2048_1_0_0_1_n_n none (extf .f32 (m ((c.tc : Thread nD τ).loc main_arg0)) bitsLt_bf16_f32) (extf .f32 (m ((c.tc : Thread nD τ).loc main_arg1)) bitsLt_bf16_f32))) (m ((c.tc : Thread nD τ).loc main_arg3)) : FVec Ideal S4096x2048 .f32) i
    = err (merged m c) (wo m c) (x m c) (target m c) (i 0).val (i 1).val := by
  unfold err
  pointwise []
  exact congrArg₂ (· - ·) (congrArg₂ (· + ·) (Entry.rd_of _ _ rfl rfl)
    (Entry.sum_mul (fun s => Entry.rd_of _ _ rfl rfl) (fun s => Entry.rd_of _ _ rfl rfl))) (Entry.rd_of _ _ rfl rfl)

theorem err_eq : (subf (addf (m ((c.tc : Thread nD τ).loc main_arg2)) (Host.dotGeneral dot_S4096x2048_S2048x2048_S4096x2048_1_0_0_1_n_n none (extf .f32 (m ((c.tc : Thread nD τ).loc main_arg0)) bitsLt_bf16_f32) (extf .f32 (m ((c.tc : Thread nD τ).loc main_arg1)) bitsLt_bf16_f32))) (m ((c.tc : Thread nD τ).loc main_arg3)) : FVec Ideal S4096x2048 .f32)
    = fun i => err (merged m c) (wo m c) (x m c) (target m c) (i 0).val (i 1).val := funext (err_at m c)

theorem val0 : (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (addf (m ((c.tc : Thread nD τ).loc main_arg2)) (Host.dotGeneral dot_S4096x2048_S2048x2048_S4096x2048_1_0_0_1_n_n none (extf .f32 (m ((c.tc : Thread nD τ).loc main_arg0)) bitsLt_bf16_f32) (extf .f32 (m ((c.tc : Thread nD τ).loc main_arg1)) bitsLt_bf16_f32))) (m ((c.tc : Thread nD τ).loc main_arg3)))) : FVec Ideal S4096x2048 .f32)
    = fun i => grad (merged m c) (wo m c) (x m c) (target m c) (i 0).val (i 1).val := by
  funext i
  unfold grad
  rw [← err_at m c i, ← grad_of, ← ofBits_half, ← ofBits_two, ← ofBits_2048]
  pointwise []

theorem val1 : (truncf .bf16 (mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (subf (addf (m ((c.tc : Thread nD τ).loc main_arg2)) (Host.dotGeneral dot_S4096x2048_S2048x2048_S4096x2048_1_0_0_1_n_n none (extf .f32 (m ((c.tc : Thread nD τ).loc main_arg0)) bitsLt_bf16_f32) (extf .f32 (m ((c.tc : Thread nD τ).loc main_arg1)) bitsLt_bf16_f32))) (m ((c.tc : Thread nD τ).loc main_arg3))))) bitsLt_bf16_f32 : FVec Ideal S4096x2048 .bf16)
    = fun i => grad (merged m c) (wo m c) (x m c) (target m c) (i 0).val (i 1).val := val0 m c

theorem val2 : (mulf (broadcastInDim S1x2048 ![] bcast_S_S1x2048 (constant S_ .f32 0x3F000000#32)) (broadcastInDim S1x2048 ![1] bcast_S2048_S1x2048_1 (Host.reduceAdd (Host.divf (mulf (subf (addf (m ((c.tc : Thread nD τ).loc main_arg2)) (Host.dotGeneral dot_S4096x2048_S2048x2048_S4096x2048_1_0_0_1_n_n none (extf .f32 (m ((c.tc : Thread nD τ).loc main_arg0)) bitsLt_bf16_f32) (extf .f32 (m ((c.tc : Thread nD τ).loc main_arg1)) bitsLt_bf16_f32))) (m ((c.tc : Thread nD τ).loc main_arg3))) (subf (addf (m ((c.tc : Thread nD τ).loc main_arg2)) (Host.dotGeneral dot_S4096x2048_S2048x2048_S4096x2048_1_0_0_1_n_n none (extf .f32 (m ((c.tc : Thread nD τ).loc main_arg0)) bitsLt_bf16_f32) (extf .f32 (m ((c.tc : Thread nD τ).loc main_arg1)) bitsLt_bf16_f32))) (m ((c.tc : Thread nD τ).loc main_arg3)))) (broadcastInDim S4096x2048 ![] bcast_S_S4096x2048 (constant S_ .f32 0x45000000#32))) (constant S_ .f32 0x00000000#32) reducesTo_S4096x2048_S2048_d0 h_S_)) : FVec Ideal S1x2048 .f32)
    = fun i => Columns.total 4096 (loss (merged m c) (wo m c) (x m c) (target m c)) (i 1).val := by
  funext i
  unfold Columns.total loss
  simp only [← loss_of]
  rw [← Columns.mul_sum (by norm_num), ← ofBits_half]
  rw [err_eq]
  pointwise []
  rw [← ofBits_2048]
  try rfl

end Cert.Reference10Ideal.Loss
-- ==== Proof.LossClaim.lean ====
/- The output projection with the loss: the run of the call and of its reference, joined to the claims. -/
module

public import proofs.«01_k».proof.Defs
public import proofs.«01_k».proof.Proof.Gen.Kernel10.Frame
public import proofs.«01_k».proof.Proof.RefLoss

@[expose] public section

set_option maxRecDepth 16384

noncomputable section

namespace Cert.Loss
open Idealize.ShloMosaic Idealize.SL.Sem
open Cert.Kernel10Ideal.Loss (merged wo x target grad loss)

theorem frame : Cert.quiescent_Kernel10 (hKernel10 := Cert.Kernel10.Gen.facts) :=
  fun m g _ => Cert.Kernel10.Gen.frame (F := Bits) m g

theorem frame_ideal : Cert.quiescent_Kernel10Ideal (hKernel10Ideal := Cert.Kernel10Ideal.Gen.facts) :=
  fun m g _ => Cert.Kernel10Ideal.Gen.frame (F := Ideal) m g

theorem frame_reference : Cert.quiescent_Reference10Ideal (hReference10Ideal := Cert.Reference10Ideal.Gen.facts) :=
  fun m g _ => (θ_run Cert.Reference10Ideal.defs _ _).mono (fun r h => ⟨fun c => (h c).2.2.2, sem_eq_zero_of_no_sems (by decide) r.2⟩)
    (Cert.Reference10Ideal.Value.run m g)

/-- The output's gradient, in both formats, and the loss by columns are the reference's. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c i => grad (merged m c) (wo m c) (x m c) (target m c) (i 0).val (i 1).val,
    fun c i => grad (merged m c) (wo m c) (x m c) (target m c) (i 0).val (i 1).val,
    fun c i => Columns.total 4096 (loss (merged m c) (wo m c) (x m c) (target m c)) (i 1).val, ?_, ?_⟩
  · refine (θ_run Cert.Kernel10Ideal.defs _ _).mono (fun r h c => ?_) (Cert.Kernel10Ideal.Value.run_blocks m g)
    obtain ⟨h0, h1, h2, h'⟩ := h c
    exact ⟨h0.trans (Cert.Kernel10Ideal.Loss.end_grad m c), h1.trans (Cert.Kernel10Ideal.Loss.end_narrow m c),
      h2.trans (Cert.Kernel10Ideal.Loss.end_loss m c), h'⟩
  · refine (θ_run Cert.Reference10Ideal.defs _ _).mono (fun r h c => ?_) (Cert.Reference10Ideal.Value.run m' g')
    obtain ⟨e0, e1, e2, e3⟩ := hargs c
    obtain ⟨h0, h1, h2, h'⟩ := h c
    have d0 : Cert.Reference10Ideal.Loss.merged m' c = merged m c :=
      congrArg (fun A => Entry.rd (A : Cert.Kernel10Ideal.S4096x2048.Idx → EReal)) e0
    have d1 : Cert.Reference10Ideal.Loss.wo m' c = wo m c :=
      congrArg (fun A => Entry.rd (A : Cert.Kernel10Ideal.S2048x2048.Idx → EReal)) e1
    have d2 : Cert.Reference10Ideal.Loss.x m' c = x m c :=
      congrArg (fun A => Entry.rd (A : Cert.Kernel10Ideal.S4096x2048.Idx → EReal)) e2
    have d3 : Cert.Reference10Ideal.Loss.target m' c = target m c :=
      congrArg (fun A => Entry.rd (A : Cert.Kernel10Ideal.S4096x2048.Idx → EReal)) e3
    refine ⟨h0.trans ((Cert.Reference10Ideal.Loss.val0 m' c).trans ?_), h1.trans ((Cert.Reference10Ideal.Loss.val1 m' c).trans ?_),
      h2.trans ((Cert.Reference10Ideal.Loss.val2 m' c).trans ?_), h'⟩
    all_goals
      dsimp only
      rw [d0, d1, d2, d3]
      rfl

end Cert.Loss

end
-- ==== Proof.Gate.lean ====
module

public import proofs.«01_k».proof.Proof.Gen.Kernel11Ideal.Frame
public import proofs.«01_k».proof.Proof.Rms
public import proofs.«01_k».proof.Proof.Glu
public import Idealize.ShloMosaic.Lib.Pipeline.ValueKit

/-! What the normalisation, the gated linear unit's gate and the gated merge leave in their results, entry by entry. -/

@[expose] public section

set_option maxRecDepth 16384

noncomputable section

namespace Gates
open Idealize.ShloMosaic
open Cert.Kernel7Ideal.Glu (sig1)

/-- The gated unit's two halves, gated once more by the projection's columns from 3584. -/
def unit (glu proj : ℕ → ℕ → EReal) (r q : ℕ) : EReal :=
  glu r q * sig1 (glu r (1024 + q)) * (proj r (3584 + q) * sig1 (proj r (3584 + q)))

/-- The two branches, each under its own gate. -/
def merge (yy proj : ℕ → ℕ → EReal) (r q : ℕ) : EReal :=
  sig1 (proj r (4608 + q)) * yy r q + sig1 (proj r (6656 + q)) * yy r (2048 + q)

end Gates

namespace Cert.Kernel11Ideal.Gate
open Idealize.ShloMosaic Idealize.ShloMosaic.TcCoe Idealize.ShloMosaic.Pipeline Idealize.SL.Sem Cert.Kernel11Ideal Cert.Kernel11Ideal.Gen
open Cert.Kernel7Ideal.Glu (sig1)
open scoped BigOperators

variable (V : (c : Dev nD) → (b : Ref sig .tc) → Buf (Elt Ideal) ((c : Thread nD τ).loc b)) (c : Dev nD)

theorem idx0 : ∀ t : Fin cfg0.N, win0_0.index t 0 = win0_2.index t 0 ∧ win0_0.index t 1 = 0 ∧ win0_1.index t 0 = 0 ∧ win0_1.index t 1 = 0 ∧ win0_2.index t 1 = 0 :=
  (by decide +kernel : ∀ t : Fin grid0.N, _)

/-- The normalised input. -/
theorem end0 {A : S4096x2048.Idx → EReal} {B : S1x2048.Idx → EReal} (hA : V c main_arg0 = A) (hB : V c main_v0 = B) :
    (dat0 V c).arrAt 2 cfg0.N = fun i : S4096x2048.Idx => Rms.norm (Entry.rd A) (Entry.rd B 0) (i 0).val (i 1).val := by
  subst hA hB
  refine (dat0 V c).arrAt_eq_of_covers 2 _ (by decide +kernel) fun t hf y => ?_
  blk_simp
  rw [after0_2]
  frame_out
  unfold k0_pay1 Rms.norm Rms.unit Rms.rstd
  pointwise []
  obtain ⟨e0, e1, e2, e3, e4⟩ := idx0 t
  refine congrArg₂ (· * ·) (congrArg₂ (· * ·) (Entry.rd_of (V c main_arg0 : S4096x2048.Idx → EReal) (((cfg0.win 0).blk t).view.emb y) ?_ ?_)
      (congrArg (fun s => Ideal.rsqrt (Ideal.div s Rms.len + Rms.tiny)) (Entry.sum_mul
        (fun s => Entry.rd_of (V c main_arg0 : S4096x2048.Idx → EReal) (((cfg0.win 0).blk t).view.emb (ix2 (y 0) s)) ?_ ?_)
        (fun s => Entry.rd_of (V c main_arg0 : S4096x2048.Idx → EReal) (((cfg0.win 0).blk t).view.emb (ix2 (y 0) s)) ?_ ?_))))
    (Entry.rd_of (V c main_v0 : S1x2048.Idx → EReal) (((cfg0.win 1).blk t).view.emb (ix2 0 (y 1))) ?_ ?_)
  all_goals
    blk_simp
    simp only [e0, e1, e2, e3, e4] <;> omega

theorem idx1 : ∀ t : Fin cfg1.N, win1_0.index t 0 = win1_3.index t 0 ∧ win1_0.index t 1 = win1_3.index t 1 ∧ win1_1.index t 0 = win1_3.index t 0
    ∧ win1_1.index t 1 = 2 + win1_3.index t 1 ∧ win1_2.index t 0 = win1_3.index t 0 ∧ win1_2.index t 1 = 7 + win1_3.index t 1 :=
  (by decide +kernel : ∀ t : Fin grid1.N, _)

/-- The gated linear unit under its last gate. -/
theorem end1 {A : S4096x2048.Idx → EReal} {B : S4096x8704.Idx → EReal} (hA : V c main_arg2 = A) (hB : V c main_arg3 = B) :
    (dat1 V c).arrAt 3 cfg1.N = fun i : S4096x1024.Idx => Gates.unit (Entry.rd A) (Entry.rd B) (i 0).val (i 1).val := by
  subst hA hB
  refine (dat1 V c).arrAt_eq_of_covers 3 _ (by decide +kernel) fun t hf y => ?_
  blk_simp
  rw [after1_3]
  frame_out
  unfold k1_pay1 Gates.unit sig1
  pointwise []
  simp only [zero_sub]
  obtain ⟨e0, e1, e2, e3, e4, e5⟩ := idx1 t
  have hz := Entry.rd_of (V c main_arg3 : S4096x8704.Idx → EReal) (((cfg1.win 2).blk t).view.emb y)
    (r := win1_3.index t 0 * 1024 + (y 0).val) (q := 3584 + (win1_3.index t 1 * 512 + (y 1).val)) ?_ ?_
  refine congrArg₂ (· * ·) (congrArg₂ (· * ·) (Entry.rd_of (V c main_arg2 : S4096x2048.Idx → EReal) (((cfg1.win 0).blk t).view.emb y) ?_ ?_)
      (congrArg (fun s => Ideal.div 1 (1 + Ideal.exp (-s))) (Entry.rd_of (V c main_arg2 : S4096x2048.Idx → EReal) (((cfg1.win 1).blk t).view.emb y) ?_ ?_)))
    (congrArg₂ (· * ·) hz (congrArg (fun s => Ideal.div 1 (1 + Ideal.exp (-s))) hz))
  all_goals
    blk_simp
    simp only [e0, e1, e2, e3, e4, e5] <;> omega

theorem idx2 : ∀ t : Fin cfg2.N, win2_0.index t 0 = win2_4.index t 0 ∧ win2_0.index t 1 = win2_4.index t 1 ∧ win2_1.index t 0 = win2_4.index t 0
    ∧ win2_1.index t 1 = 4 + win2_4.index t 1 ∧ win2_2.index t 0 = win2_4.index t 0 ∧ win2_2.index t 1 = 9 + win2_4.index t 1
    ∧ win2_3.index t 0 = win2_4.index t 0 ∧ win2_3.index t 1 = 13 + win2_4.index t 1 :=
  (by decide +kernel : ∀ t : Fin grid2.N, _)

/-- The two branches, merged under their gates. -/
theorem end2 {A : S4096x4096.Idx → EReal} {B : S4096x8704.Idx → EReal} (hA : V c main_arg4 = A) (hB : V c main_arg3 = B) :
    (dat2 V c).arrAt 4 cfg2.N = fun i : S4096x2048.Idx => Gates.merge (Entry.rd A) (Entry.rd B) (i 0).val (i 1).val := by
  subst hA hB
  refine (dat2 V c).arrAt_eq_of_covers 4 _ (by decide +kernel) fun t hf y => ?_
  blk_simp
  rw [after2_4]
  frame_out
  unfold k2_pay1 Gates.merge sig1
  pointwise []
  simp only [zero_sub]
  obtain ⟨e0, e1, e2, e3, e4, e5, e6, e7⟩ := idx2 t
  refine congrArg₂ (· + ·)
    (congrArg₂ (· * ·) (congrArg (fun s => Ideal.div 1 (1 + Ideal.exp (-s))) (Entry.rd_of (V c main_arg3 : S4096x8704.Idx → EReal) (((cfg2.win 2).blk t).view.emb y) ?_ ?_))
      (Entry.rd_of (V c main_arg4 : S4096x4096.Idx → EReal) (((cfg2.win 0).blk t).view.emb y) ?_ ?_))
    (congrArg₂ (· * ·) (congrArg (fun s => Ideal.div 1 (1 + Ideal.exp (-s))) (Entry.rd_of (V c main_arg3 : S4096x8704.Idx → EReal) (((cfg2.win 3).blk t).view.emb y) ?_ ?_))
      (Entry.rd_of (V c main_arg4 : S4096x4096.Idx → EReal) (((cfg2.win 1).blk t).view.emb y) ?_ ?_))
  all_goals
    blk_simp
    simp only [e0, e1, e2, e3, e4, e5, e6, e7] <;> omega

end Cert.Kernel11Ideal.Gate
-- ==== Proof.GateRun.lean ====
module

public import proofs.«01_k».proof.Proof.Gate

/-! The forward gates' calls, run one after the other: what every result holds at the end. -/

@[expose] public section

set_option maxRecDepth 16384

noncomputable section

namespace Cert.Kernel11Ideal.Gate
open Idealize.ShloMosaic Idealize.ShloMosaic.TcCoe Idealize.ShloMosaic.Pipeline Idealize.SL.Sem Cert.Kernel11Ideal Cert.Kernel11Ideal.Gen
open scoped BigOperators
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The layer's input. -/
abbrev x : ℕ → ℕ → EReal := Entry.rd (m ((c : Thread nD τ).loc main_arg0) : S4096x2048.Idx → EReal)
/-- The normalisation's weight. -/
abbrev w : ℕ → EReal := Rms.rd1 (m ((c : Thread nD τ).loc main_arg1) : S2048.Idx → EReal)
/-- The unit's two halves, side by side. -/
abbrev glu : ℕ → ℕ → EReal := Entry.rd (m ((c : Thread nD τ).loc main_arg2) : S4096x2048.Idx → EReal)
/-- The projection. -/
abbrev proj : ℕ → ℕ → EReal := Entry.rd (m ((c : Thread nD τ).loc main_arg3) : S4096x8704.Idx → EReal)
/-- The two branches, side by side. -/
abbrev yy : ℕ → ℕ → EReal := Entry.rd (m ((c : Thread nD τ).loc main_arg4) : S4096x4096.Idx → EReal)

theorem row : V1 m ρ c main_v0 = shapeCast S1x2048 (m ((c : Thread nD τ).loc main_arg1) : FVec Ideal S2048 .f32) shapeCasts_S2048_S1x2048 := by
  have h := W0_args m ρ c main_arg1 (by decide)
  show StableHlo.after hostOps0 (W0 m ρ c) (Proc.devRef .tc main_v0) = _
  simp only [hostOps0]
  after_results
  rw [h]
  rfl

theorem row_at (q : ℕ) : Entry.rd (shapeCast S1x2048 (m ((c : Thread nD τ).loc main_arg1) : FVec Ideal S2048 .f32) shapeCasts_S2048_S1x2048 : S1x2048.Idx → EReal) 0 q = w m c q := by
  unfold Entry.rd w Rms.rd1
  by_cases h : q < 2048
  · rw [dif_pos ⟨by omega, h⟩, dif_pos h]
    pointwise []
  · rw [dif_neg fun k => h k.2, dif_neg h]

theorem val0 : W4 m ρ c (Proc.devRef .tc main_v1) = fun i : S4096x2048.Idx => Rms.norm (x m c) (w m c) (i 0).val (i 1).val := by
  rw [W4_of_ne m ρ c main_v1 (by decide +kernel), W3_of_ne m ρ c main_v1 (by decide +kernel)]
  refine (W2_arr m ρ c 2).trans ((end0 (V1 m ρ) c (W1_args m ρ c main_arg0 (by decide)) (row m ρ c)).trans ?_)
  rw [show Entry.rd _ 0 = w m c from funext (row_at m c)]

theorem val1 : W4 m ρ c (Proc.devRef .tc main_v2) = fun i : S4096x1024.Idx => Gates.unit (glu m c) (proj m c) (i 0).val (i 1).val := by
  rw [W4_of_ne m ρ c main_v2 (by decide +kernel)]
  exact (W3_arr m ρ c 3).trans (end1 (V2 m ρ) c (W2_args m ρ c main_arg2 (by decide)) (W2_args m ρ c main_arg3 (by decide)))

theorem val2 : W4 m ρ c (Proc.devRef .tc main_v3) = fun i : S4096x2048.Idx => Gates.merge (yy m c) (proj m c) (i 0).val (i 1).val :=
  (W4_arr m ρ c 4).trans (end2 (V3 m ρ) c (W3_args m ρ c main_arg4 (by decide)) (W3_args m ρ c main_arg3 (by decide)))

set_option backward.isDefEq.respectTransparency.types false in
/-- The run: every result at its value. -/
theorem run : θ_run defs (onTc (τ := τ) (main (F := Ideal))) ⟨m, fun _ => 0, ρ⟩ (fun r => ∀ c : Dev nD,
      r.2.mem ((c.tc : Thread nD τ).loc main_v1) = (fun i : S4096x2048.Idx => Rms.norm (x m c) (w m c) (i 0).val (i 1).val)
      ∧ r.2.mem ((c.tc : Thread nD τ).loc main_v2) = (fun i : S4096x1024.Idx => Gates.unit (glu m c) (proj m c) (i 0).val (i 1).val)
      ∧ r.2.mem ((c.tc : Thread nD τ).loc main_v3) = (fun i : S4096x2048.Idx => Gates.merge (yy m c) (proj m c) (i 0).val (i 1).val)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v1 (by decide))).trans (val0 m ρ c),
      (h c _ (mem_uc main_v2 (by decide))).trans (val1 m ρ c),
      (h c _ (mem_uc main_v3 (by decide))).trans (val2 m ρ c)⟩)

end Cert.Kernel11Ideal.Gate
-- ==== Proof.RefGate.lean ====
module

public import proofs.«01_k».proof.Proof.Gen.Reference11Ideal.Run
public import proofs.«01_k».proof.Proof.Gate

/-! The reference's normalisation, gate and merge, entry by entry. -/

@[expose] public section

set_option maxRecDepth 16384

noncomputable section

namespace Cert.Reference11Ideal.Gate
open Idealize.ShloMosaic Idealize.ShloMosaic.TcCoe Idealize.SL.Sem Cert.Reference11Ideal Cert.Reference11Ideal.Gen
open Cert.Kernel7Ideal.Glu (sig1)
open scoped BigOperators

variable (m : (ℓ : Loc nD τ sig) → Buf (Elt Ideal) ℓ) (c : Dev nD)

/-- The layer's input. -/
abbrev x : ℕ → ℕ → EReal := Entry.rd (m ((c.tc : Thread nD τ).loc main_arg0) : S4096x2048.Idx → EReal)
/-- The normalisation's weight. -/
abbrev w : ℕ → EReal := Rms.rd1 (m ((c.tc : Thread nD τ).loc main_arg1) : S2048.Idx → EReal)
/-- The unit's two halves, side by side. -/
abbrev glu : ℕ → ℕ → EReal := Entry.rd (m ((c.tc : Thread nD τ).loc main_arg2) : S4096x2048.Idx → EReal)
/-- The projection. -/
abbrev proj : ℕ → ℕ → EReal := Entry.rd (m ((c.tc : Thread nD τ).loc main_arg3) : S4096x8704.Idx → EReal)
/-- The two branches, side by side. -/
abbrev yy : ℕ → ℕ → EReal := Entry.rd (m ((c.tc : Thread nD τ).loc main_arg4) : S4096x4096.Idx → EReal)

theorem val0 : (truncf .bf16 (mulf (mulf (m ((c.tc : Thread nD τ).loc main_arg0)) (broadcastInDim S4096x2048 ![0, 1] bcast_S4096x1_S4096x2048_0_1 (Host.rsqrt (addf (Host.divf (broadcastInDim S4096x1 ![0] bcast_S4096_S4096x1_0 (Host.reduceAdd (mulf (m ((c.tc : Thread nD τ).loc main_arg0)) (m ((c.tc : Thread nD τ).loc main_arg0))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (m ((c.tc : Thread nD τ).loc main_arg1))))) bitsLt_bf16_f32 : FVec Ideal S4096x2048 .bf16) = fun i => Rms.norm (x m c) (w m c) (i 0).val (i 1).val := by
  funext i
  unfold Rms.norm Rms.unit Rms.rstd
  pointwise []
  exact congrArg₂ (· * ·) (congrArg₂ (· * ·) (Entry.rd_of _ i rfl rfl)
      (congrArg (fun s => Ideal.rsqrt (Ideal.div s Rms.len + Rms.tiny)) (Entry.sum_mul (fun s => Entry.rd_of _ _ rfl rfl) (fun s => Entry.rd_of _ _ rfl rfl))))
    (Rms.rd1_of _ _ rfl)

theorem val1 : (truncf .bf16 (mulf (mulf (extractStridedSlice S4096x1024 ![0, 0] (extf .f32 (m ((c.tc : Thread nD τ).loc main_arg2)) bitsLt_bf16_f32) slices_S4096x2048_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] (extf .f32 (m ((c.tc : Thread nD τ).loc main_arg2)) bitsLt_bf16_f32) slices_S4096x2048_S4096x1024_0_1024)))))) (mulf (extractStridedSlice S4096x1024 ![0, 3584] (extf .f32 (m ((c.tc : Thread nD τ).loc main_arg3)) bitsLt_bf16_f32) slices_S4096x8704_S4096x1024_0_3584) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 3584] (extf .f32 (m ((c.tc : Thread nD τ).loc main_arg3)) bitsLt_bf16_f32) slices_S4096x8704_S4096x1024_0_3584))))))) bitsLt_bf16_f32 : FVec Ideal S4096x1024 .bf16) = fun i => Gates.unit (glu m c) (proj m c) (i 0).val (i 1).val := by
  funext i
  unfold Gates.unit sig1
  pointwise []
  refine congrArg₂ (· * ·) (congrArg₂ (· * ·) (Entry.rd_of _ _ rfl ?_) (congrArg (fun s => Ideal.div 1 (1 + Ideal.exp (-s))) (Entry.rd_of _ _ rfl ?_)))
    (congrArg₂ (· * ·) (Entry.rd_of _ _ rfl ?_) (congrArg (fun s => Ideal.div 1 (1 + Ideal.exp (-s))) (Entry.rd_of _ _ rfl ?_)))
  all_goals first | (dsimp only [ix2]; omega) | rfl

theorem val2 : (truncf .bf16 (addf (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 0] (extractStridedSlice S4096x4096 ![0, 4608] (extf .f32 (m ((c.tc : Thread nD τ).loc main_arg3)) bitsLt_bf16_f32) slices_S4096x8704_S4096x4096_0_4608) slices_S4096x4096_S4096x2048_0_0))))) (extractStridedSlice S4096x2048 ![0, 0] (extf .f32 (m ((c.tc : Thread nD τ).loc main_arg4)) bitsLt_bf16_f32) slices_S4096x4096_S4096x2048_0_0)) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (extractStridedSlice S4096x2048 ![0, 2048] (extractStridedSlice S4096x4096 ![0, 4608] (extf .f32 (m ((c.tc : Thread nD τ).loc main_arg3)) bitsLt_bf16_f32) slices_S4096x8704_S4096x4096_0_4608) slices_S4096x4096_S4096x2048_0_2048))))) (extractStridedSlice S4096x2048 ![0, 2048] (extf .f32 (m ((c.tc : Thread nD τ).loc main_arg4)) bitsLt_bf16_f32) slices_S4096x4096_S4096x2048_0_2048))) bitsLt_bf16_f32 : FVec Ideal S4096x2048 .bf16) = fun i => Gates.merge (yy m c) (proj m c) (i 0).val (i 1).val := by
  funext i
  unfold Gates.merge sig1
  pointwise []
  refine congrArg₂ (· + ·)
    (congrArg₂ (· * ·) (congrArg (fun s => Ideal.div 1 (1 + Ideal.exp (-s))) (Entry.rd_of _ _ rfl ?_)) (Entry.rd_of _ _ rfl ?_))
    (congrArg₂ (· * ·) (congrArg (fun s => Ideal.div 1 (1 + Ideal.exp (-s))) (Entry.rd_of _ _ rfl ?_)) (Entry.rd_of _ _ rfl ?_))
  all_goals first | (dsimp only [ix2]; omega) | rfl

end Cert.Reference11Ideal.Gate
-- ==== Proof.GateClaim.lean ====
/- The forward pass's normalisation and gates: the run of the calls and of the reference, joined to the claims. -/
module

public import proofs.«01_k».proof.Defs
public import proofs.«01_k».proof.Proof.Gen.Kernel11.Frame
public import proofs.«01_k».proof.Proof.GateRun
public import proofs.«01_k».proof.Proof.RefGate

@[expose] public section

set_option maxRecDepth 16384

noncomputable section

namespace Cert.Gate
open Idealize.ShloMosaic Idealize.SL.Sem
open Cert.Kernel11Ideal.Gate (x w glu proj yy)

theorem frame : Cert.quiescent_Kernel11 (hKernel11 := Cert.Kernel11.Gen.facts) :=
  fun m g _ => Cert.Kernel11.Gen.frame (F := Bits) m g

theorem frame_ideal : Cert.quiescent_Kernel11Ideal (hKernel11Ideal := Cert.Kernel11Ideal.Gen.facts) :=
  fun m g _ => Cert.Kernel11Ideal.Gen.frame (F := Ideal) m g

theorem frame_reference : Cert.quiescent_Reference11Ideal (hReference11Ideal := Cert.Reference11Ideal.Gen.facts) :=
  fun m g _ => (θ_run Cert.Reference11Ideal.defs _ _).mono (fun r h => ⟨fun c => (h c).2.2.2, sem_eq_zero_of_no_sems (by decide) r.2⟩)
    (Cert.Reference11Ideal.Value.run m g)

/-- The normalised input, the gated unit and the merge of the branches are the reference's. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨fun c i => Rms.norm (x m c) (w m c) (i 0).val (i 1).val, fun c i => Gates.unit (glu m c) (proj m c) (i 0).val (i 1).val,
    fun c i => Gates.merge (yy m c) (proj m c) (i 0).val (i 1).val, ?_, ?_⟩
  · exact (θ_run Cert.Kernel11Ideal.defs _ _).mono (fun r h c => ⟨(h.1 c).1, (h.1 c).2.1, (h.1 c).2.2, h.2 c⟩)
      (θ_run_and (Cert.Kernel11Ideal.Gate.run m g) (Cert.Kernel11Ideal.Gen.unchanged (F := Ideal) m g))
  · refine (θ_run Cert.Reference11Ideal.defs _ _).mono (fun r h c => ?_) (Cert.Reference11Ideal.Value.run m' g')
    obtain ⟨e0, e1, e2, e3, e4⟩ := hargs c
    obtain ⟨h0, h1, h2, h'⟩ := h c
    have d0 : Cert.Reference11Ideal.Gate.x m' c = x m c :=
      congrArg (fun A => Entry.rd (A : Cert.Kernel11Ideal.S4096x2048.Idx → EReal)) e0
    have d1 : Cert.Reference11Ideal.Gate.w m' c = w m c :=
      congrArg (fun A => Rms.rd1 (A : Cert.Kernel11Ideal.S2048.Idx → EReal)) e1
    have d2 : Cert.Reference11Ideal.Gate.glu m' c = glu m c :=
      congrArg (fun A => Entry.rd (A : Cert.Kernel11Ideal.S4096x2048.Idx → EReal)) e2
    have d3 : Cert.Reference11Ideal.Gate.proj m' c = proj m c :=
      congrArg (fun A => Entry.rd (A : Cert.Kernel11Ideal.S4096x8704.Idx → EReal)) e3
    have d4 : Cert.Reference11Ideal.Gate.yy m' c = yy m c :=
      congrArg (fun A => Entry.rd (A : Cert.Kernel11Ideal.S4096x4096.Idx → EReal)) e4
    refine ⟨h0.trans ((Cert.Reference11Ideal.Gate.val0 m' c).trans ?_), h1.trans ((Cert.Reference11Ideal.Gate.val1 m' c).trans ?_),
      h2.trans ((Cert.Reference11Ideal.Gate.val2 m' c).trans ?_), h'⟩
    · dsimp only
      rw [d0, d1]
      rfl
    · dsimp only
      rw [d2, d3]
      rfl
    · dsimp only
      rw [d3, d4]
      rfl

end Cert.Gate

end
-- ==== Proof.Adam.lean ====
module

public import proofs.«01_k».proof.Proof.Columns

/-! The optimiser's update of one weight, as functions of the weight, its gradient and the two running means. -/

@[expose] public section

noncomputable section

namespace Cert.Adam
open Idealize.ShloMosaic
open scoped BigOperators

/-- The new running mean of the gradient. -/
def mean (m g : EReal) : EReal := Ideal.ofBits .f32 0x3F666666#32 * m + Ideal.ofBits .f32 0x3DCCCCCD#32 * g

/-- The new running mean of the gradient's square. -/
def square (v g : EReal) : EReal := Ideal.ofBits .f32 0x3F7FBE77#32 * v + Ideal.ofBits .f32 0x3A83126F#32 * (g * g)

/-- The weight's change: the corrected mean over the corrected root mean square, with the decay, times the negated rate. -/
def step (w g m v : EReal) : EReal :=
  Ideal.ofBits .f32 0xBA83126F#32 * (Ideal.div (Ideal.div (mean m g) (Ideal.ofBits .f32 0x3F26BD02#32))
    (Ideal.sqrt (Ideal.div (square v g) (Ideal.ofBits .f32 0x3C231ACC#32)) + Ideal.ofBits .f32 0x322BCC77#32)
    + Ideal.ofBits .f32 0x3C23D70A#32 * w)

theorem step_congr {w w' g g' m m' v v' : EReal} (hw : w = w') (hg : g = g') (hm : m = m') (hv : v = v') : step w g m v = step w' g' m' v' := by
  rw [hw, hg, hm, hv]

/-- An array of three axes read at three natural numbers: zero outside. -/
def rd3 {a b d : ℕ} (A : Shape.Idx ⟨3, ![a, b, d]⟩ → EReal) (k r q : ℕ) : EReal :=
  if h : k < a ∧ r < b ∧ q < d then A (fun x => match x with | ⟨0, _⟩ => ⟨k, h.1⟩ | ⟨1, _⟩ => ⟨r, h.2.1⟩ | ⟨2, _⟩ => ⟨q, h.2.2⟩) else 0

theorem rd3_of {a b d : ℕ} (A : Shape.Idx ⟨3, ![a, b, d]⟩ → EReal) (i : Shape.Idx ⟨3, ![a, b, d]⟩) {k r q : ℕ}
    (h0 : (i 0).val = k) (h1 : (i 1).val = r) (h2 : (i 2).val = q) : A i = rd3 A k r q := by
  subst h0 h1 h2
  unfold rd3
  rw [dif_pos ⟨(i 0).isLt, (i 1).isLt, (i 2).isLt⟩]
  refine congrArg A (funext fun x => ?_)
  match x with
  | ⟨0, _⟩ => rfl
  | ⟨1, _⟩ => rfl
  | ⟨2, _⟩ => rfl

/-- The sum of `n` parts of a gradient. -/
def sum (n : ℕ) (P : ℕ → ℕ → ℕ → EReal) (r q : ℕ) : EReal := ∑ k : Fin n, P k.val r q

/-- Two tables side by side: the first `n` columns from the one, the others from the other. -/
def halves (n : ℕ) (A B : ℕ → ℕ → EReal) (r q : ℕ) : EReal := if q < n then A r q else B r (q - n)

end Cert.Adam
-- ==== Proof.Opt15.lean ====
module

public import proofs.«01_k».proof.Proof.Gen.Kernel15Ideal.Value
public import proofs.«01_k».proof.Proof.Adam

/-! The update of the scan's weights: what the call leaves in its three results, entry by entry. -/

@[expose] public section

set_option maxRecDepth 16384

noncomputable section

namespace Cert.Kernel15Ideal.Opt
open Idealize.ShloMosaic Idealize.ShloMosaic.TcCoe Idealize.ShloMosaic.Pipeline Idealize.SL.Sem Cert.Kernel15Ideal Cert.Kernel15Ideal.Gen
open scoped BigOperators

variable (m : (ℓ : Loc nD τ sig) → Buf (Elt Ideal) ℓ) (c : Dev nD)

/-- The weights. -/
abbrev W : S64x16x64.Idx → EReal := m ((c : Thread nD τ).loc main_arg0)
/-- The gradient. -/
abbrev G : S64x16x64.Idx → EReal := m ((c : Thread nD τ).loc main_arg1)
/-- The running mean of the gradient. -/
abbrev M : S64x16x64.Idx → EReal := m ((c : Thread nD τ).loc main_arg2)
/-- The running mean of the gradient's square. -/
abbrev Sq : S64x16x64.Idx → EReal := m ((c : Thread nD τ).loc main_arg3)

theorem end_step : (dats m 0 c).arrAt 4 cfg0.N = fun i : S64x16x64.Idx => Adam.step (W m c i) (G m c i) (M m c i) (Sq m c i) := by
  refine (dats m 0 c).arrAt_eq_of_covers 4 _ (by decide +kernel) fun t hf y => ?_
  rw [after0_4]
  unfold out0_4
  dsimp only
  frame_out
  unfold k0_pay5 k0_pay3 k0_pay4 Adam.step Adam.mean Adam.square
  pointwise []
  rfl

theorem end_mean : (dats m 0 c).arrAt 5 cfg0.N = fun i : S64x16x64.Idx => Adam.mean (M m c i) (G m c i) := by
  refine (dats m 0 c).arrAt_eq_of_covers 5 _ (by decide +kernel) fun t hf y => ?_
  rw [after0_5]
  unfold out0_5
  dsimp only
  frame_out
  unfold k0_pay1 k0_pay3 Adam.mean
  pointwise []
  rfl

theorem end_square : (dats m 0 c).arrAt 6 cfg0.N = fun i : S64x16x64.Idx => Adam.square (Sq m c i) (G m c i) := by
  refine (dats m 0 c).arrAt_eq_of_covers 6 _ (by decide +kernel) fun t hf y => ?_
  rw [after0_6]
  unfold out0_6
  dsimp only
  frame_out
  unfold k0_pay2 k0_pay4 Adam.square
  pointwise []
  rfl

end Cert.Kernel15Ideal.Opt
-- ==== Proof.Opt12.lean ====
module

public import proofs.«01_k».proof.Proof.Gen.Kernel12Ideal.Value
public import proofs.«01_k».proof.Proof.Adam

/-! The update of the output projection's weights: what the call leaves in its four results, entry by entry. -/

@[expose] public section

set_option maxRecDepth 16384

noncomputable section

namespace Cert.Kernel12Ideal.Opt
open Idealize.ShloMosaic Idealize.ShloMosaic.TcCoe Idealize.ShloMosaic.Pipeline Idealize.SL.Sem Cert.Kernel12Ideal Cert.Kernel12Ideal.Gen
open scoped BigOperators

variable (m : (ℓ : Loc nD τ sig) → Buf (Elt Ideal) ℓ) (c : Dev nD)

theorem idx : ∀ t : Fin cfg0.N, win0_1.index t 0 = 0 ∧ win0_1.index t 1 = t.val ∧ win0_1.index t 2 = 0 ∧ win0_4.index t 0 = t.val ∧ win0_4.index t 1 = 0 :=
  (by decide +kernel : ∀ t : Fin grid0.N, _)

/-- The weights. -/
abbrev W : S256x2048.Idx → EReal := m ((c : Thread nD τ).loc main_arg0)
/-- The chips' parts of the gradient, a chip to the first axis. -/
abbrev P : ℕ → ℕ → ℕ → EReal := Adam.rd3 (shapeCast S4x256x2048 (m ((c : Thread nD τ).loc main_arg1) : S1024x2048.Idx → EReal) shapeCasts_S1024x2048_S4x256x2048)
/-- The running mean of the gradient. -/
abbrev M : S256x2048.Idx → EReal := m ((c : Thread nD τ).loc main_arg2)
/-- The running mean of the gradient's square. -/
abbrev Sq : S256x2048.Idx → EReal := m ((c : Thread nD τ).loc main_arg3)

theorem parts : V m c main_v0 = shapeCast S4x256x2048 (m ((c : Thread nD τ).loc main_arg1)) shapeCasts_S1024x2048_S4x256x2048 := by
  show StableHlo.after hostOps0 _ (Proc.devRef .tc main_v0) = _
  simp only [hostOps0]
  after_results
  rfl

theorem read1 (t : Fin cfg0.N) (y : S4x64x2048.Idx) : (iblk m c 1 t : S4x64x2048.Idx → EReal) y = P m c (y 0).val (t.val * 64 + (y 1).val) (y 2).val := by
  obtain ⟨e0, e1, e2, -⟩ := idx t
  refine (congrFun (parts m c) _).trans (Adam.rd3_of (shapeCast S4x256x2048 (m ((c : Thread nD τ).loc main_arg1) : S1024x2048.Idx → EReal) shapeCasts_S1024x2048_S4x256x2048) (((cfg0.win 1).blk t).view.emb y) ?_ ?_ ?_)
  all_goals
    blk_simp
    simp only [e0, e1, e2] <;> omega

theorem sum_at (t : Fin cfg0.N) (y : S64x2048.Idx) :
    k0_pay5 (F := Ideal) (View.ld (iblk m c 1 t) r0_0) (View.ld (iblk m c 1 t) r0_1) (View.ld (iblk m c 1 t) r0_2) (View.ld (iblk m c 1 t) r0_3) y
      = Adam.sum 4 (P m c) (t.val * 64 + (y 0).val) (y 1).val := by
  unfold k0_pay5 Adam.sum
  rw [Fin.sum_univ_four]
  pointwise []
  exact congrArg₂ (· + ·) (congrArg₂ (· + ·) (congrArg₂ (· + ·) (read1 m c t _) (read1 m c t _)) (read1 m c t _)) (read1 m c t _)

theorem sum_emb (t : Fin cfg0.N) (y : S64x2048.Idx) : k0_pay5 (F := Ideal) (View.ld (iblk m c 1 t) r0_0) (View.ld (iblk m c 1 t) r0_1) (View.ld (iblk m c 1 t) r0_2) (View.ld (iblk m c 1 t) r0_3) y
    = Adam.sum 4 (P m c) ((((cfg0.win 4).blk t).view.emb y) 0).val ((((cfg0.win 4).blk t).view.emb y) 1).val := by
  obtain ⟨-, -, -, e0, e1⟩ := idx t
  refine (sum_at m c t y).trans ?_
  blk_simp
  rw [e0, e1, Nat.zero_mul, Nat.zero_add]

theorem end_sum : (dats m 0 c).arrAt 4 cfg0.N = fun i : S256x2048.Idx => Adam.sum 4 (P m c) (i 0).val (i 1).val := by
  refine (dats m 0 c).arrAt_eq_of_covers 4 _ (by decide +kernel) fun t hf y => ?_
  rw [after0_4]
  unfold out0_4
  frame_out
  unfold k0_pay1
  pointwise []
  exact sum_emb m c t y

theorem end_step : (dats m 0 c).arrAt 5 cfg0.N = fun i : S256x2048.Idx =>
    Adam.step (W m c i) (Adam.sum 4 (P m c) (i 0).val (i 1).val) (M m c i) (Sq m c i) := by
  refine (dats m 0 c).arrAt_eq_of_covers 5 _ (by decide +kernel) fun t hf y => ?_
  rw [after0_5]
  unfold out0_5
  frame_out
  unfold k0_pay2 k0_pay8 k0_pay9 k0_pay6 k0_pay7
  pointwise []
  exact Adam.step_congr (congrFun (V_main_arg0 m c) _) (sum_emb m c t y) (congrFun (V_main_arg2 m c) _) (congrFun (V_main_arg3 m c) _)

theorem end_mean : (dats m 0 c).arrAt 6 cfg0.N = fun i : S256x2048.Idx =>
    Adam.mean (M m c i) (Adam.sum 4 (P m c) (i 0).val (i 1).val) := by
  refine (dats m 0 c).arrAt_eq_of_covers 6 _ (by decide +kernel) fun t hf y => ?_
  rw [after0_6]
  unfold out0_6
  frame_out
  unfold k0_pay3 k0_pay6
  pointwise []
  exact congrArg₂ Adam.mean (congrFun (V_main_arg2 m c) _) (sum_emb m c t y)

theorem end_square : (dats m 0 c).arrAt 7 cfg0.N = fun i : S256x2048.Idx =>
    Adam.square (Sq m c i) (Adam.sum 4 (P m c) (i 0).val (i 1).val) := by
  refine (dats m 0 c).arrAt_eq_of_covers 7 _ (by decide +kernel) fun t hf y => ?_
  rw [after0_7]
  unfold out0_7
  frame_out
  unfold k0_pay4 k0_pay7
  pointwise []
  exact congrArg₂ Adam.square (congrFun (V_main_arg3 m c) _) (sum_emb m c t y)

end Cert.Kernel12Ideal.Opt
-- ==== Proof.RefOpt12.lean ====
module

public import proofs.«01_k».proof.Proof.Gen.Reference12Ideal.Run
public import proofs.«01_k».proof.Proof.Opt12

/-! The reference's sum of the gradient's parts, in the update of the output projection's weights, entry by entry. -/

@[expose] public section

set_option maxRecDepth 16384

noncomputable section

namespace Cert.Reference12Ideal.Opt
open Idealize.ShloMosaic Idealize.ShloMosaic.TcCoe Idealize.SL.Sem Cert.Reference12Ideal Cert.Reference12Ideal.Gen
open scoped BigOperators

variable (m : (ℓ : Loc nD τ sig) → Buf (Elt Ideal) ℓ) (c : Dev nD)

/-- The chips' parts of the gradient, a chip to the first axis. -/
abbrev P : ℕ → ℕ → ℕ → EReal := Adam.rd3 (shapeCast S4x256x2048 (m ((c.tc : Thread nD τ).loc main_arg1) : S1024x2048.Idx → EReal) shapeCasts_S1024x2048_S4x256x2048)

theorem reduce_eq (A : S4x256x2048.Idx → EReal) :
    (Host.reduceAdd (A : FVec Ideal S4x256x2048 .f32) (constant S_ .f32 0x00000000#32) reducesTo_S4x256x2048_S256x2048_d0 h_S_ : FVec Ideal S256x2048 .f32)
      = fun i : S256x2048.Idx => Adam.sum 4 (Adam.rd3 A) (i 0).val (i 1).val := by
  funext i
  unfold Adam.sum
  pointwise []
  exact Finset.sum_congr rfl fun k _ => Adam.rd3_of A _ rfl rfl rfl

theorem val0 : ((Host.reduceAdd (shapeCast _ (extf .f32 (m ((c.tc : Thread nD τ).loc main_arg1)) bitsLt_bf16_f32) shapeCasts_S1024x2048_S4x256x2048) (constant S_ .f32 0x00000000#32) reducesTo_S4x256x2048_S256x2048_d0 h_S_ : FVec Ideal S256x2048 .f32) : S256x2048.Idx → EReal)
    = fun i : S256x2048.Idx => Adam.sum 4 (P m c) (i 0).val (i 1).val := reduce_eq _

end Cert.Reference12Ideal.Opt
-- ==== Proof.Opt13.lean ====
module

public import proofs.«01_k».proof.Proof.Gen.Kernel13Ideal.Value
public import proofs.«01_k».proof.Proof.Adam

/-! The update of the input projection's weights, kept transposed: what the call leaves in its four results, entry by entry. -/

@[expose] public section

set_option maxRecDepth 16384

noncomputable section

namespace Cert.Kernel13Ideal.Opt
open Idealize.ShloMosaic Idealize.ShloMosaic.TcCoe Idealize.ShloMosaic.Pipeline Idealize.SL.Sem Cert.Kernel13Ideal Cert.Kernel13Ideal.Gen
open scoped BigOperators

variable (m : (ℓ : Loc nD τ sig) → Buf (Elt Ideal) ℓ) (c : Dev nD)

theorem idx : ∀ t : Fin cfg0.N, win0_1.index t 0 = 0 ∧ win0_1.index t 1 = t.val ∧ win0_1.index t 2 = 0 ∧ win0_2.index t 0 = 0 ∧ win0_2.index t 1 = t.val ∧ win0_2.index t 2 = 0 ∧ win0_5.index t 0 = t.val ∧ win0_5.index t 1 = 0 :=
  (by decide +kernel : ∀ t : Fin grid0.N, _)

/-- The weights. -/
abbrev W : S1088x2048.Idx → EReal := m ((c : Thread nD τ).loc main_arg0)
/-- The chips' parts of the gradient's first half, a chip to the first axis. -/
abbrev Lo : ℕ → ℕ → ℕ → EReal := Adam.rd3 (shapeCast S4x1088x1024 (m ((c : Thread nD τ).loc main_arg1) : S4352x1024.Idx → EReal) shapeCasts_S4352x1024_S4x1088x1024)
/-- The chips' parts of the gradient's second half. -/
abbrev Hi : ℕ → ℕ → ℕ → EReal := Adam.rd3 (shapeCast S4x1088x1024 (m ((c : Thread nD τ).loc main_arg2) : S4352x1024.Idx → EReal) shapeCasts_S4352x1024_S4x1088x1024)
/-- The running mean of the gradient. -/
abbrev M : S1088x2048.Idx → EReal := m ((c : Thread nD τ).loc main_arg3)
/-- The running mean of the gradient's square. -/
abbrev Sq : S1088x2048.Idx → EReal := m ((c : Thread nD τ).loc main_arg4)

theorem parts_lo : V m c main_v0 = shapeCast S4x1088x1024 (m ((c : Thread nD τ).loc main_arg1)) shapeCasts_S4352x1024_S4x1088x1024 := by
  show StableHlo.after hostOps0 _ (Proc.devRef .tc main_v0) = _
  simp only [hostOps0]
  after_results
  rfl

theorem parts_hi : V m c main_v1 = shapeCast S4x1088x1024 (m ((c : Thread nD τ).loc main_arg2)) shapeCasts_S4352x1024_S4x1088x1024 := by
  show StableHlo.after hostOps0 _ (Proc.devRef .tc main_v1) = _
  simp only [hostOps0]
  after_results
  rfl

theorem read1 (t : Fin cfg0.N) (y : S4x64x1024.Idx) : (iblk m c 1 t : S4x64x1024.Idx → EReal) y = Lo m c (y 0).val (t.val * 64 + (y 1).val) (y 2).val := by
  obtain ⟨e0, e1, e2, -⟩ := idx t
  refine (congrFun (parts_lo m c) _).trans (Adam.rd3_of (shapeCast S4x1088x1024 (m ((c : Thread nD τ).loc main_arg1) : S4352x1024.Idx → EReal) shapeCasts_S4352x1024_S4x1088x1024) (((cfg0.win 1).blk t).view.emb y) ?_ ?_ ?_)
  all_goals
    blk_simp
    simp only [e0, e1, e2] <;> omega

theorem read2 (t : Fin cfg0.N) (y : S4x64x1024.Idx) : (iblk m c 2 t : S4x64x1024.Idx → EReal) y = Hi m c (y 0).val (t.val * 64 + (y 1).val) (y 2).val := by
  obtain ⟨-, -, -, e0, e1, e2, -⟩ := idx t
  refine (congrFun (parts_hi m c) _).trans (Adam.rd3_of (shapeCast S4x1088x1024 (m ((c : Thread nD τ).loc main_arg2) : S4352x1024.Idx → EReal) shapeCasts_S4352x1024_S4x1088x1024) (((cfg0.win 2).blk t).view.emb y) ?_ ?_ ?_)
  all_goals
    blk_simp
    simp only [e0, e1, e2] <;> omega

theorem sum_at (t : Fin cfg0.N) (y : S64x2048.Idx) :
    k0_pay8 (F := Ideal) (iblk m c 0 t) (iblk m c 1 t) (iblk m c 2 t) (iblk m c 3 t) (iblk m c 4 t) y
      = Adam.halves 1024 (Adam.sum 4 (Lo m c)) (Adam.sum 4 (Hi m c)) (t.val * 64 + (y 0).val) (y 1).val := by
  unfold k0_pay8 k0_pay2 Adam.halves Adam.sum
  simp only [Fin.sum_univ_four]
  pointwise []
  by_cases h : (y 1).val < 1024
  · rw [dif_pos h, if_pos h]
    exact congrArg₂ (· + ·) (congrArg₂ (· + ·) (congrArg₂ (· + ·) (read1 m c t _) (read1 m c t _)) (read1 m c t _)) (read1 m c t _)
  · rw [dif_neg h, if_neg h]
    exact congrArg₂ (· + ·) (congrArg₂ (· + ·) (congrArg₂ (· + ·) (read2 m c t _) (read2 m c t _)) (read2 m c t _)) (read2 m c t _)

theorem sum_emb (t : Fin cfg0.N) (y : S64x2048.Idx) : k0_pay8 (F := Ideal) (iblk m c 0 t) (iblk m c 1 t) (iblk m c 2 t) (iblk m c 3 t) (iblk m c 4 t) y
    = Adam.halves 1024 (Adam.sum 4 (Lo m c)) (Adam.sum 4 (Hi m c)) ((((cfg0.win 5).blk t).view.emb y) 0).val ((((cfg0.win 5).blk t).view.emb y) 1).val := by
  obtain ⟨-, -, -, -, -, -, e0, e1⟩ := idx t
  refine (sum_at m c t y).trans ?_
  blk_simp
  rw [e0, e1, Nat.zero_mul, Nat.zero_add]

theorem end_sum : (dats m 0 c).arrAt 5 cfg0.N = fun i : S1088x2048.Idx => Adam.halves 1024 (Adam.sum 4 (Lo m c)) (Adam.sum 4 (Hi m c)) (i 0).val (i 1).val := by
  refine (dats m 0 c).arrAt_eq_of_covers 5 _ (by decide +kernel) fun t hf y => ?_
  rw [after0_5]
  unfold out0_5
  frame_out
  unfold k0_pay5
  pointwise []
  exact sum_emb m c t y

theorem end_step : (dats m 0 c).arrAt 6 cfg0.N = fun i : S1088x2048.Idx =>
    Adam.step (W m c i) (Adam.halves 1024 (Adam.sum 4 (Lo m c)) (Adam.sum 4 (Hi m c)) (i 0).val (i 1).val) (M m c i) (Sq m c i) := by
  refine (dats m 0 c).arrAt_eq_of_covers 6 _ (by decide +kernel) fun t hf y => ?_
  rw [after0_6]
  unfold out0_6
  frame_out
  unfold k0_pay6 k0_pay3 k0_pay4
  pointwise []
  exact Adam.step_congr (congrFun (V_main_arg0 m c) _) (sum_emb m c t y) (congrFun (V_main_arg3 m c) _) (congrFun (V_main_arg4 m c) _)

theorem end_mean : (dats m 0 c).arrAt 7 cfg0.N = fun i : S1088x2048.Idx =>
    Adam.mean (M m c i) (Adam.halves 1024 (Adam.sum 4 (Lo m c)) (Adam.sum 4 (Hi m c)) (i 0).val (i 1).val) := by
  refine (dats m 0 c).arrAt_eq_of_covers 7 _ (by decide +kernel) fun t hf y => ?_
  rw [after0_7]
  unfold out0_7
  frame_out
  unfold k0_pay7 k0_pay3
  pointwise []
  exact congrArg₂ Adam.mean (congrFun (V_main_arg3 m c) _) (sum_emb m c t y)

theorem end_square : (dats m 0 c).arrAt 8 cfg0.N = fun i : S1088x2048.Idx =>
    Adam.square (Sq m c i) (Adam.halves 1024 (Adam.sum 4 (Lo m c)) (Adam.sum 4 (Hi m c)) (i 0).val (i 1).val) := by
  refine (dats m 0 c).arrAt_eq_of_covers 8 _ (by decide +kernel) fun t hf y => ?_
  rw [after0_8]
  unfold out0_8
  frame_out
  unfold k0_pay1 k0_pay4
  pointwise []
  exact congrArg₂ Adam.square (congrFun (V_main_arg4 m c) _) (sum_emb m c t y)

end Cert.Kernel13Ideal.Opt
-- ==== Proof.RefOpt13.lean ====
module

public import proofs.«01_k».proof.Proof.Gen.Reference13Ideal.Run
public import proofs.«01_k».proof.Proof.Opt13

/-! The reference's sum of the gradient's parts, in the update of the input projection's weights, entry by entry. -/

@[expose] public section

set_option maxRecDepth 16384

noncomputable section

namespace Cert.Reference13Ideal.Opt
open Idealize.ShloMosaic Idealize.ShloMosaic.TcCoe Idealize.SL.Sem Cert.Reference13Ideal Cert.Reference13Ideal.Gen
open scoped BigOperators

variable (m : (ℓ : Loc nD τ sig) → Buf (Elt Ideal) ℓ) (c : Dev nD)

/-- The chips' parts of the gradient's first half, a chip to the first axis. -/
abbrev Lo : ℕ → ℕ → ℕ → EReal := Adam.rd3 (shapeCast S4x1088x1024 (m ((c.tc : Thread nD τ).loc main_arg1) : S4352x1024.Idx → EReal) shapeCasts_S4352x1024_S4x1088x1024)
/-- The chips' parts of the gradient's second half. -/
abbrev Hi : ℕ → ℕ → ℕ → EReal := Adam.rd3 (shapeCast S4x1088x1024 (m ((c.tc : Thread nD τ).loc main_arg2) : S4352x1024.Idx → EReal) shapeCasts_S4352x1024_S4x1088x1024)

theorem reduce_eq (A : S4x1088x1024.Idx → EReal) :
    (Host.reduceAdd (A : FVec Ideal S4x1088x1024 .f32) (constant S_ .f32 0x00000000#32) reducesTo_S4x1088x1024_S1088x1024_d0 h_S_ : FVec Ideal S1088x1024 .f32)
      = fun i : S1088x1024.Idx => Adam.sum 4 (Adam.rd3 A) (i 0).val (i 1).val := by
  funext i
  unfold Adam.sum
  pointwise []
  exact Finset.sum_congr rfl fun k _ => Adam.rd3_of A _ rfl rfl rfl

theorem val0 : ((concatenate S1088x2048 1 [⟨S1088x1024, (Host.reduceAdd (shapeCast _ (extf .f32 (m ((c.tc : Thread nD τ).loc main_arg1)) bitsLt_bf16_f32) shapeCasts_S4352x1024_S4x1088x1024) (constant S_ .f32 0x00000000#32) reducesTo_S4x1088x1024_S1088x1024_d0 h_S_)⟩, ⟨S1088x1024, (Host.reduceAdd (shapeCast _ (extf .f32 (m ((c.tc : Thread nD τ).loc main_arg2)) bitsLt_bf16_f32) shapeCasts_S4352x1024_S4x1088x1024) (constant S_ .f32 0x00000000#32) reducesTo_S4x1088x1024_S1088x1024_d0 h_S_)⟩] concatenates_S1088x1024_S1088x1024_S1088x2048_d1 : FVec Ideal S1088x2048 .f32) : S1088x2048.Idx → EReal)
    = fun i : S1088x2048.Idx => Adam.halves 1024 (Adam.sum 4 (Lo m c)) (Adam.sum 4 (Hi m c)) (i 0).val (i 1).val := by
  rw [reduce_eq, reduce_eq]
  funext i
  unfold Adam.halves
  pointwise []
  by_cases h : (i 1).val < 1024
  · rw [dif_pos h, if_pos h]
    rfl
  · rw [dif_neg h, if_neg h]
    rfl

end Cert.Reference13Ideal.Opt
-- ==== Proof.Opt14.lean ====
module

public import proofs.«01_k».proof.Proof.Gen.Kernel14Ideal.Value
public import proofs.«01_k».proof.Proof.Adam

/-! The update of a branch's projection weights, kept transposed: what the call leaves in its four results, entry by entry. -/

@[expose] public section

set_option maxRecDepth 16384

noncomputable section

namespace Cert.Kernel14Ideal.Opt
open Idealize.ShloMosaic Idealize.ShloMosaic.TcCoe Idealize.ShloMosaic.Pipeline Idealize.SL.Sem Cert.Kernel14Ideal Cert.Kernel14Ideal.Gen
open scoped BigOperators

variable (m : (ℓ : Loc nD τ sig) → Buf (Elt Ideal) ℓ) (c : Dev nD)

theorem idx : ∀ t : Fin cfg0.N, win0_1.index t 0 = 0 ∧ win0_1.index t 1 = 0 ∧ win0_1.index t 2 = t.val ∧ win0_4.index t 0 = t.val ∧ win0_4.index t 1 = 0 :=
  (by decide +kernel : ∀ t : Fin grid0.N, _)

/-- The weights. -/
abbrev W : S1024x256.Idx → EReal := m ((c : Thread nD τ).loc main_arg0)
/-- The chips' parts of the gradient, a chip to the first axis. -/
abbrev P : ℕ → ℕ → ℕ → EReal := Adam.rd3 (shapeCast S4x256x1024 (m ((c : Thread nD τ).loc main_arg1) : S1024x1024.Idx → EReal) shapeCasts_S1024x1024_S4x256x1024)
/-- The running mean of the gradient. -/
abbrev M : S1024x256.Idx → EReal := m ((c : Thread nD τ).loc main_arg2)
/-- The running mean of the gradient's square. -/
abbrev Sq : S1024x256.Idx → EReal := m ((c : Thread nD τ).loc main_arg3)

theorem parts : V m c main_v0 = shapeCast S4x256x1024 (m ((c : Thread nD τ).loc main_arg1)) shapeCasts_S1024x1024_S4x256x1024 := by
  show StableHlo.after hostOps0 _ (Proc.devRef .tc main_v0) = _
  simp only [hostOps0]
  after_results
  rfl

theorem read1 (t : Fin cfg0.N) (y : S4x256x256.Idx) : (iblk m c 1 t : S4x256x256.Idx → EReal) y = P m c (y 0).val (y 1).val (t.val * 256 + (y 2).val) := by
  obtain ⟨e0, e1, e2, -⟩ := idx t
  refine (congrFun (parts m c) _).trans (Adam.rd3_of (shapeCast S4x256x1024 (m ((c : Thread nD τ).loc main_arg1) : S1024x1024.Idx → EReal) shapeCasts_S1024x1024_S4x256x1024) (((cfg0.win 1).blk t).view.emb y) ?_ ?_ ?_)
  all_goals
    blk_simp
    simp only [e0, e1, e2] <;> omega

theorem sum_at (t : Fin cfg0.N) (y : S256x256.Idx) :
    k0_pay5 (F := Ideal) (View.ld (iblk m c 1 t) r0_0) (View.ld (iblk m c 1 t) r0_1) (View.ld (iblk m c 1 t) r0_2) (View.ld (iblk m c 1 t) r0_3) y
      = Adam.sum 4 (P m c) (y 1).val (t.val * 256 + (y 0).val) := by
  unfold k0_pay5 Adam.sum
  rw [Fin.sum_univ_four]
  pointwise []
  exact congrArg₂ (· + ·) (congrArg₂ (· + ·) (congrArg₂ (· + ·) (read1 m c t _) (read1 m c t _)) (read1 m c t _)) (read1 m c t _)

theorem sum_emb (t : Fin cfg0.N) (y : S256x256.Idx) : k0_pay5 (F := Ideal) (View.ld (iblk m c 1 t) r0_0) (View.ld (iblk m c 1 t) r0_1) (View.ld (iblk m c 1 t) r0_2) (View.ld (iblk m c 1 t) r0_3) y
    = Adam.sum 4 (P m c) ((((cfg0.win 4).blk t).view.emb y) 1).val ((((cfg0.win 4).blk t).view.emb y) 0).val := by
  obtain ⟨-, -, -, e0, e1⟩ := idx t
  refine (sum_at m c t y).trans ?_
  blk_simp
  rw [e0, e1, Nat.zero_mul, Nat.zero_add]

theorem end_sum : (dats m 0 c).arrAt 4 cfg0.N = fun i : S1024x256.Idx => Adam.sum 4 (P m c) (i 1).val (i 0).val := by
  refine (dats m 0 c).arrAt_eq_of_covers 4 _ (by decide +kernel) fun t hf y => ?_
  rw [after0_4]
  unfold out0_4
  frame_out
  unfold k0_pay1
  pointwise []
  exact sum_emb m c t y

theorem end_step : (dats m 0 c).arrAt 5 cfg0.N = fun i : S1024x256.Idx =>
    Adam.step (W m c i) (Adam.sum 4 (P m c) (i 1).val (i 0).val) (M m c i) (Sq m c i) := by
  refine (dats m 0 c).arrAt_eq_of_covers 5 _ (by decide +kernel) fun t hf y => ?_
  rw [after0_5]
  unfold out0_5
  frame_out
  unfold k0_pay2 k0_pay8 k0_pay9 k0_pay6 k0_pay7
  pointwise []
  exact Adam.step_congr (congrFun (V_main_arg0 m c) _) (sum_emb m c t y) (congrFun (V_main_arg2 m c) _) (congrFun (V_main_arg3 m c) _)

theorem end_mean : (dats m 0 c).arrAt 6 cfg0.N = fun i : S1024x256.Idx =>
    Adam.mean (M m c i) (Adam.sum 4 (P m c) (i 1).val (i 0).val) := by
  refine (dats m 0 c).arrAt_eq_of_covers 6 _ (by decide +kernel) fun t hf y => ?_
  rw [after0_6]
  unfold out0_6
  frame_out
  unfold k0_pay3 k0_pay6
  pointwise []
  exact congrArg₂ Adam.mean (congrFun (V_main_arg2 m c) _) (sum_emb m c t y)

theorem end_square : (dats m 0 c).arrAt 7 cfg0.N = fun i : S1024x256.Idx =>
    Adam.square (Sq m c i) (Adam.sum 4 (P m c) (i 1).val (i 0).val) := by
  refine (dats m 0 c).arrAt_eq_of_covers 7 _ (by decide +kernel) fun t hf y => ?_
  rw [after0_7]
  unfold out0_7
  frame_out
  unfold k0_pay4 k0_pay7
  pointwise []
  exact congrArg₂ Adam.square (congrFun (V_main_arg3 m c) _) (sum_emb m c t y)

end Cert.Kernel14Ideal.Opt
-- ==== Proof.RefOpt14.lean ====
module

public import proofs.«01_k».proof.Proof.Gen.Reference14Ideal.Run
public import proofs.«01_k».proof.Proof.Opt14

/-! The reference's sum of the gradient's parts, in the update of a branch's projection weights, entry by entry. -/

@[expose] public section

set_option maxRecDepth 16384

noncomputable section

namespace Cert.Reference14Ideal.Opt
open Idealize.ShloMosaic Idealize.ShloMosaic.TcCoe Idealize.SL.Sem Cert.Reference14Ideal Cert.Reference14Ideal.Gen
open scoped BigOperators

variable (m : (ℓ : Loc nD τ sig) → Buf (Elt Ideal) ℓ) (c : Dev nD)

/-- The chips' parts of the gradient, a chip to the first axis. -/
abbrev P : ℕ → ℕ → ℕ → EReal := Adam.rd3 (shapeCast S4x256x1024 (m ((c.tc : Thread nD τ).loc main_arg1) : S1024x1024.Idx → EReal) shapeCasts_S1024x1024_S4x256x1024)

theorem reduce_eq (A : S4x256x1024.Idx → EReal) :
    (Host.reduceAdd (A : FVec Ideal S4x256x1024 .f32) (constant S_ .f32 0x00000000#32) reducesTo_S4x256x1024_S256x1024_d0 h_S_ : FVec Ideal S256x1024 .f32)
      = fun i : S256x1024.Idx => Adam.sum 4 (Adam.rd3 A) (i 0).val (i 1).val := by
  funext i
  unfold Adam.sum
  pointwise []
  exact Finset.sum_congr rfl fun k _ => Adam.rd3_of A _ rfl rfl rfl

theorem val0 : ((transpose S1024x256 [1, 0] (Host.reduceAdd (shapeCast _ (extf .f32 (m ((c.tc : Thread nD τ).loc main_arg1)) bitsLt_bf16_f32) shapeCasts_S1024x1024_S4x256x1024) (constant S_ .f32 0x00000000#32) reducesTo_S4x256x1024_S256x1024_d0 h_S_) transposes_S256x1024_S1024x256_1_0 : FVec Ideal S1024x256 .f32) : S1024x256.Idx → EReal)
    = fun i : S1024x256.Idx => Adam.sum 4 (P m c) (i 1).val (i 0).val := by
  rw [reduce_eq]
  funext i
  pointwise []
  rfl

end Cert.Reference14Ideal.Opt
-- ==== Proof.Opt16.lean ====
module

public import proofs.«01_k».proof.Proof.Gen.Kernel16Ideal.Value
public import proofs.«01_k».proof.Proof.Adam

/-! The sum over the devices of the loss and the small gradients: what the call leaves, entry by entry. -/

@[expose] public section

set_option maxRecDepth 16384

noncomputable section

namespace Cert.Kernel16Ideal.Opt
open Idealize.ShloMosaic Idealize.ShloMosaic.TcCoe Idealize.ShloMosaic.Pipeline Idealize.SL.Sem Cert.Kernel16Ideal Cert.Kernel16Ideal.Gen
open scoped BigOperators

variable (m : (ℓ : Loc nD τ sig) → Buf (Elt Ideal) ℓ) (c : Dev nD)

theorem idx : ∀ t : Fin cfg0.N, win0_0.index t 0 = 0 ∧ win0_0.index t 1 = 0 ∧ win0_0.index t 2 = 0 ∧ win0_1.index t 0 = 0 ∧ win0_1.index t 1 = 0 :=
  (by decide +kernel : ∀ t : Fin grid0.N, _)

/-- The devices' parts, a device to the first axis. -/
abbrev P : ℕ → ℕ → ℕ → EReal := Adam.rd3 (shapeCast S8x2144x128 (m ((c : Thread nD τ).loc main_arg0) : S17152x128.Idx → EReal) shapeCasts_S17152x128_S8x2144x128)

theorem parts : V m c main_v0 = shapeCast S8x2144x128 (m ((c : Thread nD τ).loc main_arg0)) shapeCasts_S17152x128_S8x2144x128 := by
  show StableHlo.after hostOps0 _ (Proc.devRef .tc main_v0) = _
  simp only [hostOps0]
  after_results
  rfl

theorem read0 (t : Fin cfg0.N) (y : S8x2144x128.Idx) : (iblk m c 0 t : S8x2144x128.Idx → EReal) y = P m c (y 0).val (y 1).val (y 2).val := by
  obtain ⟨e0, e1, e2, -⟩ := idx t
  refine (congrFun (parts m c) _).trans (Adam.rd3_of (shapeCast S8x2144x128 (m ((c : Thread nD τ).loc main_arg0) : S17152x128.Idx → EReal) shapeCasts_S17152x128_S8x2144x128) (((cfg0.win 0).blk t).view.emb y) ?_ ?_ ?_)
  all_goals
    blk_simp
    simp only [e0, e1, e2] <;> omega

theorem end_sum : (dats m 0 c).arrAt 1 cfg0.N = fun i : S2144x128.Idx => Adam.sum 8 (P m c) (i 0).val (i 1).val := by
  refine (dats m 0 c).arrAt_eq_of_covers 1 _ (by decide +kernel) fun t hf y => ?_
  obtain ⟨-, -, -, e0, e1⟩ := idx t
  blk_simp
  rw [after0_1, e0, e1]
  simp only [Nat.zero_mul, Nat.zero_add]
  unfold out0_1 Adam.sum
  rw [Fin.sum_univ_eight]
  frame_out
  unfold k0_pay1
  pointwise []
  exact congrArg₂ (· + ·) (congrArg₂ (· + ·) (congrArg₂ (· + ·) (congrArg₂ (· + ·) (congrArg₂ (· + ·) (congrArg₂ (· + ·) (congrArg₂ (· + ·)
    (read0 m c t _) (read0 m c t _)) (read0 m c t _)) (read0 m c t _)) (read0 m c t _)) (read0 m c t _)) (read0 m c t _)) (read0 m c t _)

end Cert.Kernel16Ideal.Opt
-- ==== Proof.RefOpt16.lean ====
module

public import proofs.«01_k».proof.Proof.Gen.Reference16Ideal.Run
public import proofs.«01_k».proof.Proof.Opt16

/-! The reference's sum over the devices of the loss and the small gradients, entry by entry. -/

@[expose] public section

set_option maxRecDepth 16384

noncomputable section

namespace Cert.Reference16Ideal.Opt
open Idealize.ShloMosaic Idealize.ShloMosaic.TcCoe Idealize.SL.Sem Cert.Reference16Ideal Cert.Reference16Ideal.Gen
open scoped BigOperators

variable (m : (ℓ : Loc nD τ sig) → Buf (Elt Ideal) ℓ) (c : Dev nD)

/-- The devices' parts, a device to the first axis. -/
abbrev P : ℕ → ℕ → ℕ → EReal := Adam.rd3 (shapeCast S8x2144x128 (m ((c.tc : Thread nD τ).loc main_arg0) : S17152x128.Idx → EReal) shapeCasts_S17152x128_S8x2144x128)

theorem reduce_at (A : S8x2144x128.Idx → EReal) (i : S2144x128.Idx) :
    ((Host.reduceAdd (A : FVec Ideal S8x2144x128 .f32) (constant S_ .f32 0x00000000#32) reducesTo_S8x2144x128_S2144x128_d0 h_S_ : FVec Ideal S2144x128 .f32) : S2144x128.Idx → EReal) i = Adam.sum 8 (Adam.rd3 A) (i 0).val (i 1).val := by
  unfold Adam.sum
  pointwise []
  exact Finset.sum_congr rfl fun k _ => Adam.rd3_of A _ rfl rfl rfl

theorem reduce_eq (A : S8x2144x128.Idx → EReal) :
    (Host.reduceAdd (A : FVec Ideal S8x2144x128 .f32) (constant S_ .f32 0x00000000#32) reducesTo_S8x2144x128_S2144x128_d0 h_S_ : FVec Ideal S2144x128 .f32)
      = fun i : S2144x128.Idx => Adam.sum 8 (Adam.rd3 A) (i 0).val (i 1).val := funext (reduce_at A)

theorem val0 : ((Host.reduceAdd (shapeCast _ (m ((c.tc : Thread nD τ).loc main_arg0)) shapeCasts_S17152x128_S8x2144x128) (constant S_ .f32 0x00000000#32) reducesTo_S8x2144x128_S2144x128_d0 h_S_ : FVec Ideal S2144x128 .f32) : S2144x128.Idx → EReal) = fun i : S2144x128.Idx => Adam.sum 8 (P m c) (i 0).val (i 1).val := funext (reduce_at _)

end Cert.Reference16Ideal.Opt
-- ==== Proof.Opt17.lean ====
module

public import proofs.«01_k».proof.Proof.Gen.Kernel17Ideal.Value
public import proofs.«01_k».proof.Proof.Adam

/-! The sum over the devices of the norm weight's gradient: what the call leaves, entry by entry. -/

@[expose] public section

set_option maxRecDepth 16384

noncomputable section

namespace Cert.Kernel17Ideal.Opt
open Idealize.ShloMosaic Idealize.ShloMosaic.TcCoe Idealize.ShloMosaic.Pipeline Idealize.SL.Sem Cert.Kernel17Ideal Cert.Kernel17Ideal.Gen
open scoped BigOperators

variable (m : (ℓ : Loc nD τ sig) → Buf (Elt Ideal) ℓ) (c : Dev nD)

theorem idx : ∀ t : Fin cfg0.N, win0_0.index t 0 = 0 ∧ win0_0.index t 1 = 0 ∧ win0_0.index t 2 = 0 ∧ win0_1.index t 0 = 0 ∧ win0_1.index t 1 = 0 :=
  (by decide +kernel : ∀ t : Fin grid0.N, _)

/-- The devices' parts, a device to the first axis. -/
abbrev P : ℕ → ℕ → ℕ → EReal := Adam.rd3 (shapeCast S8x16x128 (m ((c : Thread nD τ).loc main_arg0) : S128x128.Idx → EReal) shapeCasts_S128x128_S8x16x128)

theorem parts : V m c main_v0 = shapeCast S8x16x128 (m ((c : Thread nD τ).loc main_arg0)) shapeCasts_S128x128_S8x16x128 := by
  show StableHlo.after hostOps0 _ (Proc.devRef .tc main_v0) = _
  simp only [hostOps0]
  after_results
  rfl

theorem read0 (t : Fin cfg0.N) (y : S8x16x128.Idx) : (iblk m c 0 t : S8x16x128.Idx → EReal) y = P m c (y 0).val (y 1).val (y 2).val := by
  obtain ⟨e0, e1, e2, -⟩ := idx t
  refine (congrFun (parts m c) _).trans (Adam.rd3_of (shapeCast S8x16x128 (m ((c : Thread nD τ).loc main_arg0) : S128x128.Idx → EReal) shapeCasts_S128x128_S8x16x128) (((cfg0.win 0).blk t).view.emb y) ?_ ?_ ?_)
  all_goals
    blk_simp
    simp only [e0, e1, e2] <;> omega

theorem end_sum : (dats m 0 c).arrAt 1 cfg0.N = fun i : S16x128.Idx => Adam.sum 8 (P m c) (i 0).val (i 1).val := by
  refine (dats m 0 c).arrAt_eq_of_covers 1 _ (by decide +kernel) fun t hf y => ?_
  obtain ⟨-, -, -, e0, e1⟩ := idx t
  blk_simp
  rw [after0_1, e0, e1]
  simp only [Nat.zero_mul, Nat.zero_add]
  unfold out0_1 Adam.sum
  rw [Fin.sum_univ_eight]
  frame_out
  unfold k0_pay1
  pointwise []
  exact congrArg₂ (· + ·) (congrArg₂ (· + ·) (congrArg₂ (· + ·) (congrArg₂ (· + ·) (congrArg₂ (· + ·) (congrArg₂ (· + ·) (congrArg₂ (· + ·)
    (read0 m c t _) (read0 m c t _)) (read0 m c t _)) (read0 m c t _)) (read0 m c t _)) (read0 m c t _)) (read0 m c t _)) (read0 m c t _)

end Cert.Kernel17Ideal.Opt
-- ==== Proof.RefOpt17.lean ====
module

public import proofs.«01_k».proof.Proof.Gen.Reference17Ideal.Run
public import proofs.«01_k».proof.Proof.Opt17

/-! The reference's sum over the devices of the norm weight's gradient, entry by entry. -/

@[expose] public section

set_option maxRecDepth 16384

noncomputable section

namespace Cert.Reference17Ideal.Opt
open Idealize.ShloMosaic Idealize.ShloMosaic.TcCoe Idealize.SL.Sem Cert.Reference17Ideal Cert.Reference17Ideal.Gen
open scoped BigOperators

variable (m : (ℓ : Loc nD τ sig) → Buf (Elt Ideal) ℓ) (c : Dev nD)

/-- The devices' parts, a device to the first axis. -/
abbrev P : ℕ → ℕ → ℕ → EReal := Adam.rd3 (shapeCast S8x16x128 (m ((c.tc : Thread nD τ).loc main_arg0) : S128x128.Idx → EReal) shapeCasts_S128x128_S8x16x128)

theorem reduce_at (A : S8x16x128.Idx → EReal) (i : S16x128.Idx) :
    ((Host.reduceAdd (A : FVec Ideal S8x16x128 .f32) (constant S_ .f32 0x00000000#32) reducesTo_S8x16x128_S16x128_d0 h_S_ : FVec Ideal S16x128 .f32) : S16x128.Idx → EReal) i = Adam.sum 8 (Adam.rd3 A) (i 0).val (i 1).val := by
  unfold Adam.sum
  pointwise []
  exact Finset.sum_congr rfl fun k _ => Adam.rd3_of A _ rfl rfl rfl

theorem reduce_eq (A : S8x16x128.Idx → EReal) :
    (Host.reduceAdd (A : FVec Ideal S8x16x128 .f32) (constant S_ .f32 0x00000000#32) reducesTo_S8x16x128_S16x128_d0 h_S_ : FVec Ideal S16x128 .f32)
      = fun i : S16x128.Idx => Adam.sum 8 (Adam.rd3 A) (i 0).val (i 1).val := funext (reduce_at A)

theorem val0 : ((Host.reduceAdd (shapeCast _ (m ((c.tc : Thread nD τ).loc main_arg0)) shapeCasts_S128x128_S8x16x128) (constant S_ .f32 0x00000000#32) reducesTo_S8x16x128_S16x128_d0 h_S_ : FVec Ideal S16x128 .f32) : S16x128.Idx → EReal) = fun i : S16x128.Idx => Adam.sum 8 (P m c) (i 0).val (i 1).val := funext (reduce_at _)

end Cert.Reference17Ideal.Opt
-- ==== Proof.OptClaim.lean ====
/- The optimiser's updates and the sums over the devices: the runs of the calls and of their references, joined to the claims. -/
module

public import proofs.«01_k».proof.Defs
public import proofs.«01_k».proof.Proof.Gen.Reference15Ideal.Run
public import proofs.«01_k».proof.Proof.Opt15
public import proofs.«01_k».proof.Proof.Gen.Kernel15.Frame
public import proofs.«01_k».proof.Proof.Gen.Kernel12.Frame
public import proofs.«01_k».proof.Proof.RefOpt12
public import proofs.«01_k».proof.Proof.Gen.Kernel13.Frame
public import proofs.«01_k».proof.Proof.RefOpt13
public import proofs.«01_k».proof.Proof.Gen.Kernel14.Frame
public import proofs.«01_k».proof.Proof.RefOpt14
public import proofs.«01_k».proof.Proof.Gen.Kernel16.Frame
public import proofs.«01_k».proof.Proof.RefOpt16
public import proofs.«01_k».proof.Proof.Gen.Kernel17.Frame
public import proofs.«01_k».proof.Proof.RefOpt17

@[expose] public section

set_option maxRecDepth 16384

noncomputable section

open Idealize.ShloMosaic Idealize.SL.Sem

namespace Cert.Opt12

theorem frame : Cert.quiescent_Kernel12 (hKernel12 := Cert.Kernel12.Gen.facts) :=
  fun m g _ => Cert.Kernel12.Gen.frame (F := Bits) m g

theorem frame_ideal : Cert.quiescent_Kernel12Ideal (hKernel12Ideal := Cert.Kernel12Ideal.Gen.facts) :=
  fun m g _ => Cert.Kernel12Ideal.Gen.frame (F := Ideal) m g

theorem frame_reference : Cert.quiescent_Reference12Ideal (hReference12Ideal := Cert.Reference12Ideal.Gen.facts) :=
  fun m g _ => (θ_run Cert.Reference12Ideal.defs _ _).mono (fun r h => ⟨fun c => (h c).2.2.2.2, sem_eq_zero_of_no_sems (by decide) r.2⟩)
    (Cert.Reference12Ideal.Value.run m g)

open Cert.Kernel12Ideal.Opt in
/-- The update of the output projection's weights is the reference's. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨_, _, _, _, (θ_run Cert.Kernel12Ideal.defs _ _).mono (fun r h c =>
    ⟨(h c).1.trans (end_sum m c), (h c).2.1.trans (end_step m c), (h c).2.2.1.trans (end_mean m c), (h c).2.2.2.1.trans (end_square m c), (h c).2.2.2.2⟩) (Cert.Kernel12Ideal.Value.run_blocks m g), ?_⟩
  · refine (θ_run Cert.Reference12Ideal.defs _ _).mono (fun r h c => ?_) (Cert.Reference12Ideal.Value.run m' g')
    obtain ⟨e0, e1, e2, e3⟩ := hargs c
    obtain ⟨h0, h1, h2, h3, h'⟩ := h c
    have d0 : Cert.Reference12Ideal.Opt.P m' c = P m c :=
      congrArg (fun A => Cert.Adam.rd3 (shapeCast Cert.Kernel12Ideal.S4x256x2048 (A : Cert.Kernel12Ideal.S1024x2048.Idx → EReal) Cert.Kernel12Ideal.Facts₀.shapeCasts_S1024x2048_S4x256x2048)) e1
    refine ⟨h0.trans ?_, h1.trans ?_, h2.trans ?_, h3.trans ?_, h'⟩
    all_goals
      rw [Cert.Reference12Ideal.Opt.val0 m' c, d0]
    all_goals
      funext i
      pointwise []
    · exact Cert.Adam.step_congr (congrFun e0 i) rfl (congrFun e2 i) (congrFun e3 i)
    · exact congrArg₂ Cert.Adam.mean (congrFun e2 i) rfl
    · exact congrArg₂ Cert.Adam.square (congrFun e3 i) rfl

end Cert.Opt12

namespace Cert.Opt13

theorem frame : Cert.quiescent_Kernel13 (hKernel13 := Cert.Kernel13.Gen.facts) :=
  fun m g _ => Cert.Kernel13.Gen.frame (F := Bits) m g

theorem frame_ideal : Cert.quiescent_Kernel13Ideal (hKernel13Ideal := Cert.Kernel13Ideal.Gen.facts) :=
  fun m g _ => Cert.Kernel13Ideal.Gen.frame (F := Ideal) m g

theorem frame_reference : Cert.quiescent_Reference13Ideal (hReference13Ideal := Cert.Reference13Ideal.Gen.facts) :=
  fun m g _ => (θ_run Cert.Reference13Ideal.defs _ _).mono (fun r h => ⟨fun c => (h c).2.2.2.2, sem_eq_zero_of_no_sems (by decide) r.2⟩)
    (Cert.Reference13Ideal.Value.run m g)

open Cert.Kernel13Ideal.Opt in
/-- The update of the input projection's weights is the reference's. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨_, _, _, _, (θ_run Cert.Kernel13Ideal.defs _ _).mono (fun r h c =>
    ⟨(h c).1.trans (end_sum m c), (h c).2.1.trans (end_step m c), (h c).2.2.1.trans (end_mean m c), (h c).2.2.2.1.trans (end_square m c), (h c).2.2.2.2⟩) (Cert.Kernel13Ideal.Value.run_blocks m g), ?_⟩
  · refine (θ_run Cert.Reference13Ideal.defs _ _).mono (fun r h c => ?_) (Cert.Reference13Ideal.Value.run m' g')
    obtain ⟨e0, e1, e2, e3, e4⟩ := hargs c
    obtain ⟨h0, h1, h2, h3, h'⟩ := h c
    have d0 : Cert.Reference13Ideal.Opt.Lo m' c = Lo m c :=
      congrArg (fun A => Cert.Adam.rd3 (shapeCast Cert.Kernel13Ideal.S4x1088x1024 (A : Cert.Kernel13Ideal.S4352x1024.Idx → EReal) Cert.Kernel13Ideal.Facts₀.shapeCasts_S4352x1024_S4x1088x1024)) e1
    have d1 : Cert.Reference13Ideal.Opt.Hi m' c = Hi m c :=
      congrArg (fun A => Cert.Adam.rd3 (shapeCast Cert.Kernel13Ideal.S4x1088x1024 (A : Cert.Kernel13Ideal.S4352x1024.Idx → EReal) Cert.Kernel13Ideal.Facts₀.shapeCasts_S4352x1024_S4x1088x1024)) e2
    refine ⟨h0.trans ?_, h1.trans ?_, h2.trans ?_, h3.trans ?_, h'⟩
    all_goals
      rw [Cert.Reference13Ideal.Opt.val0 m' c, d0, d1]
    all_goals
      funext i
      pointwise []
    · exact Cert.Adam.step_congr (congrFun e0 i) rfl (congrFun e3 i) (congrFun e4 i)
    · exact congrArg₂ Cert.Adam.mean (congrFun e3 i) rfl
    · exact congrArg₂ Cert.Adam.square (congrFun e4 i) rfl

end Cert.Opt13

namespace Cert.Opt14

theorem frame : Cert.quiescent_Kernel14 (hKernel14 := Cert.Kernel14.Gen.facts) :=
  fun m g _ => Cert.Kernel14.Gen.frame (F := Bits) m g

theorem frame_ideal : Cert.quiescent_Kernel14Ideal (hKernel14Ideal := Cert.Kernel14Ideal.Gen.facts) :=
  fun m g _ => Cert.Kernel14Ideal.Gen.frame (F := Ideal) m g

theorem frame_reference : Cert.quiescent_Reference14Ideal (hReference14Ideal := Cert.Reference14Ideal.Gen.facts) :=
  fun m g _ => (θ_run Cert.Reference14Ideal.defs _ _).mono (fun r h => ⟨fun c => (h c).2.2.2.2, sem_eq_zero_of_no_sems (by decide) r.2⟩)
    (Cert.Reference14Ideal.Value.run m g)

open Cert.Kernel14Ideal.Opt in
/-- The update of a branch's projection weights is the reference's. -/
theorem algebraic : Cert.algebraic_Kernel14Ideal_Reference14Ideal (hKernel14Ideal := Cert.Kernel14Ideal.Gen.facts)
    (hReference14Ideal := Cert.Reference14Ideal.Gen.facts) := by
  intro m g m' g' _ hargs
  refine ⟨_, _, _, _, (θ_run Cert.Kernel14Ideal.defs _ _).mono (fun r h c =>
    ⟨(h c).1.trans (end_sum m c), (h c).2.1.trans (end_step m c), (h c).2.2.1.trans (end_mean m c), (h c).2.2.2.1.trans (end_square m c), (h c).2.2.2.2⟩) (Cert.Kernel14Ideal.Value.run_blocks m g), ?_⟩
  · refine (θ_run Cert.Reference14Ideal.defs _ _).mono (fun r h c => ?_) (Cert.Reference14Ideal.Value.run m' g')
    obtain ⟨e0, e1, e2, e3⟩ := hargs c
    obtain ⟨h0, h1, h2, h3, h'⟩ := h c
    have d0 : Cert.Reference14Ideal.Opt.P m' c = P m c :=
      congrArg (fun A => Cert.Adam.rd3 (shapeCast Cert.Kernel14Ideal.S4x256x1024 (A : Cert.Kernel14Ideal.S1024x1024.Idx → EReal) Cert.Kernel14Ideal.Facts₀.shapeCasts_S1024x1024_S4x256x1024)) e1
    refine ⟨h0.trans ?_, h1.trans ?_, h2.trans ?_, h3.trans ?_, h'⟩
    all_goals
      rw [Cert.Reference14Ideal.Opt.val0 m' c, d0]
    all_goals
      funext i
      pointwise []
    · exact Cert.Adam.step_congr (congrFun e0 i) rfl (congrFun e2 i) (congrFun e3 i)
    · exact congrArg₂ Cert.Adam.mean (congrFun e2 i) rfl
    · exact congrArg₂ Cert.Adam.square (congrFun e3 i) rfl

end Cert.Opt14

namespace Cert.Opt15

theorem frame : Cert.quiescent_Kernel15 (hKernel15 := Cert.Kernel15.Gen.facts) :=
  fun m g _ => Cert.Kernel15.Gen.frame (F := Bits) m g

theorem frame_ideal : Cert.quiescent_Kernel15Ideal (hKernel15Ideal := Cert.Kernel15Ideal.Gen.facts) :=
  fun m g _ => Cert.Kernel15Ideal.Gen.frame (F := Ideal) m g

theorem frame_reference : Cert.quiescent_Reference15Ideal (hReference15Ideal := Cert.Reference15Ideal.Gen.facts) :=
  fun m g _ => (θ_run Cert.Reference15Ideal.defs _ _).mono (fun r h => ⟨fun c => (h c).2.2.2, sem_eq_zero_of_no_sems (by decide) r.2⟩)
    (Cert.Reference15Ideal.Value.run m g)

open Cert.Kernel15Ideal.Opt in
/-- The update of the scan's weights is the reference's. -/
theorem algebraic : Cert.algebraic_Kernel15Ideal_Reference15Ideal (hKernel15Ideal := Cert.Kernel15Ideal.Gen.facts)
    (hReference15Ideal := Cert.Reference15Ideal.Gen.facts) := by
  intro m g m' g' _ hargs
  refine ⟨_, _, _, (θ_run Cert.Kernel15Ideal.defs _ _).mono (fun r h c =>
    ⟨(h c).1.trans (end_step m c), (h c).2.1.trans (end_mean m c), (h c).2.2.1.trans (end_square m c), (h c).2.2.2⟩) (Cert.Kernel15Ideal.Value.run_blocks m g), ?_⟩
  · refine (θ_run Cert.Reference15Ideal.defs _ _).mono (fun r h c => ?_) (Cert.Reference15Ideal.Value.run m' g')
    obtain ⟨e0, e1, e2, e3⟩ := hargs c
    obtain ⟨h0, h1, h2, h'⟩ := h c
    refine ⟨h0.trans ?_, h1.trans ?_, h2.trans ?_, h'⟩
    all_goals
      rw [e1]
      funext i
      pointwise []
    · exact Cert.Adam.step_congr (congrFun e0 i) rfl (congrFun e2 i) (congrFun e3 i)
    · exact congrArg₂ Cert.Adam.mean (congrFun e2 i) rfl
    · exact congrArg₂ Cert.Adam.square (congrFun e3 i) rfl

end Cert.Opt15

namespace Cert.Opt16

theorem frame : Cert.quiescent_Kernel16 (hKernel16 := Cert.Kernel16.Gen.facts) :=
  fun m g _ => Cert.Kernel16.Gen.frame (F := Bits) m g

theorem frame_ideal : Cert.quiescent_Kernel16Ideal (hKernel16Ideal := Cert.Kernel16Ideal.Gen.facts) :=
  fun m g _ => Cert.Kernel16Ideal.Gen.frame (F := Ideal) m g

theorem frame_reference : Cert.quiescent_Reference16Ideal (hReference16Ideal := Cert.Reference16Ideal.Gen.facts) :=
  fun m g _ => (θ_run Cert.Reference16Ideal.defs _ _).mono (fun r h => ⟨fun c => (h c).2, sem_eq_zero_of_no_sems (by decide) r.2⟩)
    (Cert.Reference16Ideal.Value.run m g)

open Cert.Kernel16Ideal.Opt in
/-- The sum over the devices of the loss and the small gradients is the reference's. -/
theorem algebraic : Cert.algebraic_Kernel16Ideal_Reference16Ideal (hKernel16Ideal := Cert.Kernel16Ideal.Gen.facts)
    (hReference16Ideal := Cert.Reference16Ideal.Gen.facts) := by
  intro m g m' g' _ hargs
  refine ⟨_, (θ_run Cert.Kernel16Ideal.defs _ _).mono (fun r h c =>
    ⟨(h c).1.trans (end_sum m c), (h c).2⟩) (Cert.Kernel16Ideal.Value.run_blocks m g), ?_⟩
  · refine (θ_run Cert.Reference16Ideal.defs _ _).mono (fun r h c => ?_) (Cert.Reference16Ideal.Value.run m' g')
    have e0 := hargs c
    obtain ⟨h0, h'⟩ := h c
    have d0 : Cert.Reference16Ideal.Opt.P m' c = P m c :=
      congrArg (fun A => Cert.Adam.rd3 (shapeCast Cert.Kernel16Ideal.S8x2144x128 (A : Cert.Kernel16Ideal.S17152x128.Idx → EReal) Cert.Kernel16Ideal.Facts₀.shapeCasts_S17152x128_S8x2144x128)) e0
    refine ⟨h0.trans ((Cert.Reference16Ideal.Opt.val0 m' c).trans ?_), h'⟩
    rw [d0]

end Cert.Opt16

namespace Cert.Opt17

theorem frame : Cert.quiescent_Kernel17 (hKernel17 := Cert.Kernel17.Gen.facts) :=
  fun m g _ => Cert.Kernel17.Gen.frame (F := Bits) m g

theorem frame_ideal : Cert.quiescent_Kernel17Ideal (hKernel17Ideal := Cert.Kernel17Ideal.Gen.facts) :=
  fun m g _ => Cert.Kernel17Ideal.Gen.frame (F := Ideal) m g

theorem frame_reference : Cert.quiescent_Reference17Ideal (hReference17Ideal := Cert.Reference17Ideal.Gen.facts) :=
  fun m g _ => (θ_run Cert.Reference17Ideal.defs _ _).mono (fun r h => ⟨fun c => (h c).2, sem_eq_zero_of_no_sems (by decide) r.2⟩)
    (Cert.Reference17Ideal.Value.run m g)

open Cert.Kernel17Ideal.Opt in
/-- The sum over the devices of the norm weight's gradient is the reference's. -/
theorem algebraic : Cert.algebraic_Kernel17Ideal_Reference17Ideal (hKernel17Ideal := Cert.Kernel17Ideal.Gen.facts)
    (hReference17Ideal := Cert.Reference17Ideal.Gen.facts) := by
  intro m g m' g' _ hargs
  refine ⟨_, (θ_run Cert.Kernel17Ideal.defs _ _).mono (fun r h c =>
    ⟨(h c).1.trans (end_sum m c), (h c).2⟩) (Cert.Kernel17Ideal.Value.run_blocks m g), ?_⟩
  · refine (θ_run Cert.Reference17Ideal.defs _ _).mono (fun r h c => ?_) (Cert.Reference17Ideal.Value.run m' g')
    have e0 := hargs c
    obtain ⟨h0, h'⟩ := h c
    have d0 : Cert.Reference17Ideal.Opt.P m' c = P m c :=
      congrArg (fun A => Cert.Adam.rd3 (shapeCast Cert.Kernel17Ideal.S8x16x128 (A : Cert.Kernel17Ideal.S128x128.Idx → EReal) Cert.Kernel17Ideal.Facts₀.shapeCasts_S128x128_S8x16x128)) e0
    refine ⟨h0.trans ((Cert.Reference17Ideal.Opt.val0 m' c).trans ?_), h'⟩
    rw [d0]

end Cert.Opt17

end
-- ==== Proof.lean ====
/- The certificate's claim, put together: the frames, the named mask, and the equality of the kernels' results with their
   references'. -/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Ends
public import proofs.«01_k».proof.Proof.RefEnds
public import proofs.«01_k».proof.Proof.ProductsClaim
public import proofs.«01_k».proof.Proof.ForwardClaim
public import proofs.«01_k».proof.Proof.NormedClaim
public import proofs.«01_k».proof.Proof.MergeClaim
public import proofs.«01_k».proof.Proof.GluClaim
public import proofs.«01_k».proof.Proof.GluZClaim
public import proofs.«01_k».proof.Proof.NormClaim
public import proofs.«01_k».proof.Proof.LossClaim
public import proofs.«01_k».proof.Proof.GateClaim
public import proofs.«01_k».proof.Proof.OptClaim

@[expose] public section

noncomputable section

namespace Cert.Proof
open Idealize.ShloMosaic Idealize.SL.Sem

/-- The reference's frame: its run leaves the arguments as they were, and it has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) : θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run m g)

/-- From equal real arguments, the kernel's results and the reference's are the same extended reals. -/
theorem algebraic : Cert.algebraic_KernelIdeal_ReferenceIdeal_pre_finite (hKernelIdeal := Cert.KernelIdeal.Gen.facts)
    (hReferenceIdeal := Cert.ReferenceIdeal.Gen.facts) (hPre_finite := Cert.Args.facts) := by
  intro m g m' g' hpre hargs
  have hk : ∀ c, Cert.KernelIdeal.Body.Holds m c (Cert.KernelIdeal.Body.table m c) := fun c => Cert.KernelIdeal.Body.holds m c (hpre c)
  have hr : ∀ c, Cert.ReferenceIdeal.Body.Holds (Idealize.ShloMosaic.StableHlo.launchContents m' c) (Cert.KernelIdeal.Body.table m c) := fun c => by
    obtain ⟨e0, e1, _, e3, e4, e5⟩ := hargs c
    have k := hk c
    exact ⟨k.eps, fun n j => (congrFun e0 _).trans (k.proj n j), fun n j => (congrFun e1 _).trans (k.dag n j),
      fun j => (congrFun e3 _).trans (k.qw j), fun j => (congrFun e4 _).trans (k.kw j), fun j => (congrFun e5 _).trans (k.sk j)⟩
  refine ⟨_, _, _, _, Cert.KernelIdeal.Body.ends m g hk, ?_⟩
  refine (θ_run Cert.ReferenceIdeal.defs _ _).mono (fun r h c => ?_) (Cert.ReferenceIdeal.Value.run m' g')
  obtain ⟨h0, h1, h2, h3, h4⟩ := h c
  refine ⟨h0.trans ((Cert.ReferenceIdeal.Value.val5_main_v234 _).symm.trans ((Cert.ReferenceIdeal.Body.res0 (hr c)).trans ?_)),
    h1.trans ((Cert.ReferenceIdeal.Value.val5_main_v235 _).symm.trans (Cert.ReferenceIdeal.Body.res1 (hr c))),
    h2.trans ((Cert.ReferenceIdeal.Value.val5_main_v236 _).symm.trans (Cert.ReferenceIdeal.Body.res2 (hr c))),
    h3.trans ((Cert.ReferenceIdeal.Value.val5_main_v238 _).symm.trans (Cert.ReferenceIdeal.Body.res3 (hr c))), h4⟩
  exact congrArg (Cert.KernelIdeal.Body.res0 (Cert.KernelIdeal.Body.table m c)) (hargs c).2.2.1

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Args.facts, Cert.Reference8Ideal.Glu.pre_facts, Cert.Normed.mask_facts, Cert.Merge.mask_facts,
  fun m g _ => Cert.Kernel.Body.frame m g,
  fun m g _ => Cert.KernelIdeal.Body.frame m g,
  fun m g _ => Cert.KernelIdeal.Body.frame m g,
  fun m g _ => reference_frame m g,
  fun m g _ => reference_frame m g,
  Cert.Products.frame, Cert.Products.frame_ideal, Cert.Products.frame_reference,
  Cert.Forward.frame, Cert.Forward.frame_ideal, Cert.Forward.frame_reference,
  Cert.Normed.frame4, Cert.Normed.frame4_ideal, Cert.Normed.frame4_reference,
  Cert.Normed.frame5, Cert.Normed.frame5_ideal, Cert.Normed.frame5_reference,
  Cert.Merge.frame, Cert.Merge.frame_ideal, Cert.Merge.frame_reference,
  Cert.Glu.frame, Cert.Glu.frame_ideal, Cert.Glu.frame_reference,
  Cert.GluZ.frame, Cert.GluZ.frame_ideal, Cert.GluZ.frame_ideal_finite, Cert.GluZ.frame_reference, Cert.GluZ.frame_reference_finite,
  Cert.Norm.frame, Cert.Norm.frame_ideal, Cert.Norm.frame_reference,
  Cert.Loss.frame, Cert.Loss.frame_ideal, Cert.Loss.frame_reference,
  Cert.Gate.frame, Cert.Gate.frame_ideal, Cert.Gate.frame_reference,
  Cert.Opt12.frame, Cert.Opt12.frame_ideal, Cert.Opt12.frame_reference,
  Cert.Opt13.frame, Cert.Opt13.frame_ideal, Cert.Opt13.frame_reference,
  Cert.Opt14.frame, Cert.Opt14.frame_ideal, Cert.Opt14.frame_reference,
  Cert.Opt15.frame, Cert.Opt15.frame_ideal, Cert.Opt15.frame_reference,
  Cert.Opt16.frame, Cert.Opt16.frame_ideal, Cert.Opt16.frame_reference,
  Cert.Opt17.frame, Cert.Opt17.frame_ideal, Cert.Opt17.frame_reference,
  IdealRules.named_const.statement Cert.KernelIdeal.κ "mask" .f32 0xF149F2CA#32 ⊥ rfl,
  algebraic, trivial, Cert.Products.algebraic, trivial, Cert.Forward.algebraic,
  trivial, Cert.Normed.algebraic4, trivial, Cert.Normed.algebraic5, trivial, Cert.Merge.algebraic,
  trivial, Cert.Glu.algebraic, trivial, Cert.GluZ.algebraic, trivial, Cert.Norm.algebraic, trivial, Cert.Loss.algebraic,
  trivial, Cert.Gate.algebraic,
  trivial, Cert.Opt12.algebraic, trivial, Cert.Opt13.algebraic, trivial, Cert.Opt14.algebraic, trivial, Cert.Opt15.algebraic, trivial, Cert.Opt16.algebraic, trivial, Cert.Opt17.algebraic⟩

end Cert.Proof

end
